-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![32, 1024, 1024]⟩ 0 32 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1024x1024 : Shape := ⟨3, ![1, 1024, 1024]⟩
abbrev S1024x1024 : Shape := ⟨2, ![1024, 1024]⟩
abbrev S64x1024 : Shape := ⟨2, ![64, 1024]⟩
abbrev S128x1024 : Shape := ⟨2, ![128, 1024]⟩
abbrev S32x1024 : Shape := ⟨2, ![32, 1024]⟩
abbrev S16x1024 : Shape := ⟨2, ![16, 1024]⟩
abbrev S46 : Shape := ⟨1, ![46]⟩
abbrev S_ : Shape := ⟨0, ![]⟩
abbrev S1 : Shape := ⟨1, ![1]⟩

abbrev nBuf : Space → Nat
  | .hbm => 2
  | .vmem => 86
  | .smem => 0
  | _ => 0

abbrev bufTy : (tb : Table) → Fin (tcTables nBuf tb) → BufTy
  | .hbm, ⟨0, _⟩ => ⟨S1x1024x1024, .bf16⟩
  | .hbm, ⟨1, _⟩ => ⟨S1024x1024, .f32⟩
  | .local _ .vmem, ⟨0, _⟩ => ⟨S1x1024x1024, .bf16⟩
  | .local _ .vmem, ⟨1, _⟩ => ⟨S1024x1024, .f32⟩
  | .local _ .vmem, ⟨2, _⟩ => ⟨S64x1024, .bf16⟩
  | .local _ .vmem, ⟨3, _⟩ => ⟨S64x1024, .bf16⟩
  | .local _ .vmem, ⟨4, _⟩ => ⟨S64x1024, .bf16⟩
  | .local _ .vmem, ⟨5, _⟩ => ⟨S64x1024, .bf16⟩
  | .local _ .vmem, ⟨6, _⟩ => ⟨S128x1024, .bf16⟩
  | .local _ .vmem, ⟨7, _⟩ => ⟨S128x1024, .bf16⟩
  | .local _ .vmem, ⟨8, _⟩ => ⟨S32x1024, .bf16⟩
  | .local _ .vmem, ⟨9, _⟩ => ⟨S32x1024, .bf16⟩
  | .local _ .vmem, ⟨10, _⟩ => ⟨S32x1024, .bf16⟩
  | .local _ .vmem, ⟨11, _⟩ => ⟨S32x1024, .bf16⟩
  | .local _ .vmem, ⟨12, _⟩ => ⟨S64x1024, .bf16⟩
  | .local _ .vmem, ⟨13, _⟩ => ⟨S64x1024, .bf16⟩
  | .local _ .vmem, ⟨14, _⟩ => ⟨S32x1024, .bf16⟩
  | .local _ .vmem, ⟨15, _⟩ => ⟨S32x1024, .bf16⟩
  | .local _ .vmem, ⟨16, _⟩ => ⟨S32x1024, .bf16⟩
  | .local _ .vmem, ⟨17, _⟩ => ⟨S32x1024, .bf16⟩
  | .local _ .vmem, ⟨18, _⟩ => ⟨S16x1024, .bf16⟩
  | .local _ .vmem, ⟨19, _⟩ => ⟨S16x1024, .bf16⟩
  | .local _ .vmem, ⟨20, _⟩ => ⟨S16x1024, .bf16⟩
  | .local _ .vmem, ⟨21, _⟩ => ⟨S16x1024, .bf16⟩
  | .local _ .vmem, ⟨22, _⟩ => ⟨S16x1024, .bf16⟩
  | .local _ .vmem, ⟨23, _⟩ => ⟨S16x1024, .bf16⟩
  | .local _ .vmem, ⟨24, _⟩ => ⟨S16x1024, .bf16⟩
  | .local _ .vmem, ⟨25, _⟩ => ⟨S16x1024, .bf16⟩
  | .local _ .vmem, ⟨26, _⟩ => ⟨S16x1024, .bf16⟩
  | .local _ .vmem, ⟨27, _⟩ => ⟨S16x1024, .bf16⟩
  | .local _ .vmem, ⟨28, _⟩ => ⟨S16x1024, .bf16⟩
  | .local _ .vmem, ⟨29, _⟩ => ⟨S16x1024, .bf16⟩
  | .local _ .vmem, ⟨30, _⟩ => ⟨S128x1024, .bf16⟩
  | .local _ .vmem, ⟨31, _⟩ => ⟨S128x1024, .bf16⟩
  | .local _ .vmem, ⟨32, _⟩ => ⟨S64x1024, .bf16⟩
  | .local _ .vmem, ⟨33, _⟩ => ⟨S64x1024, .bf16⟩
  | .local _ .vmem, ⟨34, _⟩ => ⟨S64x1024, .bf16⟩
  | .local _ .vmem, ⟨35, _⟩ => ⟨S64x1024, .bf16⟩
  | .local _ .vmem, ⟨36, _⟩ => ⟨S64x1024, .bf16⟩
  | .local _ .vmem, ⟨37, _⟩ => ⟨S32x1024, .bf16⟩
  | .local _ .vmem, ⟨38, _⟩ => ⟨S32x1024, .bf16⟩
  | .local _ .vmem, ⟨39, _⟩ => ⟨S32x1024, .bf16⟩
  | .local _ .vmem, ⟨40, _⟩ => ⟨S32x1024, .bf16⟩
  | .local _ .vmem, ⟨41, _⟩ => ⟨S32x1024, .bf16⟩
  | .local _ .vmem, ⟨42, _⟩ => ⟨S16x1024, .bf16⟩
  | .local _ .vmem, ⟨43, _⟩ => ⟨S16x1024, .bf16⟩
  | .local _ .vmem, ⟨44, _⟩ => ⟨S64x1024, .bf16⟩
  | .local _ .vmem, ⟨45, _⟩ => ⟨S64x1024, .bf16⟩
  | .local _ .vmem, ⟨46, _⟩ => ⟨S64x1024, .bf16⟩
  | .local _ .vmem, ⟨47, _⟩ => ⟨S64x1024, .bf16⟩
  | .local _ .vmem, ⟨48, _⟩ => ⟨S128x1024, .bf16⟩
  | .local _ .vmem, ⟨49, _⟩ => ⟨S128x1024, .bf16⟩
  | .local _ .vmem, ⟨50, _⟩ => ⟨S32x1024, .bf16⟩
  | .local _ .vmem, ⟨51, _⟩ => ⟨S32x1024, .bf16⟩
  | .local _ .vmem, ⟨52, _⟩ => ⟨S32x1024, .bf16⟩
  | .local _ .vmem, ⟨53, _⟩ => ⟨S32x1024, .bf16⟩
  | .local _ .vmem, ⟨54, _⟩ => ⟨S64x1024, .bf16⟩
  | .local _ .vmem, ⟨55, _⟩ => ⟨S64x1024, .bf16⟩
  | .local _ .vmem, ⟨56, _⟩ => ⟨S32x1024, .bf16⟩
  | .local _ .vmem, ⟨57, _⟩ => ⟨S32x1024, .bf16⟩
  | .local _ .vmem, ⟨58, _⟩ => ⟨S32x1024, .bf16⟩
  | .local _ .vmem, ⟨59, _⟩ => ⟨S32x1024, .bf16⟩
  | .local _ .vmem, ⟨60, _⟩ => ⟨S16x1024, .bf16⟩
  | .local _ .vmem, ⟨61, _⟩ => ⟨S16x1024, .bf16⟩
  | .local _ .vmem, ⟨62, _⟩ => ⟨S16x1024, .bf16⟩
  | .local _ .vmem, ⟨63, _⟩ => ⟨S16x1024, .bf16⟩
  | .local _ .vmem, ⟨64, _⟩ => ⟨S16x1024, .bf16⟩
  | .local _ .vmem, ⟨65, _⟩ => ⟨S16x1024, .bf16⟩
  | .local _ .vmem, ⟨66, _⟩ => ⟨S16x1024, .bf16⟩
  | .local _ .vmem, ⟨67, _⟩ => ⟨S16x1024, .bf16⟩
  | .local _ .vmem, ⟨68, _⟩ => ⟨S16x1024, .bf16⟩
  | .local _ .vmem, ⟨69, _⟩ => ⟨S16x1024, .bf16⟩
  | .local _ .vmem, ⟨70, _⟩ => ⟨S16x1024, .bf16⟩
  | .local _ .vmem, ⟨71, _⟩ => ⟨S16x1024, .bf16⟩
  | .local _ .vmem, ⟨72, _⟩ => ⟨S128x1024, .bf16⟩
  | .local _ .vmem, ⟨73, _⟩ => ⟨S128x1024, .bf16⟩
  | .local _ .vmem, ⟨74, _⟩ => ⟨S64x1024, .bf16⟩
  | .local _ .vmem, ⟨75, _⟩ => ⟨S64x1024, .bf16⟩
  | .local _ .vmem, ⟨76, _⟩ => ⟨S64x1024, .bf16⟩
  | .local _ .vmem, ⟨77, _⟩ => ⟨S64x1024, .bf16⟩
  | .local _ .vmem, ⟨78, _⟩ => ⟨S64x1024, .bf16⟩
  | .local _ .vmem, ⟨79, _⟩ => ⟨S32x1024, .bf16⟩
  | .local _ .vmem, ⟨80, _⟩ => ⟨S32x1024, .bf16⟩
  | .local _ .vmem, ⟨81, _⟩ => ⟨S32x1024, .bf16⟩
  | .local _ .vmem, ⟨82, _⟩ => ⟨S32x1024, .bf16⟩
  | .local _ .vmem, ⟨83, _⟩ => ⟨S32x1024, .bf16⟩
  | .local _ .vmem, ⟨84, _⟩ => ⟨S16x1024, .bf16⟩
  | .local _ .vmem, ⟨85, _⟩ => ⟨S16x1024, .bf16⟩
  | _, _ => ⟨S1x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | _, _ => false

abbrev semScoped : Fin 1 → Bool
  | ⟨0, _⟩ => false
  | _ => false

abbrev dmaSemScoped : Fin 94 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | _ => false

abbrev sig : RefSig :=
  (ofTc nBuf bufTy 1 94 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_scratch8 : Ref sig .tc := ⟨.vmem, 10, rfl⟩
abbrev cc0_scratch9 : Ref sig .tc := ⟨.vmem, 11, rfl⟩
abbrev cc0_scratch10 : Ref sig .tc := ⟨.vmem, 12, rfl⟩
abbrev cc0_scratch11 : Ref sig .tc := ⟨.vmem, 13, rfl⟩
abbrev cc0_scratch12 : Ref sig .tc := ⟨.vmem, 14, rfl⟩
abbrev cc0_scratch13 : Ref sig .tc := ⟨.vmem, 15, rfl⟩
abbrev cc0_scratch14 : Ref sig .tc := ⟨.vmem, 16, rfl⟩
abbrev cc0_scratch15 : Ref sig .tc := ⟨.vmem, 17, rfl⟩
abbrev cc0_scratch16 : Ref sig .tc := ⟨.vmem, 18, rfl⟩
abbrev cc0_scratch17 : Ref sig .tc := ⟨.vmem, 19, rfl⟩
abbrev cc0_scratch18 : Ref sig .tc := ⟨.vmem, 20, rfl⟩
abbrev cc0_scratch19 : Ref sig .tc := ⟨.vmem, 21, rfl⟩
abbrev cc0_scratch20 : Ref sig .tc := ⟨.vmem, 22, rfl⟩
abbrev cc0_scratch21 : Ref sig .tc := ⟨.vmem, 23, rfl⟩
abbrev cc0_scratch22 : Ref sig .tc := ⟨.vmem, 24, rfl⟩
abbrev cc0_scratch23 : Ref sig .tc := ⟨.vmem, 25, rfl⟩
abbrev cc0_scratch24 : Ref sig .tc := ⟨.vmem, 26, rfl⟩
abbrev cc0_scratch25 : Ref sig .tc := ⟨.vmem, 27, rfl⟩
abbrev cc0_scratch26 : Ref sig .tc := ⟨.vmem, 28, rfl⟩
abbrev cc0_scratch27 : Ref sig .tc := ⟨.vmem, 29, rfl⟩
abbrev cc0_scratch28 : Ref sig .tc := ⟨.vmem, 30, rfl⟩
abbrev cc0_scratch29 : Ref sig .tc := ⟨.vmem, 31, rfl⟩
abbrev cc0_scratch30 : Ref sig .tc := ⟨.vmem, 32, rfl⟩
abbrev cc0_scratch31 : Ref sig .tc := ⟨.vmem, 33, rfl⟩
abbrev cc0_scratch32 : Ref sig .tc := ⟨.vmem, 34, rfl⟩
abbrev cc0_scratch33 : Ref sig .tc := ⟨.vmem, 35, rfl⟩
abbrev cc0_scratch34 : Ref sig .tc := ⟨.vmem, 36, rfl⟩
abbrev cc0_scratch35 : Ref sig .tc := ⟨.vmem, 37, rfl⟩
abbrev cc0_scratch36 : Ref sig .tc := ⟨.vmem, 38, rfl⟩
abbrev cc0_scratch37 : Ref sig .tc := ⟨.vmem, 39, rfl⟩
abbrev cc0_scratch38 : Ref sig .tc := ⟨.vmem, 40, rfl⟩
abbrev cc0_scratch39 : Ref sig .tc := ⟨.vmem, 41, rfl⟩
abbrev cc0_scratch40 : Ref sig .tc := ⟨.vmem, 42, rfl⟩
abbrev cc0_scratch41 : Ref sig .tc := ⟨.vmem, 43, rfl⟩
abbrev cc0_scratch42 : Ref sig .tc := ⟨.vmem, 44, rfl⟩
abbrev cc0_scratch43 : Ref sig .tc := ⟨.vmem, 45, rfl⟩
abbrev cc0_scratch44 : Ref sig .tc := ⟨.vmem, 46, rfl⟩
abbrev cc0_scratch45 : Ref sig .tc := ⟨.vmem, 47, rfl⟩
abbrev cc0_scratch46 : Ref sig .tc := ⟨.vmem, 48, rfl⟩
abbrev cc0_scratch47 : Ref sig .tc := ⟨.vmem, 49, rfl⟩
abbrev cc0_scratch48 : Ref sig .tc := ⟨.vmem, 50, rfl⟩
abbrev cc0_scratch49 : Ref sig .tc := ⟨.vmem, 51, rfl⟩
abbrev cc0_scratch50 : Ref sig .tc := ⟨.vmem, 52, rfl⟩
abbrev cc0_scratch51 : Ref sig .tc := ⟨.vmem, 53, rfl⟩
abbrev cc0_scratch52 : Ref sig .tc := ⟨.vmem, 54, rfl⟩
abbrev cc0_scratch53 : Ref sig .tc := ⟨.vmem, 55, rfl⟩
abbrev cc0_scratch54 : Ref sig .tc := ⟨.vmem, 56, rfl⟩
abbrev cc0_scratch55 : Ref sig .tc := ⟨.vmem, 57, rfl⟩
abbrev cc0_scratch56 : Ref sig .tc := ⟨.vmem, 58, rfl⟩
abbrev cc0_scratch57 : Ref sig .tc := ⟨.vmem, 59, rfl⟩
abbrev cc0_scratch58 : Ref sig .tc := ⟨.vmem, 60, rfl⟩
abbrev cc0_scratch59 : Ref sig .tc := ⟨.vmem, 61, rfl⟩
abbrev cc0_scratch60 : Ref sig .tc := ⟨.vmem, 62, rfl⟩
abbrev cc0_scratch61 : Ref sig .tc := ⟨.vmem, 63, rfl⟩
abbrev cc0_scratch62 : Ref sig .tc := ⟨.vmem, 64, rfl⟩
abbrev cc0_scratch63 : Ref sig .tc := ⟨.vmem, 65, rfl⟩
abbrev cc0_scratch64 : Ref sig .tc := ⟨.vmem, 66, rfl⟩
abbrev cc0_scratch65 : Ref sig .tc := ⟨.vmem, 67, rfl⟩
abbrev cc0_scratch66 : Ref sig .tc := ⟨.vmem, 68, rfl⟩
abbrev cc0_scratch67 : Ref sig .tc := ⟨.vmem, 69, rfl⟩
abbrev cc0_scratch68 : Ref sig .tc := ⟨.vmem, 70, rfl⟩
abbrev cc0_scratch69 : Ref sig .tc := ⟨.vmem, 71, rfl⟩
abbrev cc0_scratch70 : Ref sig .tc := ⟨.vmem, 72, rfl⟩
abbrev cc0_scratch71 : Ref sig .tc := ⟨.vmem, 73, rfl⟩
abbrev cc0_scratch72 : Ref sig .tc := ⟨.vmem, 74, rfl⟩
abbrev cc0_scratch73 : Ref sig .tc := ⟨.vmem, 75, rfl⟩
abbrev cc0_scratch74 : Ref sig .tc := ⟨.vmem, 76, rfl⟩
abbrev cc0_scratch75 : Ref sig .tc := ⟨.vmem, 77, rfl⟩
abbrev cc0_scratch76 : Ref sig .tc := ⟨.vmem, 78, rfl⟩
abbrev cc0_scratch77 : Ref sig .tc := ⟨.vmem, 79, rfl⟩
abbrev cc0_scratch78 : Ref sig .tc := ⟨.vmem, 80, rfl⟩
abbrev cc0_scratch79 : Ref sig .tc := ⟨.vmem, 81, rfl⟩
abbrev cc0_scratch80 : Ref sig .tc := ⟨.vmem, 82, rfl⟩
abbrev cc0_scratch81 : Ref sig .tc := ⟨.vmem, 83, rfl⟩
abbrev cc0_scratch82 : Ref sig .tc := ⟨.vmem, 84, rfl⟩
abbrev cc0_scratch83 : Ref sig .tc := ⟨.vmem, 85, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_76 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_24 : BitVec 32 := 8#32
  let v59 : BitVec 32 := Scalar.muli v19 c8_i32_24
  let c2_i32_25 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v60 : BitVec 32 := Scalar.muli c2_i32_25 v46
  let v61 : BitVec 32 := Scalar.addi v59 v60
  let c1_i32_23 : BitVec 32 := 1#32
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v58 : BitVec 32 := Scalar.subi c1_i32_23 v57
  let v62 : BitVec 32 := Scalar.addi v58 v46
  let c2_i32_26 : BitVec 32 := 2#32
  let c0_i32_27 : BitVec 32 := 0#32
  let v63 : BitVec 1 := Scalar.cmpi .eq c2_i32_26 c0_i32_27
  let c1_i32_28 : BitVec 32 := 1#32
  let v64 : BitVec 32 := Scalar.select v63 c1_i32_28 c2_i32_26
  let v65 : BitVec 32 := Scalar.remsi v62 v64
  let c0_i32_30 : BitVec 32 := 0#32
  let v67 : BitVec 1 := Scalar.cmpi .slt v65 c0_i32_30
  let c0_i32_31 : BitVec 32 := 0#32
  let v68 : BitVec 1 := Scalar.cmpi .slt v64 c0_i32_31
  let v69 : BitVec 1 := Scalar.xori v67 v68
  let c0_i32_29 : BitVec 32 := 0#32
  let v66 : BitVec 1 := Scalar.cmpi .ne v65 c0_i32_29
  let v70 : BitVec 1 := Scalar.andi v69 v66
  let v71 : BitVec 32 := Scalar.addi v65 v64
  let v72 : BitVec 32 := Scalar.select v70 v71 v65
  let v73 : BitVec 32 := Scalar.addi v61 v72
  let c1_i32_75 : BitVec 32 := 1#32
  let v145 : BitVec 32 := Scalar.muli v73 c1_i32_75
  let v146 : BitVec 32 := Scalar.addi c0_i32_76 v145
  v146.toNat
def k0_dev2 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_33 : BitVec 32 := 8#32
  let v75 : BitVec 32 := Scalar.muli v19 c8_i32_33
  let c2_i32_34 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_32 : BitVec 32 := 1#32
  let v74 : BitVec 32 := Scalar.xori v46 c1_i32_32
  let v76 : BitVec 32 := Scalar.muli c2_i32_34 v74
  let v77 : BitVec 32 := Scalar.addi v75 v76
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v78 : BitVec 32 := Scalar.addi v57 v74
  let c2_i32_35 : BitVec 32 := 2#32
  let c0_i32_36 : BitVec 32 := 0#32
  let v79 : BitVec 1 := Scalar.cmpi .eq c2_i32_35 c0_i32_36
  let c1_i32_37 : BitVec 32 := 1#32
  let v80 : BitVec 32 := Scalar.select v79 c1_i32_37 c2_i32_35
  let v81 : BitVec 32 := Scalar.remsi v78 v80
  let c0_i32_39 : BitVec 32 := 0#32
  let v83 : BitVec 1 := Scalar.cmpi .slt v81 c0_i32_39
  let c0_i32_40 : BitVec 32 := 0#32
  let v84 : BitVec 1 := Scalar.cmpi .slt v80 c0_i32_40
  let v85 : BitVec 1 := Scalar.xori v83 v84
  let c0_i32_38 : BitVec 32 := 0#32
  let v82 : BitVec 1 := Scalar.cmpi .ne v81 c0_i32_38
  let v86 : BitVec 1 := Scalar.andi v85 v82
  let v87 : BitVec 32 := Scalar.addi v81 v80
  let v88 : BitVec 32 := Scalar.select v86 v87 v81
  let v89 : BitVec 32 := Scalar.addi v77 v88
  let c1_i32_78 : BitVec 32 := 1#32
  let v147 : BitVec 32 := Scalar.muli v89 c1_i32_78
  let v148 : BitVec 32 := Scalar.addi c0_i32_79 v147
  v148.toNat
def k0_dev3 (d0 : Dev nD) : Nat :=
  let c0_i32_82 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_42 : BitVec 32 := 1#32
  let v91 : BitVec 32 := Scalar.xori v19 c1_i32_42
  let c8_i32_43 : BitVec 32 := 8#32
  let v92 : BitVec 32 := Scalar.muli v91 c8_i32_43
  let c2_i32_44 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v93 : BitVec 32 := Scalar.muli c2_i32_44 v46
  let v94 : BitVec 32 := Scalar.addi v92 v93
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v95 : BitVec 32 := Scalar.addi v57 v46
  let c2_i32_45 : BitVec 32 := 2#32
  let c0_i32_46 : BitVec 32 := 0#32
  let v96 : BitVec 1 := Scalar.cmpi .eq c2_i32_45 c0_i32_46
  let c1_i32_47 : BitVec 32 := 1#32
  let v97 : BitVec 32 := Scalar.select v96 c1_i32_47 c2_i32_45
  let v98 : BitVec 32 := Scalar.remsi v95 v97
  let c0_i32_49 : BitVec 32 := 0#32
  let v100 : BitVec 1 := Scalar.cmpi .slt v98 c0_i32_49
  let c0_i32_50 : BitVec 32 := 0#32
  let v101 : BitVec 1 := Scalar.cmpi .slt v97 c0_i32_50
  let v102 : BitVec 1 := Scalar.xori v100 v101
  let c0_i32_48 : BitVec 32 := 0#32
  let v99 : BitVec 1 := Scalar.cmpi .ne v98 c0_i32_48
  let v103 : BitVec 1 := Scalar.andi v102 v99
  let v104 : BitVec 32 := Scalar.addi v98 v97
  let v105 : BitVec 32 := Scalar.select v103 v104 v98
  let v106 : BitVec 32 := Scalar.addi v94 v105
  let c1_i32_81 : BitVec 32 := 1#32
  let v149 : BitVec 32 := Scalar.muli v106 c1_i32_81
  let v150 : BitVec 32 := Scalar.addi c0_i32_82 v149
  v150.toNat
def k0_dev4 (d0 : Dev nD) : Nat :=
  let c0_i32_85 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_53 : BitVec 32 := 8#32
  let v109 : BitVec 32 := Scalar.muli v19 c8_i32_53
  let c2_i32_54 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_52 : BitVec 32 := 2#32
  let v108 : BitVec 32 := Scalar.xori v46 c2_i32_52
  let v110 : BitVec 32 := Scalar.muli c2_i32_54 v108
  let v111 : BitVec 32 := Scalar.addi v109 v110
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v112 : BitVec 32 := Scalar.addi v57 v108
  let c2_i32_55 : BitVec 32 := 2#32
  let c0_i32_56 : BitVec 32 := 0#32
  let v113 : BitVec 1 := Scalar.cmpi .eq c2_i32_55 c0_i32_56
  let c1_i32_57 : BitVec 32 := 1#32
  let v114 : BitVec 32 := Scalar.select v113 c1_i32_57 c2_i32_55
  let v115 : BitVec 32 := Scalar.remsi v112 v114
  let c0_i32_59 : BitVec 32 := 0#32
  let v117 : BitVec 1 := Scalar.cmpi .slt v115 c0_i32_59
  let c0_i32_60 : BitVec 32 := 0#32
  let v118 : BitVec 1 := Scalar.cmpi .slt v114 c0_i32_60
  let v119 : BitVec 1 := Scalar.xori v117 v118
  let c0_i32_58 : BitVec 32 := 0#32
  let v116 : BitVec 1 := Scalar.cmpi .ne v115 c0_i32_58
  let v120 : BitVec 1 := Scalar.andi v119 v116
  let v121 : BitVec 32 := Scalar.addi v115 v114
  let v122 : BitVec 32 := Scalar.select v120 v121 v115
  let v123 : BitVec 32 := Scalar.addi v111 v122
  let c1_i32_84 : BitVec 32 := 1#32
  let v151 : BitVec 32 := Scalar.muli v123 c1_i32_84
  let v152 : BitVec 32 := Scalar.addi c0_i32_85 v151
  v152.toNat
def k0_dev5 (d0 : Dev nD) : Nat :=
  let c0_i32_88 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_63 : BitVec 32 := 2#32
  let v126 : BitVec 32 := Scalar.xori v19 c2_i32_63
  let c8_i32_64 : BitVec 32 := 8#32
  let v127 : BitVec 32 := Scalar.muli v126 c8_i32_64
  let c2_i32_65 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v128 : BitVec 32 := Scalar.muli c2_i32_65 v46
  let v129 : BitVec 32 := Scalar.addi v127 v128
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v130 : BitVec 32 := Scalar.addi v57 v46
  let c2_i32_66 : BitVec 32 := 2#32
  let c0_i32_67 : BitVec 32 := 0#32
  let v131 : BitVec 1 := Scalar.cmpi .eq c2_i32_66 c0_i32_67
  let c1_i32_68 : BitVec 32 := 1#32
  let v132 : BitVec 32 := Scalar.select v131 c1_i32_68 c2_i32_66
  let v133 : BitVec 32 := Scalar.remsi v130 v132
  let c0_i32_70 : BitVec 32 := 0#32
  let v135 : BitVec 1 := Scalar.cmpi .slt v133 c0_i32_70
  let c0_i32_71 : BitVec 32 := 0#32
  let v136 : BitVec 1 := Scalar.cmpi .slt v132 c0_i32_71
  let v137 : BitVec 1 := Scalar.xori v135 v136
  let c0_i32_69 : BitVec 32 := 0#32
  let v134 : BitVec 1 := Scalar.cmpi .ne v133 c0_i32_69
  let v138 : BitVec 1 := Scalar.andi v137 v134
  let v139 : BitVec 32 := Scalar.addi v133 v132
  let v140 : BitVec 32 := Scalar.select v138 v139 v133
  let v141 : BitVec 32 := Scalar.addi v129 v140
  let c1_i32_87 : BitVec 32 := 1#32
  let v153 : BitVec 32 := Scalar.muli v141 c1_i32_87
  let v154 : BitVec 32 := Scalar.addi c0_i32_88 v153
  v154.toNat
def k0_mult1 (d0 : Dev nD) : BitVec 32 :=
  let c0_i32_92 : BitVec 32 := 0#32
  let c1_i32_90 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v157 : BitVec 32 := Scalar.subi c1_i32_90 v57
  let c256_i32_91 : BitVec 32 := 256#32
  let v158 : BitVec 32 := Scalar.muli v157 c256_i32_91
  let v159 : BitVec 32 := Scalar.addi c0_i32_92 v158
  let c1_i32_98 : BitVec 32 := 1#32
  let c1_i32_41 : BitVec 32 := 1#32
  let v90 : BitVec 32 := Scalar.andi v46 c1_i32_41
  let v174 : BitVec 32 := Scalar.subi c1_i32_98 v90
  let c128_i32_99 : BitVec 32 := 128#32
  let v175 : BitVec 32 := Scalar.muli v174 c128_i32_99
  let v176 : BitVec 32 := Scalar.addi v159 v175
  let c1_i32_182 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let v307 : BitVec 32 := Scalar.subi c1_i32_182 v107
  let c64_i32_183 : BitVec 32 := 64#32
  let v308 : BitVec 32 := Scalar.muli v307 c64_i32_183
  let v309 : BitVec 32 := Scalar.addi v176 v308
  v309
def k0_off1 (d0 : Dev nD) : Fin 2 → Nat :=
  let c0_i32_92 : BitVec 32 := 0#32
  let c1_i32_90 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v157 : BitVec 32 := Scalar.subi c1_i32_90 v57
  let c256_i32_91 : BitVec 32 := 256#32
  let v158 : BitVec 32 := Scalar.muli v157 c256_i32_91
  let v159 : BitVec 32 := Scalar.addi c0_i32_92 v158
  let c1_i32_98 : BitVec 32 := 1#32
  let c1_i32_41 : BitVec 32 := 1#32
  let v90 : BitVec 32 := Scalar.andi v46 c1_i32_41
  let v174 : BitVec 32 := Scalar.subi c1_i32_98 v90
  let c128_i32_99 : BitVec 32 := 128#32
  let v175 : BitVec 32 := Scalar.muli v174 c128_i32_99
  let v176 : BitVec 32 := Scalar.addi v159 v175
  let c1_i32_182 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let v307 : BitVec 32 := Scalar.subi c1_i32_182 v107
  let c64_i32_183 : BitVec 32 := 64#32
  let v308 : BitVec 32 := Scalar.muli v307 c64_i32_183
  let v309 : BitVec 32 := Scalar.addi v176 v308
  let v310 : BitVec 32 := v309
  let v313 : Index := Scalar.indexCast v310
  let c0 : Index := 0#32
  ![v313.toNat, 0]
def k0_dev6 (d0 : Dev nD) : Nat :=
  let c0_i32_192 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_24 : BitVec 32 := 8#32
  let v59 : BitVec 32 := Scalar.muli v19 c8_i32_24
  let c2_i32_25 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v60 : BitVec 32 := Scalar.muli c2_i32_25 v46
  let v61 : BitVec 32 := Scalar.addi v59 v60
  let c1_i32_23 : BitVec 32 := 1#32
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v58 : BitVec 32 := Scalar.subi c1_i32_23 v57
  let v62 : BitVec 32 := Scalar.addi v58 v46
  let c2_i32_26 : BitVec 32 := 2#32
  let c0_i32_27 : BitVec 32 := 0#32
  let v63 : BitVec 1 := Scalar.cmpi .eq c2_i32_26 c0_i32_27
  let c1_i32_28 : BitVec 32 := 1#32
  let v64 : BitVec 32 := Scalar.select v63 c1_i32_28 c2_i32_26
  let v65 : BitVec 32 := Scalar.remsi v62 v64
  let c0_i32_30 : BitVec 32 := 0#32
  let v67 : BitVec 1 := Scalar.cmpi .slt v65 c0_i32_30
  let c0_i32_31 : BitVec 32 := 0#32
  let v68 : BitVec 1 := Scalar.cmpi .slt v64 c0_i32_31
  let v69 : BitVec 1 := Scalar.xori v67 v68
  let c0_i32_29 : BitVec 32 := 0#32
  let v66 : BitVec 1 := Scalar.cmpi .ne v65 c0_i32_29
  let v70 : BitVec 1 := Scalar.andi v69 v66
  let v71 : BitVec 32 := Scalar.addi v65 v64
  let v72 : BitVec 32 := Scalar.select v70 v71 v65
  let v73 : BitVec 32 := Scalar.addi v61 v72
  let c1_i32_191 : BitVec 32 := 1#32
  let v319 : BitVec 32 := Scalar.muli v73 c1_i32_191
  let v320 : BitVec 32 := Scalar.addi c0_i32_192 v319
  v320.toNat
def k0_mult2 (d0 : Dev nD) : BitVec 32 :=
  let c0_i32_92 : BitVec 32 := 0#32
  let c1_i32_90 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v157 : BitVec 32 := Scalar.subi c1_i32_90 v57
  let c256_i32_91 : BitVec 32 := 256#32
  let v158 : BitVec 32 := Scalar.muli v157 c256_i32_91
  let v159 : BitVec 32 := Scalar.addi c0_i32_92 v158
  let c1_i32_98 : BitVec 32 := 1#32
  let c1_i32_41 : BitVec 32 := 1#32
  let v90 : BitVec 32 := Scalar.andi v46 c1_i32_41
  let v174 : BitVec 32 := Scalar.subi c1_i32_98 v90
  let c128_i32_99 : BitVec 32 := 128#32
  let v175 : BitVec 32 := Scalar.muli v174 c128_i32_99
  let v176 : BitVec 32 := Scalar.addi v159 v175
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c64_i32_193 : BitVec 32 := 64#32
  let v325 : BitVec 32 := Scalar.muli v107 c64_i32_193
  let v326 : BitVec 32 := Scalar.addi v176 v325
  v326
def k0_off2 (d0 : Dev nD) : Fin 2 → Nat :=
  let c0_i32_92 : BitVec 32 := 0#32
  let c1_i32_90 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v157 : BitVec 32 := Scalar.subi c1_i32_90 v57
  let c256_i32_91 : BitVec 32 := 256#32
  let v158 : BitVec 32 := Scalar.muli v157 c256_i32_91
  let v159 : BitVec 32 := Scalar.addi c0_i32_92 v158
  let c1_i32_98 : BitVec 32 := 1#32
  let c1_i32_41 : BitVec 32 := 1#32
  let v90 : BitVec 32 := Scalar.andi v46 c1_i32_41
  let v174 : BitVec 32 := Scalar.subi c1_i32_98 v90
  let c128_i32_99 : BitVec 32 := 128#32
  let v175 : BitVec 32 := Scalar.muli v174 c128_i32_99
  let v176 : BitVec 32 := Scalar.addi v159 v175
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c64_i32_193 : BitVec 32 := 64#32
  let v325 : BitVec 32 := Scalar.muli v107 c64_i32_193
  let v326 : BitVec 32 := Scalar.addi v176 v325
  let v327 : BitVec 32 := v326
  let v330 : Index := Scalar.indexCast v327
  let c0_197 : Index := 0#32
  ![v330.toNat, 0]
def k0_dev7 (d0 : Dev nD) : Nat :=
  let c0_i32_203 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_24 : BitVec 32 := 8#32
  let v59 : BitVec 32 := Scalar.muli v19 c8_i32_24
  let c2_i32_25 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v60 : BitVec 32 := Scalar.muli c2_i32_25 v46
  let v61 : BitVec 32 := Scalar.addi v59 v60
  let c1_i32_23 : BitVec 32 := 1#32
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v58 : BitVec 32 := Scalar.subi c1_i32_23 v57
  let v62 : BitVec 32 := Scalar.addi v58 v46
  let c2_i32_26 : BitVec 32 := 2#32
  let c0_i32_27 : BitVec 32 := 0#32
  let v63 : BitVec 1 := Scalar.cmpi .eq c2_i32_26 c0_i32_27
  let c1_i32_28 : BitVec 32 := 1#32
  let v64 : BitVec 32 := Scalar.select v63 c1_i32_28 c2_i32_26
  let v65 : BitVec 32 := Scalar.remsi v62 v64
  let c0_i32_30 : BitVec 32 := 0#32
  let v67 : BitVec 1 := Scalar.cmpi .slt v65 c0_i32_30
  let c0_i32_31 : BitVec 32 := 0#32
  let v68 : BitVec 1 := Scalar.cmpi .slt v64 c0_i32_31
  let v69 : BitVec 1 := Scalar.xori v67 v68
  let c0_i32_29 : BitVec 32 := 0#32
  let v66 : BitVec 1 := Scalar.cmpi .ne v65 c0_i32_29
  let v70 : BitVec 1 := Scalar.andi v69 v66
  let v71 : BitVec 32 := Scalar.addi v65 v64
  let v72 : BitVec 32 := Scalar.select v70 v71 v65
  let v73 : BitVec 32 := Scalar.addi v61 v72
  let c1_i32_202 : BitVec 32 := 1#32
  let v336 : BitVec 32 := Scalar.muli v73 c1_i32_202
  let v337 : BitVec 32 := Scalar.addi c0_i32_203 v336
  v337.toNat
def k0_mult3 (d0 : Dev nD) : BitVec 32 :=
  let c512_i32_137 : BitVec 32 := 512#32
  let c1_i32_135 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_41 : BitVec 32 := 1#32
  let v90 : BitVec 32 := Scalar.andi v46 c1_i32_41
  let v233 : BitVec 32 := Scalar.subi c1_i32_135 v90
  let c256_i32_136 : BitVec 32 := 256#32
  let v234 : BitVec 32 := Scalar.muli v233 c256_i32_136
  let v235 : BitVec 32 := Scalar.addi c512_i32_137 v234
  let c1_i32_146 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let v250 : BitVec 32 := Scalar.subi c1_i32_146 v107
  let c128_i32_147 : BitVec 32 := 128#32
  let v251 : BitVec 32 := Scalar.muli v250 c128_i32_147
  let v252 : BitVec 32 := Scalar.addi v235 v251
  let c1_i32_204 : BitVec 32 := 1#32
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v342 : BitVec 32 := Scalar.subi c1_i32_204 v57
  let c64_i32_205 : BitVec 32 := 64#32
  let v343 : BitVec 32 := Scalar.muli v342 c64_i32_205
  let v344 : BitVec 32 := Scalar.addi v252 v343
  v344
def k0_off3 (d0 : Dev nD) : Fin 2 → Nat :=
  let c512_i32_137 : BitVec 32 := 512#32
  let c1_i32_135 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_41 : BitVec 32 := 1#32
  let v90 : BitVec 32 := Scalar.andi v46 c1_i32_41
  let v233 : BitVec 32 := Scalar.subi c1_i32_135 v90
  let c256_i32_136 : BitVec 32 := 256#32
  let v234 : BitVec 32 := Scalar.muli v233 c256_i32_136
  let v235 : BitVec 32 := Scalar.addi c512_i32_137 v234
  let c1_i32_146 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let v250 : BitVec 32 := Scalar.subi c1_i32_146 v107
  let c128_i32_147 : BitVec 32 := 128#32
  let v251 : BitVec 32 := Scalar.muli v250 c128_i32_147
  let v252 : BitVec 32 := Scalar.addi v235 v251
  let c1_i32_204 : BitVec 32 := 1#32
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v342 : BitVec 32 := Scalar.subi c1_i32_204 v57
  let c64_i32_205 : BitVec 32 := 64#32
  let v343 : BitVec 32 := Scalar.muli v342 c64_i32_205
  let v344 : BitVec 32 := Scalar.addi v252 v343
  let v345 : BitVec 32 := v344
  let v348 : Index := Scalar.indexCast v345
  let c0_209 : Index := 0#32
  ![v348.toNat, 0]
def k0_dev8 (d0 : Dev nD) : Nat :=
  let c0_i32_215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_33 : BitVec 32 := 8#32
  let v75 : BitVec 32 := Scalar.muli v19 c8_i32_33
  let c2_i32_34 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_32 : BitVec 32 := 1#32
  let v74 : BitVec 32 := Scalar.xori v46 c1_i32_32
  let v76 : BitVec 32 := Scalar.muli c2_i32_34 v74
  let v77 : BitVec 32 := Scalar.addi v75 v76
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v78 : BitVec 32 := Scalar.addi v57 v74
  let c2_i32_35 : BitVec 32 := 2#32
  let c0_i32_36 : BitVec 32 := 0#32
  let v79 : BitVec 1 := Scalar.cmpi .eq c2_i32_35 c0_i32_36
  let c1_i32_37 : BitVec 32 := 1#32
  let v80 : BitVec 32 := Scalar.select v79 c1_i32_37 c2_i32_35
  let v81 : BitVec 32 := Scalar.remsi v78 v80
  let c0_i32_39 : BitVec 32 := 0#32
  let v83 : BitVec 1 := Scalar.cmpi .slt v81 c0_i32_39
  let c0_i32_40 : BitVec 32 := 0#32
  let v84 : BitVec 1 := Scalar.cmpi .slt v80 c0_i32_40
  let v85 : BitVec 1 := Scalar.xori v83 v84
  let c0_i32_38 : BitVec 32 := 0#32
  let v82 : BitVec 1 := Scalar.cmpi .ne v81 c0_i32_38
  let v86 : BitVec 1 := Scalar.andi v85 v82
  let v87 : BitVec 32 := Scalar.addi v81 v80
  let v88 : BitVec 32 := Scalar.select v86 v87 v81
  let v89 : BitVec 32 := Scalar.addi v77 v88
  let c1_i32_214 : BitVec 32 := 1#32
  let v354 : BitVec 32 := Scalar.muli v89 c1_i32_214
  let v355 : BitVec 32 := Scalar.addi c0_i32_215 v354
  v355.toNat
def k0_mult4 (d0 : Dev nD) : BitVec 32 :=
  let c512_i32_137 : BitVec 32 := 512#32
  let c1_i32_135 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_41 : BitVec 32 := 1#32
  let v90 : BitVec 32 := Scalar.andi v46 c1_i32_41
  let v233 : BitVec 32 := Scalar.subi c1_i32_135 v90
  let c256_i32_136 : BitVec 32 := 256#32
  let v234 : BitVec 32 := Scalar.muli v233 c256_i32_136
  let v235 : BitVec 32 := Scalar.addi c512_i32_137 v234
  let c1_i32_146 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let v250 : BitVec 32 := Scalar.subi c1_i32_146 v107
  let c128_i32_147 : BitVec 32 := 128#32
  let v251 : BitVec 32 := Scalar.muli v250 c128_i32_147
  let v252 : BitVec 32 := Scalar.addi v235 v251
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c64_i32_216 : BitVec 32 := 64#32
  let v360 : BitVec 32 := Scalar.muli v57 c64_i32_216
  let v361 : BitVec 32 := Scalar.addi v252 v360
  v361
def k0_off4 (d0 : Dev nD) : Fin 2 → Nat :=
  let c512_i32_137 : BitVec 32 := 512#32
  let c1_i32_135 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_41 : BitVec 32 := 1#32
  let v90 : BitVec 32 := Scalar.andi v46 c1_i32_41
  let v233 : BitVec 32 := Scalar.subi c1_i32_135 v90
  let c256_i32_136 : BitVec 32 := 256#32
  let v234 : BitVec 32 := Scalar.muli v233 c256_i32_136
  let v235 : BitVec 32 := Scalar.addi c512_i32_137 v234
  let c1_i32_146 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let v250 : BitVec 32 := Scalar.subi c1_i32_146 v107
  let c128_i32_147 : BitVec 32 := 128#32
  let v251 : BitVec 32 := Scalar.muli v250 c128_i32_147
  let v252 : BitVec 32 := Scalar.addi v235 v251
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c64_i32_216 : BitVec 32 := 64#32
  let v360 : BitVec 32 := Scalar.muli v57 c64_i32_216
  let v361 : BitVec 32 := Scalar.addi v252 v360
  let v362 : BitVec 32 := v361
  let v365 : Index := Scalar.indexCast v362
  let c0_220 : Index := 0#32
  ![v365.toNat, 0]
def k0_dev9 (d0 : Dev nD) : Nat :=
  let c0_i32_225 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_33 : BitVec 32 := 8#32
  let v75 : BitVec 32 := Scalar.muli v19 c8_i32_33
  let c2_i32_34 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_32 : BitVec 32 := 1#32
  let v74 : BitVec 32 := Scalar.xori v46 c1_i32_32
  let v76 : BitVec 32 := Scalar.muli c2_i32_34 v74
  let v77 : BitVec 32 := Scalar.addi v75 v76
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v78 : BitVec 32 := Scalar.addi v57 v74
  let c2_i32_35 : BitVec 32 := 2#32
  let c0_i32_36 : BitVec 32 := 0#32
  let v79 : BitVec 1 := Scalar.cmpi .eq c2_i32_35 c0_i32_36
  let c1_i32_37 : BitVec 32 := 1#32
  let v80 : BitVec 32 := Scalar.select v79 c1_i32_37 c2_i32_35
  let v81 : BitVec 32 := Scalar.remsi v78 v80
  let c0_i32_39 : BitVec 32 := 0#32
  let v83 : BitVec 1 := Scalar.cmpi .slt v81 c0_i32_39
  let c0_i32_40 : BitVec 32 := 0#32
  let v84 : BitVec 1 := Scalar.cmpi .slt v80 c0_i32_40
  let v85 : BitVec 1 := Scalar.xori v83 v84
  let c0_i32_38 : BitVec 32 := 0#32
  let v82 : BitVec 1 := Scalar.cmpi .ne v81 c0_i32_38
  let v86 : BitVec 1 := Scalar.andi v85 v82
  let v87 : BitVec 32 := Scalar.addi v81 v80
  let v88 : BitVec 32 := Scalar.select v86 v87 v81
  let v89 : BitVec 32 := Scalar.addi v77 v88
  let c1_i32_224 : BitVec 32 := 1#32
  let v371 : BitVec 32 := Scalar.muli v89 c1_i32_224
  let v372 : BitVec 32 := Scalar.addi c0_i32_225 v371
  v372.toNat
def k0_mult5 (d0 : Dev nD) : BitVec 32 :=
  let c0_i32_92 : BitVec 32 := 0#32
  let c1_i32_90 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v157 : BitVec 32 := Scalar.subi c1_i32_90 v57
  let c256_i32_91 : BitVec 32 := 256#32
  let v158 : BitVec 32 := Scalar.muli v157 c256_i32_91
  let v159 : BitVec 32 := Scalar.addi c0_i32_92 v158
  let c1_i32_41 : BitVec 32 := 1#32
  let v90 : BitVec 32 := Scalar.andi v46 c1_i32_41
  let c128_i32_100 : BitVec 32 := 128#32
  let v177 : BitVec 32 := Scalar.muli v90 c128_i32_100
  let v178 : BitVec 32 := Scalar.addi v159 v177
  v178
def k0_off5 (d0 : Dev nD) : Fin 2 → Nat :=
  let c0_i32_92 : BitVec 32 := 0#32
  let c1_i32_90 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v157 : BitVec 32 := Scalar.subi c1_i32_90 v57
  let c256_i32_91 : BitVec 32 := 256#32
  let v158 : BitVec 32 := Scalar.muli v157 c256_i32_91
  let v159 : BitVec 32 := Scalar.addi c0_i32_92 v158
  let c1_i32_41 : BitVec 32 := 1#32
  let v90 : BitVec 32 := Scalar.andi v46 c1_i32_41
  let c128_i32_100 : BitVec 32 := 128#32
  let v177 : BitVec 32 := Scalar.muli v90 c128_i32_100
  let v178 : BitVec 32 := Scalar.addi v159 v177
  let v377 : BitVec 32 := v178
  let v380 : Index := Scalar.indexCast v377
  let c0_229 : Index := 0#32
  ![v380.toNat, 0]
def k0_dev10 (d0 : Dev nD) : Nat :=
  let c0_i32_234 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_24 : BitVec 32 := 8#32
  let v59 : BitVec 32 := Scalar.muli v19 c8_i32_24
  let c2_i32_25 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v60 : BitVec 32 := Scalar.muli c2_i32_25 v46
  let v61 : BitVec 32 := Scalar.addi v59 v60
  let c1_i32_23 : BitVec 32 := 1#32
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v58 : BitVec 32 := Scalar.subi c1_i32_23 v57
  let v62 : BitVec 32 := Scalar.addi v58 v46
  let c2_i32_26 : BitVec 32 := 2#32
  let c0_i32_27 : BitVec 32 := 0#32
  let v63 : BitVec 1 := Scalar.cmpi .eq c2_i32_26 c0_i32_27
  let c1_i32_28 : BitVec 32 := 1#32
  let v64 : BitVec 32 := Scalar.select v63 c1_i32_28 c2_i32_26
  let v65 : BitVec 32 := Scalar.remsi v62 v64
  let c0_i32_30 : BitVec 32 := 0#32
  let v67 : BitVec 1 := Scalar.cmpi .slt v65 c0_i32_30
  let c0_i32_31 : BitVec 32 := 0#32
  let v68 : BitVec 1 := Scalar.cmpi .slt v64 c0_i32_31
  let v69 : BitVec 1 := Scalar.xori v67 v68
  let c0_i32_29 : BitVec 32 := 0#32
  let v66 : BitVec 1 := Scalar.cmpi .ne v65 c0_i32_29
  let v70 : BitVec 1 := Scalar.andi v69 v66
  let v71 : BitVec 32 := Scalar.addi v65 v64
  let v72 : BitVec 32 := Scalar.select v70 v71 v65
  let v73 : BitVec 32 := Scalar.addi v61 v72
  let c1_i32_233 : BitVec 32 := 1#32
  let v386 : BitVec 32 := Scalar.muli v73 c1_i32_233
  let v387 : BitVec 32 := Scalar.addi c0_i32_234 v386
  v387.toNat
def k0_mult6 (d0 : Dev nD) : BitVec 32 :=
  let c512_i32_137 : BitVec 32 := 512#32
  let c1_i32_135 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_41 : BitVec 32 := 1#32
  let v90 : BitVec 32 := Scalar.andi v46 c1_i32_41
  let v233 : BitVec 32 := Scalar.subi c1_i32_135 v90
  let c256_i32_136 : BitVec 32 := 256#32
  let v234 : BitVec 32 := Scalar.muli v233 c256_i32_136
  let v235 : BitVec 32 := Scalar.addi c512_i32_137 v234
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c128_i32_148 : BitVec 32 := 128#32
  let v253 : BitVec 32 := Scalar.muli v107 c128_i32_148
  let v254 : BitVec 32 := Scalar.addi v235 v253
  v254
def k0_off6 (d0 : Dev nD) : Fin 2 → Nat :=
  let c512_i32_137 : BitVec 32 := 512#32
  let c1_i32_135 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_41 : BitVec 32 := 1#32
  let v90 : BitVec 32 := Scalar.andi v46 c1_i32_41
  let v233 : BitVec 32 := Scalar.subi c1_i32_135 v90
  let c256_i32_136 : BitVec 32 := 256#32
  let v234 : BitVec 32 := Scalar.muli v233 c256_i32_136
  let v235 : BitVec 32 := Scalar.addi c512_i32_137 v234
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c128_i32_148 : BitVec 32 := 128#32
  let v253 : BitVec 32 := Scalar.muli v107 c128_i32_148
  let v254 : BitVec 32 := Scalar.addi v235 v253
  let v392 : BitVec 32 := v254
  let v395 : Index := Scalar.indexCast v392
  let c0_238 : Index := 0#32
  ![v395.toNat, 0]
def k0_dev11 (d0 : Dev nD) : Nat :=
  let c0_i32_244 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_33 : BitVec 32 := 8#32
  let v75 : BitVec 32 := Scalar.muli v19 c8_i32_33
  let c2_i32_34 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_32 : BitVec 32 := 1#32
  let v74 : BitVec 32 := Scalar.xori v46 c1_i32_32
  let v76 : BitVec 32 := Scalar.muli c2_i32_34 v74
  let v77 : BitVec 32 := Scalar.addi v75 v76
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v78 : BitVec 32 := Scalar.addi v57 v74
  let c2_i32_35 : BitVec 32 := 2#32
  let c0_i32_36 : BitVec 32 := 0#32
  let v79 : BitVec 1 := Scalar.cmpi .eq c2_i32_35 c0_i32_36
  let c1_i32_37 : BitVec 32 := 1#32
  let v80 : BitVec 32 := Scalar.select v79 c1_i32_37 c2_i32_35
  let v81 : BitVec 32 := Scalar.remsi v78 v80
  let c0_i32_39 : BitVec 32 := 0#32
  let v83 : BitVec 1 := Scalar.cmpi .slt v81 c0_i32_39
  let c0_i32_40 : BitVec 32 := 0#32
  let v84 : BitVec 1 := Scalar.cmpi .slt v80 c0_i32_40
  let v85 : BitVec 1 := Scalar.xori v83 v84
  let c0_i32_38 : BitVec 32 := 0#32
  let v82 : BitVec 1 := Scalar.cmpi .ne v81 c0_i32_38
  let v86 : BitVec 1 := Scalar.andi v85 v82
  let v87 : BitVec 32 := Scalar.addi v81 v80
  let v88 : BitVec 32 := Scalar.select v86 v87 v81
  let v89 : BitVec 32 := Scalar.addi v77 v88
  let c1_i32_243 : BitVec 32 := 1#32
  let v401 : BitVec 32 := Scalar.muli v89 c1_i32_243
  let v402 : BitVec 32 := Scalar.addi c0_i32_244 v401
  v402.toNat
def k0_mult7 (d0 : Dev nD) : BitVec 32 :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32 : BitVec 32 := 256#32
  let v155 : BitVec 32 := Scalar.muli v57 c256_i32
  let v156 : BitVec 32 := Scalar.addi c0_i32_89 v155
  let c1_i32_101 : BitVec 32 := 1#32
  let c1_i32_41 : BitVec 32 := 1#32
  let v90 : BitVec 32 := Scalar.andi v46 c1_i32_41
  let v179 : BitVec 32 := Scalar.subi c1_i32_101 v90
  let c128_i32_102 : BitVec 32 := 128#32
  let v180 : BitVec 32 := Scalar.muli v179 c128_i32_102
  let v181 : BitVec 32 := Scalar.addi v156 v180
  let c1_i32_252 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let v413 : BitVec 32 := Scalar.subi c1_i32_252 v107
  let c64_i32_253 : BitVec 32 := 64#32
  let v414 : BitVec 32 := Scalar.muli v413 c64_i32_253
  let v415 : BitVec 32 := Scalar.addi v181 v414
  v415
def k0_off7 (d0 : Dev nD) : Fin 2 → Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32 : BitVec 32 := 256#32
  let v155 : BitVec 32 := Scalar.muli v57 c256_i32
  let v156 : BitVec 32 := Scalar.addi c0_i32_89 v155
  let c1_i32_101 : BitVec 32 := 1#32
  let c1_i32_41 : BitVec 32 := 1#32
  let v90 : BitVec 32 := Scalar.andi v46 c1_i32_41
  let v179 : BitVec 32 := Scalar.subi c1_i32_101 v90
  let c128_i32_102 : BitVec 32 := 128#32
  let v180 : BitVec 32 := Scalar.muli v179 c128_i32_102
  let v181 : BitVec 32 := Scalar.addi v156 v180
  let c1_i32_252 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let v413 : BitVec 32 := Scalar.subi c1_i32_252 v107
  let c64_i32_253 : BitVec 32 := 64#32
  let v414 : BitVec 32 := Scalar.muli v413 c64_i32_253
  let v415 : BitVec 32 := Scalar.addi v181 v414
  let v416 : BitVec 32 := v415
  let v419 : Index := Scalar.indexCast v416
  let c0_257 : Index := 0#32
  ![v419.toNat, 0]
def k0_mult8 (d0 : Dev nD) : BitVec 32 :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32 : BitVec 32 := 256#32
  let v155 : BitVec 32 := Scalar.muli v57 c256_i32
  let v156 : BitVec 32 := Scalar.addi c0_i32_89 v155
  let c1_i32_93 : BitVec 32 := 1#32
  let c1_i32_41 : BitVec 32 := 1#32
  let v90 : BitVec 32 := Scalar.andi v46 c1_i32_41
  let v162 : BitVec 32 := Scalar.subi c1_i32_93 v90
  let c128_i32_94 : BitVec 32 := 128#32
  let v163 : BitVec 32 := Scalar.muli v162 c128_i32_94
  let v164 : BitVec 32 := Scalar.addi v156 v163
  let c1_i32_104 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let v184 : BitVec 32 := Scalar.subi c1_i32_104 v107
  let c64_i32_105 : BitVec 32 := 64#32
  let v185 : BitVec 32 := Scalar.muli v184 c64_i32_105
  let v186 : BitVec 32 := Scalar.addi v164 v185
  let c1_i32_261 : BitVec 32 := 1#32
  let c1_i32_61 : BitVec 32 := 1#32
  let v124 : BitVec 32 := Scalar.shrsi v46 c1_i32_61
  let c1_i32_62 : BitVec 32 := 1#32
  let v125 : BitVec 32 := Scalar.andi v124 c1_i32_62
  let v428 : BitVec 32 := Scalar.subi c1_i32_261 v125
  let c32_i32_262 : BitVec 32 := 32#32
  let v429 : BitVec 32 := Scalar.muli v428 c32_i32_262
  let v430 : BitVec 32 := Scalar.addi v186 v429
  v430
def k0_off8 (d0 : Dev nD) : Fin 2 → Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32 : BitVec 32 := 256#32
  let v155 : BitVec 32 := Scalar.muli v57 c256_i32
  let v156 : BitVec 32 := Scalar.addi c0_i32_89 v155
  let c1_i32_93 : BitVec 32 := 1#32
  let c1_i32_41 : BitVec 32 := 1#32
  let v90 : BitVec 32 := Scalar.andi v46 c1_i32_41
  let v162 : BitVec 32 := Scalar.subi c1_i32_93 v90
  let c128_i32_94 : BitVec 32 := 128#32
  let v163 : BitVec 32 := Scalar.muli v162 c128_i32_94
  let v164 : BitVec 32 := Scalar.addi v156 v163
  let c1_i32_104 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let v184 : BitVec 32 := Scalar.subi c1_i32_104 v107
  let c64_i32_105 : BitVec 32 := 64#32
  let v185 : BitVec 32 := Scalar.muli v184 c64_i32_105
  let v186 : BitVec 32 := Scalar.addi v164 v185
  let c1_i32_261 : BitVec 32 := 1#32
  let c1_i32_61 : BitVec 32 := 1#32
  let v124 : BitVec 32 := Scalar.shrsi v46 c1_i32_61
  let c1_i32_62 : BitVec 32 := 1#32
  let v125 : BitVec 32 := Scalar.andi v124 c1_i32_62
  let v428 : BitVec 32 := Scalar.subi c1_i32_261 v125
  let c32_i32_262 : BitVec 32 := 32#32
  let v429 : BitVec 32 := Scalar.muli v428 c32_i32_262
  let v430 : BitVec 32 := Scalar.addi v186 v429
  let v431 : BitVec 32 := v430
  let v432 : Index := Scalar.indexCast v431
  let c0_263 : Index := 0#32
  ![v432.toNat, 0]
def k0_dev12 (d0 : Dev nD) : Nat :=
  let c0_i32_268 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_33 : BitVec 32 := 8#32
  let v75 : BitVec 32 := Scalar.muli v19 c8_i32_33
  let c2_i32_34 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_32 : BitVec 32 := 1#32
  let v74 : BitVec 32 := Scalar.xori v46 c1_i32_32
  let v76 : BitVec 32 := Scalar.muli c2_i32_34 v74
  let v77 : BitVec 32 := Scalar.addi v75 v76
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v78 : BitVec 32 := Scalar.addi v57 v74
  let c2_i32_35 : BitVec 32 := 2#32
  let c0_i32_36 : BitVec 32 := 0#32
  let v79 : BitVec 1 := Scalar.cmpi .eq c2_i32_35 c0_i32_36
  let c1_i32_37 : BitVec 32 := 1#32
  let v80 : BitVec 32 := Scalar.select v79 c1_i32_37 c2_i32_35
  let v81 : BitVec 32 := Scalar.remsi v78 v80
  let c0_i32_39 : BitVec 32 := 0#32
  let v83 : BitVec 1 := Scalar.cmpi .slt v81 c0_i32_39
  let c0_i32_40 : BitVec 32 := 0#32
  let v84 : BitVec 1 := Scalar.cmpi .slt v80 c0_i32_40
  let v85 : BitVec 1 := Scalar.xori v83 v84
  let c0_i32_38 : BitVec 32 := 0#32
  let v82 : BitVec 1 := Scalar.cmpi .ne v81 c0_i32_38
  let v86 : BitVec 1 := Scalar.andi v85 v82
  let v87 : BitVec 32 := Scalar.addi v81 v80
  let v88 : BitVec 32 := Scalar.select v86 v87 v81
  let v89 : BitVec 32 := Scalar.addi v77 v88
  let c1_i32_267 : BitVec 32 := 1#32
  let v439 : BitVec 32 := Scalar.muli v89 c1_i32_267
  let v440 : BitVec 32 := Scalar.addi c0_i32_268 v439
  v440.toNat
def k0_mult9 (d0 : Dev nD) : BitVec 32 :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32 : BitVec 32 := 256#32
  let v155 : BitVec 32 := Scalar.muli v57 c256_i32
  let v156 : BitVec 32 := Scalar.addi c0_i32_89 v155
  let c1_i32_93 : BitVec 32 := 1#32
  let c1_i32_41 : BitVec 32 := 1#32
  let v90 : BitVec 32 := Scalar.andi v46 c1_i32_41
  let v162 : BitVec 32 := Scalar.subi c1_i32_93 v90
  let c128_i32_94 : BitVec 32 := 128#32
  let v163 : BitVec 32 := Scalar.muli v162 c128_i32_94
  let v164 : BitVec 32 := Scalar.addi v156 v163
  let c1_i32_104 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let v184 : BitVec 32 := Scalar.subi c1_i32_104 v107
  let c64_i32_105 : BitVec 32 := 64#32
  let v185 : BitVec 32 := Scalar.muli v184 c64_i32_105
  let v186 : BitVec 32 := Scalar.addi v164 v185
  let c1_i32_61 : BitVec 32 := 1#32
  let v124 : BitVec 32 := Scalar.shrsi v46 c1_i32_61
  let c1_i32_62 : BitVec 32 := 1#32
  let v125 : BitVec 32 := Scalar.andi v124 c1_i32_62
  let c32_i32_269 : BitVec 32 := 32#32
  let v445 : BitVec 32 := Scalar.muli v125 c32_i32_269
  let v446 : BitVec 32 := Scalar.addi v186 v445
  v446
def k0_off9 (d0 : Dev nD) : Fin 2 → Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32 : BitVec 32 := 256#32
  let v155 : BitVec 32 := Scalar.muli v57 c256_i32
  let v156 : BitVec 32 := Scalar.addi c0_i32_89 v155
  let c1_i32_93 : BitVec 32 := 1#32
  let c1_i32_41 : BitVec 32 := 1#32
  let v90 : BitVec 32 := Scalar.andi v46 c1_i32_41
  let v162 : BitVec 32 := Scalar.subi c1_i32_93 v90
  let c128_i32_94 : BitVec 32 := 128#32
  let v163 : BitVec 32 := Scalar.muli v162 c128_i32_94
  let v164 : BitVec 32 := Scalar.addi v156 v163
  let c1_i32_104 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let v184 : BitVec 32 := Scalar.subi c1_i32_104 v107
  let c64_i32_105 : BitVec 32 := 64#32
  let v185 : BitVec 32 := Scalar.muli v184 c64_i32_105
  let v186 : BitVec 32 := Scalar.addi v164 v185
  let c1_i32_61 : BitVec 32 := 1#32
  let v124 : BitVec 32 := Scalar.shrsi v46 c1_i32_61
  let c1_i32_62 : BitVec 32 := 1#32
  let v125 : BitVec 32 := Scalar.andi v124 c1_i32_62
  let c32_i32_269 : BitVec 32 := 32#32
  let v445 : BitVec 32 := Scalar.muli v125 c32_i32_269
  let v446 : BitVec 32 := Scalar.addi v186 v445
  let v447 : BitVec 32 := v446
  let v448 : Index := Scalar.indexCast v447
  let c0_270 : Index := 0#32
  ![v448.toNat, 0]
def k0_dev13 (d0 : Dev nD) : Nat :=
  let c0_i32_275 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_33 : BitVec 32 := 8#32
  let v75 : BitVec 32 := Scalar.muli v19 c8_i32_33
  let c2_i32_34 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_32 : BitVec 32 := 1#32
  let v74 : BitVec 32 := Scalar.xori v46 c1_i32_32
  let v76 : BitVec 32 := Scalar.muli c2_i32_34 v74
  let v77 : BitVec 32 := Scalar.addi v75 v76
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v78 : BitVec 32 := Scalar.addi v57 v74
  let c2_i32_35 : BitVec 32 := 2#32
  let c0_i32_36 : BitVec 32 := 0#32
  let v79 : BitVec 1 := Scalar.cmpi .eq c2_i32_35 c0_i32_36
  let c1_i32_37 : BitVec 32 := 1#32
  let v80 : BitVec 32 := Scalar.select v79 c1_i32_37 c2_i32_35
  let v81 : BitVec 32 := Scalar.remsi v78 v80
  let c0_i32_39 : BitVec 32 := 0#32
  let v83 : BitVec 1 := Scalar.cmpi .slt v81 c0_i32_39
  let c0_i32_40 : BitVec 32 := 0#32
  let v84 : BitVec 1 := Scalar.cmpi .slt v80 c0_i32_40
  let v85 : BitVec 1 := Scalar.xori v83 v84
  let c0_i32_38 : BitVec 32 := 0#32
  let v82 : BitVec 1 := Scalar.cmpi .ne v81 c0_i32_38
  let v86 : BitVec 1 := Scalar.andi v85 v82
  let v87 : BitVec 32 := Scalar.addi v81 v80
  let v88 : BitVec 32 := Scalar.select v86 v87 v81
  let v89 : BitVec 32 := Scalar.addi v77 v88
  let c1_i32_274 : BitVec 32 := 1#32
  let v455 : BitVec 32 := Scalar.muli v89 c1_i32_274
  let v456 : BitVec 32 := Scalar.addi c0_i32_275 v455
  v456.toNat
def k0_mult10 (d0 : Dev nD) : BitVec 32 :=
  let c512_i32 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_41 : BitVec 32 := 1#32
  let v90 : BitVec 32 := Scalar.andi v46 c1_i32_41
  let c256_i32_134 : BitVec 32 := 256#32
  let v231 : BitVec 32 := Scalar.muli v90 c256_i32_134
  let v232 : BitVec 32 := Scalar.addi c512_i32 v231
  let c1_i32_149 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let v255 : BitVec 32 := Scalar.subi c1_i32_149 v107
  let c128_i32_150 : BitVec 32 := 128#32
  let v256 : BitVec 32 := Scalar.muli v255 c128_i32_150
  let v257 : BitVec 32 := Scalar.addi v232 v256
  let c1_i32_283 : BitVec 32 := 1#32
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v467 : BitVec 32 := Scalar.subi c1_i32_283 v57
  let c64_i32_284 : BitVec 32 := 64#32
  let v468 : BitVec 32 := Scalar.muli v467 c64_i32_284
  let v469 : BitVec 32 := Scalar.addi v257 v468
  v469
def k0_off10 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_41 : BitVec 32 := 1#32
  let v90 : BitVec 32 := Scalar.andi v46 c1_i32_41
  let c256_i32_134 : BitVec 32 := 256#32
  let v231 : BitVec 32 := Scalar.muli v90 c256_i32_134
  let v232 : BitVec 32 := Scalar.addi c512_i32 v231
  let c1_i32_149 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let v255 : BitVec 32 := Scalar.subi c1_i32_149 v107
  let c128_i32_150 : BitVec 32 := 128#32
  let v256 : BitVec 32 := Scalar.muli v255 c128_i32_150
  let v257 : BitVec 32 := Scalar.addi v232 v256
  let c1_i32_283 : BitVec 32 := 1#32
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v467 : BitVec 32 := Scalar.subi c1_i32_283 v57
  let c64_i32_284 : BitVec 32 := 64#32
  let v468 : BitVec 32 := Scalar.muli v467 c64_i32_284
  let v469 : BitVec 32 := Scalar.addi v257 v468
  let v470 : BitVec 32 := v469
  let v473 : Index := Scalar.indexCast v470
  let c0_288 : Index := 0#32
  ![v473.toNat, 0]
def k0_mult11 (d0 : Dev nD) : BitVec 32 :=
  let c512_i32 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_41 : BitVec 32 := 1#32
  let v90 : BitVec 32 := Scalar.andi v46 c1_i32_41
  let c256_i32_134 : BitVec 32 := 256#32
  let v231 : BitVec 32 := Scalar.muli v90 c256_i32_134
  let v232 : BitVec 32 := Scalar.addi c512_i32 v231
  let c1_i32_139 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let v238 : BitVec 32 := Scalar.subi c1_i32_139 v107
  let c128_i32_140 : BitVec 32 := 128#32
  let v239 : BitVec 32 := Scalar.muli v238 c128_i32_140
  let v240 : BitVec 32 := Scalar.addi v232 v239
  let c1_i32_152 : BitVec 32 := 1#32
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v260 : BitVec 32 := Scalar.subi c1_i32_152 v57
  let c64_i32_153 : BitVec 32 := 64#32
  let v261 : BitVec 32 := Scalar.muli v260 c64_i32_153
  let v262 : BitVec 32 := Scalar.addi v240 v261
  let c1_i32_292 : BitVec 32 := 1#32
  let c1_i32_72 : BitVec 32 := 1#32
  let v142 : BitVec 32 := Scalar.shrsi v19 c1_i32_72
  let c1_i32_73 : BitVec 32 := 1#32
  let v143 : BitVec 32 := Scalar.andi v142 c1_i32_73
  let v482 : BitVec 32 := Scalar.subi c1_i32_292 v143
  let c32_i32_293 : BitVec 32 := 32#32
  let v483 : BitVec 32 := Scalar.muli v482 c32_i32_293
  let v484 : BitVec 32 := Scalar.addi v262 v483
  v484
def k0_off11 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_41 : BitVec 32 := 1#32
  let v90 : BitVec 32 := Scalar.andi v46 c1_i32_41
  let c256_i32_134 : BitVec 32 := 256#32
  let v231 : BitVec 32 := Scalar.muli v90 c256_i32_134
  let v232 : BitVec 32 := Scalar.addi c512_i32 v231
  let c1_i32_139 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let v238 : BitVec 32 := Scalar.subi c1_i32_139 v107
  let c128_i32_140 : BitVec 32 := 128#32
  let v239 : BitVec 32 := Scalar.muli v238 c128_i32_140
  let v240 : BitVec 32 := Scalar.addi v232 v239
  let c1_i32_152 : BitVec 32 := 1#32
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v260 : BitVec 32 := Scalar.subi c1_i32_152 v57
  let c64_i32_153 : BitVec 32 := 64#32
  let v261 : BitVec 32 := Scalar.muli v260 c64_i32_153
  let v262 : BitVec 32 := Scalar.addi v240 v261
  let c1_i32_292 : BitVec 32 := 1#32
  let c1_i32_72 : BitVec 32 := 1#32
  let v142 : BitVec 32 := Scalar.shrsi v19 c1_i32_72
  let c1_i32_73 : BitVec 32 := 1#32
  let v143 : BitVec 32 := Scalar.andi v142 c1_i32_73
  let v482 : BitVec 32 := Scalar.subi c1_i32_292 v143
  let c32_i32_293 : BitVec 32 := 32#32
  let v483 : BitVec 32 := Scalar.muli v482 c32_i32_293
  let v484 : BitVec 32 := Scalar.addi v262 v483
  let v485 : BitVec 32 := v484
  let v486 : Index := Scalar.indexCast v485
  let c0_294 : Index := 0#32
  ![v486.toNat, 0]
def k0_dev14 (d0 : Dev nD) : Nat :=
  let c0_i32_300 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_42 : BitVec 32 := 1#32
  let v91 : BitVec 32 := Scalar.xori v19 c1_i32_42
  let c8_i32_43 : BitVec 32 := 8#32
  let v92 : BitVec 32 := Scalar.muli v91 c8_i32_43
  let c2_i32_44 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v93 : BitVec 32 := Scalar.muli c2_i32_44 v46
  let v94 : BitVec 32 := Scalar.addi v92 v93
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v95 : BitVec 32 := Scalar.addi v57 v46
  let c2_i32_45 : BitVec 32 := 2#32
  let c0_i32_46 : BitVec 32 := 0#32
  let v96 : BitVec 1 := Scalar.cmpi .eq c2_i32_45 c0_i32_46
  let c1_i32_47 : BitVec 32 := 1#32
  let v97 : BitVec 32 := Scalar.select v96 c1_i32_47 c2_i32_45
  let v98 : BitVec 32 := Scalar.remsi v95 v97
  let c0_i32_49 : BitVec 32 := 0#32
  let v100 : BitVec 1 := Scalar.cmpi .slt v98 c0_i32_49
  let c0_i32_50 : BitVec 32 := 0#32
  let v101 : BitVec 1 := Scalar.cmpi .slt v97 c0_i32_50
  let v102 : BitVec 1 := Scalar.xori v100 v101
  let c0_i32_48 : BitVec 32 := 0#32
  let v99 : BitVec 1 := Scalar.cmpi .ne v98 c0_i32_48
  let v103 : BitVec 1 := Scalar.andi v102 v99
  let v104 : BitVec 32 := Scalar.addi v98 v97
  let v105 : BitVec 32 := Scalar.select v103 v104 v98
  let v106 : BitVec 32 := Scalar.addi v94 v105
  let c1_i32_299 : BitVec 32 := 1#32
  let v493 : BitVec 32 := Scalar.muli v106 c1_i32_299
  let v494 : BitVec 32 := Scalar.addi c0_i32_300 v493
  v494.toNat
def k0_mult12 (d0 : Dev nD) : BitVec 32 :=
  let c512_i32 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_41 : BitVec 32 := 1#32
  let v90 : BitVec 32 := Scalar.andi v46 c1_i32_41
  let c256_i32_134 : BitVec 32 := 256#32
  let v231 : BitVec 32 := Scalar.muli v90 c256_i32_134
  let v232 : BitVec 32 := Scalar.addi c512_i32 v231
  let c1_i32_139 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let v238 : BitVec 32 := Scalar.subi c1_i32_139 v107
  let c128_i32_140 : BitVec 32 := 128#32
  let v239 : BitVec 32 := Scalar.muli v238 c128_i32_140
  let v240 : BitVec 32 := Scalar.addi v232 v239
  let c1_i32_152 : BitVec 32 := 1#32
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v260 : BitVec 32 := Scalar.subi c1_i32_152 v57
  let c64_i32_153 : BitVec 32 := 64#32
  let v261 : BitVec 32 := Scalar.muli v260 c64_i32_153
  let v262 : BitVec 32 := Scalar.addi v240 v261
  let c1_i32_72 : BitVec 32 := 1#32
  let v142 : BitVec 32 := Scalar.shrsi v19 c1_i32_72
  let c1_i32_73 : BitVec 32 := 1#32
  let v143 : BitVec 32 := Scalar.andi v142 c1_i32_73
  let c32_i32_301 : BitVec 32 := 32#32
  let v499 : BitVec 32 := Scalar.muli v143 c32_i32_301
  let v500 : BitVec 32 := Scalar.addi v262 v499
  v500
def k0_off12 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_41 : BitVec 32 := 1#32
  let v90 : BitVec 32 := Scalar.andi v46 c1_i32_41
  let c256_i32_134 : BitVec 32 := 256#32
  let v231 : BitVec 32 := Scalar.muli v90 c256_i32_134
  let v232 : BitVec 32 := Scalar.addi c512_i32 v231
  let c1_i32_139 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let v238 : BitVec 32 := Scalar.subi c1_i32_139 v107
  let c128_i32_140 : BitVec 32 := 128#32
  let v239 : BitVec 32 := Scalar.muli v238 c128_i32_140
  let v240 : BitVec 32 := Scalar.addi v232 v239
  let c1_i32_152 : BitVec 32 := 1#32
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v260 : BitVec 32 := Scalar.subi c1_i32_152 v57
  let c64_i32_153 : BitVec 32 := 64#32
  let v261 : BitVec 32 := Scalar.muli v260 c64_i32_153
  let v262 : BitVec 32 := Scalar.addi v240 v261
  let c1_i32_72 : BitVec 32 := 1#32
  let v142 : BitVec 32 := Scalar.shrsi v19 c1_i32_72
  let c1_i32_73 : BitVec 32 := 1#32
  let v143 : BitVec 32 := Scalar.andi v142 c1_i32_73
  let c32_i32_301 : BitVec 32 := 32#32
  let v499 : BitVec 32 := Scalar.muli v143 c32_i32_301
  let v500 : BitVec 32 := Scalar.addi v262 v499
  let v501 : BitVec 32 := v500
  let v502 : Index := Scalar.indexCast v501
  let c0_302 : Index := 0#32
  ![v502.toNat, 0]
def k0_dev15 (d0 : Dev nD) : Nat :=
  let c0_i32_307 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_42 : BitVec 32 := 1#32
  let v91 : BitVec 32 := Scalar.xori v19 c1_i32_42
  let c8_i32_43 : BitVec 32 := 8#32
  let v92 : BitVec 32 := Scalar.muli v91 c8_i32_43
  let c2_i32_44 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v93 : BitVec 32 := Scalar.muli c2_i32_44 v46
  let v94 : BitVec 32 := Scalar.addi v92 v93
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v95 : BitVec 32 := Scalar.addi v57 v46
  let c2_i32_45 : BitVec 32 := 2#32
  let c0_i32_46 : BitVec 32 := 0#32
  let v96 : BitVec 1 := Scalar.cmpi .eq c2_i32_45 c0_i32_46
  let c1_i32_47 : BitVec 32 := 1#32
  let v97 : BitVec 32 := Scalar.select v96 c1_i32_47 c2_i32_45
  let v98 : BitVec 32 := Scalar.remsi v95 v97
  let c0_i32_49 : BitVec 32 := 0#32
  let v100 : BitVec 1 := Scalar.cmpi .slt v98 c0_i32_49
  let c0_i32_50 : BitVec 32 := 0#32
  let v101 : BitVec 1 := Scalar.cmpi .slt v97 c0_i32_50
  let v102 : BitVec 1 := Scalar.xori v100 v101
  let c0_i32_48 : BitVec 32 := 0#32
  let v99 : BitVec 1 := Scalar.cmpi .ne v98 c0_i32_48
  let v103 : BitVec 1 := Scalar.andi v102 v99
  let v104 : BitVec 32 := Scalar.addi v98 v97
  let v105 : BitVec 32 := Scalar.select v103 v104 v98
  let v106 : BitVec 32 := Scalar.addi v94 v105
  let c1_i32_306 : BitVec 32 := 1#32
  let v509 : BitVec 32 := Scalar.muli v106 c1_i32_306
  let v510 : BitVec 32 := Scalar.addi c0_i32_307 v509
  v510.toNat
def k0_mult13 (d0 : Dev nD) : BitVec 32 :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32 : BitVec 32 := 256#32
  let v155 : BitVec 32 := Scalar.muli v57 c256_i32
  let v156 : BitVec 32 := Scalar.addi c0_i32_89 v155
  let c1_i32_101 : BitVec 32 := 1#32
  let c1_i32_41 : BitVec 32 := 1#32
  let v90 : BitVec 32 := Scalar.andi v46 c1_i32_41
  let v179 : BitVec 32 := Scalar.subi c1_i32_101 v90
  let c128_i32_102 : BitVec 32 := 128#32
  let v180 : BitVec 32 := Scalar.muli v179 c128_i32_102
  let v181 : BitVec 32 := Scalar.addi v156 v180
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c64_i32_308 : BitVec 32 := 64#32
  let v515 : BitVec 32 := Scalar.muli v107 c64_i32_308
  let v516 : BitVec 32 := Scalar.addi v181 v515
  v516
def k0_off13 (d0 : Dev nD) : Fin 2 → Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32 : BitVec 32 := 256#32
  let v155 : BitVec 32 := Scalar.muli v57 c256_i32
  let v156 : BitVec 32 := Scalar.addi c0_i32_89 v155
  let c1_i32_101 : BitVec 32 := 1#32
  let c1_i32_41 : BitVec 32 := 1#32
  let v90 : BitVec 32 := Scalar.andi v46 c1_i32_41
  let v179 : BitVec 32 := Scalar.subi c1_i32_101 v90
  let c128_i32_102 : BitVec 32 := 128#32
  let v180 : BitVec 32 := Scalar.muli v179 c128_i32_102
  let v181 : BitVec 32 := Scalar.addi v156 v180
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c64_i32_308 : BitVec 32 := 64#32
  let v515 : BitVec 32 := Scalar.muli v107 c64_i32_308
  let v516 : BitVec 32 := Scalar.addi v181 v515
  let v523 : BitVec 32 := v516
  let v526 : Index := Scalar.indexCast v523
  let c0_319 : Index := 0#32
  ![v526.toNat, 0]
def k0_dev16 (d0 : Dev nD) : Nat :=
  let c0_i32_327 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_33 : BitVec 32 := 8#32
  let v75 : BitVec 32 := Scalar.muli v19 c8_i32_33
  let c2_i32_34 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_32 : BitVec 32 := 1#32
  let v74 : BitVec 32 := Scalar.xori v46 c1_i32_32
  let v76 : BitVec 32 := Scalar.muli c2_i32_34 v74
  let v77 : BitVec 32 := Scalar.addi v75 v76
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v78 : BitVec 32 := Scalar.addi v57 v74
  let c2_i32_35 : BitVec 32 := 2#32
  let c0_i32_36 : BitVec 32 := 0#32
  let v79 : BitVec 1 := Scalar.cmpi .eq c2_i32_35 c0_i32_36
  let c1_i32_37 : BitVec 32 := 1#32
  let v80 : BitVec 32 := Scalar.select v79 c1_i32_37 c2_i32_35
  let v81 : BitVec 32 := Scalar.remsi v78 v80
  let c0_i32_39 : BitVec 32 := 0#32
  let v83 : BitVec 1 := Scalar.cmpi .slt v81 c0_i32_39
  let c0_i32_40 : BitVec 32 := 0#32
  let v84 : BitVec 1 := Scalar.cmpi .slt v80 c0_i32_40
  let v85 : BitVec 1 := Scalar.xori v83 v84
  let c0_i32_38 : BitVec 32 := 0#32
  let v82 : BitVec 1 := Scalar.cmpi .ne v81 c0_i32_38
  let v86 : BitVec 1 := Scalar.andi v85 v82
  let v87 : BitVec 32 := Scalar.addi v81 v80
  let v88 : BitVec 32 := Scalar.select v86 v87 v81
  let v89 : BitVec 32 := Scalar.addi v77 v88
  let c1_i32_326 : BitVec 32 := 1#32
  let v539 : BitVec 32 := Scalar.muli v89 c1_i32_326
  let v540 : BitVec 32 := Scalar.addi c0_i32_327 v539
  v540.toNat
def k0_mult14 (d0 : Dev nD) : BitVec 32 :=
  let c512_i32 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_41 : BitVec 32 := 1#32
  let v90 : BitVec 32 := Scalar.andi v46 c1_i32_41
  let c256_i32_134 : BitVec 32 := 256#32
  let v231 : BitVec 32 := Scalar.muli v90 c256_i32_134
  let v232 : BitVec 32 := Scalar.addi c512_i32 v231
  let c1_i32_149 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let v255 : BitVec 32 := Scalar.subi c1_i32_149 v107
  let c128_i32_150 : BitVec 32 := 128#32
  let v256 : BitVec 32 := Scalar.muli v255 c128_i32_150
  let v257 : BitVec 32 := Scalar.addi v232 v256
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c64_i32_328 : BitVec 32 := 64#32
  let v545 : BitVec 32 := Scalar.muli v57 c64_i32_328
  let v546 : BitVec 32 := Scalar.addi v257 v545
  v546
def k0_off14 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_41 : BitVec 32 := 1#32
  let v90 : BitVec 32 := Scalar.andi v46 c1_i32_41
  let c256_i32_134 : BitVec 32 := 256#32
  let v231 : BitVec 32 := Scalar.muli v90 c256_i32_134
  let v232 : BitVec 32 := Scalar.addi c512_i32 v231
  let c1_i32_149 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let v255 : BitVec 32 := Scalar.subi c1_i32_149 v107
  let c128_i32_150 : BitVec 32 := 128#32
  let v256 : BitVec 32 := Scalar.muli v255 c128_i32_150
  let v257 : BitVec 32 := Scalar.addi v232 v256
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c64_i32_328 : BitVec 32 := 64#32
  let v545 : BitVec 32 := Scalar.muli v57 c64_i32_328
  let v546 : BitVec 32 := Scalar.addi v257 v545
  let v553 : BitVec 32 := v546
  let v556 : Index := Scalar.indexCast v553
  let c0_339 : Index := 0#32
  ![v556.toNat, 0]
def k0_dev17 (d0 : Dev nD) : Nat :=
  let c0_i32_347 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_42 : BitVec 32 := 1#32
  let v91 : BitVec 32 := Scalar.xori v19 c1_i32_42
  let c8_i32_43 : BitVec 32 := 8#32
  let v92 : BitVec 32 := Scalar.muli v91 c8_i32_43
  let c2_i32_44 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v93 : BitVec 32 := Scalar.muli c2_i32_44 v46
  let v94 : BitVec 32 := Scalar.addi v92 v93
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v95 : BitVec 32 := Scalar.addi v57 v46
  let c2_i32_45 : BitVec 32 := 2#32
  let c0_i32_46 : BitVec 32 := 0#32
  let v96 : BitVec 1 := Scalar.cmpi .eq c2_i32_45 c0_i32_46
  let c1_i32_47 : BitVec 32 := 1#32
  let v97 : BitVec 32 := Scalar.select v96 c1_i32_47 c2_i32_45
  let v98 : BitVec 32 := Scalar.remsi v95 v97
  let c0_i32_49 : BitVec 32 := 0#32
  let v100 : BitVec 1 := Scalar.cmpi .slt v98 c0_i32_49
  let c0_i32_50 : BitVec 32 := 0#32
  let v101 : BitVec 1 := Scalar.cmpi .slt v97 c0_i32_50
  let v102 : BitVec 1 := Scalar.xori v100 v101
  let c0_i32_48 : BitVec 32 := 0#32
  let v99 : BitVec 1 := Scalar.cmpi .ne v98 c0_i32_48
  let v103 : BitVec 1 := Scalar.andi v102 v99
  let v104 : BitVec 32 := Scalar.addi v98 v97
  let v105 : BitVec 32 := Scalar.select v103 v104 v98
  let v106 : BitVec 32 := Scalar.addi v94 v105
  let c1_i32_346 : BitVec 32 := 1#32
  let v569 : BitVec 32 := Scalar.muli v106 c1_i32_346
  let v570 : BitVec 32 := Scalar.addi c0_i32_347 v569
  v570.toNat
def k0_mult15 (d0 : Dev nD) : BitVec 32 :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32 : BitVec 32 := 256#32
  let v155 : BitVec 32 := Scalar.muli v57 c256_i32
  let v156 : BitVec 32 := Scalar.addi c0_i32_89 v155
  let c1_i32_41 : BitVec 32 := 1#32
  let v90 : BitVec 32 := Scalar.andi v46 c1_i32_41
  let c128_i32_103 : BitVec 32 := 128#32
  let v182 : BitVec 32 := Scalar.muli v90 c128_i32_103
  let v183 : BitVec 32 := Scalar.addi v156 v182
  v183
def k0_off15 (d0 : Dev nD) : Fin 2 → Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32 : BitVec 32 := 256#32
  let v155 : BitVec 32 := Scalar.muli v57 c256_i32
  let v156 : BitVec 32 := Scalar.addi c0_i32_89 v155
  let c1_i32_41 : BitVec 32 := 1#32
  let v90 : BitVec 32 := Scalar.andi v46 c1_i32_41
  let c128_i32_103 : BitVec 32 := 128#32
  let v182 : BitVec 32 := Scalar.muli v90 c128_i32_103
  let v183 : BitVec 32 := Scalar.addi v156 v182
  let v581 : BitVec 32 := v183
  let v584 : Index := Scalar.indexCast v581
  let c0_358 : Index := 0#32
  ![v584.toNat, 0]
def k0_mult16 (d0 : Dev nD) : BitVec 32 :=
  let c512_i32 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_41 : BitVec 32 := 1#32
  let v90 : BitVec 32 := Scalar.andi v46 c1_i32_41
  let c256_i32_134 : BitVec 32 := 256#32
  let v231 : BitVec 32 := Scalar.muli v90 c256_i32_134
  let v232 : BitVec 32 := Scalar.addi c512_i32 v231
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c128_i32_151 : BitVec 32 := 128#32
  let v258 : BitVec 32 := Scalar.muli v107 c128_i32_151
  let v259 : BitVec 32 := Scalar.addi v232 v258
  v259
def k0_off16 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_41 : BitVec 32 := 1#32
  let v90 : BitVec 32 := Scalar.andi v46 c1_i32_41
  let c256_i32_134 : BitVec 32 := 256#32
  let v231 : BitVec 32 := Scalar.muli v90 c256_i32_134
  let v232 : BitVec 32 := Scalar.addi c512_i32 v231
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c128_i32_151 : BitVec 32 := 128#32
  let v258 : BitVec 32 := Scalar.muli v107 c128_i32_151
  let v259 : BitVec 32 := Scalar.addi v232 v258
  let v599 : BitVec 32 := v259
  let v602 : Index := Scalar.indexCast v599
  let c0_372 : Index := 0#32
  ![v602.toNat, 0]
def k0_mult17 (d0 : Dev nD) : BitVec 32 :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32 : BitVec 32 := 256#32
  let v155 : BitVec 32 := Scalar.muli v57 c256_i32
  let v156 : BitVec 32 := Scalar.addi c0_i32_89 v155
  let c1_i32_41 : BitVec 32 := 1#32
  let v90 : BitVec 32 := Scalar.andi v46 c1_i32_41
  let c128_i32 : BitVec 32 := 128#32
  let v160 : BitVec 32 := Scalar.muli v90 c128_i32
  let v161 : BitVec 32 := Scalar.addi v156 v160
  let c1_i32_106 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let v187 : BitVec 32 := Scalar.subi c1_i32_106 v107
  let c64_i32_107 : BitVec 32 := 64#32
  let v188 : BitVec 32 := Scalar.muli v187 c64_i32_107
  let v189 : BitVec 32 := Scalar.addi v161 v188
  let c1_i32_383 : BitVec 32 := 1#32
  let c1_i32_61 : BitVec 32 := 1#32
  let v124 : BitVec 32 := Scalar.shrsi v46 c1_i32_61
  let c1_i32_62 : BitVec 32 := 1#32
  let v125 : BitVec 32 := Scalar.andi v124 c1_i32_62
  let v617 : BitVec 32 := Scalar.subi c1_i32_383 v125
  let c32_i32_384 : BitVec 32 := 32#32
  let v618 : BitVec 32 := Scalar.muli v617 c32_i32_384
  let v619 : BitVec 32 := Scalar.addi v189 v618
  v619
def k0_off17 (d0 : Dev nD) : Fin 2 → Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32 : BitVec 32 := 256#32
  let v155 : BitVec 32 := Scalar.muli v57 c256_i32
  let v156 : BitVec 32 := Scalar.addi c0_i32_89 v155
  let c1_i32_41 : BitVec 32 := 1#32
  let v90 : BitVec 32 := Scalar.andi v46 c1_i32_41
  let c128_i32 : BitVec 32 := 128#32
  let v160 : BitVec 32 := Scalar.muli v90 c128_i32
  let v161 : BitVec 32 := Scalar.addi v156 v160
  let c1_i32_106 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let v187 : BitVec 32 := Scalar.subi c1_i32_106 v107
  let c64_i32_107 : BitVec 32 := 64#32
  let v188 : BitVec 32 := Scalar.muli v187 c64_i32_107
  let v189 : BitVec 32 := Scalar.addi v161 v188
  let c1_i32_383 : BitVec 32 := 1#32
  let c1_i32_61 : BitVec 32 := 1#32
  let v124 : BitVec 32 := Scalar.shrsi v46 c1_i32_61
  let c1_i32_62 : BitVec 32 := 1#32
  let v125 : BitVec 32 := Scalar.andi v124 c1_i32_62
  let v617 : BitVec 32 := Scalar.subi c1_i32_383 v125
  let c32_i32_384 : BitVec 32 := 32#32
  let v618 : BitVec 32 := Scalar.muli v617 c32_i32_384
  let v619 : BitVec 32 := Scalar.addi v189 v618
  let v620 : BitVec 32 := v619
  let v621 : Index := Scalar.indexCast v620
  let c0_385 : Index := 0#32
  ![v621.toNat, 0]
def k0_dev18 (d0 : Dev nD) : Nat :=
  let c0_i32_393 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_42 : BitVec 32 := 1#32
  let v91 : BitVec 32 := Scalar.xori v19 c1_i32_42
  let c8_i32_43 : BitVec 32 := 8#32
  let v92 : BitVec 32 := Scalar.muli v91 c8_i32_43
  let c2_i32_44 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v93 : BitVec 32 := Scalar.muli c2_i32_44 v46
  let v94 : BitVec 32 := Scalar.addi v92 v93
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v95 : BitVec 32 := Scalar.addi v57 v46
  let c2_i32_45 : BitVec 32 := 2#32
  let c0_i32_46 : BitVec 32 := 0#32
  let v96 : BitVec 1 := Scalar.cmpi .eq c2_i32_45 c0_i32_46
  let c1_i32_47 : BitVec 32 := 1#32
  let v97 : BitVec 32 := Scalar.select v96 c1_i32_47 c2_i32_45
  let v98 : BitVec 32 := Scalar.remsi v95 v97
  let c0_i32_49 : BitVec 32 := 0#32
  let v100 : BitVec 1 := Scalar.cmpi .slt v98 c0_i32_49
  let c0_i32_50 : BitVec 32 := 0#32
  let v101 : BitVec 1 := Scalar.cmpi .slt v97 c0_i32_50
  let v102 : BitVec 1 := Scalar.xori v100 v101
  let c0_i32_48 : BitVec 32 := 0#32
  let v99 : BitVec 1 := Scalar.cmpi .ne v98 c0_i32_48
  let v103 : BitVec 1 := Scalar.andi v102 v99
  let v104 : BitVec 32 := Scalar.addi v98 v97
  let v105 : BitVec 32 := Scalar.select v103 v104 v98
  let v106 : BitVec 32 := Scalar.addi v94 v105
  let c1_i32_392 : BitVec 32 := 1#32
  let v633 : BitVec 32 := Scalar.muli v106 c1_i32_392
  let v634 : BitVec 32 := Scalar.addi c0_i32_393 v633
  v634.toNat
def k0_mult18 (d0 : Dev nD) : BitVec 32 :=
  let c512_i32 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_41 : BitVec 32 := 1#32
  let v90 : BitVec 32 := Scalar.andi v46 c1_i32_41
  let c256_i32_134 : BitVec 32 := 256#32
  let v231 : BitVec 32 := Scalar.muli v90 c256_i32_134
  let v232 : BitVec 32 := Scalar.addi c512_i32 v231
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c128_i32_138 : BitVec 32 := 128#32
  let v236 : BitVec 32 := Scalar.muli v107 c128_i32_138
  let v237 : BitVec 32 := Scalar.addi v232 v236
  let c1_i32_154 : BitVec 32 := 1#32
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v263 : BitVec 32 := Scalar.subi c1_i32_154 v57
  let c64_i32_155 : BitVec 32 := 64#32
  let v264 : BitVec 32 := Scalar.muli v263 c64_i32_155
  let v265 : BitVec 32 := Scalar.addi v237 v264
  let c1_i32_401 : BitVec 32 := 1#32
  let c1_i32_72 : BitVec 32 := 1#32
  let v142 : BitVec 32 := Scalar.shrsi v19 c1_i32_72
  let c1_i32_73 : BitVec 32 := 1#32
  let v143 : BitVec 32 := Scalar.andi v142 c1_i32_73
  let v645 : BitVec 32 := Scalar.subi c1_i32_401 v143
  let c32_i32_402 : BitVec 32 := 32#32
  let v646 : BitVec 32 := Scalar.muli v645 c32_i32_402
  let v647 : BitVec 32 := Scalar.addi v265 v646
  v647
def k0_off18 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_41 : BitVec 32 := 1#32
  let v90 : BitVec 32 := Scalar.andi v46 c1_i32_41
  let c256_i32_134 : BitVec 32 := 256#32
  let v231 : BitVec 32 := Scalar.muli v90 c256_i32_134
  let v232 : BitVec 32 := Scalar.addi c512_i32 v231
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c128_i32_138 : BitVec 32 := 128#32
  let v236 : BitVec 32 := Scalar.muli v107 c128_i32_138
  let v237 : BitVec 32 := Scalar.addi v232 v236
  let c1_i32_154 : BitVec 32 := 1#32
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v263 : BitVec 32 := Scalar.subi c1_i32_154 v57
  let c64_i32_155 : BitVec 32 := 64#32
  let v264 : BitVec 32 := Scalar.muli v263 c64_i32_155
  let v265 : BitVec 32 := Scalar.addi v237 v264
  let c1_i32_401 : BitVec 32 := 1#32
  let c1_i32_72 : BitVec 32 := 1#32
  let v142 : BitVec 32 := Scalar.shrsi v19 c1_i32_72
  let c1_i32_73 : BitVec 32 := 1#32
  let v143 : BitVec 32 := Scalar.andi v142 c1_i32_73
  let v645 : BitVec 32 := Scalar.subi c1_i32_401 v143
  let c32_i32_402 : BitVec 32 := 32#32
  let v646 : BitVec 32 := Scalar.muli v645 c32_i32_402
  let v647 : BitVec 32 := Scalar.addi v265 v646
  let v648 : BitVec 32 := v647
  let v649 : Index := Scalar.indexCast v648
  let c0_403 : Index := 0#32
  ![v649.toNat, 0]
def k0_dev19 (d0 : Dev nD) : Nat :=
  let c0_i32_411 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_24 : BitVec 32 := 8#32
  let v59 : BitVec 32 := Scalar.muli v19 c8_i32_24
  let c2_i32_25 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v60 : BitVec 32 := Scalar.muli c2_i32_25 v46
  let v61 : BitVec 32 := Scalar.addi v59 v60
  let c1_i32_23 : BitVec 32 := 1#32
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v58 : BitVec 32 := Scalar.subi c1_i32_23 v57
  let v62 : BitVec 32 := Scalar.addi v58 v46
  let c2_i32_26 : BitVec 32 := 2#32
  let c0_i32_27 : BitVec 32 := 0#32
  let v63 : BitVec 1 := Scalar.cmpi .eq c2_i32_26 c0_i32_27
  let c1_i32_28 : BitVec 32 := 1#32
  let v64 : BitVec 32 := Scalar.select v63 c1_i32_28 c2_i32_26
  let v65 : BitVec 32 := Scalar.remsi v62 v64
  let c0_i32_30 : BitVec 32 := 0#32
  let v67 : BitVec 1 := Scalar.cmpi .slt v65 c0_i32_30
  let c0_i32_31 : BitVec 32 := 0#32
  let v68 : BitVec 1 := Scalar.cmpi .slt v64 c0_i32_31
  let v69 : BitVec 1 := Scalar.xori v67 v68
  let c0_i32_29 : BitVec 32 := 0#32
  let v66 : BitVec 1 := Scalar.cmpi .ne v65 c0_i32_29
  let v70 : BitVec 1 := Scalar.andi v69 v66
  let v71 : BitVec 32 := Scalar.addi v65 v64
  let v72 : BitVec 32 := Scalar.select v70 v71 v65
  let v73 : BitVec 32 := Scalar.addi v61 v72
  let c1_i32_410 : BitVec 32 := 1#32
  let v661 : BitVec 32 := Scalar.muli v73 c1_i32_410
  let v662 : BitVec 32 := Scalar.addi c0_i32_411 v661
  v662.toNat
def k0_mult19 (d0 : Dev nD) : BitVec 32 :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32 : BitVec 32 := 256#32
  let v155 : BitVec 32 := Scalar.muli v57 c256_i32
  let v156 : BitVec 32 := Scalar.addi c0_i32_89 v155
  let c1_i32_41 : BitVec 32 := 1#32
  let v90 : BitVec 32 := Scalar.andi v46 c1_i32_41
  let c128_i32 : BitVec 32 := 128#32
  let v160 : BitVec 32 := Scalar.muli v90 c128_i32
  let v161 : BitVec 32 := Scalar.addi v156 v160
  let c1_i32_106 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let v187 : BitVec 32 := Scalar.subi c1_i32_106 v107
  let c64_i32_107 : BitVec 32 := 64#32
  let v188 : BitVec 32 := Scalar.muli v187 c64_i32_107
  let v189 : BitVec 32 := Scalar.addi v161 v188
  let c1_i32_61 : BitVec 32 := 1#32
  let v124 : BitVec 32 := Scalar.shrsi v46 c1_i32_61
  let c1_i32_62 : BitVec 32 := 1#32
  let v125 : BitVec 32 := Scalar.andi v124 c1_i32_62
  let c32_i32_412 : BitVec 32 := 32#32
  let v667 : BitVec 32 := Scalar.muli v125 c32_i32_412
  let v668 : BitVec 32 := Scalar.addi v189 v667
  v668
def k0_off19 (d0 : Dev nD) : Fin 2 → Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32 : BitVec 32 := 256#32
  let v155 : BitVec 32 := Scalar.muli v57 c256_i32
  let v156 : BitVec 32 := Scalar.addi c0_i32_89 v155
  let c1_i32_41 : BitVec 32 := 1#32
  let v90 : BitVec 32 := Scalar.andi v46 c1_i32_41
  let c128_i32 : BitVec 32 := 128#32
  let v160 : BitVec 32 := Scalar.muli v90 c128_i32
  let v161 : BitVec 32 := Scalar.addi v156 v160
  let c1_i32_106 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let v187 : BitVec 32 := Scalar.subi c1_i32_106 v107
  let c64_i32_107 : BitVec 32 := 64#32
  let v188 : BitVec 32 := Scalar.muli v187 c64_i32_107
  let v189 : BitVec 32 := Scalar.addi v161 v188
  let c1_i32_61 : BitVec 32 := 1#32
  let v124 : BitVec 32 := Scalar.shrsi v46 c1_i32_61
  let c1_i32_62 : BitVec 32 := 1#32
  let v125 : BitVec 32 := Scalar.andi v124 c1_i32_62
  let c32_i32_412 : BitVec 32 := 32#32
  let v667 : BitVec 32 := Scalar.muli v125 c32_i32_412
  let v668 : BitVec 32 := Scalar.addi v189 v667
  let v675 : BitVec 32 := v668
  let v676 : Index := Scalar.indexCast v675
  let c0_420 : Index := 0#32
  ![v676.toNat, 0]
def k0_dev20 (d0 : Dev nD) : Nat :=
  let c0_i32_428 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_42 : BitVec 32 := 1#32
  let v91 : BitVec 32 := Scalar.xori v19 c1_i32_42
  let c8_i32_43 : BitVec 32 := 8#32
  let v92 : BitVec 32 := Scalar.muli v91 c8_i32_43
  let c2_i32_44 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v93 : BitVec 32 := Scalar.muli c2_i32_44 v46
  let v94 : BitVec 32 := Scalar.addi v92 v93
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v95 : BitVec 32 := Scalar.addi v57 v46
  let c2_i32_45 : BitVec 32 := 2#32
  let c0_i32_46 : BitVec 32 := 0#32
  let v96 : BitVec 1 := Scalar.cmpi .eq c2_i32_45 c0_i32_46
  let c1_i32_47 : BitVec 32 := 1#32
  let v97 : BitVec 32 := Scalar.select v96 c1_i32_47 c2_i32_45
  let v98 : BitVec 32 := Scalar.remsi v95 v97
  let c0_i32_49 : BitVec 32 := 0#32
  let v100 : BitVec 1 := Scalar.cmpi .slt v98 c0_i32_49
  let c0_i32_50 : BitVec 32 := 0#32
  let v101 : BitVec 1 := Scalar.cmpi .slt v97 c0_i32_50
  let v102 : BitVec 1 := Scalar.xori v100 v101
  let c0_i32_48 : BitVec 32 := 0#32
  let v99 : BitVec 1 := Scalar.cmpi .ne v98 c0_i32_48
  let v103 : BitVec 1 := Scalar.andi v102 v99
  let v104 : BitVec 32 := Scalar.addi v98 v97
  let v105 : BitVec 32 := Scalar.select v103 v104 v98
  let v106 : BitVec 32 := Scalar.addi v94 v105
  let c1_i32_427 : BitVec 32 := 1#32
  let v688 : BitVec 32 := Scalar.muli v106 c1_i32_427
  let v689 : BitVec 32 := Scalar.addi c0_i32_428 v688
  v689.toNat
def k0_mult20 (d0 : Dev nD) : BitVec 32 :=
  let c512_i32 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_41 : BitVec 32 := 1#32
  let v90 : BitVec 32 := Scalar.andi v46 c1_i32_41
  let c256_i32_134 : BitVec 32 := 256#32
  let v231 : BitVec 32 := Scalar.muli v90 c256_i32_134
  let v232 : BitVec 32 := Scalar.addi c512_i32 v231
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c128_i32_138 : BitVec 32 := 128#32
  let v236 : BitVec 32 := Scalar.muli v107 c128_i32_138
  let v237 : BitVec 32 := Scalar.addi v232 v236
  let c1_i32_154 : BitVec 32 := 1#32
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v263 : BitVec 32 := Scalar.subi c1_i32_154 v57
  let c64_i32_155 : BitVec 32 := 64#32
  let v264 : BitVec 32 := Scalar.muli v263 c64_i32_155
  let v265 : BitVec 32 := Scalar.addi v237 v264
  let c1_i32_72 : BitVec 32 := 1#32
  let v142 : BitVec 32 := Scalar.shrsi v19 c1_i32_72
  let c1_i32_73 : BitVec 32 := 1#32
  let v143 : BitVec 32 := Scalar.andi v142 c1_i32_73
  let c32_i32_429 : BitVec 32 := 32#32
  let v694 : BitVec 32 := Scalar.muli v143 c32_i32_429
  let v695 : BitVec 32 := Scalar.addi v265 v694
  v695
def k0_off20 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_41 : BitVec 32 := 1#32
  let v90 : BitVec 32 := Scalar.andi v46 c1_i32_41
  let c256_i32_134 : BitVec 32 := 256#32
  let v231 : BitVec 32 := Scalar.muli v90 c256_i32_134
  let v232 : BitVec 32 := Scalar.addi c512_i32 v231
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c128_i32_138 : BitVec 32 := 128#32
  let v236 : BitVec 32 := Scalar.muli v107 c128_i32_138
  let v237 : BitVec 32 := Scalar.addi v232 v236
  let c1_i32_154 : BitVec 32 := 1#32
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v263 : BitVec 32 := Scalar.subi c1_i32_154 v57
  let c64_i32_155 : BitVec 32 := 64#32
  let v264 : BitVec 32 := Scalar.muli v263 c64_i32_155
  let v265 : BitVec 32 := Scalar.addi v237 v264
  let c1_i32_72 : BitVec 32 := 1#32
  let v142 : BitVec 32 := Scalar.shrsi v19 c1_i32_72
  let c1_i32_73 : BitVec 32 := 1#32
  let v143 : BitVec 32 := Scalar.andi v142 c1_i32_73
  let c32_i32_429 : BitVec 32 := 32#32
  let v694 : BitVec 32 := Scalar.muli v143 c32_i32_429
  let v695 : BitVec 32 := Scalar.addi v265 v694
  let v702 : BitVec 32 := v695
  let v703 : Index := Scalar.indexCast v702
  let c0_437 : Index := 0#32
  ![v703.toNat, 0]
def k0_dev21 (d0 : Dev nD) : Nat :=
  let c0_i32_445 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_24 : BitVec 32 := 8#32
  let v59 : BitVec 32 := Scalar.muli v19 c8_i32_24
  let c2_i32_25 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v60 : BitVec 32 := Scalar.muli c2_i32_25 v46
  let v61 : BitVec 32 := Scalar.addi v59 v60
  let c1_i32_23 : BitVec 32 := 1#32
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v58 : BitVec 32 := Scalar.subi c1_i32_23 v57
  let v62 : BitVec 32 := Scalar.addi v58 v46
  let c2_i32_26 : BitVec 32 := 2#32
  let c0_i32_27 : BitVec 32 := 0#32
  let v63 : BitVec 1 := Scalar.cmpi .eq c2_i32_26 c0_i32_27
  let c1_i32_28 : BitVec 32 := 1#32
  let v64 : BitVec 32 := Scalar.select v63 c1_i32_28 c2_i32_26
  let v65 : BitVec 32 := Scalar.remsi v62 v64
  let c0_i32_30 : BitVec 32 := 0#32
  let v67 : BitVec 1 := Scalar.cmpi .slt v65 c0_i32_30
  let c0_i32_31 : BitVec 32 := 0#32
  let v68 : BitVec 1 := Scalar.cmpi .slt v64 c0_i32_31
  let v69 : BitVec 1 := Scalar.xori v67 v68
  let c0_i32_29 : BitVec 32 := 0#32
  let v66 : BitVec 1 := Scalar.cmpi .ne v65 c0_i32_29
  let v70 : BitVec 1 := Scalar.andi v69 v66
  let v71 : BitVec 32 := Scalar.addi v65 v64
  let v72 : BitVec 32 := Scalar.select v70 v71 v65
  let v73 : BitVec 32 := Scalar.addi v61 v72
  let c1_i32_444 : BitVec 32 := 1#32
  let v715 : BitVec 32 := Scalar.muli v73 c1_i32_444
  let v716 : BitVec 32 := Scalar.addi c0_i32_445 v715
  v716.toNat
def k0_mult21 (d0 : Dev nD) : BitVec 32 :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32 : BitVec 32 := 256#32
  let v155 : BitVec 32 := Scalar.muli v57 c256_i32
  let v156 : BitVec 32 := Scalar.addi c0_i32_89 v155
  let c1_i32_41 : BitVec 32 := 1#32
  let v90 : BitVec 32 := Scalar.andi v46 c1_i32_41
  let c128_i32 : BitVec 32 := 128#32
  let v160 : BitVec 32 := Scalar.muli v90 c128_i32
  let v161 : BitVec 32 := Scalar.addi v156 v160
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c64_i32_108 : BitVec 32 := 64#32
  let v190 : BitVec 32 := Scalar.muli v107 c64_i32_108
  let v191 : BitVec 32 := Scalar.addi v161 v190
  v191
def k0_off21 (d0 : Dev nD) : Fin 2 → Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32 : BitVec 32 := 256#32
  let v155 : BitVec 32 := Scalar.muli v57 c256_i32
  let v156 : BitVec 32 := Scalar.addi c0_i32_89 v155
  let c1_i32_41 : BitVec 32 := 1#32
  let v90 : BitVec 32 := Scalar.andi v46 c1_i32_41
  let c128_i32 : BitVec 32 := 128#32
  let v160 : BitVec 32 := Scalar.muli v90 c128_i32
  let v161 : BitVec 32 := Scalar.addi v156 v160
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c64_i32_108 : BitVec 32 := 64#32
  let v190 : BitVec 32 := Scalar.muli v107 c64_i32_108
  let v191 : BitVec 32 := Scalar.addi v161 v190
  let v727 : BitVec 32 := v191
  let v728 : Index := Scalar.indexCast v727
  let c0_453 : Index := 0#32
  ![v728.toNat, 0]
def k0_mult22 (d0 : Dev nD) : BitVec 32 :=
  let c512_i32 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_41 : BitVec 32 := 1#32
  let v90 : BitVec 32 := Scalar.andi v46 c1_i32_41
  let c256_i32_134 : BitVec 32 := 256#32
  let v231 : BitVec 32 := Scalar.muli v90 c256_i32_134
  let v232 : BitVec 32 := Scalar.addi c512_i32 v231
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c128_i32_138 : BitVec 32 := 128#32
  let v236 : BitVec 32 := Scalar.muli v107 c128_i32_138
  let v237 : BitVec 32 := Scalar.addi v232 v236
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c64_i32_156 : BitVec 32 := 64#32
  let v266 : BitVec 32 := Scalar.muli v57 c64_i32_156
  let v267 : BitVec 32 := Scalar.addi v237 v266
  v267
def k0_off22 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_41 : BitVec 32 := 1#32
  let v90 : BitVec 32 := Scalar.andi v46 c1_i32_41
  let c256_i32_134 : BitVec 32 := 256#32
  let v231 : BitVec 32 := Scalar.muli v90 c256_i32_134
  let v232 : BitVec 32 := Scalar.addi c512_i32 v231
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c128_i32_138 : BitVec 32 := 128#32
  let v236 : BitVec 32 := Scalar.muli v107 c128_i32_138
  let v237 : BitVec 32 := Scalar.addi v232 v236
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c64_i32_156 : BitVec 32 := 64#32
  let v266 : BitVec 32 := Scalar.muli v57 c64_i32_156
  let v267 : BitVec 32 := Scalar.addi v237 v266
  let v742 : BitVec 32 := v267
  let v743 : Index := Scalar.indexCast v742
  let c0_464 : Index := 0#32
  ![v743.toNat, 0]
def k0_mult23 (d0 : Dev nD) : BitVec 32 :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32 : BitVec 32 := 256#32
  let v155 : BitVec 32 := Scalar.muli v57 c256_i32
  let v156 : BitVec 32 := Scalar.addi c0_i32_89 v155
  let c1_i32_41 : BitVec 32 := 1#32
  let v90 : BitVec 32 := Scalar.andi v46 c1_i32_41
  let c128_i32 : BitVec 32 := 128#32
  let v160 : BitVec 32 := Scalar.muli v90 c128_i32
  let v161 : BitVec 32 := Scalar.addi v156 v160
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c64_i32 : BitVec 32 := 64#32
  let v165 : BitVec 32 := Scalar.muli v107 c64_i32
  let v166 : BitVec 32 := Scalar.addi v161 v165
  let c1_i32_109 : BitVec 32 := 1#32
  let c1_i32_61 : BitVec 32 := 1#32
  let v124 : BitVec 32 := Scalar.shrsi v46 c1_i32_61
  let c1_i32_62 : BitVec 32 := 1#32
  let v125 : BitVec 32 := Scalar.andi v124 c1_i32_62
  let v192 : BitVec 32 := Scalar.subi c1_i32_109 v125
  let c32_i32_110 : BitVec 32 := 32#32
  let v193 : BitVec 32 := Scalar.muli v192 c32_i32_110
  let v194 : BitVec 32 := Scalar.addi v166 v193
  v194
def k0_off23 (d0 : Dev nD) : Fin 2 → Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32 : BitVec 32 := 256#32
  let v155 : BitVec 32 := Scalar.muli v57 c256_i32
  let v156 : BitVec 32 := Scalar.addi c0_i32_89 v155
  let c1_i32_41 : BitVec 32 := 1#32
  let v90 : BitVec 32 := Scalar.andi v46 c1_i32_41
  let c128_i32 : BitVec 32 := 128#32
  let v160 : BitVec 32 := Scalar.muli v90 c128_i32
  let v161 : BitVec 32 := Scalar.addi v156 v160
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c64_i32 : BitVec 32 := 64#32
  let v165 : BitVec 32 := Scalar.muli v107 c64_i32
  let v166 : BitVec 32 := Scalar.addi v161 v165
  let c1_i32_109 : BitVec 32 := 1#32
  let c1_i32_61 : BitVec 32 := 1#32
  let v124 : BitVec 32 := Scalar.shrsi v46 c1_i32_61
  let c1_i32_62 : BitVec 32 := 1#32
  let v125 : BitVec 32 := Scalar.andi v124 c1_i32_62
  let v192 : BitVec 32 := Scalar.subi c1_i32_109 v125
  let c32_i32_110 : BitVec 32 := 32#32
  let v193 : BitVec 32 := Scalar.muli v192 c32_i32_110
  let v194 : BitVec 32 := Scalar.addi v166 v193
  let v757 : BitVec 32 := v194
  let v758 : Index := Scalar.indexCast v757
  let c0_475 : Index := 0#32
  ![v758.toNat, 0]
def k0_mult24 (d0 : Dev nD) : BitVec 32 :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32 : BitVec 32 := 256#32
  let v155 : BitVec 32 := Scalar.muli v57 c256_i32
  let v156 : BitVec 32 := Scalar.addi c0_i32_89 v155
  let c1_i32_41 : BitVec 32 := 1#32
  let v90 : BitVec 32 := Scalar.andi v46 c1_i32_41
  let c128_i32 : BitVec 32 := 128#32
  let v160 : BitVec 32 := Scalar.muli v90 c128_i32
  let v161 : BitVec 32 := Scalar.addi v156 v160
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c64_i32 : BitVec 32 := 64#32
  let v165 : BitVec 32 := Scalar.muli v107 c64_i32
  let v166 : BitVec 32 := Scalar.addi v161 v165
  let c1_i32_96 : BitVec 32 := 1#32
  let c1_i32_61 : BitVec 32 := 1#32
  let v124 : BitVec 32 := Scalar.shrsi v46 c1_i32_61
  let c1_i32_62 : BitVec 32 := 1#32
  let v125 : BitVec 32 := Scalar.andi v124 c1_i32_62
  let v169 : BitVec 32 := Scalar.subi c1_i32_96 v125
  let c32_i32_97 : BitVec 32 := 32#32
  let v170 : BitVec 32 := Scalar.muli v169 c32_i32_97
  let v171 : BitVec 32 := Scalar.addi v166 v170
  let c1_i32_112 : BitVec 32 := 1#32
  let c1_i32_72 : BitVec 32 := 1#32
  let v142 : BitVec 32 := Scalar.shrsi v19 c1_i32_72
  let c1_i32_73 : BitVec 32 := 1#32
  let v143 : BitVec 32 := Scalar.andi v142 c1_i32_73
  let v197 : BitVec 32 := Scalar.subi c1_i32_112 v143
  let c16_i32_113 : BitVec 32 := 16#32
  let v198 : BitVec 32 := Scalar.muli v197 c16_i32_113
  let v199 : BitVec 32 := Scalar.addi v171 v198
  v199
def k0_off24 (d0 : Dev nD) : Fin 2 → Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32 : BitVec 32 := 256#32
  let v155 : BitVec 32 := Scalar.muli v57 c256_i32
  let v156 : BitVec 32 := Scalar.addi c0_i32_89 v155
  let c1_i32_41 : BitVec 32 := 1#32
  let v90 : BitVec 32 := Scalar.andi v46 c1_i32_41
  let c128_i32 : BitVec 32 := 128#32
  let v160 : BitVec 32 := Scalar.muli v90 c128_i32
  let v161 : BitVec 32 := Scalar.addi v156 v160
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c64_i32 : BitVec 32 := 64#32
  let v165 : BitVec 32 := Scalar.muli v107 c64_i32
  let v166 : BitVec 32 := Scalar.addi v161 v165
  let c1_i32_96 : BitVec 32 := 1#32
  let c1_i32_61 : BitVec 32 := 1#32
  let v124 : BitVec 32 := Scalar.shrsi v46 c1_i32_61
  let c1_i32_62 : BitVec 32 := 1#32
  let v125 : BitVec 32 := Scalar.andi v124 c1_i32_62
  let v169 : BitVec 32 := Scalar.subi c1_i32_96 v125
  let c32_i32_97 : BitVec 32 := 32#32
  let v170 : BitVec 32 := Scalar.muli v169 c32_i32_97
  let v171 : BitVec 32 := Scalar.addi v166 v170
  let c1_i32_112 : BitVec 32 := 1#32
  let c1_i32_72 : BitVec 32 := 1#32
  let v142 : BitVec 32 := Scalar.shrsi v19 c1_i32_72
  let c1_i32_73 : BitVec 32 := 1#32
  let v143 : BitVec 32 := Scalar.andi v142 c1_i32_73
  let v197 : BitVec 32 := Scalar.subi c1_i32_112 v143
  let c16_i32_113 : BitVec 32 := 16#32
  let v198 : BitVec 32 := Scalar.muli v197 c16_i32_113
  let v199 : BitVec 32 := Scalar.addi v171 v198
  let v766 : BitVec 32 := v199
  let v767 : Index := Scalar.indexCast v766
  let c0_479 : Index := 0#32
  ![v767.toNat, 0]
def k0_dev22 (d0 : Dev nD) : Nat :=
  let c0_i32_485 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_53 : BitVec 32 := 8#32
  let v109 : BitVec 32 := Scalar.muli v19 c8_i32_53
  let c2_i32_54 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_52 : BitVec 32 := 2#32
  let v108 : BitVec 32 := Scalar.xori v46 c2_i32_52
  let v110 : BitVec 32 := Scalar.muli c2_i32_54 v108
  let v111 : BitVec 32 := Scalar.addi v109 v110
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v112 : BitVec 32 := Scalar.addi v57 v108
  let c2_i32_55 : BitVec 32 := 2#32
  let c0_i32_56 : BitVec 32 := 0#32
  let v113 : BitVec 1 := Scalar.cmpi .eq c2_i32_55 c0_i32_56
  let c1_i32_57 : BitVec 32 := 1#32
  let v114 : BitVec 32 := Scalar.select v113 c1_i32_57 c2_i32_55
  let v115 : BitVec 32 := Scalar.remsi v112 v114
  let c0_i32_59 : BitVec 32 := 0#32
  let v117 : BitVec 1 := Scalar.cmpi .slt v115 c0_i32_59
  let c0_i32_60 : BitVec 32 := 0#32
  let v118 : BitVec 1 := Scalar.cmpi .slt v114 c0_i32_60
  let v119 : BitVec 1 := Scalar.xori v117 v118
  let c0_i32_58 : BitVec 32 := 0#32
  let v116 : BitVec 1 := Scalar.cmpi .ne v115 c0_i32_58
  let v120 : BitVec 1 := Scalar.andi v119 v116
  let v121 : BitVec 32 := Scalar.addi v115 v114
  let v122 : BitVec 32 := Scalar.select v120 v121 v115
  let v123 : BitVec 32 := Scalar.addi v111 v122
  let c1_i32_484 : BitVec 32 := 1#32
  let v774 : BitVec 32 := Scalar.muli v123 c1_i32_484
  let v775 : BitVec 32 := Scalar.addi c0_i32_485 v774
  v775.toNat
def k0_mult25 (d0 : Dev nD) : BitVec 32 :=
  let c512_i32 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_41 : BitVec 32 := 1#32
  let v90 : BitVec 32 := Scalar.andi v46 c1_i32_41
  let c256_i32_134 : BitVec 32 := 256#32
  let v231 : BitVec 32 := Scalar.muli v90 c256_i32_134
  let v232 : BitVec 32 := Scalar.addi c512_i32 v231
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c128_i32_138 : BitVec 32 := 128#32
  let v236 : BitVec 32 := Scalar.muli v107 c128_i32_138
  let v237 : BitVec 32 := Scalar.addi v232 v236
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c64_i32_141 : BitVec 32 := 64#32
  let v241 : BitVec 32 := Scalar.muli v57 c64_i32_141
  let v242 : BitVec 32 := Scalar.addi v237 v241
  let c1_i32_157 : BitVec 32 := 1#32
  let c1_i32_72 : BitVec 32 := 1#32
  let v142 : BitVec 32 := Scalar.shrsi v19 c1_i32_72
  let c1_i32_73 : BitVec 32 := 1#32
  let v143 : BitVec 32 := Scalar.andi v142 c1_i32_73
  let v268 : BitVec 32 := Scalar.subi c1_i32_157 v143
  let c32_i32_158 : BitVec 32 := 32#32
  let v269 : BitVec 32 := Scalar.muli v268 c32_i32_158
  let v270 : BitVec 32 := Scalar.addi v242 v269
  v270
def k0_off25 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_41 : BitVec 32 := 1#32
  let v90 : BitVec 32 := Scalar.andi v46 c1_i32_41
  let c256_i32_134 : BitVec 32 := 256#32
  let v231 : BitVec 32 := Scalar.muli v90 c256_i32_134
  let v232 : BitVec 32 := Scalar.addi c512_i32 v231
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c128_i32_138 : BitVec 32 := 128#32
  let v236 : BitVec 32 := Scalar.muli v107 c128_i32_138
  let v237 : BitVec 32 := Scalar.addi v232 v236
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c64_i32_141 : BitVec 32 := 64#32
  let v241 : BitVec 32 := Scalar.muli v57 c64_i32_141
  let v242 : BitVec 32 := Scalar.addi v237 v241
  let c1_i32_157 : BitVec 32 := 1#32
  let c1_i32_72 : BitVec 32 := 1#32
  let v142 : BitVec 32 := Scalar.shrsi v19 c1_i32_72
  let c1_i32_73 : BitVec 32 := 1#32
  let v143 : BitVec 32 := Scalar.andi v142 c1_i32_73
  let v268 : BitVec 32 := Scalar.subi c1_i32_157 v143
  let c32_i32_158 : BitVec 32 := 32#32
  let v269 : BitVec 32 := Scalar.muli v268 c32_i32_158
  let v270 : BitVec 32 := Scalar.addi v242 v269
  let v786 : BitVec 32 := v270
  let v787 : Index := Scalar.indexCast v786
  let c0_493 : Index := 0#32
  ![v787.toNat, 0]
def k0_mult26 (d0 : Dev nD) : BitVec 32 :=
  let c512_i32 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_41 : BitVec 32 := 1#32
  let v90 : BitVec 32 := Scalar.andi v46 c1_i32_41
  let c256_i32_134 : BitVec 32 := 256#32
  let v231 : BitVec 32 := Scalar.muli v90 c256_i32_134
  let v232 : BitVec 32 := Scalar.addi c512_i32 v231
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c128_i32_138 : BitVec 32 := 128#32
  let v236 : BitVec 32 := Scalar.muli v107 c128_i32_138
  let v237 : BitVec 32 := Scalar.addi v232 v236
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c64_i32_141 : BitVec 32 := 64#32
  let v241 : BitVec 32 := Scalar.muli v57 c64_i32_141
  let v242 : BitVec 32 := Scalar.addi v237 v241
  let c1_i32_143 : BitVec 32 := 1#32
  let c1_i32_72 : BitVec 32 := 1#32
  let v142 : BitVec 32 := Scalar.shrsi v19 c1_i32_72
  let c1_i32_73 : BitVec 32 := 1#32
  let v143 : BitVec 32 := Scalar.andi v142 c1_i32_73
  let v245 : BitVec 32 := Scalar.subi c1_i32_143 v143
  let c32_i32_144 : BitVec 32 := 32#32
  let v246 : BitVec 32 := Scalar.muli v245 c32_i32_144
  let v247 : BitVec 32 := Scalar.addi v242 v246
  let c1_i32_160 : BitVec 32 := 1#32
  let c1_i32_61 : BitVec 32 := 1#32
  let v124 : BitVec 32 := Scalar.shrsi v46 c1_i32_61
  let c1_i32_62 : BitVec 32 := 1#32
  let v125 : BitVec 32 := Scalar.andi v124 c1_i32_62
  let v273 : BitVec 32 := Scalar.subi c1_i32_160 v125
  let c16_i32_161 : BitVec 32 := 16#32
  let v274 : BitVec 32 := Scalar.muli v273 c16_i32_161
  let v275 : BitVec 32 := Scalar.addi v247 v274
  v275
def k0_off26 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_41 : BitVec 32 := 1#32
  let v90 : BitVec 32 := Scalar.andi v46 c1_i32_41
  let c256_i32_134 : BitVec 32 := 256#32
  let v231 : BitVec 32 := Scalar.muli v90 c256_i32_134
  let v232 : BitVec 32 := Scalar.addi c512_i32 v231
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c128_i32_138 : BitVec 32 := 128#32
  let v236 : BitVec 32 := Scalar.muli v107 c128_i32_138
  let v237 : BitVec 32 := Scalar.addi v232 v236
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c64_i32_141 : BitVec 32 := 64#32
  let v241 : BitVec 32 := Scalar.muli v57 c64_i32_141
  let v242 : BitVec 32 := Scalar.addi v237 v241
  let c1_i32_143 : BitVec 32 := 1#32
  let c1_i32_72 : BitVec 32 := 1#32
  let v142 : BitVec 32 := Scalar.shrsi v19 c1_i32_72
  let c1_i32_73 : BitVec 32 := 1#32
  let v143 : BitVec 32 := Scalar.andi v142 c1_i32_73
  let v245 : BitVec 32 := Scalar.subi c1_i32_143 v143
  let c32_i32_144 : BitVec 32 := 32#32
  let v246 : BitVec 32 := Scalar.muli v245 c32_i32_144
  let v247 : BitVec 32 := Scalar.addi v242 v246
  let c1_i32_160 : BitVec 32 := 1#32
  let c1_i32_61 : BitVec 32 := 1#32
  let v124 : BitVec 32 := Scalar.shrsi v46 c1_i32_61
  let c1_i32_62 : BitVec 32 := 1#32
  let v125 : BitVec 32 := Scalar.andi v124 c1_i32_62
  let v273 : BitVec 32 := Scalar.subi c1_i32_160 v125
  let c16_i32_161 : BitVec 32 := 16#32
  let v274 : BitVec 32 := Scalar.muli v273 c16_i32_161
  let v275 : BitVec 32 := Scalar.addi v247 v274
  let v795 : BitVec 32 := v275
  let v796 : Index := Scalar.indexCast v795
  let c0_497 : Index := 0#32
  ![v796.toNat, 0]
def k0_dev23 (d0 : Dev nD) : Nat :=
  let c0_i32_502 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_63 : BitVec 32 := 2#32
  let v126 : BitVec 32 := Scalar.xori v19 c2_i32_63
  let c8_i32_64 : BitVec 32 := 8#32
  let v127 : BitVec 32 := Scalar.muli v126 c8_i32_64
  let c2_i32_65 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v128 : BitVec 32 := Scalar.muli c2_i32_65 v46
  let v129 : BitVec 32 := Scalar.addi v127 v128
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v130 : BitVec 32 := Scalar.addi v57 v46
  let c2_i32_66 : BitVec 32 := 2#32
  let c0_i32_67 : BitVec 32 := 0#32
  let v131 : BitVec 1 := Scalar.cmpi .eq c2_i32_66 c0_i32_67
  let c1_i32_68 : BitVec 32 := 1#32
  let v132 : BitVec 32 := Scalar.select v131 c1_i32_68 c2_i32_66
  let v133 : BitVec 32 := Scalar.remsi v130 v132
  let c0_i32_70 : BitVec 32 := 0#32
  let v135 : BitVec 1 := Scalar.cmpi .slt v133 c0_i32_70
  let c0_i32_71 : BitVec 32 := 0#32
  let v136 : BitVec 1 := Scalar.cmpi .slt v132 c0_i32_71
  let v137 : BitVec 1 := Scalar.xori v135 v136
  let c0_i32_69 : BitVec 32 := 0#32
  let v134 : BitVec 1 := Scalar.cmpi .ne v133 c0_i32_69
  let v138 : BitVec 1 := Scalar.andi v137 v134
  let v139 : BitVec 32 := Scalar.addi v133 v132
  let v140 : BitVec 32 := Scalar.select v138 v139 v133
  let v141 : BitVec 32 := Scalar.addi v129 v140
  let c1_i32_501 : BitVec 32 := 1#32
  let v803 : BitVec 32 := Scalar.muli v141 c1_i32_501
  let v804 : BitVec 32 := Scalar.addi c0_i32_502 v803
  v804.toNat
def k0_mult27 (d0 : Dev nD) : BitVec 32 :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32 : BitVec 32 := 256#32
  let v155 : BitVec 32 := Scalar.muli v57 c256_i32
  let v156 : BitVec 32 := Scalar.addi c0_i32_89 v155
  let c1_i32_41 : BitVec 32 := 1#32
  let v90 : BitVec 32 := Scalar.andi v46 c1_i32_41
  let c128_i32 : BitVec 32 := 128#32
  let v160 : BitVec 32 := Scalar.muli v90 c128_i32
  let v161 : BitVec 32 := Scalar.addi v156 v160
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c64_i32 : BitVec 32 := 64#32
  let v165 : BitVec 32 := Scalar.muli v107 c64_i32
  let v166 : BitVec 32 := Scalar.addi v161 v165
  let c1_i32_61 : BitVec 32 := 1#32
  let v124 : BitVec 32 := Scalar.shrsi v46 c1_i32_61
  let c1_i32_62 : BitVec 32 := 1#32
  let v125 : BitVec 32 := Scalar.andi v124 c1_i32_62
  let c32_i32_111 : BitVec 32 := 32#32
  let v195 : BitVec 32 := Scalar.muli v125 c32_i32_111
  let v196 : BitVec 32 := Scalar.addi v166 v195
  v196
def k0_off27 (d0 : Dev nD) : Fin 2 → Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32 : BitVec 32 := 256#32
  let v155 : BitVec 32 := Scalar.muli v57 c256_i32
  let v156 : BitVec 32 := Scalar.addi c0_i32_89 v155
  let c1_i32_41 : BitVec 32 := 1#32
  let v90 : BitVec 32 := Scalar.andi v46 c1_i32_41
  let c128_i32 : BitVec 32 := 128#32
  let v160 : BitVec 32 := Scalar.muli v90 c128_i32
  let v161 : BitVec 32 := Scalar.addi v156 v160
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c64_i32 : BitVec 32 := 64#32
  let v165 : BitVec 32 := Scalar.muli v107 c64_i32
  let v166 : BitVec 32 := Scalar.addi v161 v165
  let c1_i32_61 : BitVec 32 := 1#32
  let v124 : BitVec 32 := Scalar.shrsi v46 c1_i32_61
  let c1_i32_62 : BitVec 32 := 1#32
  let v125 : BitVec 32 := Scalar.andi v124 c1_i32_62
  let c32_i32_111 : BitVec 32 := 32#32
  let v195 : BitVec 32 := Scalar.muli v125 c32_i32_111
  let v196 : BitVec 32 := Scalar.addi v166 v195
  let v815 : BitVec 32 := v196
  let v816 : Index := Scalar.indexCast v815
  let c0_510 : Index := 0#32
  ![v816.toNat, 0]
def k0_mult28 (d0 : Dev nD) : BitVec 32 :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32 : BitVec 32 := 256#32
  let v155 : BitVec 32 := Scalar.muli v57 c256_i32
  let v156 : BitVec 32 := Scalar.addi c0_i32_89 v155
  let c1_i32_41 : BitVec 32 := 1#32
  let v90 : BitVec 32 := Scalar.andi v46 c1_i32_41
  let c128_i32 : BitVec 32 := 128#32
  let v160 : BitVec 32 := Scalar.muli v90 c128_i32
  let v161 : BitVec 32 := Scalar.addi v156 v160
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c64_i32 : BitVec 32 := 64#32
  let v165 : BitVec 32 := Scalar.muli v107 c64_i32
  let v166 : BitVec 32 := Scalar.addi v161 v165
  let c1_i32_96 : BitVec 32 := 1#32
  let c1_i32_61 : BitVec 32 := 1#32
  let v124 : BitVec 32 := Scalar.shrsi v46 c1_i32_61
  let c1_i32_62 : BitVec 32 := 1#32
  let v125 : BitVec 32 := Scalar.andi v124 c1_i32_62
  let v169 : BitVec 32 := Scalar.subi c1_i32_96 v125
  let c32_i32_97 : BitVec 32 := 32#32
  let v170 : BitVec 32 := Scalar.muli v169 c32_i32_97
  let v171 : BitVec 32 := Scalar.addi v166 v170
  let c1_i32_72 : BitVec 32 := 1#32
  let v142 : BitVec 32 := Scalar.shrsi v19 c1_i32_72
  let c1_i32_73 : BitVec 32 := 1#32
  let v143 : BitVec 32 := Scalar.andi v142 c1_i32_73
  let c16_i32_114 : BitVec 32 := 16#32
  let v200 : BitVec 32 := Scalar.muli v143 c16_i32_114
  let v201 : BitVec 32 := Scalar.addi v171 v200
  v201
def k0_off28 (d0 : Dev nD) : Fin 2 → Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32 : BitVec 32 := 256#32
  let v155 : BitVec 32 := Scalar.muli v57 c256_i32
  let v156 : BitVec 32 := Scalar.addi c0_i32_89 v155
  let c1_i32_41 : BitVec 32 := 1#32
  let v90 : BitVec 32 := Scalar.andi v46 c1_i32_41
  let c128_i32 : BitVec 32 := 128#32
  let v160 : BitVec 32 := Scalar.muli v90 c128_i32
  let v161 : BitVec 32 := Scalar.addi v156 v160
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c64_i32 : BitVec 32 := 64#32
  let v165 : BitVec 32 := Scalar.muli v107 c64_i32
  let v166 : BitVec 32 := Scalar.addi v161 v165
  let c1_i32_96 : BitVec 32 := 1#32
  let c1_i32_61 : BitVec 32 := 1#32
  let v124 : BitVec 32 := Scalar.shrsi v46 c1_i32_61
  let c1_i32_62 : BitVec 32 := 1#32
  let v125 : BitVec 32 := Scalar.andi v124 c1_i32_62
  let v169 : BitVec 32 := Scalar.subi c1_i32_96 v125
  let c32_i32_97 : BitVec 32 := 32#32
  let v170 : BitVec 32 := Scalar.muli v169 c32_i32_97
  let v171 : BitVec 32 := Scalar.addi v166 v170
  let c1_i32_72 : BitVec 32 := 1#32
  let v142 : BitVec 32 := Scalar.shrsi v19 c1_i32_72
  let c1_i32_73 : BitVec 32 := 1#32
  let v143 : BitVec 32 := Scalar.andi v142 c1_i32_73
  let c16_i32_114 : BitVec 32 := 16#32
  let v200 : BitVec 32 := Scalar.muli v143 c16_i32_114
  let v201 : BitVec 32 := Scalar.addi v171 v200
  let v824 : BitVec 32 := v201
  let v825 : Index := Scalar.indexCast v824
  let c0_514 : Index := 0#32
  ![v825.toNat, 0]
def k0_dev24 (d0 : Dev nD) : Nat :=
  let c0_i32_519 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_53 : BitVec 32 := 8#32
  let v109 : BitVec 32 := Scalar.muli v19 c8_i32_53
  let c2_i32_54 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_52 : BitVec 32 := 2#32
  let v108 : BitVec 32 := Scalar.xori v46 c2_i32_52
  let v110 : BitVec 32 := Scalar.muli c2_i32_54 v108
  let v111 : BitVec 32 := Scalar.addi v109 v110
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v112 : BitVec 32 := Scalar.addi v57 v108
  let c2_i32_55 : BitVec 32 := 2#32
  let c0_i32_56 : BitVec 32 := 0#32
  let v113 : BitVec 1 := Scalar.cmpi .eq c2_i32_55 c0_i32_56
  let c1_i32_57 : BitVec 32 := 1#32
  let v114 : BitVec 32 := Scalar.select v113 c1_i32_57 c2_i32_55
  let v115 : BitVec 32 := Scalar.remsi v112 v114
  let c0_i32_59 : BitVec 32 := 0#32
  let v117 : BitVec 1 := Scalar.cmpi .slt v115 c0_i32_59
  let c0_i32_60 : BitVec 32 := 0#32
  let v118 : BitVec 1 := Scalar.cmpi .slt v114 c0_i32_60
  let v119 : BitVec 1 := Scalar.xori v117 v118
  let c0_i32_58 : BitVec 32 := 0#32
  let v116 : BitVec 1 := Scalar.cmpi .ne v115 c0_i32_58
  let v120 : BitVec 1 := Scalar.andi v119 v116
  let v121 : BitVec 32 := Scalar.addi v115 v114
  let v122 : BitVec 32 := Scalar.select v120 v121 v115
  let v123 : BitVec 32 := Scalar.addi v111 v122
  let c1_i32_518 : BitVec 32 := 1#32
  let v832 : BitVec 32 := Scalar.muli v123 c1_i32_518
  let v833 : BitVec 32 := Scalar.addi c0_i32_519 v832
  v833.toNat
def k0_mult29 (d0 : Dev nD) : BitVec 32 :=
  let c512_i32 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_41 : BitVec 32 := 1#32
  let v90 : BitVec 32 := Scalar.andi v46 c1_i32_41
  let c256_i32_134 : BitVec 32 := 256#32
  let v231 : BitVec 32 := Scalar.muli v90 c256_i32_134
  let v232 : BitVec 32 := Scalar.addi c512_i32 v231
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c128_i32_138 : BitVec 32 := 128#32
  let v236 : BitVec 32 := Scalar.muli v107 c128_i32_138
  let v237 : BitVec 32 := Scalar.addi v232 v236
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c64_i32_141 : BitVec 32 := 64#32
  let v241 : BitVec 32 := Scalar.muli v57 c64_i32_141
  let v242 : BitVec 32 := Scalar.addi v237 v241
  let c1_i32_72 : BitVec 32 := 1#32
  let v142 : BitVec 32 := Scalar.shrsi v19 c1_i32_72
  let c1_i32_73 : BitVec 32 := 1#32
  let v143 : BitVec 32 := Scalar.andi v142 c1_i32_73
  let c32_i32_159 : BitVec 32 := 32#32
  let v271 : BitVec 32 := Scalar.muli v143 c32_i32_159
  let v272 : BitVec 32 := Scalar.addi v242 v271
  v272
def k0_off29 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_41 : BitVec 32 := 1#32
  let v90 : BitVec 32 := Scalar.andi v46 c1_i32_41
  let c256_i32_134 : BitVec 32 := 256#32
  let v231 : BitVec 32 := Scalar.muli v90 c256_i32_134
  let v232 : BitVec 32 := Scalar.addi c512_i32 v231
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c128_i32_138 : BitVec 32 := 128#32
  let v236 : BitVec 32 := Scalar.muli v107 c128_i32_138
  let v237 : BitVec 32 := Scalar.addi v232 v236
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c64_i32_141 : BitVec 32 := 64#32
  let v241 : BitVec 32 := Scalar.muli v57 c64_i32_141
  let v242 : BitVec 32 := Scalar.addi v237 v241
  let c1_i32_72 : BitVec 32 := 1#32
  let v142 : BitVec 32 := Scalar.shrsi v19 c1_i32_72
  let c1_i32_73 : BitVec 32 := 1#32
  let v143 : BitVec 32 := Scalar.andi v142 c1_i32_73
  let c32_i32_159 : BitVec 32 := 32#32
  let v271 : BitVec 32 := Scalar.muli v143 c32_i32_159
  let v272 : BitVec 32 := Scalar.addi v242 v271
  let v844 : BitVec 32 := v272
  let v845 : Index := Scalar.indexCast v844
  let c0_527 : Index := 0#32
  ![v845.toNat, 0]
def k0_mult30 (d0 : Dev nD) : BitVec 32 :=
  let c512_i32 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_41 : BitVec 32 := 1#32
  let v90 : BitVec 32 := Scalar.andi v46 c1_i32_41
  let c256_i32_134 : BitVec 32 := 256#32
  let v231 : BitVec 32 := Scalar.muli v90 c256_i32_134
  let v232 : BitVec 32 := Scalar.addi c512_i32 v231
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c128_i32_138 : BitVec 32 := 128#32
  let v236 : BitVec 32 := Scalar.muli v107 c128_i32_138
  let v237 : BitVec 32 := Scalar.addi v232 v236
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c64_i32_141 : BitVec 32 := 64#32
  let v241 : BitVec 32 := Scalar.muli v57 c64_i32_141
  let v242 : BitVec 32 := Scalar.addi v237 v241
  let c1_i32_143 : BitVec 32 := 1#32
  let c1_i32_72 : BitVec 32 := 1#32
  let v142 : BitVec 32 := Scalar.shrsi v19 c1_i32_72
  let c1_i32_73 : BitVec 32 := 1#32
  let v143 : BitVec 32 := Scalar.andi v142 c1_i32_73
  let v245 : BitVec 32 := Scalar.subi c1_i32_143 v143
  let c32_i32_144 : BitVec 32 := 32#32
  let v246 : BitVec 32 := Scalar.muli v245 c32_i32_144
  let v247 : BitVec 32 := Scalar.addi v242 v246
  let c1_i32_61 : BitVec 32 := 1#32
  let v124 : BitVec 32 := Scalar.shrsi v46 c1_i32_61
  let c1_i32_62 : BitVec 32 := 1#32
  let v125 : BitVec 32 := Scalar.andi v124 c1_i32_62
  let c16_i32_162 : BitVec 32 := 16#32
  let v276 : BitVec 32 := Scalar.muli v125 c16_i32_162
  let v277 : BitVec 32 := Scalar.addi v247 v276
  v277
def k0_off30 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_41 : BitVec 32 := 1#32
  let v90 : BitVec 32 := Scalar.andi v46 c1_i32_41
  let c256_i32_134 : BitVec 32 := 256#32
  let v231 : BitVec 32 := Scalar.muli v90 c256_i32_134
  let v232 : BitVec 32 := Scalar.addi c512_i32 v231
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c128_i32_138 : BitVec 32 := 128#32
  let v236 : BitVec 32 := Scalar.muli v107 c128_i32_138
  let v237 : BitVec 32 := Scalar.addi v232 v236
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c64_i32_141 : BitVec 32 := 64#32
  let v241 : BitVec 32 := Scalar.muli v57 c64_i32_141
  let v242 : BitVec 32 := Scalar.addi v237 v241
  let c1_i32_143 : BitVec 32 := 1#32
  let c1_i32_72 : BitVec 32 := 1#32
  let v142 : BitVec 32 := Scalar.shrsi v19 c1_i32_72
  let c1_i32_73 : BitVec 32 := 1#32
  let v143 : BitVec 32 := Scalar.andi v142 c1_i32_73
  let v245 : BitVec 32 := Scalar.subi c1_i32_143 v143
  let c32_i32_144 : BitVec 32 := 32#32
  let v246 : BitVec 32 := Scalar.muli v245 c32_i32_144
  let v247 : BitVec 32 := Scalar.addi v242 v246
  let c1_i32_61 : BitVec 32 := 1#32
  let v124 : BitVec 32 := Scalar.shrsi v46 c1_i32_61
  let c1_i32_62 : BitVec 32 := 1#32
  let v125 : BitVec 32 := Scalar.andi v124 c1_i32_62
  let c16_i32_162 : BitVec 32 := 16#32
  let v276 : BitVec 32 := Scalar.muli v125 c16_i32_162
  let v277 : BitVec 32 := Scalar.addi v247 v276
  let v853 : BitVec 32 := v277
  let v854 : Index := Scalar.indexCast v853
  let c0_531 : Index := 0#32
  ![v854.toNat, 0]
def k0_dev25 (d0 : Dev nD) : Nat :=
  let c0_i32_536 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_63 : BitVec 32 := 2#32
  let v126 : BitVec 32 := Scalar.xori v19 c2_i32_63
  let c8_i32_64 : BitVec 32 := 8#32
  let v127 : BitVec 32 := Scalar.muli v126 c8_i32_64
  let c2_i32_65 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v128 : BitVec 32 := Scalar.muli c2_i32_65 v46
  let v129 : BitVec 32 := Scalar.addi v127 v128
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v130 : BitVec 32 := Scalar.addi v57 v46
  let c2_i32_66 : BitVec 32 := 2#32
  let c0_i32_67 : BitVec 32 := 0#32
  let v131 : BitVec 1 := Scalar.cmpi .eq c2_i32_66 c0_i32_67
  let c1_i32_68 : BitVec 32 := 1#32
  let v132 : BitVec 32 := Scalar.select v131 c1_i32_68 c2_i32_66
  let v133 : BitVec 32 := Scalar.remsi v130 v132
  let c0_i32_70 : BitVec 32 := 0#32
  let v135 : BitVec 1 := Scalar.cmpi .slt v133 c0_i32_70
  let c0_i32_71 : BitVec 32 := 0#32
  let v136 : BitVec 1 := Scalar.cmpi .slt v132 c0_i32_71
  let v137 : BitVec 1 := Scalar.xori v135 v136
  let c0_i32_69 : BitVec 32 := 0#32
  let v134 : BitVec 1 := Scalar.cmpi .ne v133 c0_i32_69
  let v138 : BitVec 1 := Scalar.andi v137 v134
  let v139 : BitVec 32 := Scalar.addi v133 v132
  let v140 : BitVec 32 := Scalar.select v138 v139 v133
  let v141 : BitVec 32 := Scalar.addi v129 v140
  let c1_i32_535 : BitVec 32 := 1#32
  let v861 : BitVec 32 := Scalar.muli v141 c1_i32_535
  let v862 : BitVec 32 := Scalar.addi c0_i32_536 v861
  v862.toNat
def k0_mult31 (d0 : Dev nD) : BitVec 32 :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32 : BitVec 32 := 256#32
  let v155 : BitVec 32 := Scalar.muli v57 c256_i32
  let v156 : BitVec 32 := Scalar.addi c0_i32_89 v155
  let c1_i32_41 : BitVec 32 := 1#32
  let v90 : BitVec 32 := Scalar.andi v46 c1_i32_41
  let c128_i32 : BitVec 32 := 128#32
  let v160 : BitVec 32 := Scalar.muli v90 c128_i32
  let v161 : BitVec 32 := Scalar.addi v156 v160
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c64_i32 : BitVec 32 := 64#32
  let v165 : BitVec 32 := Scalar.muli v107 c64_i32
  let v166 : BitVec 32 := Scalar.addi v161 v165
  let c1_i32_61 : BitVec 32 := 1#32
  let v124 : BitVec 32 := Scalar.shrsi v46 c1_i32_61
  let c1_i32_62 : BitVec 32 := 1#32
  let v125 : BitVec 32 := Scalar.andi v124 c1_i32_62
  let c32_i32_95 : BitVec 32 := 32#32
  let v167 : BitVec 32 := Scalar.muli v125 c32_i32_95
  let v168 : BitVec 32 := Scalar.addi v166 v167
  let c1_i32_115 : BitVec 32 := 1#32
  let c1_i32_72 : BitVec 32 := 1#32
  let v142 : BitVec 32 := Scalar.shrsi v19 c1_i32_72
  let c1_i32_73 : BitVec 32 := 1#32
  let v143 : BitVec 32 := Scalar.andi v142 c1_i32_73
  let v202 : BitVec 32 := Scalar.subi c1_i32_115 v143
  let c16_i32_116 : BitVec 32 := 16#32
  let v203 : BitVec 32 := Scalar.muli v202 c16_i32_116
  let v204 : BitVec 32 := Scalar.addi v168 v203
  v204
def k0_off31 (d0 : Dev nD) : Fin 2 → Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32 : BitVec 32 := 256#32
  let v155 : BitVec 32 := Scalar.muli v57 c256_i32
  let v156 : BitVec 32 := Scalar.addi c0_i32_89 v155
  let c1_i32_41 : BitVec 32 := 1#32
  let v90 : BitVec 32 := Scalar.andi v46 c1_i32_41
  let c128_i32 : BitVec 32 := 128#32
  let v160 : BitVec 32 := Scalar.muli v90 c128_i32
  let v161 : BitVec 32 := Scalar.addi v156 v160
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c64_i32 : BitVec 32 := 64#32
  let v165 : BitVec 32 := Scalar.muli v107 c64_i32
  let v166 : BitVec 32 := Scalar.addi v161 v165
  let c1_i32_61 : BitVec 32 := 1#32
  let v124 : BitVec 32 := Scalar.shrsi v46 c1_i32_61
  let c1_i32_62 : BitVec 32 := 1#32
  let v125 : BitVec 32 := Scalar.andi v124 c1_i32_62
  let c32_i32_95 : BitVec 32 := 32#32
  let v167 : BitVec 32 := Scalar.muli v125 c32_i32_95
  let v168 : BitVec 32 := Scalar.addi v166 v167
  let c1_i32_115 : BitVec 32 := 1#32
  let c1_i32_72 : BitVec 32 := 1#32
  let v142 : BitVec 32 := Scalar.shrsi v19 c1_i32_72
  let c1_i32_73 : BitVec 32 := 1#32
  let v143 : BitVec 32 := Scalar.andi v142 c1_i32_73
  let v202 : BitVec 32 := Scalar.subi c1_i32_115 v143
  let c16_i32_116 : BitVec 32 := 16#32
  let v203 : BitVec 32 := Scalar.muli v202 c16_i32_116
  let v204 : BitVec 32 := Scalar.addi v168 v203
  let v873 : BitVec 32 := v204
  let v874 : Index := Scalar.indexCast v873
  let c0_544 : Index := 0#32
  ![v874.toNat, 0]
def k0_dev26 (d0 : Dev nD) : Nat :=
  let c0_i32_552 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_63 : BitVec 32 := 2#32
  let v126 : BitVec 32 := Scalar.xori v19 c2_i32_63
  let c8_i32_64 : BitVec 32 := 8#32
  let v127 : BitVec 32 := Scalar.muli v126 c8_i32_64
  let c2_i32_65 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v128 : BitVec 32 := Scalar.muli c2_i32_65 v46
  let v129 : BitVec 32 := Scalar.addi v127 v128
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v130 : BitVec 32 := Scalar.addi v57 v46
  let c2_i32_66 : BitVec 32 := 2#32
  let c0_i32_67 : BitVec 32 := 0#32
  let v131 : BitVec 1 := Scalar.cmpi .eq c2_i32_66 c0_i32_67
  let c1_i32_68 : BitVec 32 := 1#32
  let v132 : BitVec 32 := Scalar.select v131 c1_i32_68 c2_i32_66
  let v133 : BitVec 32 := Scalar.remsi v130 v132
  let c0_i32_70 : BitVec 32 := 0#32
  let v135 : BitVec 1 := Scalar.cmpi .slt v133 c0_i32_70
  let c0_i32_71 : BitVec 32 := 0#32
  let v136 : BitVec 1 := Scalar.cmpi .slt v132 c0_i32_71
  let v137 : BitVec 1 := Scalar.xori v135 v136
  let c0_i32_69 : BitVec 32 := 0#32
  let v134 : BitVec 1 := Scalar.cmpi .ne v133 c0_i32_69
  let v138 : BitVec 1 := Scalar.andi v137 v134
  let v139 : BitVec 32 := Scalar.addi v133 v132
  let v140 : BitVec 32 := Scalar.select v138 v139 v133
  let v141 : BitVec 32 := Scalar.addi v129 v140
  let c1_i32_551 : BitVec 32 := 1#32
  let v886 : BitVec 32 := Scalar.muli v141 c1_i32_551
  let v887 : BitVec 32 := Scalar.addi c0_i32_552 v886
  v887.toNat
def k0_mult32 (d0 : Dev nD) : BitVec 32 :=
  let c512_i32 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_41 : BitVec 32 := 1#32
  let v90 : BitVec 32 := Scalar.andi v46 c1_i32_41
  let c256_i32_134 : BitVec 32 := 256#32
  let v231 : BitVec 32 := Scalar.muli v90 c256_i32_134
  let v232 : BitVec 32 := Scalar.addi c512_i32 v231
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c128_i32_138 : BitVec 32 := 128#32
  let v236 : BitVec 32 := Scalar.muli v107 c128_i32_138
  let v237 : BitVec 32 := Scalar.addi v232 v236
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c64_i32_141 : BitVec 32 := 64#32
  let v241 : BitVec 32 := Scalar.muli v57 c64_i32_141
  let v242 : BitVec 32 := Scalar.addi v237 v241
  let c1_i32_72 : BitVec 32 := 1#32
  let v142 : BitVec 32 := Scalar.shrsi v19 c1_i32_72
  let c1_i32_73 : BitVec 32 := 1#32
  let v143 : BitVec 32 := Scalar.andi v142 c1_i32_73
  let c32_i32_142 : BitVec 32 := 32#32
  let v243 : BitVec 32 := Scalar.muli v143 c32_i32_142
  let v244 : BitVec 32 := Scalar.addi v242 v243
  let c1_i32_163 : BitVec 32 := 1#32
  let c1_i32_61 : BitVec 32 := 1#32
  let v124 : BitVec 32 := Scalar.shrsi v46 c1_i32_61
  let c1_i32_62 : BitVec 32 := 1#32
  let v125 : BitVec 32 := Scalar.andi v124 c1_i32_62
  let v278 : BitVec 32 := Scalar.subi c1_i32_163 v125
  let c16_i32_164 : BitVec 32 := 16#32
  let v279 : BitVec 32 := Scalar.muli v278 c16_i32_164
  let v280 : BitVec 32 := Scalar.addi v244 v279
  v280
def k0_off32 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_41 : BitVec 32 := 1#32
  let v90 : BitVec 32 := Scalar.andi v46 c1_i32_41
  let c256_i32_134 : BitVec 32 := 256#32
  let v231 : BitVec 32 := Scalar.muli v90 c256_i32_134
  let v232 : BitVec 32 := Scalar.addi c512_i32 v231
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c128_i32_138 : BitVec 32 := 128#32
  let v236 : BitVec 32 := Scalar.muli v107 c128_i32_138
  let v237 : BitVec 32 := Scalar.addi v232 v236
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c64_i32_141 : BitVec 32 := 64#32
  let v241 : BitVec 32 := Scalar.muli v57 c64_i32_141
  let v242 : BitVec 32 := Scalar.addi v237 v241
  let c1_i32_72 : BitVec 32 := 1#32
  let v142 : BitVec 32 := Scalar.shrsi v19 c1_i32_72
  let c1_i32_73 : BitVec 32 := 1#32
  let v143 : BitVec 32 := Scalar.andi v142 c1_i32_73
  let c32_i32_142 : BitVec 32 := 32#32
  let v243 : BitVec 32 := Scalar.muli v143 c32_i32_142
  let v244 : BitVec 32 := Scalar.addi v242 v243
  let c1_i32_163 : BitVec 32 := 1#32
  let c1_i32_61 : BitVec 32 := 1#32
  let v124 : BitVec 32 := Scalar.shrsi v46 c1_i32_61
  let c1_i32_62 : BitVec 32 := 1#32
  let v125 : BitVec 32 := Scalar.andi v124 c1_i32_62
  let v278 : BitVec 32 := Scalar.subi c1_i32_163 v125
  let c16_i32_164 : BitVec 32 := 16#32
  let v279 : BitVec 32 := Scalar.muli v278 c16_i32_164
  let v280 : BitVec 32 := Scalar.addi v244 v279
  let v898 : BitVec 32 := v280
  let v899 : Index := Scalar.indexCast v898
  let c0_560 : Index := 0#32
  ![v899.toNat, 0]
def k0_dev27 (d0 : Dev nD) : Nat :=
  let c0_i32_568 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_53 : BitVec 32 := 8#32
  let v109 : BitVec 32 := Scalar.muli v19 c8_i32_53
  let c2_i32_54 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_52 : BitVec 32 := 2#32
  let v108 : BitVec 32 := Scalar.xori v46 c2_i32_52
  let v110 : BitVec 32 := Scalar.muli c2_i32_54 v108
  let v111 : BitVec 32 := Scalar.addi v109 v110
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v112 : BitVec 32 := Scalar.addi v57 v108
  let c2_i32_55 : BitVec 32 := 2#32
  let c0_i32_56 : BitVec 32 := 0#32
  let v113 : BitVec 1 := Scalar.cmpi .eq c2_i32_55 c0_i32_56
  let c1_i32_57 : BitVec 32 := 1#32
  let v114 : BitVec 32 := Scalar.select v113 c1_i32_57 c2_i32_55
  let v115 : BitVec 32 := Scalar.remsi v112 v114
  let c0_i32_59 : BitVec 32 := 0#32
  let v117 : BitVec 1 := Scalar.cmpi .slt v115 c0_i32_59
  let c0_i32_60 : BitVec 32 := 0#32
  let v118 : BitVec 1 := Scalar.cmpi .slt v114 c0_i32_60
  let v119 : BitVec 1 := Scalar.xori v117 v118
  let c0_i32_58 : BitVec 32 := 0#32
  let v116 : BitVec 1 := Scalar.cmpi .ne v115 c0_i32_58
  let v120 : BitVec 1 := Scalar.andi v119 v116
  let v121 : BitVec 32 := Scalar.addi v115 v114
  let v122 : BitVec 32 := Scalar.select v120 v121 v115
  let v123 : BitVec 32 := Scalar.addi v111 v122
  let c1_i32_567 : BitVec 32 := 1#32
  let v911 : BitVec 32 := Scalar.muli v123 c1_i32_567
  let v912 : BitVec 32 := Scalar.addi c0_i32_568 v911
  v912.toNat
def k0_mult33 (d0 : Dev nD) : BitVec 32 :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32 : BitVec 32 := 256#32
  let v155 : BitVec 32 := Scalar.muli v57 c256_i32
  let v156 : BitVec 32 := Scalar.addi c0_i32_89 v155
  let c1_i32_41 : BitVec 32 := 1#32
  let v90 : BitVec 32 := Scalar.andi v46 c1_i32_41
  let c128_i32 : BitVec 32 := 128#32
  let v160 : BitVec 32 := Scalar.muli v90 c128_i32
  let v161 : BitVec 32 := Scalar.addi v156 v160
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c64_i32 : BitVec 32 := 64#32
  let v165 : BitVec 32 := Scalar.muli v107 c64_i32
  let v166 : BitVec 32 := Scalar.addi v161 v165
  let c1_i32_61 : BitVec 32 := 1#32
  let v124 : BitVec 32 := Scalar.shrsi v46 c1_i32_61
  let c1_i32_62 : BitVec 32 := 1#32
  let v125 : BitVec 32 := Scalar.andi v124 c1_i32_62
  let c32_i32_95 : BitVec 32 := 32#32
  let v167 : BitVec 32 := Scalar.muli v125 c32_i32_95
  let v168 : BitVec 32 := Scalar.addi v166 v167
  let c1_i32_72 : BitVec 32 := 1#32
  let v142 : BitVec 32 := Scalar.shrsi v19 c1_i32_72
  let c1_i32_73 : BitVec 32 := 1#32
  let v143 : BitVec 32 := Scalar.andi v142 c1_i32_73
  let c16_i32_117 : BitVec 32 := 16#32
  let v205 : BitVec 32 := Scalar.muli v143 c16_i32_117
  let v206 : BitVec 32 := Scalar.addi v168 v205
  v206
def k0_off33 (d0 : Dev nD) : Fin 2 → Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32 : BitVec 32 := 256#32
  let v155 : BitVec 32 := Scalar.muli v57 c256_i32
  let v156 : BitVec 32 := Scalar.addi c0_i32_89 v155
  let c1_i32_41 : BitVec 32 := 1#32
  let v90 : BitVec 32 := Scalar.andi v46 c1_i32_41
  let c128_i32 : BitVec 32 := 128#32
  let v160 : BitVec 32 := Scalar.muli v90 c128_i32
  let v161 : BitVec 32 := Scalar.addi v156 v160
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c64_i32 : BitVec 32 := 64#32
  let v165 : BitVec 32 := Scalar.muli v107 c64_i32
  let v166 : BitVec 32 := Scalar.addi v161 v165
  let c1_i32_61 : BitVec 32 := 1#32
  let v124 : BitVec 32 := Scalar.shrsi v46 c1_i32_61
  let c1_i32_62 : BitVec 32 := 1#32
  let v125 : BitVec 32 := Scalar.andi v124 c1_i32_62
  let c32_i32_95 : BitVec 32 := 32#32
  let v167 : BitVec 32 := Scalar.muli v125 c32_i32_95
  let v168 : BitVec 32 := Scalar.addi v166 v167
  let c1_i32_72 : BitVec 32 := 1#32
  let v142 : BitVec 32 := Scalar.shrsi v19 c1_i32_72
  let c1_i32_73 : BitVec 32 := 1#32
  let v143 : BitVec 32 := Scalar.andi v142 c1_i32_73
  let c16_i32_117 : BitVec 32 := 16#32
  let v205 : BitVec 32 := Scalar.muli v143 c16_i32_117
  let v206 : BitVec 32 := Scalar.addi v168 v205
  let v923 : BitVec 32 := v206
  let v924 : Index := Scalar.indexCast v923
  let c0_576 : Index := 0#32
  ![v924.toNat, 0]
def k0_dev28 (d0 : Dev nD) : Nat :=
  let c0_i32_584 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_63 : BitVec 32 := 2#32
  let v126 : BitVec 32 := Scalar.xori v19 c2_i32_63
  let c8_i32_64 : BitVec 32 := 8#32
  let v127 : BitVec 32 := Scalar.muli v126 c8_i32_64
  let c2_i32_65 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v128 : BitVec 32 := Scalar.muli c2_i32_65 v46
  let v129 : BitVec 32 := Scalar.addi v127 v128
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v130 : BitVec 32 := Scalar.addi v57 v46
  let c2_i32_66 : BitVec 32 := 2#32
  let c0_i32_67 : BitVec 32 := 0#32
  let v131 : BitVec 1 := Scalar.cmpi .eq c2_i32_66 c0_i32_67
  let c1_i32_68 : BitVec 32 := 1#32
  let v132 : BitVec 32 := Scalar.select v131 c1_i32_68 c2_i32_66
  let v133 : BitVec 32 := Scalar.remsi v130 v132
  let c0_i32_70 : BitVec 32 := 0#32
  let v135 : BitVec 1 := Scalar.cmpi .slt v133 c0_i32_70
  let c0_i32_71 : BitVec 32 := 0#32
  let v136 : BitVec 1 := Scalar.cmpi .slt v132 c0_i32_71
  let v137 : BitVec 1 := Scalar.xori v135 v136
  let c0_i32_69 : BitVec 32 := 0#32
  let v134 : BitVec 1 := Scalar.cmpi .ne v133 c0_i32_69
  let v138 : BitVec 1 := Scalar.andi v137 v134
  let v139 : BitVec 32 := Scalar.addi v133 v132
  let v140 : BitVec 32 := Scalar.select v138 v139 v133
  let v141 : BitVec 32 := Scalar.addi v129 v140
  let c1_i32_583 : BitVec 32 := 1#32
  let v936 : BitVec 32 := Scalar.muli v141 c1_i32_583
  let v937 : BitVec 32 := Scalar.addi c0_i32_584 v936
  v937.toNat
def k0_mult34 (d0 : Dev nD) : BitVec 32 :=
  let c512_i32 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_41 : BitVec 32 := 1#32
  let v90 : BitVec 32 := Scalar.andi v46 c1_i32_41
  let c256_i32_134 : BitVec 32 := 256#32
  let v231 : BitVec 32 := Scalar.muli v90 c256_i32_134
  let v232 : BitVec 32 := Scalar.addi c512_i32 v231
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c128_i32_138 : BitVec 32 := 128#32
  let v236 : BitVec 32 := Scalar.muli v107 c128_i32_138
  let v237 : BitVec 32 := Scalar.addi v232 v236
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c64_i32_141 : BitVec 32 := 64#32
  let v241 : BitVec 32 := Scalar.muli v57 c64_i32_141
  let v242 : BitVec 32 := Scalar.addi v237 v241
  let c1_i32_72 : BitVec 32 := 1#32
  let v142 : BitVec 32 := Scalar.shrsi v19 c1_i32_72
  let c1_i32_73 : BitVec 32 := 1#32
  let v143 : BitVec 32 := Scalar.andi v142 c1_i32_73
  let c32_i32_142 : BitVec 32 := 32#32
  let v243 : BitVec 32 := Scalar.muli v143 c32_i32_142
  let v244 : BitVec 32 := Scalar.addi v242 v243
  let c1_i32_61 : BitVec 32 := 1#32
  let v124 : BitVec 32 := Scalar.shrsi v46 c1_i32_61
  let c1_i32_62 : BitVec 32 := 1#32
  let v125 : BitVec 32 := Scalar.andi v124 c1_i32_62
  let c16_i32_165 : BitVec 32 := 16#32
  let v281 : BitVec 32 := Scalar.muli v125 c16_i32_165
  let v282 : BitVec 32 := Scalar.addi v244 v281
  v282
def k0_off34 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_41 : BitVec 32 := 1#32
  let v90 : BitVec 32 := Scalar.andi v46 c1_i32_41
  let c256_i32_134 : BitVec 32 := 256#32
  let v231 : BitVec 32 := Scalar.muli v90 c256_i32_134
  let v232 : BitVec 32 := Scalar.addi c512_i32 v231
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c128_i32_138 : BitVec 32 := 128#32
  let v236 : BitVec 32 := Scalar.muli v107 c128_i32_138
  let v237 : BitVec 32 := Scalar.addi v232 v236
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c64_i32_141 : BitVec 32 := 64#32
  let v241 : BitVec 32 := Scalar.muli v57 c64_i32_141
  let v242 : BitVec 32 := Scalar.addi v237 v241
  let c1_i32_72 : BitVec 32 := 1#32
  let v142 : BitVec 32 := Scalar.shrsi v19 c1_i32_72
  let c1_i32_73 : BitVec 32 := 1#32
  let v143 : BitVec 32 := Scalar.andi v142 c1_i32_73
  let c32_i32_142 : BitVec 32 := 32#32
  let v243 : BitVec 32 := Scalar.muli v143 c32_i32_142
  let v244 : BitVec 32 := Scalar.addi v242 v243
  let c1_i32_61 : BitVec 32 := 1#32
  let v124 : BitVec 32 := Scalar.shrsi v46 c1_i32_61
  let c1_i32_62 : BitVec 32 := 1#32
  let v125 : BitVec 32 := Scalar.andi v124 c1_i32_62
  let c16_i32_165 : BitVec 32 := 16#32
  let v281 : BitVec 32 := Scalar.muli v125 c16_i32_165
  let v282 : BitVec 32 := Scalar.addi v244 v281
  let v948 : BitVec 32 := v282
  let v949 : Index := Scalar.indexCast v948
  let c0_592 : Index := 0#32
  ![v949.toNat, 0]
def k0_dev29 (d0 : Dev nD) : Nat :=
  let c0_i32_600 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_53 : BitVec 32 := 8#32
  let v109 : BitVec 32 := Scalar.muli v19 c8_i32_53
  let c2_i32_54 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_52 : BitVec 32 := 2#32
  let v108 : BitVec 32 := Scalar.xori v46 c2_i32_52
  let v110 : BitVec 32 := Scalar.muli c2_i32_54 v108
  let v111 : BitVec 32 := Scalar.addi v109 v110
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v112 : BitVec 32 := Scalar.addi v57 v108
  let c2_i32_55 : BitVec 32 := 2#32
  let c0_i32_56 : BitVec 32 := 0#32
  let v113 : BitVec 1 := Scalar.cmpi .eq c2_i32_55 c0_i32_56
  let c1_i32_57 : BitVec 32 := 1#32
  let v114 : BitVec 32 := Scalar.select v113 c1_i32_57 c2_i32_55
  let v115 : BitVec 32 := Scalar.remsi v112 v114
  let c0_i32_59 : BitVec 32 := 0#32
  let v117 : BitVec 1 := Scalar.cmpi .slt v115 c0_i32_59
  let c0_i32_60 : BitVec 32 := 0#32
  let v118 : BitVec 1 := Scalar.cmpi .slt v114 c0_i32_60
  let v119 : BitVec 1 := Scalar.xori v117 v118
  let c0_i32_58 : BitVec 32 := 0#32
  let v116 : BitVec 1 := Scalar.cmpi .ne v115 c0_i32_58
  let v120 : BitVec 1 := Scalar.andi v119 v116
  let v121 : BitVec 32 := Scalar.addi v115 v114
  let v122 : BitVec 32 := Scalar.select v120 v121 v115
  let v123 : BitVec 32 := Scalar.addi v111 v122
  let c1_i32_599 : BitVec 32 := 1#32
  let v961 : BitVec 32 := Scalar.muli v123 c1_i32_599
  let v962 : BitVec 32 := Scalar.addi c0_i32_600 v961
  v962.toNat
def k0_mult35 (d0 : Dev nD) : BitVec 32 :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32 : BitVec 32 := 256#32
  let v155 : BitVec 32 := Scalar.muli v57 c256_i32
  let v156 : BitVec 32 := Scalar.addi c0_i32_89 v155
  let c1_i32_41 : BitVec 32 := 1#32
  let v90 : BitVec 32 := Scalar.andi v46 c1_i32_41
  let c128_i32 : BitVec 32 := 128#32
  let v160 : BitVec 32 := Scalar.muli v90 c128_i32
  let v161 : BitVec 32 := Scalar.addi v156 v160
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c64_i32 : BitVec 32 := 64#32
  let v165 : BitVec 32 := Scalar.muli v107 c64_i32
  let v166 : BitVec 32 := Scalar.addi v161 v165
  let c1_i32_61 : BitVec 32 := 1#32
  let v124 : BitVec 32 := Scalar.shrsi v46 c1_i32_61
  let c1_i32_62 : BitVec 32 := 1#32
  let v125 : BitVec 32 := Scalar.andi v124 c1_i32_62
  let c32_i32_95 : BitVec 32 := 32#32
  let v167 : BitVec 32 := Scalar.muli v125 c32_i32_95
  let v168 : BitVec 32 := Scalar.addi v166 v167
  let c1_i32_72 : BitVec 32 := 1#32
  let v142 : BitVec 32 := Scalar.shrsi v19 c1_i32_72
  let c1_i32_73 : BitVec 32 := 1#32
  let v143 : BitVec 32 := Scalar.andi v142 c1_i32_73
  let c16_i32_117 : BitVec 32 := 16#32
  let v205 : BitVec 32 := Scalar.muli v143 c16_i32_117
  let v206 : BitVec 32 := Scalar.addi v168 v205
  v206
def k0_dev30 (d0 : Dev nD) : Nat :=
  let c0_i32_616 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_53 : BitVec 32 := 8#32
  let v109 : BitVec 32 := Scalar.muli v19 c8_i32_53
  let c2_i32_54 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_52 : BitVec 32 := 2#32
  let v108 : BitVec 32 := Scalar.xori v46 c2_i32_52
  let v110 : BitVec 32 := Scalar.muli c2_i32_54 v108
  let v111 : BitVec 32 := Scalar.addi v109 v110
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v112 : BitVec 32 := Scalar.addi v57 v108
  let c2_i32_55 : BitVec 32 := 2#32
  let c0_i32_56 : BitVec 32 := 0#32
  let v113 : BitVec 1 := Scalar.cmpi .eq c2_i32_55 c0_i32_56
  let c1_i32_57 : BitVec 32 := 1#32
  let v114 : BitVec 32 := Scalar.select v113 c1_i32_57 c2_i32_55
  let v115 : BitVec 32 := Scalar.remsi v112 v114
  let c0_i32_59 : BitVec 32 := 0#32
  let v117 : BitVec 1 := Scalar.cmpi .slt v115 c0_i32_59
  let c0_i32_60 : BitVec 32 := 0#32
  let v118 : BitVec 1 := Scalar.cmpi .slt v114 c0_i32_60
  let v119 : BitVec 1 := Scalar.xori v117 v118
  let c0_i32_58 : BitVec 32 := 0#32
  let v116 : BitVec 1 := Scalar.cmpi .ne v115 c0_i32_58
  let v120 : BitVec 1 := Scalar.andi v119 v116
  let v121 : BitVec 32 := Scalar.addi v115 v114
  let v122 : BitVec 32 := Scalar.select v120 v121 v115
  let v123 : BitVec 32 := Scalar.addi v111 v122
  let c1_i32_615 : BitVec 32 := 1#32
  let v986 : BitVec 32 := Scalar.muli v123 c1_i32_615
  let v987 : BitVec 32 := Scalar.addi c0_i32_616 v986
  v987.toNat
def k0_mult36 (d0 : Dev nD) : BitVec 32 :=
  let c512_i32 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_41 : BitVec 32 := 1#32
  let v90 : BitVec 32 := Scalar.andi v46 c1_i32_41
  let c256_i32_134 : BitVec 32 := 256#32
  let v231 : BitVec 32 := Scalar.muli v90 c256_i32_134
  let v232 : BitVec 32 := Scalar.addi c512_i32 v231
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c128_i32_138 : BitVec 32 := 128#32
  let v236 : BitVec 32 := Scalar.muli v107 c128_i32_138
  let v237 : BitVec 32 := Scalar.addi v232 v236
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c64_i32_141 : BitVec 32 := 64#32
  let v241 : BitVec 32 := Scalar.muli v57 c64_i32_141
  let v242 : BitVec 32 := Scalar.addi v237 v241
  let c1_i32_72 : BitVec 32 := 1#32
  let v142 : BitVec 32 := Scalar.shrsi v19 c1_i32_72
  let c1_i32_73 : BitVec 32 := 1#32
  let v143 : BitVec 32 := Scalar.andi v142 c1_i32_73
  let c32_i32_142 : BitVec 32 := 32#32
  let v243 : BitVec 32 := Scalar.muli v143 c32_i32_142
  let v244 : BitVec 32 := Scalar.addi v242 v243
  let c1_i32_61 : BitVec 32 := 1#32
  let v124 : BitVec 32 := Scalar.shrsi v46 c1_i32_61
  let c1_i32_62 : BitVec 32 := 1#32
  let v125 : BitVec 32 := Scalar.andi v124 c1_i32_62
  let c16_i32_165 : BitVec 32 := 16#32
  let v281 : BitVec 32 := Scalar.muli v125 c16_i32_165
  let v282 : BitVec 32 := Scalar.addi v244 v281
  v282
def k0_dev31 (d0 : Dev nD) : Nat :=
  let c0_i32_632 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_63 : BitVec 32 := 2#32
  let v126 : BitVec 32 := Scalar.xori v19 c2_i32_63
  let c8_i32_64 : BitVec 32 := 8#32
  let v127 : BitVec 32 := Scalar.muli v126 c8_i32_64
  let c2_i32_65 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v128 : BitVec 32 := Scalar.muli c2_i32_65 v46
  let v129 : BitVec 32 := Scalar.addi v127 v128
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v130 : BitVec 32 := Scalar.addi v57 v46
  let c2_i32_66 : BitVec 32 := 2#32
  let c0_i32_67 : BitVec 32 := 0#32
  let v131 : BitVec 1 := Scalar.cmpi .eq c2_i32_66 c0_i32_67
  let c1_i32_68 : BitVec 32 := 1#32
  let v132 : BitVec 32 := Scalar.select v131 c1_i32_68 c2_i32_66
  let v133 : BitVec 32 := Scalar.remsi v130 v132
  let c0_i32_70 : BitVec 32 := 0#32
  let v135 : BitVec 1 := Scalar.cmpi .slt v133 c0_i32_70
  let c0_i32_71 : BitVec 32 := 0#32
  let v136 : BitVec 1 := Scalar.cmpi .slt v132 c0_i32_71
  let v137 : BitVec 1 := Scalar.xori v135 v136
  let c0_i32_69 : BitVec 32 := 0#32
  let v134 : BitVec 1 := Scalar.cmpi .ne v133 c0_i32_69
  let v138 : BitVec 1 := Scalar.andi v137 v134
  let v139 : BitVec 32 := Scalar.addi v133 v132
  let v140 : BitVec 32 := Scalar.select v138 v139 v133
  let v141 : BitVec 32 := Scalar.addi v129 v140
  let c1_i32_631 : BitVec 32 := 1#32
  let v1011 : BitVec 32 := Scalar.muli v141 c1_i32_631
  let v1012 : BitVec 32 := Scalar.addi c0_i32_632 v1011
  v1012.toNat
def k0_mult37 (d0 : Dev nD) : BitVec 32 :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32 : BitVec 32 := 256#32
  let v155 : BitVec 32 := Scalar.muli v57 c256_i32
  let v156 : BitVec 32 := Scalar.addi c0_i32_89 v155
  let c1_i32_41 : BitVec 32 := 1#32
  let v90 : BitVec 32 := Scalar.andi v46 c1_i32_41
  let c128_i32 : BitVec 32 := 128#32
  let v160 : BitVec 32 := Scalar.muli v90 c128_i32
  let v161 : BitVec 32 := Scalar.addi v156 v160
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c64_i32 : BitVec 32 := 64#32
  let v165 : BitVec 32 := Scalar.muli v107 c64_i32
  let v166 : BitVec 32 := Scalar.addi v161 v165
  let c1_i32_61 : BitVec 32 := 1#32
  let v124 : BitVec 32 := Scalar.shrsi v46 c1_i32_61
  let c1_i32_62 : BitVec 32 := 1#32
  let v125 : BitVec 32 := Scalar.andi v124 c1_i32_62
  let c32_i32_95 : BitVec 32 := 32#32
  let v167 : BitVec 32 := Scalar.muli v125 c32_i32_95
  let v168 : BitVec 32 := Scalar.addi v166 v167
  let c1_i32_115 : BitVec 32 := 1#32
  let c1_i32_72 : BitVec 32 := 1#32
  let v142 : BitVec 32 := Scalar.shrsi v19 c1_i32_72
  let c1_i32_73 : BitVec 32 := 1#32
  let v143 : BitVec 32 := Scalar.andi v142 c1_i32_73
  let v202 : BitVec 32 := Scalar.subi c1_i32_115 v143
  let c16_i32_116 : BitVec 32 := 16#32
  let v203 : BitVec 32 := Scalar.muli v202 c16_i32_116
  let v204 : BitVec 32 := Scalar.addi v168 v203
  v204
def k0_dev32 (d0 : Dev nD) : Nat :=
  let c0_i32_648 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_53 : BitVec 32 := 8#32
  let v109 : BitVec 32 := Scalar.muli v19 c8_i32_53
  let c2_i32_54 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_52 : BitVec 32 := 2#32
  let v108 : BitVec 32 := Scalar.xori v46 c2_i32_52
  let v110 : BitVec 32 := Scalar.muli c2_i32_54 v108
  let v111 : BitVec 32 := Scalar.addi v109 v110
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v112 : BitVec 32 := Scalar.addi v57 v108
  let c2_i32_55 : BitVec 32 := 2#32
  let c0_i32_56 : BitVec 32 := 0#32
  let v113 : BitVec 1 := Scalar.cmpi .eq c2_i32_55 c0_i32_56
  let c1_i32_57 : BitVec 32 := 1#32
  let v114 : BitVec 32 := Scalar.select v113 c1_i32_57 c2_i32_55
  let v115 : BitVec 32 := Scalar.remsi v112 v114
  let c0_i32_59 : BitVec 32 := 0#32
  let v117 : BitVec 1 := Scalar.cmpi .slt v115 c0_i32_59
  let c0_i32_60 : BitVec 32 := 0#32
  let v118 : BitVec 1 := Scalar.cmpi .slt v114 c0_i32_60
  let v119 : BitVec 1 := Scalar.xori v117 v118
  let c0_i32_58 : BitVec 32 := 0#32
  let v116 : BitVec 1 := Scalar.cmpi .ne v115 c0_i32_58
  let v120 : BitVec 1 := Scalar.andi v119 v116
  let v121 : BitVec 32 := Scalar.addi v115 v114
  let v122 : BitVec 32 := Scalar.select v120 v121 v115
  let v123 : BitVec 32 := Scalar.addi v111 v122
  let c1_i32_647 : BitVec 32 := 1#32
  let v1036 : BitVec 32 := Scalar.muli v123 c1_i32_647
  let v1037 : BitVec 32 := Scalar.addi c0_i32_648 v1036
  v1037.toNat
def k0_mult38 (d0 : Dev nD) : BitVec 32 :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32 : BitVec 32 := 256#32
  let v155 : BitVec 32 := Scalar.muli v57 c256_i32
  let v156 : BitVec 32 := Scalar.addi c0_i32_89 v155
  let c1_i32_41 : BitVec 32 := 1#32
  let v90 : BitVec 32 := Scalar.andi v46 c1_i32_41
  let c128_i32 : BitVec 32 := 128#32
  let v160 : BitVec 32 := Scalar.muli v90 c128_i32
  let v161 : BitVec 32 := Scalar.addi v156 v160
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c64_i32 : BitVec 32 := 64#32
  let v165 : BitVec 32 := Scalar.muli v107 c64_i32
  let v166 : BitVec 32 := Scalar.addi v161 v165
  let c1_i32_61 : BitVec 32 := 1#32
  let v124 : BitVec 32 := Scalar.shrsi v46 c1_i32_61
  let c1_i32_62 : BitVec 32 := 1#32
  let v125 : BitVec 32 := Scalar.andi v124 c1_i32_62
  let c32_i32_95 : BitVec 32 := 32#32
  let v167 : BitVec 32 := Scalar.muli v125 c32_i32_95
  let v168 : BitVec 32 := Scalar.addi v166 v167
  let c1_i32_72 : BitVec 32 := 1#32
  let v142 : BitVec 32 := Scalar.shrsi v19 c1_i32_72
  let c1_i32_73 : BitVec 32 := 1#32
  let v143 : BitVec 32 := Scalar.andi v142 c1_i32_73
  let c16_i32 : BitVec 32 := 16#32
  let v172 : BitVec 32 := Scalar.muli v143 c16_i32
  let v173 : BitVec 32 := Scalar.addi v168 v172
  let c16_i32_118 : BitVec 32 := 16#32
  let v207 : BitVec 32 := Scalar.muli v143 c16_i32_118
  let v208 : BitVec 32 := Scalar.subi v173 v207
  v208
def k0_off35 (d0 : Dev nD) : Fin 2 → Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32 : BitVec 32 := 256#32
  let v155 : BitVec 32 := Scalar.muli v57 c256_i32
  let v156 : BitVec 32 := Scalar.addi c0_i32_89 v155
  let c1_i32_41 : BitVec 32 := 1#32
  let v90 : BitVec 32 := Scalar.andi v46 c1_i32_41
  let c128_i32 : BitVec 32 := 128#32
  let v160 : BitVec 32 := Scalar.muli v90 c128_i32
  let v161 : BitVec 32 := Scalar.addi v156 v160
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c64_i32 : BitVec 32 := 64#32
  let v165 : BitVec 32 := Scalar.muli v107 c64_i32
  let v166 : BitVec 32 := Scalar.addi v161 v165
  let c1_i32_61 : BitVec 32 := 1#32
  let v124 : BitVec 32 := Scalar.shrsi v46 c1_i32_61
  let c1_i32_62 : BitVec 32 := 1#32
  let v125 : BitVec 32 := Scalar.andi v124 c1_i32_62
  let c32_i32_95 : BitVec 32 := 32#32
  let v167 : BitVec 32 := Scalar.muli v125 c32_i32_95
  let v168 : BitVec 32 := Scalar.addi v166 v167
  let c1_i32_72 : BitVec 32 := 1#32
  let v142 : BitVec 32 := Scalar.shrsi v19 c1_i32_72
  let c1_i32_73 : BitVec 32 := 1#32
  let v143 : BitVec 32 := Scalar.andi v142 c1_i32_73
  let c16_i32 : BitVec 32 := 16#32
  let v172 : BitVec 32 := Scalar.muli v143 c16_i32
  let v173 : BitVec 32 := Scalar.addi v168 v172
  let c16_i32_118 : BitVec 32 := 16#32
  let v207 : BitVec 32 := Scalar.muli v143 c16_i32_118
  let v208 : BitVec 32 := Scalar.subi v173 v207
  let v1042 : BitVec 32 := v208
  let v1043 : Index := Scalar.indexCast v1042
  let c0_649 : Index := 0#32
  ![v1043.toNat, 0]
def k0_dev33 (d0 : Dev nD) : Nat :=
  let c0_i32_654 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_42 : BitVec 32 := 1#32
  let v91 : BitVec 32 := Scalar.xori v19 c1_i32_42
  let c8_i32_43 : BitVec 32 := 8#32
  let v92 : BitVec 32 := Scalar.muli v91 c8_i32_43
  let c2_i32_44 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v93 : BitVec 32 := Scalar.muli c2_i32_44 v46
  let v94 : BitVec 32 := Scalar.addi v92 v93
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v95 : BitVec 32 := Scalar.addi v57 v46
  let c2_i32_45 : BitVec 32 := 2#32
  let c0_i32_46 : BitVec 32 := 0#32
  let v96 : BitVec 1 := Scalar.cmpi .eq c2_i32_45 c0_i32_46
  let c1_i32_47 : BitVec 32 := 1#32
  let v97 : BitVec 32 := Scalar.select v96 c1_i32_47 c2_i32_45
  let v98 : BitVec 32 := Scalar.remsi v95 v97
  let c0_i32_49 : BitVec 32 := 0#32
  let v100 : BitVec 1 := Scalar.cmpi .slt v98 c0_i32_49
  let c0_i32_50 : BitVec 32 := 0#32
  let v101 : BitVec 1 := Scalar.cmpi .slt v97 c0_i32_50
  let v102 : BitVec 1 := Scalar.xori v100 v101
  let c0_i32_48 : BitVec 32 := 0#32
  let v99 : BitVec 1 := Scalar.cmpi .ne v98 c0_i32_48
  let v103 : BitVec 1 := Scalar.andi v102 v99
  let v104 : BitVec 32 := Scalar.addi v98 v97
  let v105 : BitVec 32 := Scalar.select v103 v104 v98
  let v106 : BitVec 32 := Scalar.addi v94 v105
  let c1_i32_653 : BitVec 32 := 1#32
  let v1050 : BitVec 32 := Scalar.muli v106 c1_i32_653
  let v1051 : BitVec 32 := Scalar.addi c0_i32_654 v1050
  v1051.toNat
def k0_mult39 (d0 : Dev nD) : BitVec 32 :=
  let c512_i32 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_41 : BitVec 32 := 1#32
  let v90 : BitVec 32 := Scalar.andi v46 c1_i32_41
  let c256_i32_134 : BitVec 32 := 256#32
  let v231 : BitVec 32 := Scalar.muli v90 c256_i32_134
  let v232 : BitVec 32 := Scalar.addi c512_i32 v231
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c128_i32_138 : BitVec 32 := 128#32
  let v236 : BitVec 32 := Scalar.muli v107 c128_i32_138
  let v237 : BitVec 32 := Scalar.addi v232 v236
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c64_i32_141 : BitVec 32 := 64#32
  let v241 : BitVec 32 := Scalar.muli v57 c64_i32_141
  let v242 : BitVec 32 := Scalar.addi v237 v241
  let c1_i32_72 : BitVec 32 := 1#32
  let v142 : BitVec 32 := Scalar.shrsi v19 c1_i32_72
  let c1_i32_73 : BitVec 32 := 1#32
  let v143 : BitVec 32 := Scalar.andi v142 c1_i32_73
  let c32_i32_142 : BitVec 32 := 32#32
  let v243 : BitVec 32 := Scalar.muli v143 c32_i32_142
  let v244 : BitVec 32 := Scalar.addi v242 v243
  let c1_i32_163 : BitVec 32 := 1#32
  let c1_i32_61 : BitVec 32 := 1#32
  let v124 : BitVec 32 := Scalar.shrsi v46 c1_i32_61
  let c1_i32_62 : BitVec 32 := 1#32
  let v125 : BitVec 32 := Scalar.andi v124 c1_i32_62
  let v278 : BitVec 32 := Scalar.subi c1_i32_163 v125
  let c16_i32_164 : BitVec 32 := 16#32
  let v279 : BitVec 32 := Scalar.muli v278 c16_i32_164
  let v280 : BitVec 32 := Scalar.addi v244 v279
  v280
def k0_dev34 (d0 : Dev nD) : Nat :=
  let c0_i32_670 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_63 : BitVec 32 := 2#32
  let v126 : BitVec 32 := Scalar.xori v19 c2_i32_63
  let c8_i32_64 : BitVec 32 := 8#32
  let v127 : BitVec 32 := Scalar.muli v126 c8_i32_64
  let c2_i32_65 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v128 : BitVec 32 := Scalar.muli c2_i32_65 v46
  let v129 : BitVec 32 := Scalar.addi v127 v128
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v130 : BitVec 32 := Scalar.addi v57 v46
  let c2_i32_66 : BitVec 32 := 2#32
  let c0_i32_67 : BitVec 32 := 0#32
  let v131 : BitVec 1 := Scalar.cmpi .eq c2_i32_66 c0_i32_67
  let c1_i32_68 : BitVec 32 := 1#32
  let v132 : BitVec 32 := Scalar.select v131 c1_i32_68 c2_i32_66
  let v133 : BitVec 32 := Scalar.remsi v130 v132
  let c0_i32_70 : BitVec 32 := 0#32
  let v135 : BitVec 1 := Scalar.cmpi .slt v133 c0_i32_70
  let c0_i32_71 : BitVec 32 := 0#32
  let v136 : BitVec 1 := Scalar.cmpi .slt v132 c0_i32_71
  let v137 : BitVec 1 := Scalar.xori v135 v136
  let c0_i32_69 : BitVec 32 := 0#32
  let v134 : BitVec 1 := Scalar.cmpi .ne v133 c0_i32_69
  let v138 : BitVec 1 := Scalar.andi v137 v134
  let v139 : BitVec 32 := Scalar.addi v133 v132
  let v140 : BitVec 32 := Scalar.select v138 v139 v133
  let v141 : BitVec 32 := Scalar.addi v129 v140
  let c1_i32_669 : BitVec 32 := 1#32
  let v1075 : BitVec 32 := Scalar.muli v141 c1_i32_669
  let v1076 : BitVec 32 := Scalar.addi c0_i32_670 v1075
  v1076.toNat
def k0_mult40 (d0 : Dev nD) : BitVec 32 :=
  let c512_i32 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_41 : BitVec 32 := 1#32
  let v90 : BitVec 32 := Scalar.andi v46 c1_i32_41
  let c256_i32_134 : BitVec 32 := 256#32
  let v231 : BitVec 32 := Scalar.muli v90 c256_i32_134
  let v232 : BitVec 32 := Scalar.addi c512_i32 v231
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c128_i32_138 : BitVec 32 := 128#32
  let v236 : BitVec 32 := Scalar.muli v107 c128_i32_138
  let v237 : BitVec 32 := Scalar.addi v232 v236
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c64_i32_141 : BitVec 32 := 64#32
  let v241 : BitVec 32 := Scalar.muli v57 c64_i32_141
  let v242 : BitVec 32 := Scalar.addi v237 v241
  let c1_i32_72 : BitVec 32 := 1#32
  let v142 : BitVec 32 := Scalar.shrsi v19 c1_i32_72
  let c1_i32_73 : BitVec 32 := 1#32
  let v143 : BitVec 32 := Scalar.andi v142 c1_i32_73
  let c32_i32_142 : BitVec 32 := 32#32
  let v243 : BitVec 32 := Scalar.muli v143 c32_i32_142
  let v244 : BitVec 32 := Scalar.addi v242 v243
  let c1_i32_61 : BitVec 32 := 1#32
  let v124 : BitVec 32 := Scalar.shrsi v46 c1_i32_61
  let c1_i32_62 : BitVec 32 := 1#32
  let v125 : BitVec 32 := Scalar.andi v124 c1_i32_62
  let c16_i32_145 : BitVec 32 := 16#32
  let v248 : BitVec 32 := Scalar.muli v125 c16_i32_145
  let v249 : BitVec 32 := Scalar.addi v244 v248
  let c16_i32_166 : BitVec 32 := 16#32
  let v283 : BitVec 32 := Scalar.muli v125 c16_i32_166
  let v284 : BitVec 32 := Scalar.subi v249 v283
  v284
def k0_off36 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_41 : BitVec 32 := 1#32
  let v90 : BitVec 32 := Scalar.andi v46 c1_i32_41
  let c256_i32_134 : BitVec 32 := 256#32
  let v231 : BitVec 32 := Scalar.muli v90 c256_i32_134
  let v232 : BitVec 32 := Scalar.addi c512_i32 v231
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c128_i32_138 : BitVec 32 := 128#32
  let v236 : BitVec 32 := Scalar.muli v107 c128_i32_138
  let v237 : BitVec 32 := Scalar.addi v232 v236
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c64_i32_141 : BitVec 32 := 64#32
  let v241 : BitVec 32 := Scalar.muli v57 c64_i32_141
  let v242 : BitVec 32 := Scalar.addi v237 v241
  let c1_i32_72 : BitVec 32 := 1#32
  let v142 : BitVec 32 := Scalar.shrsi v19 c1_i32_72
  let c1_i32_73 : BitVec 32 := 1#32
  let v143 : BitVec 32 := Scalar.andi v142 c1_i32_73
  let c32_i32_142 : BitVec 32 := 32#32
  let v243 : BitVec 32 := Scalar.muli v143 c32_i32_142
  let v244 : BitVec 32 := Scalar.addi v242 v243
  let c1_i32_61 : BitVec 32 := 1#32
  let v124 : BitVec 32 := Scalar.shrsi v46 c1_i32_61
  let c1_i32_62 : BitVec 32 := 1#32
  let v125 : BitVec 32 := Scalar.andi v124 c1_i32_62
  let c16_i32_145 : BitVec 32 := 16#32
  let v248 : BitVec 32 := Scalar.muli v125 c16_i32_145
  let v249 : BitVec 32 := Scalar.addi v244 v248
  let c16_i32_166 : BitVec 32 := 16#32
  let v283 : BitVec 32 := Scalar.muli v125 c16_i32_166
  let v284 : BitVec 32 := Scalar.subi v249 v283
  let v1081 : BitVec 32 := v284
  let v1082 : Index := Scalar.indexCast v1081
  let c0_671 : Index := 0#32
  ![v1082.toNat, 0]
def k0_dev35 (d0 : Dev nD) : Nat :=
  let c0_i32_676 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_24 : BitVec 32 := 8#32
  let v59 : BitVec 32 := Scalar.muli v19 c8_i32_24
  let c2_i32_25 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v60 : BitVec 32 := Scalar.muli c2_i32_25 v46
  let v61 : BitVec 32 := Scalar.addi v59 v60
  let c1_i32_23 : BitVec 32 := 1#32
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v58 : BitVec 32 := Scalar.subi c1_i32_23 v57
  let v62 : BitVec 32 := Scalar.addi v58 v46
  let c2_i32_26 : BitVec 32 := 2#32
  let c0_i32_27 : BitVec 32 := 0#32
  let v63 : BitVec 1 := Scalar.cmpi .eq c2_i32_26 c0_i32_27
  let c1_i32_28 : BitVec 32 := 1#32
  let v64 : BitVec 32 := Scalar.select v63 c1_i32_28 c2_i32_26
  let v65 : BitVec 32 := Scalar.remsi v62 v64
  let c0_i32_30 : BitVec 32 := 0#32
  let v67 : BitVec 1 := Scalar.cmpi .slt v65 c0_i32_30
  let c0_i32_31 : BitVec 32 := 0#32
  let v68 : BitVec 1 := Scalar.cmpi .slt v64 c0_i32_31
  let v69 : BitVec 1 := Scalar.xori v67 v68
  let c0_i32_29 : BitVec 32 := 0#32
  let v66 : BitVec 1 := Scalar.cmpi .ne v65 c0_i32_29
  let v70 : BitVec 1 := Scalar.andi v69 v66
  let v71 : BitVec 32 := Scalar.addi v65 v64
  let v72 : BitVec 32 := Scalar.select v70 v71 v65
  let v73 : BitVec 32 := Scalar.addi v61 v72
  let c1_i32_675 : BitVec 32 := 1#32
  let v1089 : BitVec 32 := Scalar.muli v73 c1_i32_675
  let v1090 : BitVec 32 := Scalar.addi c0_i32_676 v1089
  v1090.toNat
def k0_dev36 (d0 : Dev nD) : Nat :=
  let c0_i32_686 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_42 : BitVec 32 := 1#32
  let v91 : BitVec 32 := Scalar.xori v19 c1_i32_42
  let c8_i32_43 : BitVec 32 := 8#32
  let v92 : BitVec 32 := Scalar.muli v91 c8_i32_43
  let c2_i32_44 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v93 : BitVec 32 := Scalar.muli c2_i32_44 v46
  let v94 : BitVec 32 := Scalar.addi v92 v93
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v95 : BitVec 32 := Scalar.addi v57 v46
  let c2_i32_45 : BitVec 32 := 2#32
  let c0_i32_46 : BitVec 32 := 0#32
  let v96 : BitVec 1 := Scalar.cmpi .eq c2_i32_45 c0_i32_46
  let c1_i32_47 : BitVec 32 := 1#32
  let v97 : BitVec 32 := Scalar.select v96 c1_i32_47 c2_i32_45
  let v98 : BitVec 32 := Scalar.remsi v95 v97
  let c0_i32_49 : BitVec 32 := 0#32
  let v100 : BitVec 1 := Scalar.cmpi .slt v98 c0_i32_49
  let c0_i32_50 : BitVec 32 := 0#32
  let v101 : BitVec 1 := Scalar.cmpi .slt v97 c0_i32_50
  let v102 : BitVec 1 := Scalar.xori v100 v101
  let c0_i32_48 : BitVec 32 := 0#32
  let v99 : BitVec 1 := Scalar.cmpi .ne v98 c0_i32_48
  let v103 : BitVec 1 := Scalar.andi v102 v99
  let v104 : BitVec 32 := Scalar.addi v98 v97
  let v105 : BitVec 32 := Scalar.select v103 v104 v98
  let v106 : BitVec 32 := Scalar.addi v94 v105
  let c1_i32_685 : BitVec 32 := 1#32
  let v1101 : BitVec 32 := Scalar.muli v106 c1_i32_685
  let v1102 : BitVec 32 := Scalar.addi c0_i32_686 v1101
  v1102.toNat
def k0_mult41 (d0 : Dev nD) : BitVec 32 :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32 : BitVec 32 := 256#32
  let v155 : BitVec 32 := Scalar.muli v57 c256_i32
  let v156 : BitVec 32 := Scalar.addi c0_i32_89 v155
  let c1_i32_41 : BitVec 32 := 1#32
  let v90 : BitVec 32 := Scalar.andi v46 c1_i32_41
  let c128_i32 : BitVec 32 := 128#32
  let v160 : BitVec 32 := Scalar.muli v90 c128_i32
  let v161 : BitVec 32 := Scalar.addi v156 v160
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c64_i32 : BitVec 32 := 64#32
  let v165 : BitVec 32 := Scalar.muli v107 c64_i32
  let v166 : BitVec 32 := Scalar.addi v161 v165
  let c1_i32_61 : BitVec 32 := 1#32
  let v124 : BitVec 32 := Scalar.shrsi v46 c1_i32_61
  let c1_i32_62 : BitVec 32 := 1#32
  let v125 : BitVec 32 := Scalar.andi v124 c1_i32_62
  let c32_i32_95 : BitVec 32 := 32#32
  let v167 : BitVec 32 := Scalar.muli v125 c32_i32_95
  let v168 : BitVec 32 := Scalar.addi v166 v167
  let c1_i32_72 : BitVec 32 := 1#32
  let v142 : BitVec 32 := Scalar.shrsi v19 c1_i32_72
  let c1_i32_73 : BitVec 32 := 1#32
  let v143 : BitVec 32 := Scalar.andi v142 c1_i32_73
  let c16_i32 : BitVec 32 := 16#32
  let v172 : BitVec 32 := Scalar.muli v143 c16_i32
  let v173 : BitVec 32 := Scalar.addi v168 v172
  let c16_i32_118 : BitVec 32 := 16#32
  let v207 : BitVec 32 := Scalar.muli v143 c16_i32_118
  let v208 : BitVec 32 := Scalar.subi v173 v207
  let c1_i32_120 : BitVec 32 := 1#32
  let c2_i32_119 : BitVec 32 := 2#32
  let v209 : BitVec 32 := Scalar.muli c2_i32_119 v125
  let v210 : BitVec 32 := Scalar.subi c1_i32_120 v209
  let c32_i32_121 : BitVec 32 := 32#32
  let v211 : BitVec 32 := Scalar.muli v210 c32_i32_121
  let v212 : BitVec 32 := Scalar.addi v208 v211
  let c16_i32_687 : BitVec 32 := 16#32
  let v1107 : BitVec 32 := Scalar.muli v143 c16_i32_687
  let v1108 : BitVec 32 := Scalar.addi v212 v1107
  v1108
def k0_off37 (d0 : Dev nD) : Fin 2 → Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32 : BitVec 32 := 256#32
  let v155 : BitVec 32 := Scalar.muli v57 c256_i32
  let v156 : BitVec 32 := Scalar.addi c0_i32_89 v155
  let c1_i32_41 : BitVec 32 := 1#32
  let v90 : BitVec 32 := Scalar.andi v46 c1_i32_41
  let c128_i32 : BitVec 32 := 128#32
  let v160 : BitVec 32 := Scalar.muli v90 c128_i32
  let v161 : BitVec 32 := Scalar.addi v156 v160
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c64_i32 : BitVec 32 := 64#32
  let v165 : BitVec 32 := Scalar.muli v107 c64_i32
  let v166 : BitVec 32 := Scalar.addi v161 v165
  let c1_i32_61 : BitVec 32 := 1#32
  let v124 : BitVec 32 := Scalar.shrsi v46 c1_i32_61
  let c1_i32_62 : BitVec 32 := 1#32
  let v125 : BitVec 32 := Scalar.andi v124 c1_i32_62
  let c32_i32_95 : BitVec 32 := 32#32
  let v167 : BitVec 32 := Scalar.muli v125 c32_i32_95
  let v168 : BitVec 32 := Scalar.addi v166 v167
  let c1_i32_72 : BitVec 32 := 1#32
  let v142 : BitVec 32 := Scalar.shrsi v19 c1_i32_72
  let c1_i32_73 : BitVec 32 := 1#32
  let v143 : BitVec 32 := Scalar.andi v142 c1_i32_73
  let c16_i32 : BitVec 32 := 16#32
  let v172 : BitVec 32 := Scalar.muli v143 c16_i32
  let v173 : BitVec 32 := Scalar.addi v168 v172
  let c16_i32_118 : BitVec 32 := 16#32
  let v207 : BitVec 32 := Scalar.muli v143 c16_i32_118
  let v208 : BitVec 32 := Scalar.subi v173 v207
  let c1_i32_120 : BitVec 32 := 1#32
  let c2_i32_119 : BitVec 32 := 2#32
  let v209 : BitVec 32 := Scalar.muli c2_i32_119 v125
  let v210 : BitVec 32 := Scalar.subi c1_i32_120 v209
  let c32_i32_121 : BitVec 32 := 32#32
  let v211 : BitVec 32 := Scalar.muli v210 c32_i32_121
  let v212 : BitVec 32 := Scalar.addi v208 v211
  let c16_i32_687 : BitVec 32 := 16#32
  let v1107 : BitVec 32 := Scalar.muli v143 c16_i32_687
  let v1108 : BitVec 32 := Scalar.addi v212 v1107
  let v1111 : BitVec 32 := v1108
  let v1112 : Index := Scalar.indexCast v1111
  let c0_690 : Index := 0#32
  ![v1112.toNat, 0]
def k0_dev37 (d0 : Dev nD) : Nat :=
  let c0_i32_700 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_24 : BitVec 32 := 8#32
  let v59 : BitVec 32 := Scalar.muli v19 c8_i32_24
  let c2_i32_25 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v60 : BitVec 32 := Scalar.muli c2_i32_25 v46
  let v61 : BitVec 32 := Scalar.addi v59 v60
  let c1_i32_23 : BitVec 32 := 1#32
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v58 : BitVec 32 := Scalar.subi c1_i32_23 v57
  let v62 : BitVec 32 := Scalar.addi v58 v46
  let c2_i32_26 : BitVec 32 := 2#32
  let c0_i32_27 : BitVec 32 := 0#32
  let v63 : BitVec 1 := Scalar.cmpi .eq c2_i32_26 c0_i32_27
  let c1_i32_28 : BitVec 32 := 1#32
  let v64 : BitVec 32 := Scalar.select v63 c1_i32_28 c2_i32_26
  let v65 : BitVec 32 := Scalar.remsi v62 v64
  let c0_i32_30 : BitVec 32 := 0#32
  let v67 : BitVec 1 := Scalar.cmpi .slt v65 c0_i32_30
  let c0_i32_31 : BitVec 32 := 0#32
  let v68 : BitVec 1 := Scalar.cmpi .slt v64 c0_i32_31
  let v69 : BitVec 1 := Scalar.xori v67 v68
  let c0_i32_29 : BitVec 32 := 0#32
  let v66 : BitVec 1 := Scalar.cmpi .ne v65 c0_i32_29
  let v70 : BitVec 1 := Scalar.andi v69 v66
  let v71 : BitVec 32 := Scalar.addi v65 v64
  let v72 : BitVec 32 := Scalar.select v70 v71 v65
  let v73 : BitVec 32 := Scalar.addi v61 v72
  let c1_i32_699 : BitVec 32 := 1#32
  let v1120 : BitVec 32 := Scalar.muli v73 c1_i32_699
  let v1121 : BitVec 32 := Scalar.addi c0_i32_700 v1120
  v1121.toNat
def k0_mult42 (d0 : Dev nD) : BitVec 32 :=
  let c512_i32 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_41 : BitVec 32 := 1#32
  let v90 : BitVec 32 := Scalar.andi v46 c1_i32_41
  let c256_i32_134 : BitVec 32 := 256#32
  let v231 : BitVec 32 := Scalar.muli v90 c256_i32_134
  let v232 : BitVec 32 := Scalar.addi c512_i32 v231
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c128_i32_138 : BitVec 32 := 128#32
  let v236 : BitVec 32 := Scalar.muli v107 c128_i32_138
  let v237 : BitVec 32 := Scalar.addi v232 v236
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c64_i32_141 : BitVec 32 := 64#32
  let v241 : BitVec 32 := Scalar.muli v57 c64_i32_141
  let v242 : BitVec 32 := Scalar.addi v237 v241
  let c1_i32_72 : BitVec 32 := 1#32
  let v142 : BitVec 32 := Scalar.shrsi v19 c1_i32_72
  let c1_i32_73 : BitVec 32 := 1#32
  let v143 : BitVec 32 := Scalar.andi v142 c1_i32_73
  let c32_i32_142 : BitVec 32 := 32#32
  let v243 : BitVec 32 := Scalar.muli v143 c32_i32_142
  let v244 : BitVec 32 := Scalar.addi v242 v243
  let c1_i32_61 : BitVec 32 := 1#32
  let v124 : BitVec 32 := Scalar.shrsi v46 c1_i32_61
  let c1_i32_62 : BitVec 32 := 1#32
  let v125 : BitVec 32 := Scalar.andi v124 c1_i32_62
  let c16_i32_145 : BitVec 32 := 16#32
  let v248 : BitVec 32 := Scalar.muli v125 c16_i32_145
  let v249 : BitVec 32 := Scalar.addi v244 v248
  let c16_i32_166 : BitVec 32 := 16#32
  let v283 : BitVec 32 := Scalar.muli v125 c16_i32_166
  let v284 : BitVec 32 := Scalar.subi v249 v283
  let c1_i32_168 : BitVec 32 := 1#32
  let c2_i32_167 : BitVec 32 := 2#32
  let v285 : BitVec 32 := Scalar.muli c2_i32_167 v143
  let v286 : BitVec 32 := Scalar.subi c1_i32_168 v285
  let c32_i32_169 : BitVec 32 := 32#32
  let v287 : BitVec 32 := Scalar.muli v286 c32_i32_169
  let v288 : BitVec 32 := Scalar.addi v284 v287
  let c16_i32_701 : BitVec 32 := 16#32
  let v1126 : BitVec 32 := Scalar.muli v125 c16_i32_701
  let v1127 : BitVec 32 := Scalar.addi v288 v1126
  v1127
def k0_off38 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_41 : BitVec 32 := 1#32
  let v90 : BitVec 32 := Scalar.andi v46 c1_i32_41
  let c256_i32_134 : BitVec 32 := 256#32
  let v231 : BitVec 32 := Scalar.muli v90 c256_i32_134
  let v232 : BitVec 32 := Scalar.addi c512_i32 v231
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c128_i32_138 : BitVec 32 := 128#32
  let v236 : BitVec 32 := Scalar.muli v107 c128_i32_138
  let v237 : BitVec 32 := Scalar.addi v232 v236
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c64_i32_141 : BitVec 32 := 64#32
  let v241 : BitVec 32 := Scalar.muli v57 c64_i32_141
  let v242 : BitVec 32 := Scalar.addi v237 v241
  let c1_i32_72 : BitVec 32 := 1#32
  let v142 : BitVec 32 := Scalar.shrsi v19 c1_i32_72
  let c1_i32_73 : BitVec 32 := 1#32
  let v143 : BitVec 32 := Scalar.andi v142 c1_i32_73
  let c32_i32_142 : BitVec 32 := 32#32
  let v243 : BitVec 32 := Scalar.muli v143 c32_i32_142
  let v244 : BitVec 32 := Scalar.addi v242 v243
  let c1_i32_61 : BitVec 32 := 1#32
  let v124 : BitVec 32 := Scalar.shrsi v46 c1_i32_61
  let c1_i32_62 : BitVec 32 := 1#32
  let v125 : BitVec 32 := Scalar.andi v124 c1_i32_62
  let c16_i32_145 : BitVec 32 := 16#32
  let v248 : BitVec 32 := Scalar.muli v125 c16_i32_145
  let v249 : BitVec 32 := Scalar.addi v244 v248
  let c16_i32_166 : BitVec 32 := 16#32
  let v283 : BitVec 32 := Scalar.muli v125 c16_i32_166
  let v284 : BitVec 32 := Scalar.subi v249 v283
  let c1_i32_168 : BitVec 32 := 1#32
  let c2_i32_167 : BitVec 32 := 2#32
  let v285 : BitVec 32 := Scalar.muli c2_i32_167 v143
  let v286 : BitVec 32 := Scalar.subi c1_i32_168 v285
  let c32_i32_169 : BitVec 32 := 32#32
  let v287 : BitVec 32 := Scalar.muli v286 c32_i32_169
  let v288 : BitVec 32 := Scalar.addi v284 v287
  let c16_i32_701 : BitVec 32 := 16#32
  let v1126 : BitVec 32 := Scalar.muli v125 c16_i32_701
  let v1127 : BitVec 32 := Scalar.addi v288 v1126
  let v1130 : BitVec 32 := v1127
  let v1131 : Index := Scalar.indexCast v1130
  let c0_704 : Index := 0#32
  ![v1131.toNat, 0]
def k0_dev38 (d0 : Dev nD) : Nat :=
  let c0_i32_715 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_42 : BitVec 32 := 1#32
  let v91 : BitVec 32 := Scalar.xori v19 c1_i32_42
  let c8_i32_43 : BitVec 32 := 8#32
  let v92 : BitVec 32 := Scalar.muli v91 c8_i32_43
  let c2_i32_44 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v93 : BitVec 32 := Scalar.muli c2_i32_44 v46
  let v94 : BitVec 32 := Scalar.addi v92 v93
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v95 : BitVec 32 := Scalar.addi v57 v46
  let c2_i32_45 : BitVec 32 := 2#32
  let c0_i32_46 : BitVec 32 := 0#32
  let v96 : BitVec 1 := Scalar.cmpi .eq c2_i32_45 c0_i32_46
  let c1_i32_47 : BitVec 32 := 1#32
  let v97 : BitVec 32 := Scalar.select v96 c1_i32_47 c2_i32_45
  let v98 : BitVec 32 := Scalar.remsi v95 v97
  let c0_i32_49 : BitVec 32 := 0#32
  let v100 : BitVec 1 := Scalar.cmpi .slt v98 c0_i32_49
  let c0_i32_50 : BitVec 32 := 0#32
  let v101 : BitVec 1 := Scalar.cmpi .slt v97 c0_i32_50
  let v102 : BitVec 1 := Scalar.xori v100 v101
  let c0_i32_48 : BitVec 32 := 0#32
  let v99 : BitVec 1 := Scalar.cmpi .ne v98 c0_i32_48
  let v103 : BitVec 1 := Scalar.andi v102 v99
  let v104 : BitVec 32 := Scalar.addi v98 v97
  let v105 : BitVec 32 := Scalar.select v103 v104 v98
  let v106 : BitVec 32 := Scalar.addi v94 v105
  let c1_i32_714 : BitVec 32 := 1#32
  let v1139 : BitVec 32 := Scalar.muli v106 c1_i32_714
  let v1140 : BitVec 32 := Scalar.addi c0_i32_715 v1139
  v1140.toNat
def k0_mult43 (d0 : Dev nD) : BitVec 32 :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32 : BitVec 32 := 256#32
  let v155 : BitVec 32 := Scalar.muli v57 c256_i32
  let v156 : BitVec 32 := Scalar.addi c0_i32_89 v155
  let c1_i32_41 : BitVec 32 := 1#32
  let v90 : BitVec 32 := Scalar.andi v46 c1_i32_41
  let c128_i32 : BitVec 32 := 128#32
  let v160 : BitVec 32 := Scalar.muli v90 c128_i32
  let v161 : BitVec 32 := Scalar.addi v156 v160
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c64_i32 : BitVec 32 := 64#32
  let v165 : BitVec 32 := Scalar.muli v107 c64_i32
  let v166 : BitVec 32 := Scalar.addi v161 v165
  let c1_i32_61 : BitVec 32 := 1#32
  let v124 : BitVec 32 := Scalar.shrsi v46 c1_i32_61
  let c1_i32_62 : BitVec 32 := 1#32
  let v125 : BitVec 32 := Scalar.andi v124 c1_i32_62
  let c32_i32_95 : BitVec 32 := 32#32
  let v167 : BitVec 32 := Scalar.muli v125 c32_i32_95
  let v168 : BitVec 32 := Scalar.addi v166 v167
  let c1_i32_72 : BitVec 32 := 1#32
  let v142 : BitVec 32 := Scalar.shrsi v19 c1_i32_72
  let c1_i32_73 : BitVec 32 := 1#32
  let v143 : BitVec 32 := Scalar.andi v142 c1_i32_73
  let c16_i32 : BitVec 32 := 16#32
  let v172 : BitVec 32 := Scalar.muli v143 c16_i32
  let v173 : BitVec 32 := Scalar.addi v168 v172
  let c16_i32_118 : BitVec 32 := 16#32
  let v207 : BitVec 32 := Scalar.muli v143 c16_i32_118
  let v208 : BitVec 32 := Scalar.subi v173 v207
  let c1_i32_120 : BitVec 32 := 1#32
  let c2_i32_119 : BitVec 32 := 2#32
  let v209 : BitVec 32 := Scalar.muli c2_i32_119 v125
  let v210 : BitVec 32 := Scalar.subi c1_i32_120 v209
  let c32_i32_121 : BitVec 32 := 32#32
  let v211 : BitVec 32 := Scalar.muli v210 c32_i32_121
  let v212 : BitVec 32 := Scalar.addi v208 v211
  let c1_i32_716 : BitVec 32 := 1#32
  let v1145 : BitVec 32 := Scalar.subi c1_i32_716 v143
  let c16_i32_717 : BitVec 32 := 16#32
  let v1146 : BitVec 32 := Scalar.muli v1145 c16_i32_717
  let v1147 : BitVec 32 := Scalar.addi v212 v1146
  v1147
def k0_off39 (d0 : Dev nD) : Fin 2 → Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32 : BitVec 32 := 256#32
  let v155 : BitVec 32 := Scalar.muli v57 c256_i32
  let v156 : BitVec 32 := Scalar.addi c0_i32_89 v155
  let c1_i32_41 : BitVec 32 := 1#32
  let v90 : BitVec 32 := Scalar.andi v46 c1_i32_41
  let c128_i32 : BitVec 32 := 128#32
  let v160 : BitVec 32 := Scalar.muli v90 c128_i32
  let v161 : BitVec 32 := Scalar.addi v156 v160
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c64_i32 : BitVec 32 := 64#32
  let v165 : BitVec 32 := Scalar.muli v107 c64_i32
  let v166 : BitVec 32 := Scalar.addi v161 v165
  let c1_i32_61 : BitVec 32 := 1#32
  let v124 : BitVec 32 := Scalar.shrsi v46 c1_i32_61
  let c1_i32_62 : BitVec 32 := 1#32
  let v125 : BitVec 32 := Scalar.andi v124 c1_i32_62
  let c32_i32_95 : BitVec 32 := 32#32
  let v167 : BitVec 32 := Scalar.muli v125 c32_i32_95
  let v168 : BitVec 32 := Scalar.addi v166 v167
  let c1_i32_72 : BitVec 32 := 1#32
  let v142 : BitVec 32 := Scalar.shrsi v19 c1_i32_72
  let c1_i32_73 : BitVec 32 := 1#32
  let v143 : BitVec 32 := Scalar.andi v142 c1_i32_73
  let c16_i32 : BitVec 32 := 16#32
  let v172 : BitVec 32 := Scalar.muli v143 c16_i32
  let v173 : BitVec 32 := Scalar.addi v168 v172
  let c16_i32_118 : BitVec 32 := 16#32
  let v207 : BitVec 32 := Scalar.muli v143 c16_i32_118
  let v208 : BitVec 32 := Scalar.subi v173 v207
  let c1_i32_120 : BitVec 32 := 1#32
  let c2_i32_119 : BitVec 32 := 2#32
  let v209 : BitVec 32 := Scalar.muli c2_i32_119 v125
  let v210 : BitVec 32 := Scalar.subi c1_i32_120 v209
  let c32_i32_121 : BitVec 32 := 32#32
  let v211 : BitVec 32 := Scalar.muli v210 c32_i32_121
  let v212 : BitVec 32 := Scalar.addi v208 v211
  let c1_i32_716 : BitVec 32 := 1#32
  let v1145 : BitVec 32 := Scalar.subi c1_i32_716 v143
  let c16_i32_717 : BitVec 32 := 16#32
  let v1146 : BitVec 32 := Scalar.muli v1145 c16_i32_717
  let v1147 : BitVec 32 := Scalar.addi v212 v1146
  let v1150 : BitVec 32 := v1147
  let v1151 : Index := Scalar.indexCast v1150
  let c0_720 : Index := 0#32
  ![v1151.toNat, 0]
def k0_mult44 (d0 : Dev nD) : BitVec 32 :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32 : BitVec 32 := 256#32
  let v155 : BitVec 32 := Scalar.muli v57 c256_i32
  let v156 : BitVec 32 := Scalar.addi c0_i32_89 v155
  let c1_i32_41 : BitVec 32 := 1#32
  let v90 : BitVec 32 := Scalar.andi v46 c1_i32_41
  let c128_i32 : BitVec 32 := 128#32
  let v160 : BitVec 32 := Scalar.muli v90 c128_i32
  let v161 : BitVec 32 := Scalar.addi v156 v160
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c64_i32 : BitVec 32 := 64#32
  let v165 : BitVec 32 := Scalar.muli v107 c64_i32
  let v166 : BitVec 32 := Scalar.addi v161 v165
  let c1_i32_61 : BitVec 32 := 1#32
  let v124 : BitVec 32 := Scalar.shrsi v46 c1_i32_61
  let c1_i32_62 : BitVec 32 := 1#32
  let v125 : BitVec 32 := Scalar.andi v124 c1_i32_62
  let c32_i32_95 : BitVec 32 := 32#32
  let v167 : BitVec 32 := Scalar.muli v125 c32_i32_95
  let v168 : BitVec 32 := Scalar.addi v166 v167
  let c1_i32_72 : BitVec 32 := 1#32
  let v142 : BitVec 32 := Scalar.shrsi v19 c1_i32_72
  let c1_i32_73 : BitVec 32 := 1#32
  let v143 : BitVec 32 := Scalar.andi v142 c1_i32_73
  let c16_i32 : BitVec 32 := 16#32
  let v172 : BitVec 32 := Scalar.muli v143 c16_i32
  let v173 : BitVec 32 := Scalar.addi v168 v172
  let c16_i32_118 : BitVec 32 := 16#32
  let v207 : BitVec 32 := Scalar.muli v143 c16_i32_118
  let v208 : BitVec 32 := Scalar.subi v173 v207
  let c32_i32_122 : BitVec 32 := 32#32
  let v213 : BitVec 32 := Scalar.muli v125 c32_i32_122
  let v214 : BitVec 32 := Scalar.subi v208 v213
  v214
def k0_off40 (d0 : Dev nD) : Fin 2 → Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32 : BitVec 32 := 256#32
  let v155 : BitVec 32 := Scalar.muli v57 c256_i32
  let v156 : BitVec 32 := Scalar.addi c0_i32_89 v155
  let c1_i32_41 : BitVec 32 := 1#32
  let v90 : BitVec 32 := Scalar.andi v46 c1_i32_41
  let c128_i32 : BitVec 32 := 128#32
  let v160 : BitVec 32 := Scalar.muli v90 c128_i32
  let v161 : BitVec 32 := Scalar.addi v156 v160
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c64_i32 : BitVec 32 := 64#32
  let v165 : BitVec 32 := Scalar.muli v107 c64_i32
  let v166 : BitVec 32 := Scalar.addi v161 v165
  let c1_i32_61 : BitVec 32 := 1#32
  let v124 : BitVec 32 := Scalar.shrsi v46 c1_i32_61
  let c1_i32_62 : BitVec 32 := 1#32
  let v125 : BitVec 32 := Scalar.andi v124 c1_i32_62
  let c32_i32_95 : BitVec 32 := 32#32
  let v167 : BitVec 32 := Scalar.muli v125 c32_i32_95
  let v168 : BitVec 32 := Scalar.addi v166 v167
  let c1_i32_72 : BitVec 32 := 1#32
  let v142 : BitVec 32 := Scalar.shrsi v19 c1_i32_72
  let c1_i32_73 : BitVec 32 := 1#32
  let v143 : BitVec 32 := Scalar.andi v142 c1_i32_73
  let c16_i32 : BitVec 32 := 16#32
  let v172 : BitVec 32 := Scalar.muli v143 c16_i32
  let v173 : BitVec 32 := Scalar.addi v168 v172
  let c16_i32_118 : BitVec 32 := 16#32
  let v207 : BitVec 32 := Scalar.muli v143 c16_i32_118
  let v208 : BitVec 32 := Scalar.subi v173 v207
  let c32_i32_122 : BitVec 32 := 32#32
  let v213 : BitVec 32 := Scalar.muli v125 c32_i32_122
  let v214 : BitVec 32 := Scalar.subi v208 v213
  let v1153 : BitVec 32 := v214
  let v1154 : Index := Scalar.indexCast v1153
  let c0_721 : Index := 0#32
  ![v1154.toNat, 0]
def k0_dev39 (d0 : Dev nD) : Nat :=
  let c0_i32_726 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_33 : BitVec 32 := 8#32
  let v75 : BitVec 32 := Scalar.muli v19 c8_i32_33
  let c2_i32_34 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_32 : BitVec 32 := 1#32
  let v74 : BitVec 32 := Scalar.xori v46 c1_i32_32
  let v76 : BitVec 32 := Scalar.muli c2_i32_34 v74
  let v77 : BitVec 32 := Scalar.addi v75 v76
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v78 : BitVec 32 := Scalar.addi v57 v74
  let c2_i32_35 : BitVec 32 := 2#32
  let c0_i32_36 : BitVec 32 := 0#32
  let v79 : BitVec 1 := Scalar.cmpi .eq c2_i32_35 c0_i32_36
  let c1_i32_37 : BitVec 32 := 1#32
  let v80 : BitVec 32 := Scalar.select v79 c1_i32_37 c2_i32_35
  let v81 : BitVec 32 := Scalar.remsi v78 v80
  let c0_i32_39 : BitVec 32 := 0#32
  let v83 : BitVec 1 := Scalar.cmpi .slt v81 c0_i32_39
  let c0_i32_40 : BitVec 32 := 0#32
  let v84 : BitVec 1 := Scalar.cmpi .slt v80 c0_i32_40
  let v85 : BitVec 1 := Scalar.xori v83 v84
  let c0_i32_38 : BitVec 32 := 0#32
  let v82 : BitVec 1 := Scalar.cmpi .ne v81 c0_i32_38
  let v86 : BitVec 1 := Scalar.andi v85 v82
  let v87 : BitVec 32 := Scalar.addi v81 v80
  let v88 : BitVec 32 := Scalar.select v86 v87 v81
  let v89 : BitVec 32 := Scalar.addi v77 v88
  let c1_i32_725 : BitVec 32 := 1#32
  let v1161 : BitVec 32 := Scalar.muli v89 c1_i32_725
  let v1162 : BitVec 32 := Scalar.addi c0_i32_726 v1161
  v1162.toNat
def k0_dev40 (d0 : Dev nD) : Nat :=
  let c0_i32_736 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_24 : BitVec 32 := 8#32
  let v59 : BitVec 32 := Scalar.muli v19 c8_i32_24
  let c2_i32_25 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v60 : BitVec 32 := Scalar.muli c2_i32_25 v46
  let v61 : BitVec 32 := Scalar.addi v59 v60
  let c1_i32_23 : BitVec 32 := 1#32
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v58 : BitVec 32 := Scalar.subi c1_i32_23 v57
  let v62 : BitVec 32 := Scalar.addi v58 v46
  let c2_i32_26 : BitVec 32 := 2#32
  let c0_i32_27 : BitVec 32 := 0#32
  let v63 : BitVec 1 := Scalar.cmpi .eq c2_i32_26 c0_i32_27
  let c1_i32_28 : BitVec 32 := 1#32
  let v64 : BitVec 32 := Scalar.select v63 c1_i32_28 c2_i32_26
  let v65 : BitVec 32 := Scalar.remsi v62 v64
  let c0_i32_30 : BitVec 32 := 0#32
  let v67 : BitVec 1 := Scalar.cmpi .slt v65 c0_i32_30
  let c0_i32_31 : BitVec 32 := 0#32
  let v68 : BitVec 1 := Scalar.cmpi .slt v64 c0_i32_31
  let v69 : BitVec 1 := Scalar.xori v67 v68
  let c0_i32_29 : BitVec 32 := 0#32
  let v66 : BitVec 1 := Scalar.cmpi .ne v65 c0_i32_29
  let v70 : BitVec 1 := Scalar.andi v69 v66
  let v71 : BitVec 32 := Scalar.addi v65 v64
  let v72 : BitVec 32 := Scalar.select v70 v71 v65
  let v73 : BitVec 32 := Scalar.addi v61 v72
  let c1_i32_735 : BitVec 32 := 1#32
  let v1173 : BitVec 32 := Scalar.muli v73 c1_i32_735
  let v1174 : BitVec 32 := Scalar.addi c0_i32_736 v1173
  v1174.toNat
def k0_mult45 (d0 : Dev nD) : BitVec 32 :=
  let c512_i32 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_41 : BitVec 32 := 1#32
  let v90 : BitVec 32 := Scalar.andi v46 c1_i32_41
  let c256_i32_134 : BitVec 32 := 256#32
  let v231 : BitVec 32 := Scalar.muli v90 c256_i32_134
  let v232 : BitVec 32 := Scalar.addi c512_i32 v231
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c128_i32_138 : BitVec 32 := 128#32
  let v236 : BitVec 32 := Scalar.muli v107 c128_i32_138
  let v237 : BitVec 32 := Scalar.addi v232 v236
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c64_i32_141 : BitVec 32 := 64#32
  let v241 : BitVec 32 := Scalar.muli v57 c64_i32_141
  let v242 : BitVec 32 := Scalar.addi v237 v241
  let c1_i32_72 : BitVec 32 := 1#32
  let v142 : BitVec 32 := Scalar.shrsi v19 c1_i32_72
  let c1_i32_73 : BitVec 32 := 1#32
  let v143 : BitVec 32 := Scalar.andi v142 c1_i32_73
  let c32_i32_142 : BitVec 32 := 32#32
  let v243 : BitVec 32 := Scalar.muli v143 c32_i32_142
  let v244 : BitVec 32 := Scalar.addi v242 v243
  let c1_i32_61 : BitVec 32 := 1#32
  let v124 : BitVec 32 := Scalar.shrsi v46 c1_i32_61
  let c1_i32_62 : BitVec 32 := 1#32
  let v125 : BitVec 32 := Scalar.andi v124 c1_i32_62
  let c16_i32_145 : BitVec 32 := 16#32
  let v248 : BitVec 32 := Scalar.muli v125 c16_i32_145
  let v249 : BitVec 32 := Scalar.addi v244 v248
  let c16_i32_166 : BitVec 32 := 16#32
  let v283 : BitVec 32 := Scalar.muli v125 c16_i32_166
  let v284 : BitVec 32 := Scalar.subi v249 v283
  let c1_i32_168 : BitVec 32 := 1#32
  let c2_i32_167 : BitVec 32 := 2#32
  let v285 : BitVec 32 := Scalar.muli c2_i32_167 v143
  let v286 : BitVec 32 := Scalar.subi c1_i32_168 v285
  let c32_i32_169 : BitVec 32 := 32#32
  let v287 : BitVec 32 := Scalar.muli v286 c32_i32_169
  let v288 : BitVec 32 := Scalar.addi v284 v287
  let c1_i32_737 : BitVec 32 := 1#32
  let v1179 : BitVec 32 := Scalar.subi c1_i32_737 v125
  let c16_i32_738 : BitVec 32 := 16#32
  let v1180 : BitVec 32 := Scalar.muli v1179 c16_i32_738
  let v1181 : BitVec 32 := Scalar.addi v288 v1180
  v1181
def k0_off41 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_41 : BitVec 32 := 1#32
  let v90 : BitVec 32 := Scalar.andi v46 c1_i32_41
  let c256_i32_134 : BitVec 32 := 256#32
  let v231 : BitVec 32 := Scalar.muli v90 c256_i32_134
  let v232 : BitVec 32 := Scalar.addi c512_i32 v231
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c128_i32_138 : BitVec 32 := 128#32
  let v236 : BitVec 32 := Scalar.muli v107 c128_i32_138
  let v237 : BitVec 32 := Scalar.addi v232 v236
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c64_i32_141 : BitVec 32 := 64#32
  let v241 : BitVec 32 := Scalar.muli v57 c64_i32_141
  let v242 : BitVec 32 := Scalar.addi v237 v241
  let c1_i32_72 : BitVec 32 := 1#32
  let v142 : BitVec 32 := Scalar.shrsi v19 c1_i32_72
  let c1_i32_73 : BitVec 32 := 1#32
  let v143 : BitVec 32 := Scalar.andi v142 c1_i32_73
  let c32_i32_142 : BitVec 32 := 32#32
  let v243 : BitVec 32 := Scalar.muli v143 c32_i32_142
  let v244 : BitVec 32 := Scalar.addi v242 v243
  let c1_i32_61 : BitVec 32 := 1#32
  let v124 : BitVec 32 := Scalar.shrsi v46 c1_i32_61
  let c1_i32_62 : BitVec 32 := 1#32
  let v125 : BitVec 32 := Scalar.andi v124 c1_i32_62
  let c16_i32_145 : BitVec 32 := 16#32
  let v248 : BitVec 32 := Scalar.muli v125 c16_i32_145
  let v249 : BitVec 32 := Scalar.addi v244 v248
  let c16_i32_166 : BitVec 32 := 16#32
  let v283 : BitVec 32 := Scalar.muli v125 c16_i32_166
  let v284 : BitVec 32 := Scalar.subi v249 v283
  let c1_i32_168 : BitVec 32 := 1#32
  let c2_i32_167 : BitVec 32 := 2#32
  let v285 : BitVec 32 := Scalar.muli c2_i32_167 v143
  let v286 : BitVec 32 := Scalar.subi c1_i32_168 v285
  let c32_i32_169 : BitVec 32 := 32#32
  let v287 : BitVec 32 := Scalar.muli v286 c32_i32_169
  let v288 : BitVec 32 := Scalar.addi v284 v287
  let c1_i32_737 : BitVec 32 := 1#32
  let v1179 : BitVec 32 := Scalar.subi c1_i32_737 v125
  let c16_i32_738 : BitVec 32 := 16#32
  let v1180 : BitVec 32 := Scalar.muli v1179 c16_i32_738
  let v1181 : BitVec 32 := Scalar.addi v288 v1180
  let v1184 : BitVec 32 := v1181
  let v1185 : Index := Scalar.indexCast v1184
  let c0_741 : Index := 0#32
  ![v1185.toNat, 0]
def k0_mult46 (d0 : Dev nD) : BitVec 32 :=
  let c512_i32 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_41 : BitVec 32 := 1#32
  let v90 : BitVec 32 := Scalar.andi v46 c1_i32_41
  let c256_i32_134 : BitVec 32 := 256#32
  let v231 : BitVec 32 := Scalar.muli v90 c256_i32_134
  let v232 : BitVec 32 := Scalar.addi c512_i32 v231
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c128_i32_138 : BitVec 32 := 128#32
  let v236 : BitVec 32 := Scalar.muli v107 c128_i32_138
  let v237 : BitVec 32 := Scalar.addi v232 v236
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c64_i32_141 : BitVec 32 := 64#32
  let v241 : BitVec 32 := Scalar.muli v57 c64_i32_141
  let v242 : BitVec 32 := Scalar.addi v237 v241
  let c1_i32_72 : BitVec 32 := 1#32
  let v142 : BitVec 32 := Scalar.shrsi v19 c1_i32_72
  let c1_i32_73 : BitVec 32 := 1#32
  let v143 : BitVec 32 := Scalar.andi v142 c1_i32_73
  let c32_i32_142 : BitVec 32 := 32#32
  let v243 : BitVec 32 := Scalar.muli v143 c32_i32_142
  let v244 : BitVec 32 := Scalar.addi v242 v243
  let c1_i32_61 : BitVec 32 := 1#32
  let v124 : BitVec 32 := Scalar.shrsi v46 c1_i32_61
  let c1_i32_62 : BitVec 32 := 1#32
  let v125 : BitVec 32 := Scalar.andi v124 c1_i32_62
  let c16_i32_145 : BitVec 32 := 16#32
  let v248 : BitVec 32 := Scalar.muli v125 c16_i32_145
  let v249 : BitVec 32 := Scalar.addi v244 v248
  let c16_i32_166 : BitVec 32 := 16#32
  let v283 : BitVec 32 := Scalar.muli v125 c16_i32_166
  let v284 : BitVec 32 := Scalar.subi v249 v283
  let c32_i32_170 : BitVec 32 := 32#32
  let v289 : BitVec 32 := Scalar.muli v143 c32_i32_170
  let v290 : BitVec 32 := Scalar.subi v284 v289
  v290
def k0_off42 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_41 : BitVec 32 := 1#32
  let v90 : BitVec 32 := Scalar.andi v46 c1_i32_41
  let c256_i32_134 : BitVec 32 := 256#32
  let v231 : BitVec 32 := Scalar.muli v90 c256_i32_134
  let v232 : BitVec 32 := Scalar.addi c512_i32 v231
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c128_i32_138 : BitVec 32 := 128#32
  let v236 : BitVec 32 := Scalar.muli v107 c128_i32_138
  let v237 : BitVec 32 := Scalar.addi v232 v236
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c64_i32_141 : BitVec 32 := 64#32
  let v241 : BitVec 32 := Scalar.muli v57 c64_i32_141
  let v242 : BitVec 32 := Scalar.addi v237 v241
  let c1_i32_72 : BitVec 32 := 1#32
  let v142 : BitVec 32 := Scalar.shrsi v19 c1_i32_72
  let c1_i32_73 : BitVec 32 := 1#32
  let v143 : BitVec 32 := Scalar.andi v142 c1_i32_73
  let c32_i32_142 : BitVec 32 := 32#32
  let v243 : BitVec 32 := Scalar.muli v143 c32_i32_142
  let v244 : BitVec 32 := Scalar.addi v242 v243
  let c1_i32_61 : BitVec 32 := 1#32
  let v124 : BitVec 32 := Scalar.shrsi v46 c1_i32_61
  let c1_i32_62 : BitVec 32 := 1#32
  let v125 : BitVec 32 := Scalar.andi v124 c1_i32_62
  let c16_i32_145 : BitVec 32 := 16#32
  let v248 : BitVec 32 := Scalar.muli v125 c16_i32_145
  let v249 : BitVec 32 := Scalar.addi v244 v248
  let c16_i32_166 : BitVec 32 := 16#32
  let v283 : BitVec 32 := Scalar.muli v125 c16_i32_166
  let v284 : BitVec 32 := Scalar.subi v249 v283
  let c32_i32_170 : BitVec 32 := 32#32
  let v289 : BitVec 32 := Scalar.muli v143 c32_i32_170
  let v290 : BitVec 32 := Scalar.subi v284 v289
  let v1187 : BitVec 32 := v290
  let v1188 : Index := Scalar.indexCast v1187
  let c0_742 : Index := 0#32
  ![v1188.toNat, 0]
def k0_dev41 (d0 : Dev nD) : Nat :=
  let c0_i32_747 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_42 : BitVec 32 := 1#32
  let v91 : BitVec 32 := Scalar.xori v19 c1_i32_42
  let c8_i32_43 : BitVec 32 := 8#32
  let v92 : BitVec 32 := Scalar.muli v91 c8_i32_43
  let c2_i32_44 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v93 : BitVec 32 := Scalar.muli c2_i32_44 v46
  let v94 : BitVec 32 := Scalar.addi v92 v93
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v95 : BitVec 32 := Scalar.addi v57 v46
  let c2_i32_45 : BitVec 32 := 2#32
  let c0_i32_46 : BitVec 32 := 0#32
  let v96 : BitVec 1 := Scalar.cmpi .eq c2_i32_45 c0_i32_46
  let c1_i32_47 : BitVec 32 := 1#32
  let v97 : BitVec 32 := Scalar.select v96 c1_i32_47 c2_i32_45
  let v98 : BitVec 32 := Scalar.remsi v95 v97
  let c0_i32_49 : BitVec 32 := 0#32
  let v100 : BitVec 1 := Scalar.cmpi .slt v98 c0_i32_49
  let c0_i32_50 : BitVec 32 := 0#32
  let v101 : BitVec 1 := Scalar.cmpi .slt v97 c0_i32_50
  let v102 : BitVec 1 := Scalar.xori v100 v101
  let c0_i32_48 : BitVec 32 := 0#32
  let v99 : BitVec 1 := Scalar.cmpi .ne v98 c0_i32_48
  let v103 : BitVec 1 := Scalar.andi v102 v99
  let v104 : BitVec 32 := Scalar.addi v98 v97
  let v105 : BitVec 32 := Scalar.select v103 v104 v98
  let v106 : BitVec 32 := Scalar.addi v94 v105
  let c1_i32_746 : BitVec 32 := 1#32
  let v1195 : BitVec 32 := Scalar.muli v106 c1_i32_746
  let v1196 : BitVec 32 := Scalar.addi c0_i32_747 v1195
  v1196.toNat
def k0_dev42 (d0 : Dev nD) : Nat :=
  let c0_i32_757 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_33 : BitVec 32 := 8#32
  let v75 : BitVec 32 := Scalar.muli v19 c8_i32_33
  let c2_i32_34 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_32 : BitVec 32 := 1#32
  let v74 : BitVec 32 := Scalar.xori v46 c1_i32_32
  let v76 : BitVec 32 := Scalar.muli c2_i32_34 v74
  let v77 : BitVec 32 := Scalar.addi v75 v76
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v78 : BitVec 32 := Scalar.addi v57 v74
  let c2_i32_35 : BitVec 32 := 2#32
  let c0_i32_36 : BitVec 32 := 0#32
  let v79 : BitVec 1 := Scalar.cmpi .eq c2_i32_35 c0_i32_36
  let c1_i32_37 : BitVec 32 := 1#32
  let v80 : BitVec 32 := Scalar.select v79 c1_i32_37 c2_i32_35
  let v81 : BitVec 32 := Scalar.remsi v78 v80
  let c0_i32_39 : BitVec 32 := 0#32
  let v83 : BitVec 1 := Scalar.cmpi .slt v81 c0_i32_39
  let c0_i32_40 : BitVec 32 := 0#32
  let v84 : BitVec 1 := Scalar.cmpi .slt v80 c0_i32_40
  let v85 : BitVec 1 := Scalar.xori v83 v84
  let c0_i32_38 : BitVec 32 := 0#32
  let v82 : BitVec 1 := Scalar.cmpi .ne v81 c0_i32_38
  let v86 : BitVec 1 := Scalar.andi v85 v82
  let v87 : BitVec 32 := Scalar.addi v81 v80
  let v88 : BitVec 32 := Scalar.select v86 v87 v81
  let v89 : BitVec 32 := Scalar.addi v77 v88
  let c1_i32_756 : BitVec 32 := 1#32
  let v1207 : BitVec 32 := Scalar.muli v89 c1_i32_756
  let v1208 : BitVec 32 := Scalar.addi c0_i32_757 v1207
  v1208.toNat
def k0_mult47 (d0 : Dev nD) : BitVec 32 :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32 : BitVec 32 := 256#32
  let v155 : BitVec 32 := Scalar.muli v57 c256_i32
  let v156 : BitVec 32 := Scalar.addi c0_i32_89 v155
  let c1_i32_41 : BitVec 32 := 1#32
  let v90 : BitVec 32 := Scalar.andi v46 c1_i32_41
  let c128_i32 : BitVec 32 := 128#32
  let v160 : BitVec 32 := Scalar.muli v90 c128_i32
  let v161 : BitVec 32 := Scalar.addi v156 v160
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c64_i32 : BitVec 32 := 64#32
  let v165 : BitVec 32 := Scalar.muli v107 c64_i32
  let v166 : BitVec 32 := Scalar.addi v161 v165
  let c1_i32_61 : BitVec 32 := 1#32
  let v124 : BitVec 32 := Scalar.shrsi v46 c1_i32_61
  let c1_i32_62 : BitVec 32 := 1#32
  let v125 : BitVec 32 := Scalar.andi v124 c1_i32_62
  let c32_i32_95 : BitVec 32 := 32#32
  let v167 : BitVec 32 := Scalar.muli v125 c32_i32_95
  let v168 : BitVec 32 := Scalar.addi v166 v167
  let c1_i32_72 : BitVec 32 := 1#32
  let v142 : BitVec 32 := Scalar.shrsi v19 c1_i32_72
  let c1_i32_73 : BitVec 32 := 1#32
  let v143 : BitVec 32 := Scalar.andi v142 c1_i32_73
  let c16_i32 : BitVec 32 := 16#32
  let v172 : BitVec 32 := Scalar.muli v143 c16_i32
  let v173 : BitVec 32 := Scalar.addi v168 v172
  let c16_i32_118 : BitVec 32 := 16#32
  let v207 : BitVec 32 := Scalar.muli v143 c16_i32_118
  let v208 : BitVec 32 := Scalar.subi v173 v207
  let c32_i32_122 : BitVec 32 := 32#32
  let v213 : BitVec 32 := Scalar.muli v125 c32_i32_122
  let v214 : BitVec 32 := Scalar.subi v208 v213
  let c1_i32_124 : BitVec 32 := 1#32
  let c2_i32_123 : BitVec 32 := 2#32
  let v215 : BitVec 32 := Scalar.muli c2_i32_123 v107
  let v216 : BitVec 32 := Scalar.subi c1_i32_124 v215
  let c64_i32_125 : BitVec 32 := 64#32
  let v217 : BitVec 32 := Scalar.muli v216 c64_i32_125
  let v218 : BitVec 32 := Scalar.addi v214 v217
  let c32_i32_758 : BitVec 32 := 32#32
  let v1213 : BitVec 32 := Scalar.muli v125 c32_i32_758
  let v1214 : BitVec 32 := Scalar.addi v218 v1213
  v1214
def k0_off43 (d0 : Dev nD) : Fin 2 → Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32 : BitVec 32 := 256#32
  let v155 : BitVec 32 := Scalar.muli v57 c256_i32
  let v156 : BitVec 32 := Scalar.addi c0_i32_89 v155
  let c1_i32_41 : BitVec 32 := 1#32
  let v90 : BitVec 32 := Scalar.andi v46 c1_i32_41
  let c128_i32 : BitVec 32 := 128#32
  let v160 : BitVec 32 := Scalar.muli v90 c128_i32
  let v161 : BitVec 32 := Scalar.addi v156 v160
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c64_i32 : BitVec 32 := 64#32
  let v165 : BitVec 32 := Scalar.muli v107 c64_i32
  let v166 : BitVec 32 := Scalar.addi v161 v165
  let c1_i32_61 : BitVec 32 := 1#32
  let v124 : BitVec 32 := Scalar.shrsi v46 c1_i32_61
  let c1_i32_62 : BitVec 32 := 1#32
  let v125 : BitVec 32 := Scalar.andi v124 c1_i32_62
  let c32_i32_95 : BitVec 32 := 32#32
  let v167 : BitVec 32 := Scalar.muli v125 c32_i32_95
  let v168 : BitVec 32 := Scalar.addi v166 v167
  let c1_i32_72 : BitVec 32 := 1#32
  let v142 : BitVec 32 := Scalar.shrsi v19 c1_i32_72
  let c1_i32_73 : BitVec 32 := 1#32
  let v143 : BitVec 32 := Scalar.andi v142 c1_i32_73
  let c16_i32 : BitVec 32 := 16#32
  let v172 : BitVec 32 := Scalar.muli v143 c16_i32
  let v173 : BitVec 32 := Scalar.addi v168 v172
  let c16_i32_118 : BitVec 32 := 16#32
  let v207 : BitVec 32 := Scalar.muli v143 c16_i32_118
  let v208 : BitVec 32 := Scalar.subi v173 v207
  let c32_i32_122 : BitVec 32 := 32#32
  let v213 : BitVec 32 := Scalar.muli v125 c32_i32_122
  let v214 : BitVec 32 := Scalar.subi v208 v213
  let c1_i32_124 : BitVec 32 := 1#32
  let c2_i32_123 : BitVec 32 := 2#32
  let v215 : BitVec 32 := Scalar.muli c2_i32_123 v107
  let v216 : BitVec 32 := Scalar.subi c1_i32_124 v215
  let c64_i32_125 : BitVec 32 := 64#32
  let v217 : BitVec 32 := Scalar.muli v216 c64_i32_125
  let v218 : BitVec 32 := Scalar.addi v214 v217
  let c32_i32_758 : BitVec 32 := 32#32
  let v1213 : BitVec 32 := Scalar.muli v125 c32_i32_758
  let v1214 : BitVec 32 := Scalar.addi v218 v1213
  let v1217 : BitVec 32 := v1214
  let v1218 : Index := Scalar.indexCast v1217
  let c0_761 : Index := 0#32
  ![v1218.toNat, 0]
def k0_dev43 (d0 : Dev nD) : Nat :=
  let c0_i32_771 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_42 : BitVec 32 := 1#32
  let v91 : BitVec 32 := Scalar.xori v19 c1_i32_42
  let c8_i32_43 : BitVec 32 := 8#32
  let v92 : BitVec 32 := Scalar.muli v91 c8_i32_43
  let c2_i32_44 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v93 : BitVec 32 := Scalar.muli c2_i32_44 v46
  let v94 : BitVec 32 := Scalar.addi v92 v93
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v95 : BitVec 32 := Scalar.addi v57 v46
  let c2_i32_45 : BitVec 32 := 2#32
  let c0_i32_46 : BitVec 32 := 0#32
  let v96 : BitVec 1 := Scalar.cmpi .eq c2_i32_45 c0_i32_46
  let c1_i32_47 : BitVec 32 := 1#32
  let v97 : BitVec 32 := Scalar.select v96 c1_i32_47 c2_i32_45
  let v98 : BitVec 32 := Scalar.remsi v95 v97
  let c0_i32_49 : BitVec 32 := 0#32
  let v100 : BitVec 1 := Scalar.cmpi .slt v98 c0_i32_49
  let c0_i32_50 : BitVec 32 := 0#32
  let v101 : BitVec 1 := Scalar.cmpi .slt v97 c0_i32_50
  let v102 : BitVec 1 := Scalar.xori v100 v101
  let c0_i32_48 : BitVec 32 := 0#32
  let v99 : BitVec 1 := Scalar.cmpi .ne v98 c0_i32_48
  let v103 : BitVec 1 := Scalar.andi v102 v99
  let v104 : BitVec 32 := Scalar.addi v98 v97
  let v105 : BitVec 32 := Scalar.select v103 v104 v98
  let v106 : BitVec 32 := Scalar.addi v94 v105
  let c1_i32_770 : BitVec 32 := 1#32
  let v1226 : BitVec 32 := Scalar.muli v106 c1_i32_770
  let v1227 : BitVec 32 := Scalar.addi c0_i32_771 v1226
  v1227.toNat
def k0_mult48 (d0 : Dev nD) : BitVec 32 :=
  let c512_i32 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_41 : BitVec 32 := 1#32
  let v90 : BitVec 32 := Scalar.andi v46 c1_i32_41
  let c256_i32_134 : BitVec 32 := 256#32
  let v231 : BitVec 32 := Scalar.muli v90 c256_i32_134
  let v232 : BitVec 32 := Scalar.addi c512_i32 v231
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c128_i32_138 : BitVec 32 := 128#32
  let v236 : BitVec 32 := Scalar.muli v107 c128_i32_138
  let v237 : BitVec 32 := Scalar.addi v232 v236
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c64_i32_141 : BitVec 32 := 64#32
  let v241 : BitVec 32 := Scalar.muli v57 c64_i32_141
  let v242 : BitVec 32 := Scalar.addi v237 v241
  let c1_i32_72 : BitVec 32 := 1#32
  let v142 : BitVec 32 := Scalar.shrsi v19 c1_i32_72
  let c1_i32_73 : BitVec 32 := 1#32
  let v143 : BitVec 32 := Scalar.andi v142 c1_i32_73
  let c32_i32_142 : BitVec 32 := 32#32
  let v243 : BitVec 32 := Scalar.muli v143 c32_i32_142
  let v244 : BitVec 32 := Scalar.addi v242 v243
  let c1_i32_61 : BitVec 32 := 1#32
  let v124 : BitVec 32 := Scalar.shrsi v46 c1_i32_61
  let c1_i32_62 : BitVec 32 := 1#32
  let v125 : BitVec 32 := Scalar.andi v124 c1_i32_62
  let c16_i32_145 : BitVec 32 := 16#32
  let v248 : BitVec 32 := Scalar.muli v125 c16_i32_145
  let v249 : BitVec 32 := Scalar.addi v244 v248
  let c16_i32_166 : BitVec 32 := 16#32
  let v283 : BitVec 32 := Scalar.muli v125 c16_i32_166
  let v284 : BitVec 32 := Scalar.subi v249 v283
  let c32_i32_170 : BitVec 32 := 32#32
  let v289 : BitVec 32 := Scalar.muli v143 c32_i32_170
  let v290 : BitVec 32 := Scalar.subi v284 v289
  let c1_i32_172 : BitVec 32 := 1#32
  let c2_i32_171 : BitVec 32 := 2#32
  let v291 : BitVec 32 := Scalar.muli c2_i32_171 v57
  let v292 : BitVec 32 := Scalar.subi c1_i32_172 v291
  let c64_i32_173 : BitVec 32 := 64#32
  let v293 : BitVec 32 := Scalar.muli v292 c64_i32_173
  let v294 : BitVec 32 := Scalar.addi v290 v293
  let c32_i32_772 : BitVec 32 := 32#32
  let v1232 : BitVec 32 := Scalar.muli v143 c32_i32_772
  let v1233 : BitVec 32 := Scalar.addi v294 v1232
  v1233
def k0_off44 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_41 : BitVec 32 := 1#32
  let v90 : BitVec 32 := Scalar.andi v46 c1_i32_41
  let c256_i32_134 : BitVec 32 := 256#32
  let v231 : BitVec 32 := Scalar.muli v90 c256_i32_134
  let v232 : BitVec 32 := Scalar.addi c512_i32 v231
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c128_i32_138 : BitVec 32 := 128#32
  let v236 : BitVec 32 := Scalar.muli v107 c128_i32_138
  let v237 : BitVec 32 := Scalar.addi v232 v236
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c64_i32_141 : BitVec 32 := 64#32
  let v241 : BitVec 32 := Scalar.muli v57 c64_i32_141
  let v242 : BitVec 32 := Scalar.addi v237 v241
  let c1_i32_72 : BitVec 32 := 1#32
  let v142 : BitVec 32 := Scalar.shrsi v19 c1_i32_72
  let c1_i32_73 : BitVec 32 := 1#32
  let v143 : BitVec 32 := Scalar.andi v142 c1_i32_73
  let c32_i32_142 : BitVec 32 := 32#32
  let v243 : BitVec 32 := Scalar.muli v143 c32_i32_142
  let v244 : BitVec 32 := Scalar.addi v242 v243
  let c1_i32_61 : BitVec 32 := 1#32
  let v124 : BitVec 32 := Scalar.shrsi v46 c1_i32_61
  let c1_i32_62 : BitVec 32 := 1#32
  let v125 : BitVec 32 := Scalar.andi v124 c1_i32_62
  let c16_i32_145 : BitVec 32 := 16#32
  let v248 : BitVec 32 := Scalar.muli v125 c16_i32_145
  let v249 : BitVec 32 := Scalar.addi v244 v248
  let c16_i32_166 : BitVec 32 := 16#32
  let v283 : BitVec 32 := Scalar.muli v125 c16_i32_166
  let v284 : BitVec 32 := Scalar.subi v249 v283
  let c32_i32_170 : BitVec 32 := 32#32
  let v289 : BitVec 32 := Scalar.muli v143 c32_i32_170
  let v290 : BitVec 32 := Scalar.subi v284 v289
  let c1_i32_172 : BitVec 32 := 1#32
  let c2_i32_171 : BitVec 32 := 2#32
  let v291 : BitVec 32 := Scalar.muli c2_i32_171 v57
  let v292 : BitVec 32 := Scalar.subi c1_i32_172 v291
  let c64_i32_173 : BitVec 32 := 64#32
  let v293 : BitVec 32 := Scalar.muli v292 c64_i32_173
  let v294 : BitVec 32 := Scalar.addi v290 v293
  let c32_i32_772 : BitVec 32 := 32#32
  let v1232 : BitVec 32 := Scalar.muli v143 c32_i32_772
  let v1233 : BitVec 32 := Scalar.addi v294 v1232
  let v1236 : BitVec 32 := v1233
  let v1237 : Index := Scalar.indexCast v1236
  let c0_775 : Index := 0#32
  ![v1237.toNat, 0]
def k0_mult49 (d0 : Dev nD) : BitVec 32 :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32 : BitVec 32 := 256#32
  let v155 : BitVec 32 := Scalar.muli v57 c256_i32
  let v156 : BitVec 32 := Scalar.addi c0_i32_89 v155
  let c1_i32_41 : BitVec 32 := 1#32
  let v90 : BitVec 32 := Scalar.andi v46 c1_i32_41
  let c128_i32 : BitVec 32 := 128#32
  let v160 : BitVec 32 := Scalar.muli v90 c128_i32
  let v161 : BitVec 32 := Scalar.addi v156 v160
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c64_i32 : BitVec 32 := 64#32
  let v165 : BitVec 32 := Scalar.muli v107 c64_i32
  let v166 : BitVec 32 := Scalar.addi v161 v165
  let c1_i32_61 : BitVec 32 := 1#32
  let v124 : BitVec 32 := Scalar.shrsi v46 c1_i32_61
  let c1_i32_62 : BitVec 32 := 1#32
  let v125 : BitVec 32 := Scalar.andi v124 c1_i32_62
  let c32_i32_95 : BitVec 32 := 32#32
  let v167 : BitVec 32 := Scalar.muli v125 c32_i32_95
  let v168 : BitVec 32 := Scalar.addi v166 v167
  let c1_i32_72 : BitVec 32 := 1#32
  let v142 : BitVec 32 := Scalar.shrsi v19 c1_i32_72
  let c1_i32_73 : BitVec 32 := 1#32
  let v143 : BitVec 32 := Scalar.andi v142 c1_i32_73
  let c16_i32 : BitVec 32 := 16#32
  let v172 : BitVec 32 := Scalar.muli v143 c16_i32
  let v173 : BitVec 32 := Scalar.addi v168 v172
  let c16_i32_118 : BitVec 32 := 16#32
  let v207 : BitVec 32 := Scalar.muli v143 c16_i32_118
  let v208 : BitVec 32 := Scalar.subi v173 v207
  let c32_i32_122 : BitVec 32 := 32#32
  let v213 : BitVec 32 := Scalar.muli v125 c32_i32_122
  let v214 : BitVec 32 := Scalar.subi v208 v213
  let c1_i32_124 : BitVec 32 := 1#32
  let c2_i32_123 : BitVec 32 := 2#32
  let v215 : BitVec 32 := Scalar.muli c2_i32_123 v107
  let v216 : BitVec 32 := Scalar.subi c1_i32_124 v215
  let c64_i32_125 : BitVec 32 := 64#32
  let v217 : BitVec 32 := Scalar.muli v216 c64_i32_125
  let v218 : BitVec 32 := Scalar.addi v214 v217
  let c1_i32_776 : BitVec 32 := 1#32
  let v1239 : BitVec 32 := Scalar.subi c1_i32_776 v125
  let c32_i32_777 : BitVec 32 := 32#32
  let v1240 : BitVec 32 := Scalar.muli v1239 c32_i32_777
  let v1241 : BitVec 32 := Scalar.addi v218 v1240
  let c16_i32_785 : BitVec 32 := 16#32
  let v1248 : BitVec 32 := Scalar.muli v143 c16_i32_785
  let v1249 : BitVec 32 := Scalar.addi v1241 v1248
  v1249
def k0_off45 (d0 : Dev nD) : Fin 2 → Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32 : BitVec 32 := 256#32
  let v155 : BitVec 32 := Scalar.muli v57 c256_i32
  let v156 : BitVec 32 := Scalar.addi c0_i32_89 v155
  let c1_i32_41 : BitVec 32 := 1#32
  let v90 : BitVec 32 := Scalar.andi v46 c1_i32_41
  let c128_i32 : BitVec 32 := 128#32
  let v160 : BitVec 32 := Scalar.muli v90 c128_i32
  let v161 : BitVec 32 := Scalar.addi v156 v160
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c64_i32 : BitVec 32 := 64#32
  let v165 : BitVec 32 := Scalar.muli v107 c64_i32
  let v166 : BitVec 32 := Scalar.addi v161 v165
  let c1_i32_61 : BitVec 32 := 1#32
  let v124 : BitVec 32 := Scalar.shrsi v46 c1_i32_61
  let c1_i32_62 : BitVec 32 := 1#32
  let v125 : BitVec 32 := Scalar.andi v124 c1_i32_62
  let c32_i32_95 : BitVec 32 := 32#32
  let v167 : BitVec 32 := Scalar.muli v125 c32_i32_95
  let v168 : BitVec 32 := Scalar.addi v166 v167
  let c1_i32_72 : BitVec 32 := 1#32
  let v142 : BitVec 32 := Scalar.shrsi v19 c1_i32_72
  let c1_i32_73 : BitVec 32 := 1#32
  let v143 : BitVec 32 := Scalar.andi v142 c1_i32_73
  let c16_i32 : BitVec 32 := 16#32
  let v172 : BitVec 32 := Scalar.muli v143 c16_i32
  let v173 : BitVec 32 := Scalar.addi v168 v172
  let c16_i32_118 : BitVec 32 := 16#32
  let v207 : BitVec 32 := Scalar.muli v143 c16_i32_118
  let v208 : BitVec 32 := Scalar.subi v173 v207
  let c32_i32_122 : BitVec 32 := 32#32
  let v213 : BitVec 32 := Scalar.muli v125 c32_i32_122
  let v214 : BitVec 32 := Scalar.subi v208 v213
  let c1_i32_124 : BitVec 32 := 1#32
  let c2_i32_123 : BitVec 32 := 2#32
  let v215 : BitVec 32 := Scalar.muli c2_i32_123 v107
  let v216 : BitVec 32 := Scalar.subi c1_i32_124 v215
  let c64_i32_125 : BitVec 32 := 64#32
  let v217 : BitVec 32 := Scalar.muli v216 c64_i32_125
  let v218 : BitVec 32 := Scalar.addi v214 v217
  let c1_i32_776 : BitVec 32 := 1#32
  let v1239 : BitVec 32 := Scalar.subi c1_i32_776 v125
  let c32_i32_777 : BitVec 32 := 32#32
  let v1240 : BitVec 32 := Scalar.muli v1239 c32_i32_777
  let v1241 : BitVec 32 := Scalar.addi v218 v1240
  let c16_i32_785 : BitVec 32 := 16#32
  let v1248 : BitVec 32 := Scalar.muli v143 c16_i32_785
  let v1249 : BitVec 32 := Scalar.addi v1241 v1248
  let v1252 : BitVec 32 := v1249
  let v1253 : Index := Scalar.indexCast v1252
  let c0_788 : Index := 0#32
  ![v1253.toNat, 0]
def k0_mult50 (d0 : Dev nD) : BitVec 32 :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32 : BitVec 32 := 256#32
  let v155 : BitVec 32 := Scalar.muli v57 c256_i32
  let v156 : BitVec 32 := Scalar.addi c0_i32_89 v155
  let c1_i32_41 : BitVec 32 := 1#32
  let v90 : BitVec 32 := Scalar.andi v46 c1_i32_41
  let c128_i32 : BitVec 32 := 128#32
  let v160 : BitVec 32 := Scalar.muli v90 c128_i32
  let v161 : BitVec 32 := Scalar.addi v156 v160
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c64_i32 : BitVec 32 := 64#32
  let v165 : BitVec 32 := Scalar.muli v107 c64_i32
  let v166 : BitVec 32 := Scalar.addi v161 v165
  let c1_i32_61 : BitVec 32 := 1#32
  let v124 : BitVec 32 := Scalar.shrsi v46 c1_i32_61
  let c1_i32_62 : BitVec 32 := 1#32
  let v125 : BitVec 32 := Scalar.andi v124 c1_i32_62
  let c32_i32_95 : BitVec 32 := 32#32
  let v167 : BitVec 32 := Scalar.muli v125 c32_i32_95
  let v168 : BitVec 32 := Scalar.addi v166 v167
  let c1_i32_72 : BitVec 32 := 1#32
  let v142 : BitVec 32 := Scalar.shrsi v19 c1_i32_72
  let c1_i32_73 : BitVec 32 := 1#32
  let v143 : BitVec 32 := Scalar.andi v142 c1_i32_73
  let c16_i32 : BitVec 32 := 16#32
  let v172 : BitVec 32 := Scalar.muli v143 c16_i32
  let v173 : BitVec 32 := Scalar.addi v168 v172
  let c16_i32_118 : BitVec 32 := 16#32
  let v207 : BitVec 32 := Scalar.muli v143 c16_i32_118
  let v208 : BitVec 32 := Scalar.subi v173 v207
  let c32_i32_122 : BitVec 32 := 32#32
  let v213 : BitVec 32 := Scalar.muli v125 c32_i32_122
  let v214 : BitVec 32 := Scalar.subi v208 v213
  let c1_i32_124 : BitVec 32 := 1#32
  let c2_i32_123 : BitVec 32 := 2#32
  let v215 : BitVec 32 := Scalar.muli c2_i32_123 v107
  let v216 : BitVec 32 := Scalar.subi c1_i32_124 v215
  let c64_i32_125 : BitVec 32 := 64#32
  let v217 : BitVec 32 := Scalar.muli v216 c64_i32_125
  let v218 : BitVec 32 := Scalar.addi v214 v217
  let c1_i32_776 : BitVec 32 := 1#32
  let v1239 : BitVec 32 := Scalar.subi c1_i32_776 v125
  let c32_i32_777 : BitVec 32 := 32#32
  let v1240 : BitVec 32 := Scalar.muli v1239 c32_i32_777
  let v1241 : BitVec 32 := Scalar.addi v218 v1240
  let c1_i32_796 : BitVec 32 := 1#32
  let v1261 : BitVec 32 := Scalar.subi c1_i32_796 v143
  let c16_i32_797 : BitVec 32 := 16#32
  let v1262 : BitVec 32 := Scalar.muli v1261 c16_i32_797
  let v1263 : BitVec 32 := Scalar.addi v1241 v1262
  v1263
def k0_off46 (d0 : Dev nD) : Fin 2 → Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32 : BitVec 32 := 256#32
  let v155 : BitVec 32 := Scalar.muli v57 c256_i32
  let v156 : BitVec 32 := Scalar.addi c0_i32_89 v155
  let c1_i32_41 : BitVec 32 := 1#32
  let v90 : BitVec 32 := Scalar.andi v46 c1_i32_41
  let c128_i32 : BitVec 32 := 128#32
  let v160 : BitVec 32 := Scalar.muli v90 c128_i32
  let v161 : BitVec 32 := Scalar.addi v156 v160
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c64_i32 : BitVec 32 := 64#32
  let v165 : BitVec 32 := Scalar.muli v107 c64_i32
  let v166 : BitVec 32 := Scalar.addi v161 v165
  let c1_i32_61 : BitVec 32 := 1#32
  let v124 : BitVec 32 := Scalar.shrsi v46 c1_i32_61
  let c1_i32_62 : BitVec 32 := 1#32
  let v125 : BitVec 32 := Scalar.andi v124 c1_i32_62
  let c32_i32_95 : BitVec 32 := 32#32
  let v167 : BitVec 32 := Scalar.muli v125 c32_i32_95
  let v168 : BitVec 32 := Scalar.addi v166 v167
  let c1_i32_72 : BitVec 32 := 1#32
  let v142 : BitVec 32 := Scalar.shrsi v19 c1_i32_72
  let c1_i32_73 : BitVec 32 := 1#32
  let v143 : BitVec 32 := Scalar.andi v142 c1_i32_73
  let c16_i32 : BitVec 32 := 16#32
  let v172 : BitVec 32 := Scalar.muli v143 c16_i32
  let v173 : BitVec 32 := Scalar.addi v168 v172
  let c16_i32_118 : BitVec 32 := 16#32
  let v207 : BitVec 32 := Scalar.muli v143 c16_i32_118
  let v208 : BitVec 32 := Scalar.subi v173 v207
  let c32_i32_122 : BitVec 32 := 32#32
  let v213 : BitVec 32 := Scalar.muli v125 c32_i32_122
  let v214 : BitVec 32 := Scalar.subi v208 v213
  let c1_i32_124 : BitVec 32 := 1#32
  let c2_i32_123 : BitVec 32 := 2#32
  let v215 : BitVec 32 := Scalar.muli c2_i32_123 v107
  let v216 : BitVec 32 := Scalar.subi c1_i32_124 v215
  let c64_i32_125 : BitVec 32 := 64#32
  let v217 : BitVec 32 := Scalar.muli v216 c64_i32_125
  let v218 : BitVec 32 := Scalar.addi v214 v217
  let c1_i32_776 : BitVec 32 := 1#32
  let v1239 : BitVec 32 := Scalar.subi c1_i32_776 v125
  let c32_i32_777 : BitVec 32 := 32#32
  let v1240 : BitVec 32 := Scalar.muli v1239 c32_i32_777
  let v1241 : BitVec 32 := Scalar.addi v218 v1240
  let c1_i32_796 : BitVec 32 := 1#32
  let v1261 : BitVec 32 := Scalar.subi c1_i32_796 v143
  let c16_i32_797 : BitVec 32 := 16#32
  let v1262 : BitVec 32 := Scalar.muli v1261 c16_i32_797
  let v1263 : BitVec 32 := Scalar.addi v1241 v1262
  let v1266 : BitVec 32 := v1263
  let v1267 : Index := Scalar.indexCast v1266
  let c0_800 : Index := 0#32
  ![v1267.toNat, 0]
def k0_mult51 (d0 : Dev nD) : BitVec 32 :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32 : BitVec 32 := 256#32
  let v155 : BitVec 32 := Scalar.muli v57 c256_i32
  let v156 : BitVec 32 := Scalar.addi c0_i32_89 v155
  let c1_i32_41 : BitVec 32 := 1#32
  let v90 : BitVec 32 := Scalar.andi v46 c1_i32_41
  let c128_i32 : BitVec 32 := 128#32
  let v160 : BitVec 32 := Scalar.muli v90 c128_i32
  let v161 : BitVec 32 := Scalar.addi v156 v160
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c64_i32 : BitVec 32 := 64#32
  let v165 : BitVec 32 := Scalar.muli v107 c64_i32
  let v166 : BitVec 32 := Scalar.addi v161 v165
  let c1_i32_61 : BitVec 32 := 1#32
  let v124 : BitVec 32 := Scalar.shrsi v46 c1_i32_61
  let c1_i32_62 : BitVec 32 := 1#32
  let v125 : BitVec 32 := Scalar.andi v124 c1_i32_62
  let c32_i32_95 : BitVec 32 := 32#32
  let v167 : BitVec 32 := Scalar.muli v125 c32_i32_95
  let v168 : BitVec 32 := Scalar.addi v166 v167
  let c1_i32_72 : BitVec 32 := 1#32
  let v142 : BitVec 32 := Scalar.shrsi v19 c1_i32_72
  let c1_i32_73 : BitVec 32 := 1#32
  let v143 : BitVec 32 := Scalar.andi v142 c1_i32_73
  let c16_i32 : BitVec 32 := 16#32
  let v172 : BitVec 32 := Scalar.muli v143 c16_i32
  let v173 : BitVec 32 := Scalar.addi v168 v172
  let c16_i32_118 : BitVec 32 := 16#32
  let v207 : BitVec 32 := Scalar.muli v143 c16_i32_118
  let v208 : BitVec 32 := Scalar.subi v173 v207
  let c32_i32_122 : BitVec 32 := 32#32
  let v213 : BitVec 32 := Scalar.muli v125 c32_i32_122
  let v214 : BitVec 32 := Scalar.subi v208 v213
  let c1_i32_124 : BitVec 32 := 1#32
  let c2_i32_123 : BitVec 32 := 2#32
  let v215 : BitVec 32 := Scalar.muli c2_i32_123 v107
  let v216 : BitVec 32 := Scalar.subi c1_i32_124 v215
  let c64_i32_125 : BitVec 32 := 64#32
  let v217 : BitVec 32 := Scalar.muli v216 c64_i32_125
  let v218 : BitVec 32 := Scalar.addi v214 v217
  let c1_i32_801 : BitVec 32 := 1#32
  let v1269 : BitVec 32 := Scalar.subi c1_i32_801 v125
  let c32_i32_802 : BitVec 32 := 32#32
  let v1270 : BitVec 32 := Scalar.muli v1269 c32_i32_802
  let v1271 : BitVec 32 := Scalar.addi v218 v1270
  v1271
def k0_off47 (d0 : Dev nD) : Fin 2 → Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32 : BitVec 32 := 256#32
  let v155 : BitVec 32 := Scalar.muli v57 c256_i32
  let v156 : BitVec 32 := Scalar.addi c0_i32_89 v155
  let c1_i32_41 : BitVec 32 := 1#32
  let v90 : BitVec 32 := Scalar.andi v46 c1_i32_41
  let c128_i32 : BitVec 32 := 128#32
  let v160 : BitVec 32 := Scalar.muli v90 c128_i32
  let v161 : BitVec 32 := Scalar.addi v156 v160
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c64_i32 : BitVec 32 := 64#32
  let v165 : BitVec 32 := Scalar.muli v107 c64_i32
  let v166 : BitVec 32 := Scalar.addi v161 v165
  let c1_i32_61 : BitVec 32 := 1#32
  let v124 : BitVec 32 := Scalar.shrsi v46 c1_i32_61
  let c1_i32_62 : BitVec 32 := 1#32
  let v125 : BitVec 32 := Scalar.andi v124 c1_i32_62
  let c32_i32_95 : BitVec 32 := 32#32
  let v167 : BitVec 32 := Scalar.muli v125 c32_i32_95
  let v168 : BitVec 32 := Scalar.addi v166 v167
  let c1_i32_72 : BitVec 32 := 1#32
  let v142 : BitVec 32 := Scalar.shrsi v19 c1_i32_72
  let c1_i32_73 : BitVec 32 := 1#32
  let v143 : BitVec 32 := Scalar.andi v142 c1_i32_73
  let c16_i32 : BitVec 32 := 16#32
  let v172 : BitVec 32 := Scalar.muli v143 c16_i32
  let v173 : BitVec 32 := Scalar.addi v168 v172
  let c16_i32_118 : BitVec 32 := 16#32
  let v207 : BitVec 32 := Scalar.muli v143 c16_i32_118
  let v208 : BitVec 32 := Scalar.subi v173 v207
  let c32_i32_122 : BitVec 32 := 32#32
  let v213 : BitVec 32 := Scalar.muli v125 c32_i32_122
  let v214 : BitVec 32 := Scalar.subi v208 v213
  let c1_i32_124 : BitVec 32 := 1#32
  let c2_i32_123 : BitVec 32 := 2#32
  let v215 : BitVec 32 := Scalar.muli c2_i32_123 v107
  let v216 : BitVec 32 := Scalar.subi c1_i32_124 v215
  let c64_i32_125 : BitVec 32 := 64#32
  let v217 : BitVec 32 := Scalar.muli v216 c64_i32_125
  let v218 : BitVec 32 := Scalar.addi v214 v217
  let c1_i32_801 : BitVec 32 := 1#32
  let v1269 : BitVec 32 := Scalar.subi c1_i32_801 v125
  let c32_i32_802 : BitVec 32 := 32#32
  let v1270 : BitVec 32 := Scalar.muli v1269 c32_i32_802
  let v1271 : BitVec 32 := Scalar.addi v218 v1270
  let v1272 : BitVec 32 := v1271
  let v1273 : Index := Scalar.indexCast v1272
  let c0_803 : Index := 0#32
  ![v1273.toNat, 0]
def k0_dev44 (d0 : Dev nD) : Nat :=
  let c0_i32_808 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_33 : BitVec 32 := 8#32
  let v75 : BitVec 32 := Scalar.muli v19 c8_i32_33
  let c2_i32_34 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_32 : BitVec 32 := 1#32
  let v74 : BitVec 32 := Scalar.xori v46 c1_i32_32
  let v76 : BitVec 32 := Scalar.muli c2_i32_34 v74
  let v77 : BitVec 32 := Scalar.addi v75 v76
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v78 : BitVec 32 := Scalar.addi v57 v74
  let c2_i32_35 : BitVec 32 := 2#32
  let c0_i32_36 : BitVec 32 := 0#32
  let v79 : BitVec 1 := Scalar.cmpi .eq c2_i32_35 c0_i32_36
  let c1_i32_37 : BitVec 32 := 1#32
  let v80 : BitVec 32 := Scalar.select v79 c1_i32_37 c2_i32_35
  let v81 : BitVec 32 := Scalar.remsi v78 v80
  let c0_i32_39 : BitVec 32 := 0#32
  let v83 : BitVec 1 := Scalar.cmpi .slt v81 c0_i32_39
  let c0_i32_40 : BitVec 32 := 0#32
  let v84 : BitVec 1 := Scalar.cmpi .slt v80 c0_i32_40
  let v85 : BitVec 1 := Scalar.xori v83 v84
  let c0_i32_38 : BitVec 32 := 0#32
  let v82 : BitVec 1 := Scalar.cmpi .ne v81 c0_i32_38
  let v86 : BitVec 1 := Scalar.andi v85 v82
  let v87 : BitVec 32 := Scalar.addi v81 v80
  let v88 : BitVec 32 := Scalar.select v86 v87 v81
  let v89 : BitVec 32 := Scalar.addi v77 v88
  let c1_i32_807 : BitVec 32 := 1#32
  let v1280 : BitVec 32 := Scalar.muli v89 c1_i32_807
  let v1281 : BitVec 32 := Scalar.addi c0_i32_808 v1280
  v1281.toNat
def k0_mult52 (d0 : Dev nD) : BitVec 32 :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32 : BitVec 32 := 256#32
  let v155 : BitVec 32 := Scalar.muli v57 c256_i32
  let v156 : BitVec 32 := Scalar.addi c0_i32_89 v155
  let c1_i32_41 : BitVec 32 := 1#32
  let v90 : BitVec 32 := Scalar.andi v46 c1_i32_41
  let c128_i32 : BitVec 32 := 128#32
  let v160 : BitVec 32 := Scalar.muli v90 c128_i32
  let v161 : BitVec 32 := Scalar.addi v156 v160
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c64_i32 : BitVec 32 := 64#32
  let v165 : BitVec 32 := Scalar.muli v107 c64_i32
  let v166 : BitVec 32 := Scalar.addi v161 v165
  let c1_i32_61 : BitVec 32 := 1#32
  let v124 : BitVec 32 := Scalar.shrsi v46 c1_i32_61
  let c1_i32_62 : BitVec 32 := 1#32
  let v125 : BitVec 32 := Scalar.andi v124 c1_i32_62
  let c32_i32_95 : BitVec 32 := 32#32
  let v167 : BitVec 32 := Scalar.muli v125 c32_i32_95
  let v168 : BitVec 32 := Scalar.addi v166 v167
  let c1_i32_72 : BitVec 32 := 1#32
  let v142 : BitVec 32 := Scalar.shrsi v19 c1_i32_72
  let c1_i32_73 : BitVec 32 := 1#32
  let v143 : BitVec 32 := Scalar.andi v142 c1_i32_73
  let c16_i32 : BitVec 32 := 16#32
  let v172 : BitVec 32 := Scalar.muli v143 c16_i32
  let v173 : BitVec 32 := Scalar.addi v168 v172
  let c16_i32_118 : BitVec 32 := 16#32
  let v207 : BitVec 32 := Scalar.muli v143 c16_i32_118
  let v208 : BitVec 32 := Scalar.subi v173 v207
  let c32_i32_122 : BitVec 32 := 32#32
  let v213 : BitVec 32 := Scalar.muli v125 c32_i32_122
  let v214 : BitVec 32 := Scalar.subi v208 v213
  let c64_i32_126 : BitVec 32 := 64#32
  let v219 : BitVec 32 := Scalar.muli v107 c64_i32_126
  let v220 : BitVec 32 := Scalar.subi v214 v219
  v220
def k0_off48 (d0 : Dev nD) : Fin 2 → Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32 : BitVec 32 := 256#32
  let v155 : BitVec 32 := Scalar.muli v57 c256_i32
  let v156 : BitVec 32 := Scalar.addi c0_i32_89 v155
  let c1_i32_41 : BitVec 32 := 1#32
  let v90 : BitVec 32 := Scalar.andi v46 c1_i32_41
  let c128_i32 : BitVec 32 := 128#32
  let v160 : BitVec 32 := Scalar.muli v90 c128_i32
  let v161 : BitVec 32 := Scalar.addi v156 v160
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c64_i32 : BitVec 32 := 64#32
  let v165 : BitVec 32 := Scalar.muli v107 c64_i32
  let v166 : BitVec 32 := Scalar.addi v161 v165
  let c1_i32_61 : BitVec 32 := 1#32
  let v124 : BitVec 32 := Scalar.shrsi v46 c1_i32_61
  let c1_i32_62 : BitVec 32 := 1#32
  let v125 : BitVec 32 := Scalar.andi v124 c1_i32_62
  let c32_i32_95 : BitVec 32 := 32#32
  let v167 : BitVec 32 := Scalar.muli v125 c32_i32_95
  let v168 : BitVec 32 := Scalar.addi v166 v167
  let c1_i32_72 : BitVec 32 := 1#32
  let v142 : BitVec 32 := Scalar.shrsi v19 c1_i32_72
  let c1_i32_73 : BitVec 32 := 1#32
  let v143 : BitVec 32 := Scalar.andi v142 c1_i32_73
  let c16_i32 : BitVec 32 := 16#32
  let v172 : BitVec 32 := Scalar.muli v143 c16_i32
  let v173 : BitVec 32 := Scalar.addi v168 v172
  let c16_i32_118 : BitVec 32 := 16#32
  let v207 : BitVec 32 := Scalar.muli v143 c16_i32_118
  let v208 : BitVec 32 := Scalar.subi v173 v207
  let c32_i32_122 : BitVec 32 := 32#32
  let v213 : BitVec 32 := Scalar.muli v125 c32_i32_122
  let v214 : BitVec 32 := Scalar.subi v208 v213
  let c64_i32_126 : BitVec 32 := 64#32
  let v219 : BitVec 32 := Scalar.muli v107 c64_i32_126
  let v220 : BitVec 32 := Scalar.subi v214 v219
  let v1286 : BitVec 32 := v220
  let v1287 : Index := Scalar.indexCast v1286
  let c0_809 : Index := 0#32
  ![v1287.toNat, 0]
def k0_dev45 (d0 : Dev nD) : Nat :=
  let c0_i32_814 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_24 : BitVec 32 := 8#32
  let v59 : BitVec 32 := Scalar.muli v19 c8_i32_24
  let c2_i32_25 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v60 : BitVec 32 := Scalar.muli c2_i32_25 v46
  let v61 : BitVec 32 := Scalar.addi v59 v60
  let c1_i32_23 : BitVec 32 := 1#32
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v58 : BitVec 32 := Scalar.subi c1_i32_23 v57
  let v62 : BitVec 32 := Scalar.addi v58 v46
  let c2_i32_26 : BitVec 32 := 2#32
  let c0_i32_27 : BitVec 32 := 0#32
  let v63 : BitVec 1 := Scalar.cmpi .eq c2_i32_26 c0_i32_27
  let c1_i32_28 : BitVec 32 := 1#32
  let v64 : BitVec 32 := Scalar.select v63 c1_i32_28 c2_i32_26
  let v65 : BitVec 32 := Scalar.remsi v62 v64
  let c0_i32_30 : BitVec 32 := 0#32
  let v67 : BitVec 1 := Scalar.cmpi .slt v65 c0_i32_30
  let c0_i32_31 : BitVec 32 := 0#32
  let v68 : BitVec 1 := Scalar.cmpi .slt v64 c0_i32_31
  let v69 : BitVec 1 := Scalar.xori v67 v68
  let c0_i32_29 : BitVec 32 := 0#32
  let v66 : BitVec 1 := Scalar.cmpi .ne v65 c0_i32_29
  let v70 : BitVec 1 := Scalar.andi v69 v66
  let v71 : BitVec 32 := Scalar.addi v65 v64
  let v72 : BitVec 32 := Scalar.select v70 v71 v65
  let v73 : BitVec 32 := Scalar.addi v61 v72
  let c1_i32_813 : BitVec 32 := 1#32
  let v1294 : BitVec 32 := Scalar.muli v73 c1_i32_813
  let v1295 : BitVec 32 := Scalar.addi c0_i32_814 v1294
  v1295.toNat
def k0_mult53 (d0 : Dev nD) : BitVec 32 :=
  let c512_i32 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_41 : BitVec 32 := 1#32
  let v90 : BitVec 32 := Scalar.andi v46 c1_i32_41
  let c256_i32_134 : BitVec 32 := 256#32
  let v231 : BitVec 32 := Scalar.muli v90 c256_i32_134
  let v232 : BitVec 32 := Scalar.addi c512_i32 v231
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c128_i32_138 : BitVec 32 := 128#32
  let v236 : BitVec 32 := Scalar.muli v107 c128_i32_138
  let v237 : BitVec 32 := Scalar.addi v232 v236
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c64_i32_141 : BitVec 32 := 64#32
  let v241 : BitVec 32 := Scalar.muli v57 c64_i32_141
  let v242 : BitVec 32 := Scalar.addi v237 v241
  let c1_i32_72 : BitVec 32 := 1#32
  let v142 : BitVec 32 := Scalar.shrsi v19 c1_i32_72
  let c1_i32_73 : BitVec 32 := 1#32
  let v143 : BitVec 32 := Scalar.andi v142 c1_i32_73
  let c32_i32_142 : BitVec 32 := 32#32
  let v243 : BitVec 32 := Scalar.muli v143 c32_i32_142
  let v244 : BitVec 32 := Scalar.addi v242 v243
  let c1_i32_61 : BitVec 32 := 1#32
  let v124 : BitVec 32 := Scalar.shrsi v46 c1_i32_61
  let c1_i32_62 : BitVec 32 := 1#32
  let v125 : BitVec 32 := Scalar.andi v124 c1_i32_62
  let c16_i32_145 : BitVec 32 := 16#32
  let v248 : BitVec 32 := Scalar.muli v125 c16_i32_145
  let v249 : BitVec 32 := Scalar.addi v244 v248
  let c16_i32_166 : BitVec 32 := 16#32
  let v283 : BitVec 32 := Scalar.muli v125 c16_i32_166
  let v284 : BitVec 32 := Scalar.subi v249 v283
  let c32_i32_170 : BitVec 32 := 32#32
  let v289 : BitVec 32 := Scalar.muli v143 c32_i32_170
  let v290 : BitVec 32 := Scalar.subi v284 v289
  let c1_i32_172 : BitVec 32 := 1#32
  let c2_i32_171 : BitVec 32 := 2#32
  let v291 : BitVec 32 := Scalar.muli c2_i32_171 v57
  let v292 : BitVec 32 := Scalar.subi c1_i32_172 v291
  let c64_i32_173 : BitVec 32 := 64#32
  let v293 : BitVec 32 := Scalar.muli v292 c64_i32_173
  let v294 : BitVec 32 := Scalar.addi v290 v293
  let c1_i32_815 : BitVec 32 := 1#32
  let v1300 : BitVec 32 := Scalar.subi c1_i32_815 v143
  let c32_i32_816 : BitVec 32 := 32#32
  let v1301 : BitVec 32 := Scalar.muli v1300 c32_i32_816
  let v1302 : BitVec 32 := Scalar.addi v294 v1301
  let c16_i32_824 : BitVec 32 := 16#32
  let v1309 : BitVec 32 := Scalar.muli v125 c16_i32_824
  let v1310 : BitVec 32 := Scalar.addi v1302 v1309
  v1310
def k0_off49 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_41 : BitVec 32 := 1#32
  let v90 : BitVec 32 := Scalar.andi v46 c1_i32_41
  let c256_i32_134 : BitVec 32 := 256#32
  let v231 : BitVec 32 := Scalar.muli v90 c256_i32_134
  let v232 : BitVec 32 := Scalar.addi c512_i32 v231
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c128_i32_138 : BitVec 32 := 128#32
  let v236 : BitVec 32 := Scalar.muli v107 c128_i32_138
  let v237 : BitVec 32 := Scalar.addi v232 v236
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c64_i32_141 : BitVec 32 := 64#32
  let v241 : BitVec 32 := Scalar.muli v57 c64_i32_141
  let v242 : BitVec 32 := Scalar.addi v237 v241
  let c1_i32_72 : BitVec 32 := 1#32
  let v142 : BitVec 32 := Scalar.shrsi v19 c1_i32_72
  let c1_i32_73 : BitVec 32 := 1#32
  let v143 : BitVec 32 := Scalar.andi v142 c1_i32_73
  let c32_i32_142 : BitVec 32 := 32#32
  let v243 : BitVec 32 := Scalar.muli v143 c32_i32_142
  let v244 : BitVec 32 := Scalar.addi v242 v243
  let c1_i32_61 : BitVec 32 := 1#32
  let v124 : BitVec 32 := Scalar.shrsi v46 c1_i32_61
  let c1_i32_62 : BitVec 32 := 1#32
  let v125 : BitVec 32 := Scalar.andi v124 c1_i32_62
  let c16_i32_145 : BitVec 32 := 16#32
  let v248 : BitVec 32 := Scalar.muli v125 c16_i32_145
  let v249 : BitVec 32 := Scalar.addi v244 v248
  let c16_i32_166 : BitVec 32 := 16#32
  let v283 : BitVec 32 := Scalar.muli v125 c16_i32_166
  let v284 : BitVec 32 := Scalar.subi v249 v283
  let c32_i32_170 : BitVec 32 := 32#32
  let v289 : BitVec 32 := Scalar.muli v143 c32_i32_170
  let v290 : BitVec 32 := Scalar.subi v284 v289
  let c1_i32_172 : BitVec 32 := 1#32
  let c2_i32_171 : BitVec 32 := 2#32
  let v291 : BitVec 32 := Scalar.muli c2_i32_171 v57
  let v292 : BitVec 32 := Scalar.subi c1_i32_172 v291
  let c64_i32_173 : BitVec 32 := 64#32
  let v293 : BitVec 32 := Scalar.muli v292 c64_i32_173
  let v294 : BitVec 32 := Scalar.addi v290 v293
  let c1_i32_815 : BitVec 32 := 1#32
  let v1300 : BitVec 32 := Scalar.subi c1_i32_815 v143
  let c32_i32_816 : BitVec 32 := 32#32
  let v1301 : BitVec 32 := Scalar.muli v1300 c32_i32_816
  let v1302 : BitVec 32 := Scalar.addi v294 v1301
  let c16_i32_824 : BitVec 32 := 16#32
  let v1309 : BitVec 32 := Scalar.muli v125 c16_i32_824
  let v1310 : BitVec 32 := Scalar.addi v1302 v1309
  let v1313 : BitVec 32 := v1310
  let v1314 : Index := Scalar.indexCast v1313
  let c0_827 : Index := 0#32
  ![v1314.toNat, 0]
def k0_mult54 (d0 : Dev nD) : BitVec 32 :=
  let c512_i32 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_41 : BitVec 32 := 1#32
  let v90 : BitVec 32 := Scalar.andi v46 c1_i32_41
  let c256_i32_134 : BitVec 32 := 256#32
  let v231 : BitVec 32 := Scalar.muli v90 c256_i32_134
  let v232 : BitVec 32 := Scalar.addi c512_i32 v231
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c128_i32_138 : BitVec 32 := 128#32
  let v236 : BitVec 32 := Scalar.muli v107 c128_i32_138
  let v237 : BitVec 32 := Scalar.addi v232 v236
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c64_i32_141 : BitVec 32 := 64#32
  let v241 : BitVec 32 := Scalar.muli v57 c64_i32_141
  let v242 : BitVec 32 := Scalar.addi v237 v241
  let c1_i32_72 : BitVec 32 := 1#32
  let v142 : BitVec 32 := Scalar.shrsi v19 c1_i32_72
  let c1_i32_73 : BitVec 32 := 1#32
  let v143 : BitVec 32 := Scalar.andi v142 c1_i32_73
  let c32_i32_142 : BitVec 32 := 32#32
  let v243 : BitVec 32 := Scalar.muli v143 c32_i32_142
  let v244 : BitVec 32 := Scalar.addi v242 v243
  let c1_i32_61 : BitVec 32 := 1#32
  let v124 : BitVec 32 := Scalar.shrsi v46 c1_i32_61
  let c1_i32_62 : BitVec 32 := 1#32
  let v125 : BitVec 32 := Scalar.andi v124 c1_i32_62
  let c16_i32_145 : BitVec 32 := 16#32
  let v248 : BitVec 32 := Scalar.muli v125 c16_i32_145
  let v249 : BitVec 32 := Scalar.addi v244 v248
  let c16_i32_166 : BitVec 32 := 16#32
  let v283 : BitVec 32 := Scalar.muli v125 c16_i32_166
  let v284 : BitVec 32 := Scalar.subi v249 v283
  let c32_i32_170 : BitVec 32 := 32#32
  let v289 : BitVec 32 := Scalar.muli v143 c32_i32_170
  let v290 : BitVec 32 := Scalar.subi v284 v289
  let c1_i32_172 : BitVec 32 := 1#32
  let c2_i32_171 : BitVec 32 := 2#32
  let v291 : BitVec 32 := Scalar.muli c2_i32_171 v57
  let v292 : BitVec 32 := Scalar.subi c1_i32_172 v291
  let c64_i32_173 : BitVec 32 := 64#32
  let v293 : BitVec 32 := Scalar.muli v292 c64_i32_173
  let v294 : BitVec 32 := Scalar.addi v290 v293
  let c1_i32_815 : BitVec 32 := 1#32
  let v1300 : BitVec 32 := Scalar.subi c1_i32_815 v143
  let c32_i32_816 : BitVec 32 := 32#32
  let v1301 : BitVec 32 := Scalar.muli v1300 c32_i32_816
  let v1302 : BitVec 32 := Scalar.addi v294 v1301
  let c1_i32_835 : BitVec 32 := 1#32
  let v1322 : BitVec 32 := Scalar.subi c1_i32_835 v125
  let c16_i32_836 : BitVec 32 := 16#32
  let v1323 : BitVec 32 := Scalar.muli v1322 c16_i32_836
  let v1324 : BitVec 32 := Scalar.addi v1302 v1323
  v1324
def k0_off50 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_41 : BitVec 32 := 1#32
  let v90 : BitVec 32 := Scalar.andi v46 c1_i32_41
  let c256_i32_134 : BitVec 32 := 256#32
  let v231 : BitVec 32 := Scalar.muli v90 c256_i32_134
  let v232 : BitVec 32 := Scalar.addi c512_i32 v231
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c128_i32_138 : BitVec 32 := 128#32
  let v236 : BitVec 32 := Scalar.muli v107 c128_i32_138
  let v237 : BitVec 32 := Scalar.addi v232 v236
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c64_i32_141 : BitVec 32 := 64#32
  let v241 : BitVec 32 := Scalar.muli v57 c64_i32_141
  let v242 : BitVec 32 := Scalar.addi v237 v241
  let c1_i32_72 : BitVec 32 := 1#32
  let v142 : BitVec 32 := Scalar.shrsi v19 c1_i32_72
  let c1_i32_73 : BitVec 32 := 1#32
  let v143 : BitVec 32 := Scalar.andi v142 c1_i32_73
  let c32_i32_142 : BitVec 32 := 32#32
  let v243 : BitVec 32 := Scalar.muli v143 c32_i32_142
  let v244 : BitVec 32 := Scalar.addi v242 v243
  let c1_i32_61 : BitVec 32 := 1#32
  let v124 : BitVec 32 := Scalar.shrsi v46 c1_i32_61
  let c1_i32_62 : BitVec 32 := 1#32
  let v125 : BitVec 32 := Scalar.andi v124 c1_i32_62
  let c16_i32_145 : BitVec 32 := 16#32
  let v248 : BitVec 32 := Scalar.muli v125 c16_i32_145
  let v249 : BitVec 32 := Scalar.addi v244 v248
  let c16_i32_166 : BitVec 32 := 16#32
  let v283 : BitVec 32 := Scalar.muli v125 c16_i32_166
  let v284 : BitVec 32 := Scalar.subi v249 v283
  let c32_i32_170 : BitVec 32 := 32#32
  let v289 : BitVec 32 := Scalar.muli v143 c32_i32_170
  let v290 : BitVec 32 := Scalar.subi v284 v289
  let c1_i32_172 : BitVec 32 := 1#32
  let c2_i32_171 : BitVec 32 := 2#32
  let v291 : BitVec 32 := Scalar.muli c2_i32_171 v57
  let v292 : BitVec 32 := Scalar.subi c1_i32_172 v291
  let c64_i32_173 : BitVec 32 := 64#32
  let v293 : BitVec 32 := Scalar.muli v292 c64_i32_173
  let v294 : BitVec 32 := Scalar.addi v290 v293
  let c1_i32_815 : BitVec 32 := 1#32
  let v1300 : BitVec 32 := Scalar.subi c1_i32_815 v143
  let c32_i32_816 : BitVec 32 := 32#32
  let v1301 : BitVec 32 := Scalar.muli v1300 c32_i32_816
  let v1302 : BitVec 32 := Scalar.addi v294 v1301
  let c1_i32_835 : BitVec 32 := 1#32
  let v1322 : BitVec 32 := Scalar.subi c1_i32_835 v125
  let c16_i32_836 : BitVec 32 := 16#32
  let v1323 : BitVec 32 := Scalar.muli v1322 c16_i32_836
  let v1324 : BitVec 32 := Scalar.addi v1302 v1323
  let v1327 : BitVec 32 := v1324
  let v1328 : Index := Scalar.indexCast v1327
  let c0_839 : Index := 0#32
  ![v1328.toNat, 0]
def k0_mult55 (d0 : Dev nD) : BitVec 32 :=
  let c512_i32 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_41 : BitVec 32 := 1#32
  let v90 : BitVec 32 := Scalar.andi v46 c1_i32_41
  let c256_i32_134 : BitVec 32 := 256#32
  let v231 : BitVec 32 := Scalar.muli v90 c256_i32_134
  let v232 : BitVec 32 := Scalar.addi c512_i32 v231
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c128_i32_138 : BitVec 32 := 128#32
  let v236 : BitVec 32 := Scalar.muli v107 c128_i32_138
  let v237 : BitVec 32 := Scalar.addi v232 v236
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c64_i32_141 : BitVec 32 := 64#32
  let v241 : BitVec 32 := Scalar.muli v57 c64_i32_141
  let v242 : BitVec 32 := Scalar.addi v237 v241
  let c1_i32_72 : BitVec 32 := 1#32
  let v142 : BitVec 32 := Scalar.shrsi v19 c1_i32_72
  let c1_i32_73 : BitVec 32 := 1#32
  let v143 : BitVec 32 := Scalar.andi v142 c1_i32_73
  let c32_i32_142 : BitVec 32 := 32#32
  let v243 : BitVec 32 := Scalar.muli v143 c32_i32_142
  let v244 : BitVec 32 := Scalar.addi v242 v243
  let c1_i32_61 : BitVec 32 := 1#32
  let v124 : BitVec 32 := Scalar.shrsi v46 c1_i32_61
  let c1_i32_62 : BitVec 32 := 1#32
  let v125 : BitVec 32 := Scalar.andi v124 c1_i32_62
  let c16_i32_145 : BitVec 32 := 16#32
  let v248 : BitVec 32 := Scalar.muli v125 c16_i32_145
  let v249 : BitVec 32 := Scalar.addi v244 v248
  let c16_i32_166 : BitVec 32 := 16#32
  let v283 : BitVec 32 := Scalar.muli v125 c16_i32_166
  let v284 : BitVec 32 := Scalar.subi v249 v283
  let c32_i32_170 : BitVec 32 := 32#32
  let v289 : BitVec 32 := Scalar.muli v143 c32_i32_170
  let v290 : BitVec 32 := Scalar.subi v284 v289
  let c1_i32_172 : BitVec 32 := 1#32
  let c2_i32_171 : BitVec 32 := 2#32
  let v291 : BitVec 32 := Scalar.muli c2_i32_171 v57
  let v292 : BitVec 32 := Scalar.subi c1_i32_172 v291
  let c64_i32_173 : BitVec 32 := 64#32
  let v293 : BitVec 32 := Scalar.muli v292 c64_i32_173
  let v294 : BitVec 32 := Scalar.addi v290 v293
  let c1_i32_840 : BitVec 32 := 1#32
  let v1330 : BitVec 32 := Scalar.subi c1_i32_840 v143
  let c32_i32_841 : BitVec 32 := 32#32
  let v1331 : BitVec 32 := Scalar.muli v1330 c32_i32_841
  let v1332 : BitVec 32 := Scalar.addi v294 v1331
  v1332
def k0_off51 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_41 : BitVec 32 := 1#32
  let v90 : BitVec 32 := Scalar.andi v46 c1_i32_41
  let c256_i32_134 : BitVec 32 := 256#32
  let v231 : BitVec 32 := Scalar.muli v90 c256_i32_134
  let v232 : BitVec 32 := Scalar.addi c512_i32 v231
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c128_i32_138 : BitVec 32 := 128#32
  let v236 : BitVec 32 := Scalar.muli v107 c128_i32_138
  let v237 : BitVec 32 := Scalar.addi v232 v236
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c64_i32_141 : BitVec 32 := 64#32
  let v241 : BitVec 32 := Scalar.muli v57 c64_i32_141
  let v242 : BitVec 32 := Scalar.addi v237 v241
  let c1_i32_72 : BitVec 32 := 1#32
  let v142 : BitVec 32 := Scalar.shrsi v19 c1_i32_72
  let c1_i32_73 : BitVec 32 := 1#32
  let v143 : BitVec 32 := Scalar.andi v142 c1_i32_73
  let c32_i32_142 : BitVec 32 := 32#32
  let v243 : BitVec 32 := Scalar.muli v143 c32_i32_142
  let v244 : BitVec 32 := Scalar.addi v242 v243
  let c1_i32_61 : BitVec 32 := 1#32
  let v124 : BitVec 32 := Scalar.shrsi v46 c1_i32_61
  let c1_i32_62 : BitVec 32 := 1#32
  let v125 : BitVec 32 := Scalar.andi v124 c1_i32_62
  let c16_i32_145 : BitVec 32 := 16#32
  let v248 : BitVec 32 := Scalar.muli v125 c16_i32_145
  let v249 : BitVec 32 := Scalar.addi v244 v248
  let c16_i32_166 : BitVec 32 := 16#32
  let v283 : BitVec 32 := Scalar.muli v125 c16_i32_166
  let v284 : BitVec 32 := Scalar.subi v249 v283
  let c32_i32_170 : BitVec 32 := 32#32
  let v289 : BitVec 32 := Scalar.muli v143 c32_i32_170
  let v290 : BitVec 32 := Scalar.subi v284 v289
  let c1_i32_172 : BitVec 32 := 1#32
  let c2_i32_171 : BitVec 32 := 2#32
  let v291 : BitVec 32 := Scalar.muli c2_i32_171 v57
  let v292 : BitVec 32 := Scalar.subi c1_i32_172 v291
  let c64_i32_173 : BitVec 32 := 64#32
  let v293 : BitVec 32 := Scalar.muli v292 c64_i32_173
  let v294 : BitVec 32 := Scalar.addi v290 v293
  let c1_i32_840 : BitVec 32 := 1#32
  let v1330 : BitVec 32 := Scalar.subi c1_i32_840 v143
  let c32_i32_841 : BitVec 32 := 32#32
  let v1331 : BitVec 32 := Scalar.muli v1330 c32_i32_841
  let v1332 : BitVec 32 := Scalar.addi v294 v1331
  let v1333 : BitVec 32 := v1332
  let v1334 : Index := Scalar.indexCast v1333
  let c0_842 : Index := 0#32
  ![v1334.toNat, 0]
def k0_dev46 (d0 : Dev nD) : Nat :=
  let c0_i32_847 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_42 : BitVec 32 := 1#32
  let v91 : BitVec 32 := Scalar.xori v19 c1_i32_42
  let c8_i32_43 : BitVec 32 := 8#32
  let v92 : BitVec 32 := Scalar.muli v91 c8_i32_43
  let c2_i32_44 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v93 : BitVec 32 := Scalar.muli c2_i32_44 v46
  let v94 : BitVec 32 := Scalar.addi v92 v93
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v95 : BitVec 32 := Scalar.addi v57 v46
  let c2_i32_45 : BitVec 32 := 2#32
  let c0_i32_46 : BitVec 32 := 0#32
  let v96 : BitVec 1 := Scalar.cmpi .eq c2_i32_45 c0_i32_46
  let c1_i32_47 : BitVec 32 := 1#32
  let v97 : BitVec 32 := Scalar.select v96 c1_i32_47 c2_i32_45
  let v98 : BitVec 32 := Scalar.remsi v95 v97
  let c0_i32_49 : BitVec 32 := 0#32
  let v100 : BitVec 1 := Scalar.cmpi .slt v98 c0_i32_49
  let c0_i32_50 : BitVec 32 := 0#32
  let v101 : BitVec 1 := Scalar.cmpi .slt v97 c0_i32_50
  let v102 : BitVec 1 := Scalar.xori v100 v101
  let c0_i32_48 : BitVec 32 := 0#32
  let v99 : BitVec 1 := Scalar.cmpi .ne v98 c0_i32_48
  let v103 : BitVec 1 := Scalar.andi v102 v99
  let v104 : BitVec 32 := Scalar.addi v98 v97
  let v105 : BitVec 32 := Scalar.select v103 v104 v98
  let v106 : BitVec 32 := Scalar.addi v94 v105
  let c1_i32_846 : BitVec 32 := 1#32
  let v1341 : BitVec 32 := Scalar.muli v106 c1_i32_846
  let v1342 : BitVec 32 := Scalar.addi c0_i32_847 v1341
  v1342.toNat
def k0_mult56 (d0 : Dev nD) : BitVec 32 :=
  let c512_i32 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_41 : BitVec 32 := 1#32
  let v90 : BitVec 32 := Scalar.andi v46 c1_i32_41
  let c256_i32_134 : BitVec 32 := 256#32
  let v231 : BitVec 32 := Scalar.muli v90 c256_i32_134
  let v232 : BitVec 32 := Scalar.addi c512_i32 v231
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c128_i32_138 : BitVec 32 := 128#32
  let v236 : BitVec 32 := Scalar.muli v107 c128_i32_138
  let v237 : BitVec 32 := Scalar.addi v232 v236
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c64_i32_141 : BitVec 32 := 64#32
  let v241 : BitVec 32 := Scalar.muli v57 c64_i32_141
  let v242 : BitVec 32 := Scalar.addi v237 v241
  let c1_i32_72 : BitVec 32 := 1#32
  let v142 : BitVec 32 := Scalar.shrsi v19 c1_i32_72
  let c1_i32_73 : BitVec 32 := 1#32
  let v143 : BitVec 32 := Scalar.andi v142 c1_i32_73
  let c32_i32_142 : BitVec 32 := 32#32
  let v243 : BitVec 32 := Scalar.muli v143 c32_i32_142
  let v244 : BitVec 32 := Scalar.addi v242 v243
  let c1_i32_61 : BitVec 32 := 1#32
  let v124 : BitVec 32 := Scalar.shrsi v46 c1_i32_61
  let c1_i32_62 : BitVec 32 := 1#32
  let v125 : BitVec 32 := Scalar.andi v124 c1_i32_62
  let c16_i32_145 : BitVec 32 := 16#32
  let v248 : BitVec 32 := Scalar.muli v125 c16_i32_145
  let v249 : BitVec 32 := Scalar.addi v244 v248
  let c16_i32_166 : BitVec 32 := 16#32
  let v283 : BitVec 32 := Scalar.muli v125 c16_i32_166
  let v284 : BitVec 32 := Scalar.subi v249 v283
  let c32_i32_170 : BitVec 32 := 32#32
  let v289 : BitVec 32 := Scalar.muli v143 c32_i32_170
  let v290 : BitVec 32 := Scalar.subi v284 v289
  let c64_i32_174 : BitVec 32 := 64#32
  let v295 : BitVec 32 := Scalar.muli v57 c64_i32_174
  let v296 : BitVec 32 := Scalar.subi v290 v295
  v296
def k0_off52 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_41 : BitVec 32 := 1#32
  let v90 : BitVec 32 := Scalar.andi v46 c1_i32_41
  let c256_i32_134 : BitVec 32 := 256#32
  let v231 : BitVec 32 := Scalar.muli v90 c256_i32_134
  let v232 : BitVec 32 := Scalar.addi c512_i32 v231
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c128_i32_138 : BitVec 32 := 128#32
  let v236 : BitVec 32 := Scalar.muli v107 c128_i32_138
  let v237 : BitVec 32 := Scalar.addi v232 v236
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c64_i32_141 : BitVec 32 := 64#32
  let v241 : BitVec 32 := Scalar.muli v57 c64_i32_141
  let v242 : BitVec 32 := Scalar.addi v237 v241
  let c1_i32_72 : BitVec 32 := 1#32
  let v142 : BitVec 32 := Scalar.shrsi v19 c1_i32_72
  let c1_i32_73 : BitVec 32 := 1#32
  let v143 : BitVec 32 := Scalar.andi v142 c1_i32_73
  let c32_i32_142 : BitVec 32 := 32#32
  let v243 : BitVec 32 := Scalar.muli v143 c32_i32_142
  let v244 : BitVec 32 := Scalar.addi v242 v243
  let c1_i32_61 : BitVec 32 := 1#32
  let v124 : BitVec 32 := Scalar.shrsi v46 c1_i32_61
  let c1_i32_62 : BitVec 32 := 1#32
  let v125 : BitVec 32 := Scalar.andi v124 c1_i32_62
  let c16_i32_145 : BitVec 32 := 16#32
  let v248 : BitVec 32 := Scalar.muli v125 c16_i32_145
  let v249 : BitVec 32 := Scalar.addi v244 v248
  let c16_i32_166 : BitVec 32 := 16#32
  let v283 : BitVec 32 := Scalar.muli v125 c16_i32_166
  let v284 : BitVec 32 := Scalar.subi v249 v283
  let c32_i32_170 : BitVec 32 := 32#32
  let v289 : BitVec 32 := Scalar.muli v143 c32_i32_170
  let v290 : BitVec 32 := Scalar.subi v284 v289
  let c64_i32_174 : BitVec 32 := 64#32
  let v295 : BitVec 32 := Scalar.muli v57 c64_i32_174
  let v296 : BitVec 32 := Scalar.subi v290 v295
  let v1347 : BitVec 32 := v296
  let v1348 : Index := Scalar.indexCast v1347
  let c0_848 : Index := 0#32
  ![v1348.toNat, 0]
def k0_dev47 (d0 : Dev nD) : Nat :=
  let c0_i32_853 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_33 : BitVec 32 := 8#32
  let v75 : BitVec 32 := Scalar.muli v19 c8_i32_33
  let c2_i32_34 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_32 : BitVec 32 := 1#32
  let v74 : BitVec 32 := Scalar.xori v46 c1_i32_32
  let v76 : BitVec 32 := Scalar.muli c2_i32_34 v74
  let v77 : BitVec 32 := Scalar.addi v75 v76
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v78 : BitVec 32 := Scalar.addi v57 v74
  let c2_i32_35 : BitVec 32 := 2#32
  let c0_i32_36 : BitVec 32 := 0#32
  let v79 : BitVec 1 := Scalar.cmpi .eq c2_i32_35 c0_i32_36
  let c1_i32_37 : BitVec 32 := 1#32
  let v80 : BitVec 32 := Scalar.select v79 c1_i32_37 c2_i32_35
  let v81 : BitVec 32 := Scalar.remsi v78 v80
  let c0_i32_39 : BitVec 32 := 0#32
  let v83 : BitVec 1 := Scalar.cmpi .slt v81 c0_i32_39
  let c0_i32_40 : BitVec 32 := 0#32
  let v84 : BitVec 1 := Scalar.cmpi .slt v80 c0_i32_40
  let v85 : BitVec 1 := Scalar.xori v83 v84
  let c0_i32_38 : BitVec 32 := 0#32
  let v82 : BitVec 1 := Scalar.cmpi .ne v81 c0_i32_38
  let v86 : BitVec 1 := Scalar.andi v85 v82
  let v87 : BitVec 32 := Scalar.addi v81 v80
  let v88 : BitVec 32 := Scalar.select v86 v87 v81
  let v89 : BitVec 32 := Scalar.addi v77 v88
  let c1_i32_852 : BitVec 32 := 1#32
  let v1355 : BitVec 32 := Scalar.muli v89 c1_i32_852
  let v1356 : BitVec 32 := Scalar.addi c0_i32_853 v1355
  v1356.toNat
def k0_dev48 (d0 : Dev nD) : Nat :=
  let c0_i32_863 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_24 : BitVec 32 := 8#32
  let v59 : BitVec 32 := Scalar.muli v19 c8_i32_24
  let c2_i32_25 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v60 : BitVec 32 := Scalar.muli c2_i32_25 v46
  let v61 : BitVec 32 := Scalar.addi v59 v60
  let c1_i32_23 : BitVec 32 := 1#32
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v58 : BitVec 32 := Scalar.subi c1_i32_23 v57
  let v62 : BitVec 32 := Scalar.addi v58 v46
  let c2_i32_26 : BitVec 32 := 2#32
  let c0_i32_27 : BitVec 32 := 0#32
  let v63 : BitVec 1 := Scalar.cmpi .eq c2_i32_26 c0_i32_27
  let c1_i32_28 : BitVec 32 := 1#32
  let v64 : BitVec 32 := Scalar.select v63 c1_i32_28 c2_i32_26
  let v65 : BitVec 32 := Scalar.remsi v62 v64
  let c0_i32_30 : BitVec 32 := 0#32
  let v67 : BitVec 1 := Scalar.cmpi .slt v65 c0_i32_30
  let c0_i32_31 : BitVec 32 := 0#32
  let v68 : BitVec 1 := Scalar.cmpi .slt v64 c0_i32_31
  let v69 : BitVec 1 := Scalar.xori v67 v68
  let c0_i32_29 : BitVec 32 := 0#32
  let v66 : BitVec 1 := Scalar.cmpi .ne v65 c0_i32_29
  let v70 : BitVec 1 := Scalar.andi v69 v66
  let v71 : BitVec 32 := Scalar.addi v65 v64
  let v72 : BitVec 32 := Scalar.select v70 v71 v65
  let v73 : BitVec 32 := Scalar.addi v61 v72
  let c1_i32_862 : BitVec 32 := 1#32
  let v1367 : BitVec 32 := Scalar.muli v73 c1_i32_862
  let v1368 : BitVec 32 := Scalar.addi c0_i32_863 v1367
  v1368.toNat
def k0_mult57 (d0 : Dev nD) : BitVec 32 :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32 : BitVec 32 := 256#32
  let v155 : BitVec 32 := Scalar.muli v57 c256_i32
  let v156 : BitVec 32 := Scalar.addi c0_i32_89 v155
  let c1_i32_41 : BitVec 32 := 1#32
  let v90 : BitVec 32 := Scalar.andi v46 c1_i32_41
  let c128_i32 : BitVec 32 := 128#32
  let v160 : BitVec 32 := Scalar.muli v90 c128_i32
  let v161 : BitVec 32 := Scalar.addi v156 v160
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c64_i32 : BitVec 32 := 64#32
  let v165 : BitVec 32 := Scalar.muli v107 c64_i32
  let v166 : BitVec 32 := Scalar.addi v161 v165
  let c1_i32_61 : BitVec 32 := 1#32
  let v124 : BitVec 32 := Scalar.shrsi v46 c1_i32_61
  let c1_i32_62 : BitVec 32 := 1#32
  let v125 : BitVec 32 := Scalar.andi v124 c1_i32_62
  let c32_i32_95 : BitVec 32 := 32#32
  let v167 : BitVec 32 := Scalar.muli v125 c32_i32_95
  let v168 : BitVec 32 := Scalar.addi v166 v167
  let c1_i32_72 : BitVec 32 := 1#32
  let v142 : BitVec 32 := Scalar.shrsi v19 c1_i32_72
  let c1_i32_73 : BitVec 32 := 1#32
  let v143 : BitVec 32 := Scalar.andi v142 c1_i32_73
  let c16_i32 : BitVec 32 := 16#32
  let v172 : BitVec 32 := Scalar.muli v143 c16_i32
  let v173 : BitVec 32 := Scalar.addi v168 v172
  let c16_i32_118 : BitVec 32 := 16#32
  let v207 : BitVec 32 := Scalar.muli v143 c16_i32_118
  let v208 : BitVec 32 := Scalar.subi v173 v207
  let c32_i32_122 : BitVec 32 := 32#32
  let v213 : BitVec 32 := Scalar.muli v125 c32_i32_122
  let v214 : BitVec 32 := Scalar.subi v208 v213
  let c64_i32_126 : BitVec 32 := 64#32
  let v219 : BitVec 32 := Scalar.muli v107 c64_i32_126
  let v220 : BitVec 32 := Scalar.subi v214 v219
  let c1_i32_128 : BitVec 32 := 1#32
  let c2_i32_127 : BitVec 32 := 2#32
  let v221 : BitVec 32 := Scalar.muli c2_i32_127 v90
  let v222 : BitVec 32 := Scalar.subi c1_i32_128 v221
  let c128_i32_129 : BitVec 32 := 128#32
  let v223 : BitVec 32 := Scalar.muli v222 c128_i32_129
  let v224 : BitVec 32 := Scalar.addi v220 v223
  let c64_i32_864 : BitVec 32 := 64#32
  let v1373 : BitVec 32 := Scalar.muli v107 c64_i32_864
  let v1374 : BitVec 32 := Scalar.addi v224 v1373
  v1374
def k0_off53 (d0 : Dev nD) : Fin 2 → Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32 : BitVec 32 := 256#32
  let v155 : BitVec 32 := Scalar.muli v57 c256_i32
  let v156 : BitVec 32 := Scalar.addi c0_i32_89 v155
  let c1_i32_41 : BitVec 32 := 1#32
  let v90 : BitVec 32 := Scalar.andi v46 c1_i32_41
  let c128_i32 : BitVec 32 := 128#32
  let v160 : BitVec 32 := Scalar.muli v90 c128_i32
  let v161 : BitVec 32 := Scalar.addi v156 v160
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c64_i32 : BitVec 32 := 64#32
  let v165 : BitVec 32 := Scalar.muli v107 c64_i32
  let v166 : BitVec 32 := Scalar.addi v161 v165
  let c1_i32_61 : BitVec 32 := 1#32
  let v124 : BitVec 32 := Scalar.shrsi v46 c1_i32_61
  let c1_i32_62 : BitVec 32 := 1#32
  let v125 : BitVec 32 := Scalar.andi v124 c1_i32_62
  let c32_i32_95 : BitVec 32 := 32#32
  let v167 : BitVec 32 := Scalar.muli v125 c32_i32_95
  let v168 : BitVec 32 := Scalar.addi v166 v167
  let c1_i32_72 : BitVec 32 := 1#32
  let v142 : BitVec 32 := Scalar.shrsi v19 c1_i32_72
  let c1_i32_73 : BitVec 32 := 1#32
  let v143 : BitVec 32 := Scalar.andi v142 c1_i32_73
  let c16_i32 : BitVec 32 := 16#32
  let v172 : BitVec 32 := Scalar.muli v143 c16_i32
  let v173 : BitVec 32 := Scalar.addi v168 v172
  let c16_i32_118 : BitVec 32 := 16#32
  let v207 : BitVec 32 := Scalar.muli v143 c16_i32_118
  let v208 : BitVec 32 := Scalar.subi v173 v207
  let c32_i32_122 : BitVec 32 := 32#32
  let v213 : BitVec 32 := Scalar.muli v125 c32_i32_122
  let v214 : BitVec 32 := Scalar.subi v208 v213
  let c64_i32_126 : BitVec 32 := 64#32
  let v219 : BitVec 32 := Scalar.muli v107 c64_i32_126
  let v220 : BitVec 32 := Scalar.subi v214 v219
  let c1_i32_128 : BitVec 32 := 1#32
  let c2_i32_127 : BitVec 32 := 2#32
  let v221 : BitVec 32 := Scalar.muli c2_i32_127 v90
  let v222 : BitVec 32 := Scalar.subi c1_i32_128 v221
  let c128_i32_129 : BitVec 32 := 128#32
  let v223 : BitVec 32 := Scalar.muli v222 c128_i32_129
  let v224 : BitVec 32 := Scalar.addi v220 v223
  let c64_i32_864 : BitVec 32 := 64#32
  let v1373 : BitVec 32 := Scalar.muli v107 c64_i32_864
  let v1374 : BitVec 32 := Scalar.addi v224 v1373
  let v1377 : BitVec 32 := v1374
  let v1378 : Index := Scalar.indexCast v1377
  let c0_867 : Index := 0#32
  ![v1378.toNat, 0]
def k0_dev49 (d0 : Dev nD) : Nat :=
  let c0_i32_877 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_33 : BitVec 32 := 8#32
  let v75 : BitVec 32 := Scalar.muli v19 c8_i32_33
  let c2_i32_34 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_32 : BitVec 32 := 1#32
  let v74 : BitVec 32 := Scalar.xori v46 c1_i32_32
  let v76 : BitVec 32 := Scalar.muli c2_i32_34 v74
  let v77 : BitVec 32 := Scalar.addi v75 v76
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v78 : BitVec 32 := Scalar.addi v57 v74
  let c2_i32_35 : BitVec 32 := 2#32
  let c0_i32_36 : BitVec 32 := 0#32
  let v79 : BitVec 1 := Scalar.cmpi .eq c2_i32_35 c0_i32_36
  let c1_i32_37 : BitVec 32 := 1#32
  let v80 : BitVec 32 := Scalar.select v79 c1_i32_37 c2_i32_35
  let v81 : BitVec 32 := Scalar.remsi v78 v80
  let c0_i32_39 : BitVec 32 := 0#32
  let v83 : BitVec 1 := Scalar.cmpi .slt v81 c0_i32_39
  let c0_i32_40 : BitVec 32 := 0#32
  let v84 : BitVec 1 := Scalar.cmpi .slt v80 c0_i32_40
  let v85 : BitVec 1 := Scalar.xori v83 v84
  let c0_i32_38 : BitVec 32 := 0#32
  let v82 : BitVec 1 := Scalar.cmpi .ne v81 c0_i32_38
  let v86 : BitVec 1 := Scalar.andi v85 v82
  let v87 : BitVec 32 := Scalar.addi v81 v80
  let v88 : BitVec 32 := Scalar.select v86 v87 v81
  let v89 : BitVec 32 := Scalar.addi v77 v88
  let c1_i32_876 : BitVec 32 := 1#32
  let v1386 : BitVec 32 := Scalar.muli v89 c1_i32_876
  let v1387 : BitVec 32 := Scalar.addi c0_i32_877 v1386
  v1387.toNat
def k0_mult58 (d0 : Dev nD) : BitVec 32 :=
  let c512_i32 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_41 : BitVec 32 := 1#32
  let v90 : BitVec 32 := Scalar.andi v46 c1_i32_41
  let c256_i32_134 : BitVec 32 := 256#32
  let v231 : BitVec 32 := Scalar.muli v90 c256_i32_134
  let v232 : BitVec 32 := Scalar.addi c512_i32 v231
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c128_i32_138 : BitVec 32 := 128#32
  let v236 : BitVec 32 := Scalar.muli v107 c128_i32_138
  let v237 : BitVec 32 := Scalar.addi v232 v236
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c64_i32_141 : BitVec 32 := 64#32
  let v241 : BitVec 32 := Scalar.muli v57 c64_i32_141
  let v242 : BitVec 32 := Scalar.addi v237 v241
  let c1_i32_72 : BitVec 32 := 1#32
  let v142 : BitVec 32 := Scalar.shrsi v19 c1_i32_72
  let c1_i32_73 : BitVec 32 := 1#32
  let v143 : BitVec 32 := Scalar.andi v142 c1_i32_73
  let c32_i32_142 : BitVec 32 := 32#32
  let v243 : BitVec 32 := Scalar.muli v143 c32_i32_142
  let v244 : BitVec 32 := Scalar.addi v242 v243
  let c1_i32_61 : BitVec 32 := 1#32
  let v124 : BitVec 32 := Scalar.shrsi v46 c1_i32_61
  let c1_i32_62 : BitVec 32 := 1#32
  let v125 : BitVec 32 := Scalar.andi v124 c1_i32_62
  let c16_i32_145 : BitVec 32 := 16#32
  let v248 : BitVec 32 := Scalar.muli v125 c16_i32_145
  let v249 : BitVec 32 := Scalar.addi v244 v248
  let c16_i32_166 : BitVec 32 := 16#32
  let v283 : BitVec 32 := Scalar.muli v125 c16_i32_166
  let v284 : BitVec 32 := Scalar.subi v249 v283
  let c32_i32_170 : BitVec 32 := 32#32
  let v289 : BitVec 32 := Scalar.muli v143 c32_i32_170
  let v290 : BitVec 32 := Scalar.subi v284 v289
  let c64_i32_174 : BitVec 32 := 64#32
  let v295 : BitVec 32 := Scalar.muli v57 c64_i32_174
  let v296 : BitVec 32 := Scalar.subi v290 v295
  let c1_i32_176 : BitVec 32 := 1#32
  let c2_i32_175 : BitVec 32 := 2#32
  let v297 : BitVec 32 := Scalar.muli c2_i32_175 v107
  let v298 : BitVec 32 := Scalar.subi c1_i32_176 v297
  let c128_i32_177 : BitVec 32 := 128#32
  let v299 : BitVec 32 := Scalar.muli v298 c128_i32_177
  let v300 : BitVec 32 := Scalar.addi v296 v299
  let c64_i32_878 : BitVec 32 := 64#32
  let v1392 : BitVec 32 := Scalar.muli v57 c64_i32_878
  let v1393 : BitVec 32 := Scalar.addi v300 v1392
  v1393
def k0_off54 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_41 : BitVec 32 := 1#32
  let v90 : BitVec 32 := Scalar.andi v46 c1_i32_41
  let c256_i32_134 : BitVec 32 := 256#32
  let v231 : BitVec 32 := Scalar.muli v90 c256_i32_134
  let v232 : BitVec 32 := Scalar.addi c512_i32 v231
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c128_i32_138 : BitVec 32 := 128#32
  let v236 : BitVec 32 := Scalar.muli v107 c128_i32_138
  let v237 : BitVec 32 := Scalar.addi v232 v236
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c64_i32_141 : BitVec 32 := 64#32
  let v241 : BitVec 32 := Scalar.muli v57 c64_i32_141
  let v242 : BitVec 32 := Scalar.addi v237 v241
  let c1_i32_72 : BitVec 32 := 1#32
  let v142 : BitVec 32 := Scalar.shrsi v19 c1_i32_72
  let c1_i32_73 : BitVec 32 := 1#32
  let v143 : BitVec 32 := Scalar.andi v142 c1_i32_73
  let c32_i32_142 : BitVec 32 := 32#32
  let v243 : BitVec 32 := Scalar.muli v143 c32_i32_142
  let v244 : BitVec 32 := Scalar.addi v242 v243
  let c1_i32_61 : BitVec 32 := 1#32
  let v124 : BitVec 32 := Scalar.shrsi v46 c1_i32_61
  let c1_i32_62 : BitVec 32 := 1#32
  let v125 : BitVec 32 := Scalar.andi v124 c1_i32_62
  let c16_i32_145 : BitVec 32 := 16#32
  let v248 : BitVec 32 := Scalar.muli v125 c16_i32_145
  let v249 : BitVec 32 := Scalar.addi v244 v248
  let c16_i32_166 : BitVec 32 := 16#32
  let v283 : BitVec 32 := Scalar.muli v125 c16_i32_166
  let v284 : BitVec 32 := Scalar.subi v249 v283
  let c32_i32_170 : BitVec 32 := 32#32
  let v289 : BitVec 32 := Scalar.muli v143 c32_i32_170
  let v290 : BitVec 32 := Scalar.subi v284 v289
  let c64_i32_174 : BitVec 32 := 64#32
  let v295 : BitVec 32 := Scalar.muli v57 c64_i32_174
  let v296 : BitVec 32 := Scalar.subi v290 v295
  let c1_i32_176 : BitVec 32 := 1#32
  let c2_i32_175 : BitVec 32 := 2#32
  let v297 : BitVec 32 := Scalar.muli c2_i32_175 v107
  let v298 : BitVec 32 := Scalar.subi c1_i32_176 v297
  let c128_i32_177 : BitVec 32 := 128#32
  let v299 : BitVec 32 := Scalar.muli v298 c128_i32_177
  let v300 : BitVec 32 := Scalar.addi v296 v299
  let c64_i32_878 : BitVec 32 := 64#32
  let v1392 : BitVec 32 := Scalar.muli v57 c64_i32_878
  let v1393 : BitVec 32 := Scalar.addi v300 v1392
  let v1396 : BitVec 32 := v1393
  let v1397 : Index := Scalar.indexCast v1396
  let c0_881 : Index := 0#32
  ![v1397.toNat, 0]
def k0_mult59 (d0 : Dev nD) : BitVec 32 :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32 : BitVec 32 := 256#32
  let v155 : BitVec 32 := Scalar.muli v57 c256_i32
  let v156 : BitVec 32 := Scalar.addi c0_i32_89 v155
  let c1_i32_41 : BitVec 32 := 1#32
  let v90 : BitVec 32 := Scalar.andi v46 c1_i32_41
  let c128_i32 : BitVec 32 := 128#32
  let v160 : BitVec 32 := Scalar.muli v90 c128_i32
  let v161 : BitVec 32 := Scalar.addi v156 v160
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c64_i32 : BitVec 32 := 64#32
  let v165 : BitVec 32 := Scalar.muli v107 c64_i32
  let v166 : BitVec 32 := Scalar.addi v161 v165
  let c1_i32_61 : BitVec 32 := 1#32
  let v124 : BitVec 32 := Scalar.shrsi v46 c1_i32_61
  let c1_i32_62 : BitVec 32 := 1#32
  let v125 : BitVec 32 := Scalar.andi v124 c1_i32_62
  let c32_i32_95 : BitVec 32 := 32#32
  let v167 : BitVec 32 := Scalar.muli v125 c32_i32_95
  let v168 : BitVec 32 := Scalar.addi v166 v167
  let c1_i32_72 : BitVec 32 := 1#32
  let v142 : BitVec 32 := Scalar.shrsi v19 c1_i32_72
  let c1_i32_73 : BitVec 32 := 1#32
  let v143 : BitVec 32 := Scalar.andi v142 c1_i32_73
  let c16_i32 : BitVec 32 := 16#32
  let v172 : BitVec 32 := Scalar.muli v143 c16_i32
  let v173 : BitVec 32 := Scalar.addi v168 v172
  let c16_i32_118 : BitVec 32 := 16#32
  let v207 : BitVec 32 := Scalar.muli v143 c16_i32_118
  let v208 : BitVec 32 := Scalar.subi v173 v207
  let c32_i32_122 : BitVec 32 := 32#32
  let v213 : BitVec 32 := Scalar.muli v125 c32_i32_122
  let v214 : BitVec 32 := Scalar.subi v208 v213
  let c64_i32_126 : BitVec 32 := 64#32
  let v219 : BitVec 32 := Scalar.muli v107 c64_i32_126
  let v220 : BitVec 32 := Scalar.subi v214 v219
  let c1_i32_128 : BitVec 32 := 1#32
  let c2_i32_127 : BitVec 32 := 2#32
  let v221 : BitVec 32 := Scalar.muli c2_i32_127 v90
  let v222 : BitVec 32 := Scalar.subi c1_i32_128 v221
  let c128_i32_129 : BitVec 32 := 128#32
  let v223 : BitVec 32 := Scalar.muli v222 c128_i32_129
  let v224 : BitVec 32 := Scalar.addi v220 v223
  let c1_i32_882 : BitVec 32 := 1#32
  let v1399 : BitVec 32 := Scalar.subi c1_i32_882 v107
  let c64_i32_883 : BitVec 32 := 64#32
  let v1400 : BitVec 32 := Scalar.muli v1399 c64_i32_883
  let v1401 : BitVec 32 := Scalar.addi v224 v1400
  let c32_i32_891 : BitVec 32 := 32#32
  let v1408 : BitVec 32 := Scalar.muli v125 c32_i32_891
  let v1409 : BitVec 32 := Scalar.addi v1401 v1408
  v1409
def k0_off55 (d0 : Dev nD) : Fin 2 → Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32 : BitVec 32 := 256#32
  let v155 : BitVec 32 := Scalar.muli v57 c256_i32
  let v156 : BitVec 32 := Scalar.addi c0_i32_89 v155
  let c1_i32_41 : BitVec 32 := 1#32
  let v90 : BitVec 32 := Scalar.andi v46 c1_i32_41
  let c128_i32 : BitVec 32 := 128#32
  let v160 : BitVec 32 := Scalar.muli v90 c128_i32
  let v161 : BitVec 32 := Scalar.addi v156 v160
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c64_i32 : BitVec 32 := 64#32
  let v165 : BitVec 32 := Scalar.muli v107 c64_i32
  let v166 : BitVec 32 := Scalar.addi v161 v165
  let c1_i32_61 : BitVec 32 := 1#32
  let v124 : BitVec 32 := Scalar.shrsi v46 c1_i32_61
  let c1_i32_62 : BitVec 32 := 1#32
  let v125 : BitVec 32 := Scalar.andi v124 c1_i32_62
  let c32_i32_95 : BitVec 32 := 32#32
  let v167 : BitVec 32 := Scalar.muli v125 c32_i32_95
  let v168 : BitVec 32 := Scalar.addi v166 v167
  let c1_i32_72 : BitVec 32 := 1#32
  let v142 : BitVec 32 := Scalar.shrsi v19 c1_i32_72
  let c1_i32_73 : BitVec 32 := 1#32
  let v143 : BitVec 32 := Scalar.andi v142 c1_i32_73
  let c16_i32 : BitVec 32 := 16#32
  let v172 : BitVec 32 := Scalar.muli v143 c16_i32
  let v173 : BitVec 32 := Scalar.addi v168 v172
  let c16_i32_118 : BitVec 32 := 16#32
  let v207 : BitVec 32 := Scalar.muli v143 c16_i32_118
  let v208 : BitVec 32 := Scalar.subi v173 v207
  let c32_i32_122 : BitVec 32 := 32#32
  let v213 : BitVec 32 := Scalar.muli v125 c32_i32_122
  let v214 : BitVec 32 := Scalar.subi v208 v213
  let c64_i32_126 : BitVec 32 := 64#32
  let v219 : BitVec 32 := Scalar.muli v107 c64_i32_126
  let v220 : BitVec 32 := Scalar.subi v214 v219
  let c1_i32_128 : BitVec 32 := 1#32
  let c2_i32_127 : BitVec 32 := 2#32
  let v221 : BitVec 32 := Scalar.muli c2_i32_127 v90
  let v222 : BitVec 32 := Scalar.subi c1_i32_128 v221
  let c128_i32_129 : BitVec 32 := 128#32
  let v223 : BitVec 32 := Scalar.muli v222 c128_i32_129
  let v224 : BitVec 32 := Scalar.addi v220 v223
  let c1_i32_882 : BitVec 32 := 1#32
  let v1399 : BitVec 32 := Scalar.subi c1_i32_882 v107
  let c64_i32_883 : BitVec 32 := 64#32
  let v1400 : BitVec 32 := Scalar.muli v1399 c64_i32_883
  let v1401 : BitVec 32 := Scalar.addi v224 v1400
  let c32_i32_891 : BitVec 32 := 32#32
  let v1408 : BitVec 32 := Scalar.muli v125 c32_i32_891
  let v1409 : BitVec 32 := Scalar.addi v1401 v1408
  let v1412 : BitVec 32 := v1409
  let v1413 : Index := Scalar.indexCast v1412
  let c0_894 : Index := 0#32
  ![v1413.toNat, 0]
def k0_mult60 (d0 : Dev nD) : BitVec 32 :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32 : BitVec 32 := 256#32
  let v155 : BitVec 32 := Scalar.muli v57 c256_i32
  let v156 : BitVec 32 := Scalar.addi c0_i32_89 v155
  let c1_i32_41 : BitVec 32 := 1#32
  let v90 : BitVec 32 := Scalar.andi v46 c1_i32_41
  let c128_i32 : BitVec 32 := 128#32
  let v160 : BitVec 32 := Scalar.muli v90 c128_i32
  let v161 : BitVec 32 := Scalar.addi v156 v160
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c64_i32 : BitVec 32 := 64#32
  let v165 : BitVec 32 := Scalar.muli v107 c64_i32
  let v166 : BitVec 32 := Scalar.addi v161 v165
  let c1_i32_61 : BitVec 32 := 1#32
  let v124 : BitVec 32 := Scalar.shrsi v46 c1_i32_61
  let c1_i32_62 : BitVec 32 := 1#32
  let v125 : BitVec 32 := Scalar.andi v124 c1_i32_62
  let c32_i32_95 : BitVec 32 := 32#32
  let v167 : BitVec 32 := Scalar.muli v125 c32_i32_95
  let v168 : BitVec 32 := Scalar.addi v166 v167
  let c1_i32_72 : BitVec 32 := 1#32
  let v142 : BitVec 32 := Scalar.shrsi v19 c1_i32_72
  let c1_i32_73 : BitVec 32 := 1#32
  let v143 : BitVec 32 := Scalar.andi v142 c1_i32_73
  let c16_i32 : BitVec 32 := 16#32
  let v172 : BitVec 32 := Scalar.muli v143 c16_i32
  let v173 : BitVec 32 := Scalar.addi v168 v172
  let c16_i32_118 : BitVec 32 := 16#32
  let v207 : BitVec 32 := Scalar.muli v143 c16_i32_118
  let v208 : BitVec 32 := Scalar.subi v173 v207
  let c32_i32_122 : BitVec 32 := 32#32
  let v213 : BitVec 32 := Scalar.muli v125 c32_i32_122
  let v214 : BitVec 32 := Scalar.subi v208 v213
  let c64_i32_126 : BitVec 32 := 64#32
  let v219 : BitVec 32 := Scalar.muli v107 c64_i32_126
  let v220 : BitVec 32 := Scalar.subi v214 v219
  let c1_i32_128 : BitVec 32 := 1#32
  let c2_i32_127 : BitVec 32 := 2#32
  let v221 : BitVec 32 := Scalar.muli c2_i32_127 v90
  let v222 : BitVec 32 := Scalar.subi c1_i32_128 v221
  let c128_i32_129 : BitVec 32 := 128#32
  let v223 : BitVec 32 := Scalar.muli v222 c128_i32_129
  let v224 : BitVec 32 := Scalar.addi v220 v223
  let c1_i32_882 : BitVec 32 := 1#32
  let v1399 : BitVec 32 := Scalar.subi c1_i32_882 v107
  let c64_i32_883 : BitVec 32 := 64#32
  let v1400 : BitVec 32 := Scalar.muli v1399 c64_i32_883
  let v1401 : BitVec 32 := Scalar.addi v224 v1400
  let c1_i32_902 : BitVec 32 := 1#32
  let v1421 : BitVec 32 := Scalar.subi c1_i32_902 v125
  let c32_i32_903 : BitVec 32 := 32#32
  let v1422 : BitVec 32 := Scalar.muli v1421 c32_i32_903
  let v1423 : BitVec 32 := Scalar.addi v1401 v1422
  v1423
def k0_off56 (d0 : Dev nD) : Fin 2 → Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32 : BitVec 32 := 256#32
  let v155 : BitVec 32 := Scalar.muli v57 c256_i32
  let v156 : BitVec 32 := Scalar.addi c0_i32_89 v155
  let c1_i32_41 : BitVec 32 := 1#32
  let v90 : BitVec 32 := Scalar.andi v46 c1_i32_41
  let c128_i32 : BitVec 32 := 128#32
  let v160 : BitVec 32 := Scalar.muli v90 c128_i32
  let v161 : BitVec 32 := Scalar.addi v156 v160
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c64_i32 : BitVec 32 := 64#32
  let v165 : BitVec 32 := Scalar.muli v107 c64_i32
  let v166 : BitVec 32 := Scalar.addi v161 v165
  let c1_i32_61 : BitVec 32 := 1#32
  let v124 : BitVec 32 := Scalar.shrsi v46 c1_i32_61
  let c1_i32_62 : BitVec 32 := 1#32
  let v125 : BitVec 32 := Scalar.andi v124 c1_i32_62
  let c32_i32_95 : BitVec 32 := 32#32
  let v167 : BitVec 32 := Scalar.muli v125 c32_i32_95
  let v168 : BitVec 32 := Scalar.addi v166 v167
  let c1_i32_72 : BitVec 32 := 1#32
  let v142 : BitVec 32 := Scalar.shrsi v19 c1_i32_72
  let c1_i32_73 : BitVec 32 := 1#32
  let v143 : BitVec 32 := Scalar.andi v142 c1_i32_73
  let c16_i32 : BitVec 32 := 16#32
  let v172 : BitVec 32 := Scalar.muli v143 c16_i32
  let v173 : BitVec 32 := Scalar.addi v168 v172
  let c16_i32_118 : BitVec 32 := 16#32
  let v207 : BitVec 32 := Scalar.muli v143 c16_i32_118
  let v208 : BitVec 32 := Scalar.subi v173 v207
  let c32_i32_122 : BitVec 32 := 32#32
  let v213 : BitVec 32 := Scalar.muli v125 c32_i32_122
  let v214 : BitVec 32 := Scalar.subi v208 v213
  let c64_i32_126 : BitVec 32 := 64#32
  let v219 : BitVec 32 := Scalar.muli v107 c64_i32_126
  let v220 : BitVec 32 := Scalar.subi v214 v219
  let c1_i32_128 : BitVec 32 := 1#32
  let c2_i32_127 : BitVec 32 := 2#32
  let v221 : BitVec 32 := Scalar.muli c2_i32_127 v90
  let v222 : BitVec 32 := Scalar.subi c1_i32_128 v221
  let c128_i32_129 : BitVec 32 := 128#32
  let v223 : BitVec 32 := Scalar.muli v222 c128_i32_129
  let v224 : BitVec 32 := Scalar.addi v220 v223
  let c1_i32_882 : BitVec 32 := 1#32
  let v1399 : BitVec 32 := Scalar.subi c1_i32_882 v107
  let c64_i32_883 : BitVec 32 := 64#32
  let v1400 : BitVec 32 := Scalar.muli v1399 c64_i32_883
  let v1401 : BitVec 32 := Scalar.addi v224 v1400
  let c1_i32_902 : BitVec 32 := 1#32
  let v1421 : BitVec 32 := Scalar.subi c1_i32_902 v125
  let c32_i32_903 : BitVec 32 := 32#32
  let v1422 : BitVec 32 := Scalar.muli v1421 c32_i32_903
  let v1423 : BitVec 32 := Scalar.addi v1401 v1422
  let v1426 : BitVec 32 := v1423
  let v1427 : Index := Scalar.indexCast v1426
  let c0_906 : Index := 0#32
  ![v1427.toNat, 0]
def k0_mult61 (d0 : Dev nD) : BitVec 32 :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32 : BitVec 32 := 256#32
  let v155 : BitVec 32 := Scalar.muli v57 c256_i32
  let v156 : BitVec 32 := Scalar.addi c0_i32_89 v155
  let c1_i32_41 : BitVec 32 := 1#32
  let v90 : BitVec 32 := Scalar.andi v46 c1_i32_41
  let c128_i32 : BitVec 32 := 128#32
  let v160 : BitVec 32 := Scalar.muli v90 c128_i32
  let v161 : BitVec 32 := Scalar.addi v156 v160
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c64_i32 : BitVec 32 := 64#32
  let v165 : BitVec 32 := Scalar.muli v107 c64_i32
  let v166 : BitVec 32 := Scalar.addi v161 v165
  let c1_i32_61 : BitVec 32 := 1#32
  let v124 : BitVec 32 := Scalar.shrsi v46 c1_i32_61
  let c1_i32_62 : BitVec 32 := 1#32
  let v125 : BitVec 32 := Scalar.andi v124 c1_i32_62
  let c32_i32_95 : BitVec 32 := 32#32
  let v167 : BitVec 32 := Scalar.muli v125 c32_i32_95
  let v168 : BitVec 32 := Scalar.addi v166 v167
  let c1_i32_72 : BitVec 32 := 1#32
  let v142 : BitVec 32 := Scalar.shrsi v19 c1_i32_72
  let c1_i32_73 : BitVec 32 := 1#32
  let v143 : BitVec 32 := Scalar.andi v142 c1_i32_73
  let c16_i32 : BitVec 32 := 16#32
  let v172 : BitVec 32 := Scalar.muli v143 c16_i32
  let v173 : BitVec 32 := Scalar.addi v168 v172
  let c16_i32_118 : BitVec 32 := 16#32
  let v207 : BitVec 32 := Scalar.muli v143 c16_i32_118
  let v208 : BitVec 32 := Scalar.subi v173 v207
  let c32_i32_122 : BitVec 32 := 32#32
  let v213 : BitVec 32 := Scalar.muli v125 c32_i32_122
  let v214 : BitVec 32 := Scalar.subi v208 v213
  let c64_i32_126 : BitVec 32 := 64#32
  let v219 : BitVec 32 := Scalar.muli v107 c64_i32_126
  let v220 : BitVec 32 := Scalar.subi v214 v219
  let c1_i32_128 : BitVec 32 := 1#32
  let c2_i32_127 : BitVec 32 := 2#32
  let v221 : BitVec 32 := Scalar.muli c2_i32_127 v90
  let v222 : BitVec 32 := Scalar.subi c1_i32_128 v221
  let c128_i32_129 : BitVec 32 := 128#32
  let v223 : BitVec 32 := Scalar.muli v222 c128_i32_129
  let v224 : BitVec 32 := Scalar.addi v220 v223
  let c1_i32_907 : BitVec 32 := 1#32
  let v1429 : BitVec 32 := Scalar.subi c1_i32_907 v107
  let c64_i32_908 : BitVec 32 := 64#32
  let v1430 : BitVec 32 := Scalar.muli v1429 c64_i32_908
  let v1431 : BitVec 32 := Scalar.addi v224 v1430
  v1431
def k0_off57 (d0 : Dev nD) : Fin 2 → Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32 : BitVec 32 := 256#32
  let v155 : BitVec 32 := Scalar.muli v57 c256_i32
  let v156 : BitVec 32 := Scalar.addi c0_i32_89 v155
  let c1_i32_41 : BitVec 32 := 1#32
  let v90 : BitVec 32 := Scalar.andi v46 c1_i32_41
  let c128_i32 : BitVec 32 := 128#32
  let v160 : BitVec 32 := Scalar.muli v90 c128_i32
  let v161 : BitVec 32 := Scalar.addi v156 v160
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c64_i32 : BitVec 32 := 64#32
  let v165 : BitVec 32 := Scalar.muli v107 c64_i32
  let v166 : BitVec 32 := Scalar.addi v161 v165
  let c1_i32_61 : BitVec 32 := 1#32
  let v124 : BitVec 32 := Scalar.shrsi v46 c1_i32_61
  let c1_i32_62 : BitVec 32 := 1#32
  let v125 : BitVec 32 := Scalar.andi v124 c1_i32_62
  let c32_i32_95 : BitVec 32 := 32#32
  let v167 : BitVec 32 := Scalar.muli v125 c32_i32_95
  let v168 : BitVec 32 := Scalar.addi v166 v167
  let c1_i32_72 : BitVec 32 := 1#32
  let v142 : BitVec 32 := Scalar.shrsi v19 c1_i32_72
  let c1_i32_73 : BitVec 32 := 1#32
  let v143 : BitVec 32 := Scalar.andi v142 c1_i32_73
  let c16_i32 : BitVec 32 := 16#32
  let v172 : BitVec 32 := Scalar.muli v143 c16_i32
  let v173 : BitVec 32 := Scalar.addi v168 v172
  let c16_i32_118 : BitVec 32 := 16#32
  let v207 : BitVec 32 := Scalar.muli v143 c16_i32_118
  let v208 : BitVec 32 := Scalar.subi v173 v207
  let c32_i32_122 : BitVec 32 := 32#32
  let v213 : BitVec 32 := Scalar.muli v125 c32_i32_122
  let v214 : BitVec 32 := Scalar.subi v208 v213
  let c64_i32_126 : BitVec 32 := 64#32
  let v219 : BitVec 32 := Scalar.muli v107 c64_i32_126
  let v220 : BitVec 32 := Scalar.subi v214 v219
  let c1_i32_128 : BitVec 32 := 1#32
  let c2_i32_127 : BitVec 32 := 2#32
  let v221 : BitVec 32 := Scalar.muli c2_i32_127 v90
  let v222 : BitVec 32 := Scalar.subi c1_i32_128 v221
  let c128_i32_129 : BitVec 32 := 128#32
  let v223 : BitVec 32 := Scalar.muli v222 c128_i32_129
  let v224 : BitVec 32 := Scalar.addi v220 v223
  let c1_i32_907 : BitVec 32 := 1#32
  let v1429 : BitVec 32 := Scalar.subi c1_i32_907 v107
  let c64_i32_908 : BitVec 32 := 64#32
  let v1430 : BitVec 32 := Scalar.muli v1429 c64_i32_908
  let v1431 : BitVec 32 := Scalar.addi v224 v1430
  let v1432 : BitVec 32 := v1431
  let v1433 : Index := Scalar.indexCast v1432
  let c0_909 : Index := 0#32
  ![v1433.toNat, 0]
def k0_dev50 (d0 : Dev nD) : Nat :=
  let c0_i32_914 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_24 : BitVec 32 := 8#32
  let v59 : BitVec 32 := Scalar.muli v19 c8_i32_24
  let c2_i32_25 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v60 : BitVec 32 := Scalar.muli c2_i32_25 v46
  let v61 : BitVec 32 := Scalar.addi v59 v60
  let c1_i32_23 : BitVec 32 := 1#32
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v58 : BitVec 32 := Scalar.subi c1_i32_23 v57
  let v62 : BitVec 32 := Scalar.addi v58 v46
  let c2_i32_26 : BitVec 32 := 2#32
  let c0_i32_27 : BitVec 32 := 0#32
  let v63 : BitVec 1 := Scalar.cmpi .eq c2_i32_26 c0_i32_27
  let c1_i32_28 : BitVec 32 := 1#32
  let v64 : BitVec 32 := Scalar.select v63 c1_i32_28 c2_i32_26
  let v65 : BitVec 32 := Scalar.remsi v62 v64
  let c0_i32_30 : BitVec 32 := 0#32
  let v67 : BitVec 1 := Scalar.cmpi .slt v65 c0_i32_30
  let c0_i32_31 : BitVec 32 := 0#32
  let v68 : BitVec 1 := Scalar.cmpi .slt v64 c0_i32_31
  let v69 : BitVec 1 := Scalar.xori v67 v68
  let c0_i32_29 : BitVec 32 := 0#32
  let v66 : BitVec 1 := Scalar.cmpi .ne v65 c0_i32_29
  let v70 : BitVec 1 := Scalar.andi v69 v66
  let v71 : BitVec 32 := Scalar.addi v65 v64
  let v72 : BitVec 32 := Scalar.select v70 v71 v65
  let v73 : BitVec 32 := Scalar.addi v61 v72
  let c1_i32_913 : BitVec 32 := 1#32
  let v1440 : BitVec 32 := Scalar.muli v73 c1_i32_913
  let v1441 : BitVec 32 := Scalar.addi c0_i32_914 v1440
  v1441.toNat
def k0_mult62 (d0 : Dev nD) : BitVec 32 :=
  let c512_i32 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_41 : BitVec 32 := 1#32
  let v90 : BitVec 32 := Scalar.andi v46 c1_i32_41
  let c256_i32_134 : BitVec 32 := 256#32
  let v231 : BitVec 32 := Scalar.muli v90 c256_i32_134
  let v232 : BitVec 32 := Scalar.addi c512_i32 v231
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c128_i32_138 : BitVec 32 := 128#32
  let v236 : BitVec 32 := Scalar.muli v107 c128_i32_138
  let v237 : BitVec 32 := Scalar.addi v232 v236
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c64_i32_141 : BitVec 32 := 64#32
  let v241 : BitVec 32 := Scalar.muli v57 c64_i32_141
  let v242 : BitVec 32 := Scalar.addi v237 v241
  let c1_i32_72 : BitVec 32 := 1#32
  let v142 : BitVec 32 := Scalar.shrsi v19 c1_i32_72
  let c1_i32_73 : BitVec 32 := 1#32
  let v143 : BitVec 32 := Scalar.andi v142 c1_i32_73
  let c32_i32_142 : BitVec 32 := 32#32
  let v243 : BitVec 32 := Scalar.muli v143 c32_i32_142
  let v244 : BitVec 32 := Scalar.addi v242 v243
  let c1_i32_61 : BitVec 32 := 1#32
  let v124 : BitVec 32 := Scalar.shrsi v46 c1_i32_61
  let c1_i32_62 : BitVec 32 := 1#32
  let v125 : BitVec 32 := Scalar.andi v124 c1_i32_62
  let c16_i32_145 : BitVec 32 := 16#32
  let v248 : BitVec 32 := Scalar.muli v125 c16_i32_145
  let v249 : BitVec 32 := Scalar.addi v244 v248
  let c16_i32_166 : BitVec 32 := 16#32
  let v283 : BitVec 32 := Scalar.muli v125 c16_i32_166
  let v284 : BitVec 32 := Scalar.subi v249 v283
  let c32_i32_170 : BitVec 32 := 32#32
  let v289 : BitVec 32 := Scalar.muli v143 c32_i32_170
  let v290 : BitVec 32 := Scalar.subi v284 v289
  let c64_i32_174 : BitVec 32 := 64#32
  let v295 : BitVec 32 := Scalar.muli v57 c64_i32_174
  let v296 : BitVec 32 := Scalar.subi v290 v295
  let c1_i32_176 : BitVec 32 := 1#32
  let c2_i32_175 : BitVec 32 := 2#32
  let v297 : BitVec 32 := Scalar.muli c2_i32_175 v107
  let v298 : BitVec 32 := Scalar.subi c1_i32_176 v297
  let c128_i32_177 : BitVec 32 := 128#32
  let v299 : BitVec 32 := Scalar.muli v298 c128_i32_177
  let v300 : BitVec 32 := Scalar.addi v296 v299
  let c1_i32_915 : BitVec 32 := 1#32
  let v1446 : BitVec 32 := Scalar.subi c1_i32_915 v57
  let c64_i32_916 : BitVec 32 := 64#32
  let v1447 : BitVec 32 := Scalar.muli v1446 c64_i32_916
  let v1448 : BitVec 32 := Scalar.addi v300 v1447
  let c32_i32_924 : BitVec 32 := 32#32
  let v1455 : BitVec 32 := Scalar.muli v143 c32_i32_924
  let v1456 : BitVec 32 := Scalar.addi v1448 v1455
  v1456
def k0_off58 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_41 : BitVec 32 := 1#32
  let v90 : BitVec 32 := Scalar.andi v46 c1_i32_41
  let c256_i32_134 : BitVec 32 := 256#32
  let v231 : BitVec 32 := Scalar.muli v90 c256_i32_134
  let v232 : BitVec 32 := Scalar.addi c512_i32 v231
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c128_i32_138 : BitVec 32 := 128#32
  let v236 : BitVec 32 := Scalar.muli v107 c128_i32_138
  let v237 : BitVec 32 := Scalar.addi v232 v236
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c64_i32_141 : BitVec 32 := 64#32
  let v241 : BitVec 32 := Scalar.muli v57 c64_i32_141
  let v242 : BitVec 32 := Scalar.addi v237 v241
  let c1_i32_72 : BitVec 32 := 1#32
  let v142 : BitVec 32 := Scalar.shrsi v19 c1_i32_72
  let c1_i32_73 : BitVec 32 := 1#32
  let v143 : BitVec 32 := Scalar.andi v142 c1_i32_73
  let c32_i32_142 : BitVec 32 := 32#32
  let v243 : BitVec 32 := Scalar.muli v143 c32_i32_142
  let v244 : BitVec 32 := Scalar.addi v242 v243
  let c1_i32_61 : BitVec 32 := 1#32
  let v124 : BitVec 32 := Scalar.shrsi v46 c1_i32_61
  let c1_i32_62 : BitVec 32 := 1#32
  let v125 : BitVec 32 := Scalar.andi v124 c1_i32_62
  let c16_i32_145 : BitVec 32 := 16#32
  let v248 : BitVec 32 := Scalar.muli v125 c16_i32_145
  let v249 : BitVec 32 := Scalar.addi v244 v248
  let c16_i32_166 : BitVec 32 := 16#32
  let v283 : BitVec 32 := Scalar.muli v125 c16_i32_166
  let v284 : BitVec 32 := Scalar.subi v249 v283
  let c32_i32_170 : BitVec 32 := 32#32
  let v289 : BitVec 32 := Scalar.muli v143 c32_i32_170
  let v290 : BitVec 32 := Scalar.subi v284 v289
  let c64_i32_174 : BitVec 32 := 64#32
  let v295 : BitVec 32 := Scalar.muli v57 c64_i32_174
  let v296 : BitVec 32 := Scalar.subi v290 v295
  let c1_i32_176 : BitVec 32 := 1#32
  let c2_i32_175 : BitVec 32 := 2#32
  let v297 : BitVec 32 := Scalar.muli c2_i32_175 v107
  let v298 : BitVec 32 := Scalar.subi c1_i32_176 v297
  let c128_i32_177 : BitVec 32 := 128#32
  let v299 : BitVec 32 := Scalar.muli v298 c128_i32_177
  let v300 : BitVec 32 := Scalar.addi v296 v299
  let c1_i32_915 : BitVec 32 := 1#32
  let v1446 : BitVec 32 := Scalar.subi c1_i32_915 v57
  let c64_i32_916 : BitVec 32 := 64#32
  let v1447 : BitVec 32 := Scalar.muli v1446 c64_i32_916
  let v1448 : BitVec 32 := Scalar.addi v300 v1447
  let c32_i32_924 : BitVec 32 := 32#32
  let v1455 : BitVec 32 := Scalar.muli v143 c32_i32_924
  let v1456 : BitVec 32 := Scalar.addi v1448 v1455
  let v1459 : BitVec 32 := v1456
  let v1460 : Index := Scalar.indexCast v1459
  let c0_927 : Index := 0#32
  ![v1460.toNat, 0]
def k0_mult63 (d0 : Dev nD) : BitVec 32 :=
  let c512_i32 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_41 : BitVec 32 := 1#32
  let v90 : BitVec 32 := Scalar.andi v46 c1_i32_41
  let c256_i32_134 : BitVec 32 := 256#32
  let v231 : BitVec 32 := Scalar.muli v90 c256_i32_134
  let v232 : BitVec 32 := Scalar.addi c512_i32 v231
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c128_i32_138 : BitVec 32 := 128#32
  let v236 : BitVec 32 := Scalar.muli v107 c128_i32_138
  let v237 : BitVec 32 := Scalar.addi v232 v236
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c64_i32_141 : BitVec 32 := 64#32
  let v241 : BitVec 32 := Scalar.muli v57 c64_i32_141
  let v242 : BitVec 32 := Scalar.addi v237 v241
  let c1_i32_72 : BitVec 32 := 1#32
  let v142 : BitVec 32 := Scalar.shrsi v19 c1_i32_72
  let c1_i32_73 : BitVec 32 := 1#32
  let v143 : BitVec 32 := Scalar.andi v142 c1_i32_73
  let c32_i32_142 : BitVec 32 := 32#32
  let v243 : BitVec 32 := Scalar.muli v143 c32_i32_142
  let v244 : BitVec 32 := Scalar.addi v242 v243
  let c1_i32_61 : BitVec 32 := 1#32
  let v124 : BitVec 32 := Scalar.shrsi v46 c1_i32_61
  let c1_i32_62 : BitVec 32 := 1#32
  let v125 : BitVec 32 := Scalar.andi v124 c1_i32_62
  let c16_i32_145 : BitVec 32 := 16#32
  let v248 : BitVec 32 := Scalar.muli v125 c16_i32_145
  let v249 : BitVec 32 := Scalar.addi v244 v248
  let c16_i32_166 : BitVec 32 := 16#32
  let v283 : BitVec 32 := Scalar.muli v125 c16_i32_166
  let v284 : BitVec 32 := Scalar.subi v249 v283
  let c32_i32_170 : BitVec 32 := 32#32
  let v289 : BitVec 32 := Scalar.muli v143 c32_i32_170
  let v290 : BitVec 32 := Scalar.subi v284 v289
  let c64_i32_174 : BitVec 32 := 64#32
  let v295 : BitVec 32 := Scalar.muli v57 c64_i32_174
  let v296 : BitVec 32 := Scalar.subi v290 v295
  let c1_i32_176 : BitVec 32 := 1#32
  let c2_i32_175 : BitVec 32 := 2#32
  let v297 : BitVec 32 := Scalar.muli c2_i32_175 v107
  let v298 : BitVec 32 := Scalar.subi c1_i32_176 v297
  let c128_i32_177 : BitVec 32 := 128#32
  let v299 : BitVec 32 := Scalar.muli v298 c128_i32_177
  let v300 : BitVec 32 := Scalar.addi v296 v299
  let c1_i32_915 : BitVec 32 := 1#32
  let v1446 : BitVec 32 := Scalar.subi c1_i32_915 v57
  let c64_i32_916 : BitVec 32 := 64#32
  let v1447 : BitVec 32 := Scalar.muli v1446 c64_i32_916
  let v1448 : BitVec 32 := Scalar.addi v300 v1447
  let c1_i32_935 : BitVec 32 := 1#32
  let v1468 : BitVec 32 := Scalar.subi c1_i32_935 v143
  let c32_i32_936 : BitVec 32 := 32#32
  let v1469 : BitVec 32 := Scalar.muli v1468 c32_i32_936
  let v1470 : BitVec 32 := Scalar.addi v1448 v1469
  v1470
def k0_off59 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_41 : BitVec 32 := 1#32
  let v90 : BitVec 32 := Scalar.andi v46 c1_i32_41
  let c256_i32_134 : BitVec 32 := 256#32
  let v231 : BitVec 32 := Scalar.muli v90 c256_i32_134
  let v232 : BitVec 32 := Scalar.addi c512_i32 v231
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c128_i32_138 : BitVec 32 := 128#32
  let v236 : BitVec 32 := Scalar.muli v107 c128_i32_138
  let v237 : BitVec 32 := Scalar.addi v232 v236
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c64_i32_141 : BitVec 32 := 64#32
  let v241 : BitVec 32 := Scalar.muli v57 c64_i32_141
  let v242 : BitVec 32 := Scalar.addi v237 v241
  let c1_i32_72 : BitVec 32 := 1#32
  let v142 : BitVec 32 := Scalar.shrsi v19 c1_i32_72
  let c1_i32_73 : BitVec 32 := 1#32
  let v143 : BitVec 32 := Scalar.andi v142 c1_i32_73
  let c32_i32_142 : BitVec 32 := 32#32
  let v243 : BitVec 32 := Scalar.muli v143 c32_i32_142
  let v244 : BitVec 32 := Scalar.addi v242 v243
  let c1_i32_61 : BitVec 32 := 1#32
  let v124 : BitVec 32 := Scalar.shrsi v46 c1_i32_61
  let c1_i32_62 : BitVec 32 := 1#32
  let v125 : BitVec 32 := Scalar.andi v124 c1_i32_62
  let c16_i32_145 : BitVec 32 := 16#32
  let v248 : BitVec 32 := Scalar.muli v125 c16_i32_145
  let v249 : BitVec 32 := Scalar.addi v244 v248
  let c16_i32_166 : BitVec 32 := 16#32
  let v283 : BitVec 32 := Scalar.muli v125 c16_i32_166
  let v284 : BitVec 32 := Scalar.subi v249 v283
  let c32_i32_170 : BitVec 32 := 32#32
  let v289 : BitVec 32 := Scalar.muli v143 c32_i32_170
  let v290 : BitVec 32 := Scalar.subi v284 v289
  let c64_i32_174 : BitVec 32 := 64#32
  let v295 : BitVec 32 := Scalar.muli v57 c64_i32_174
  let v296 : BitVec 32 := Scalar.subi v290 v295
  let c1_i32_176 : BitVec 32 := 1#32
  let c2_i32_175 : BitVec 32 := 2#32
  let v297 : BitVec 32 := Scalar.muli c2_i32_175 v107
  let v298 : BitVec 32 := Scalar.subi c1_i32_176 v297
  let c128_i32_177 : BitVec 32 := 128#32
  let v299 : BitVec 32 := Scalar.muli v298 c128_i32_177
  let v300 : BitVec 32 := Scalar.addi v296 v299
  let c1_i32_915 : BitVec 32 := 1#32
  let v1446 : BitVec 32 := Scalar.subi c1_i32_915 v57
  let c64_i32_916 : BitVec 32 := 64#32
  let v1447 : BitVec 32 := Scalar.muli v1446 c64_i32_916
  let v1448 : BitVec 32 := Scalar.addi v300 v1447
  let c1_i32_935 : BitVec 32 := 1#32
  let v1468 : BitVec 32 := Scalar.subi c1_i32_935 v143
  let c32_i32_936 : BitVec 32 := 32#32
  let v1469 : BitVec 32 := Scalar.muli v1468 c32_i32_936
  let v1470 : BitVec 32 := Scalar.addi v1448 v1469
  let v1473 : BitVec 32 := v1470
  let v1474 : Index := Scalar.indexCast v1473
  let c0_939 : Index := 0#32
  ![v1474.toNat, 0]
def k0_mult64 (d0 : Dev nD) : BitVec 32 :=
  let c512_i32 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_41 : BitVec 32 := 1#32
  let v90 : BitVec 32 := Scalar.andi v46 c1_i32_41
  let c256_i32_134 : BitVec 32 := 256#32
  let v231 : BitVec 32 := Scalar.muli v90 c256_i32_134
  let v232 : BitVec 32 := Scalar.addi c512_i32 v231
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c128_i32_138 : BitVec 32 := 128#32
  let v236 : BitVec 32 := Scalar.muli v107 c128_i32_138
  let v237 : BitVec 32 := Scalar.addi v232 v236
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c64_i32_141 : BitVec 32 := 64#32
  let v241 : BitVec 32 := Scalar.muli v57 c64_i32_141
  let v242 : BitVec 32 := Scalar.addi v237 v241
  let c1_i32_72 : BitVec 32 := 1#32
  let v142 : BitVec 32 := Scalar.shrsi v19 c1_i32_72
  let c1_i32_73 : BitVec 32 := 1#32
  let v143 : BitVec 32 := Scalar.andi v142 c1_i32_73
  let c32_i32_142 : BitVec 32 := 32#32
  let v243 : BitVec 32 := Scalar.muli v143 c32_i32_142
  let v244 : BitVec 32 := Scalar.addi v242 v243
  let c1_i32_61 : BitVec 32 := 1#32
  let v124 : BitVec 32 := Scalar.shrsi v46 c1_i32_61
  let c1_i32_62 : BitVec 32 := 1#32
  let v125 : BitVec 32 := Scalar.andi v124 c1_i32_62
  let c16_i32_145 : BitVec 32 := 16#32
  let v248 : BitVec 32 := Scalar.muli v125 c16_i32_145
  let v249 : BitVec 32 := Scalar.addi v244 v248
  let c16_i32_166 : BitVec 32 := 16#32
  let v283 : BitVec 32 := Scalar.muli v125 c16_i32_166
  let v284 : BitVec 32 := Scalar.subi v249 v283
  let c32_i32_170 : BitVec 32 := 32#32
  let v289 : BitVec 32 := Scalar.muli v143 c32_i32_170
  let v290 : BitVec 32 := Scalar.subi v284 v289
  let c64_i32_174 : BitVec 32 := 64#32
  let v295 : BitVec 32 := Scalar.muli v57 c64_i32_174
  let v296 : BitVec 32 := Scalar.subi v290 v295
  let c1_i32_176 : BitVec 32 := 1#32
  let c2_i32_175 : BitVec 32 := 2#32
  let v297 : BitVec 32 := Scalar.muli c2_i32_175 v107
  let v298 : BitVec 32 := Scalar.subi c1_i32_176 v297
  let c128_i32_177 : BitVec 32 := 128#32
  let v299 : BitVec 32 := Scalar.muli v298 c128_i32_177
  let v300 : BitVec 32 := Scalar.addi v296 v299
  let c1_i32_940 : BitVec 32 := 1#32
  let v1476 : BitVec 32 := Scalar.subi c1_i32_940 v57
  let c64_i32_941 : BitVec 32 := 64#32
  let v1477 : BitVec 32 := Scalar.muli v1476 c64_i32_941
  let v1478 : BitVec 32 := Scalar.addi v300 v1477
  v1478
def k0_off60 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_41 : BitVec 32 := 1#32
  let v90 : BitVec 32 := Scalar.andi v46 c1_i32_41
  let c256_i32_134 : BitVec 32 := 256#32
  let v231 : BitVec 32 := Scalar.muli v90 c256_i32_134
  let v232 : BitVec 32 := Scalar.addi c512_i32 v231
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c128_i32_138 : BitVec 32 := 128#32
  let v236 : BitVec 32 := Scalar.muli v107 c128_i32_138
  let v237 : BitVec 32 := Scalar.addi v232 v236
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c64_i32_141 : BitVec 32 := 64#32
  let v241 : BitVec 32 := Scalar.muli v57 c64_i32_141
  let v242 : BitVec 32 := Scalar.addi v237 v241
  let c1_i32_72 : BitVec 32 := 1#32
  let v142 : BitVec 32 := Scalar.shrsi v19 c1_i32_72
  let c1_i32_73 : BitVec 32 := 1#32
  let v143 : BitVec 32 := Scalar.andi v142 c1_i32_73
  let c32_i32_142 : BitVec 32 := 32#32
  let v243 : BitVec 32 := Scalar.muli v143 c32_i32_142
  let v244 : BitVec 32 := Scalar.addi v242 v243
  let c1_i32_61 : BitVec 32 := 1#32
  let v124 : BitVec 32 := Scalar.shrsi v46 c1_i32_61
  let c1_i32_62 : BitVec 32 := 1#32
  let v125 : BitVec 32 := Scalar.andi v124 c1_i32_62
  let c16_i32_145 : BitVec 32 := 16#32
  let v248 : BitVec 32 := Scalar.muli v125 c16_i32_145
  let v249 : BitVec 32 := Scalar.addi v244 v248
  let c16_i32_166 : BitVec 32 := 16#32
  let v283 : BitVec 32 := Scalar.muli v125 c16_i32_166
  let v284 : BitVec 32 := Scalar.subi v249 v283
  let c32_i32_170 : BitVec 32 := 32#32
  let v289 : BitVec 32 := Scalar.muli v143 c32_i32_170
  let v290 : BitVec 32 := Scalar.subi v284 v289
  let c64_i32_174 : BitVec 32 := 64#32
  let v295 : BitVec 32 := Scalar.muli v57 c64_i32_174
  let v296 : BitVec 32 := Scalar.subi v290 v295
  let c1_i32_176 : BitVec 32 := 1#32
  let c2_i32_175 : BitVec 32 := 2#32
  let v297 : BitVec 32 := Scalar.muli c2_i32_175 v107
  let v298 : BitVec 32 := Scalar.subi c1_i32_176 v297
  let c128_i32_177 : BitVec 32 := 128#32
  let v299 : BitVec 32 := Scalar.muli v298 c128_i32_177
  let v300 : BitVec 32 := Scalar.addi v296 v299
  let c1_i32_940 : BitVec 32 := 1#32
  let v1476 : BitVec 32 := Scalar.subi c1_i32_940 v57
  let c64_i32_941 : BitVec 32 := 64#32
  let v1477 : BitVec 32 := Scalar.muli v1476 c64_i32_941
  let v1478 : BitVec 32 := Scalar.addi v300 v1477
  let v1479 : BitVec 32 := v1478
  let v1480 : Index := Scalar.indexCast v1479
  let c0_942 : Index := 0#32
  ![v1480.toNat, 0]
def k0_dev51 (d0 : Dev nD) : Nat :=
  let c0_i32_947 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_33 : BitVec 32 := 8#32
  let v75 : BitVec 32 := Scalar.muli v19 c8_i32_33
  let c2_i32_34 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_32 : BitVec 32 := 1#32
  let v74 : BitVec 32 := Scalar.xori v46 c1_i32_32
  let v76 : BitVec 32 := Scalar.muli c2_i32_34 v74
  let v77 : BitVec 32 := Scalar.addi v75 v76
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v78 : BitVec 32 := Scalar.addi v57 v74
  let c2_i32_35 : BitVec 32 := 2#32
  let c0_i32_36 : BitVec 32 := 0#32
  let v79 : BitVec 1 := Scalar.cmpi .eq c2_i32_35 c0_i32_36
  let c1_i32_37 : BitVec 32 := 1#32
  let v80 : BitVec 32 := Scalar.select v79 c1_i32_37 c2_i32_35
  let v81 : BitVec 32 := Scalar.remsi v78 v80
  let c0_i32_39 : BitVec 32 := 0#32
  let v83 : BitVec 1 := Scalar.cmpi .slt v81 c0_i32_39
  let c0_i32_40 : BitVec 32 := 0#32
  let v84 : BitVec 1 := Scalar.cmpi .slt v80 c0_i32_40
  let v85 : BitVec 1 := Scalar.xori v83 v84
  let c0_i32_38 : BitVec 32 := 0#32
  let v82 : BitVec 1 := Scalar.cmpi .ne v81 c0_i32_38
  let v86 : BitVec 1 := Scalar.andi v85 v82
  let v87 : BitVec 32 := Scalar.addi v81 v80
  let v88 : BitVec 32 := Scalar.select v86 v87 v81
  let v89 : BitVec 32 := Scalar.addi v77 v88
  let c1_i32_946 : BitVec 32 := 1#32
  let v1487 : BitVec 32 := Scalar.muli v89 c1_i32_946
  let v1488 : BitVec 32 := Scalar.addi c0_i32_947 v1487
  v1488.toNat
def k0_mult65 (d0 : Dev nD) : BitVec 32 :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32 : BitVec 32 := 256#32
  let v155 : BitVec 32 := Scalar.muli v57 c256_i32
  let v156 : BitVec 32 := Scalar.addi c0_i32_89 v155
  let c1_i32_41 : BitVec 32 := 1#32
  let v90 : BitVec 32 := Scalar.andi v46 c1_i32_41
  let c128_i32 : BitVec 32 := 128#32
  let v160 : BitVec 32 := Scalar.muli v90 c128_i32
  let v161 : BitVec 32 := Scalar.addi v156 v160
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c64_i32 : BitVec 32 := 64#32
  let v165 : BitVec 32 := Scalar.muli v107 c64_i32
  let v166 : BitVec 32 := Scalar.addi v161 v165
  let c1_i32_61 : BitVec 32 := 1#32
  let v124 : BitVec 32 := Scalar.shrsi v46 c1_i32_61
  let c1_i32_62 : BitVec 32 := 1#32
  let v125 : BitVec 32 := Scalar.andi v124 c1_i32_62
  let c32_i32_95 : BitVec 32 := 32#32
  let v167 : BitVec 32 := Scalar.muli v125 c32_i32_95
  let v168 : BitVec 32 := Scalar.addi v166 v167
  let c1_i32_72 : BitVec 32 := 1#32
  let v142 : BitVec 32 := Scalar.shrsi v19 c1_i32_72
  let c1_i32_73 : BitVec 32 := 1#32
  let v143 : BitVec 32 := Scalar.andi v142 c1_i32_73
  let c16_i32 : BitVec 32 := 16#32
  let v172 : BitVec 32 := Scalar.muli v143 c16_i32
  let v173 : BitVec 32 := Scalar.addi v168 v172
  let c16_i32_118 : BitVec 32 := 16#32
  let v207 : BitVec 32 := Scalar.muli v143 c16_i32_118
  let v208 : BitVec 32 := Scalar.subi v173 v207
  let c32_i32_122 : BitVec 32 := 32#32
  let v213 : BitVec 32 := Scalar.muli v125 c32_i32_122
  let v214 : BitVec 32 := Scalar.subi v208 v213
  let c64_i32_126 : BitVec 32 := 64#32
  let v219 : BitVec 32 := Scalar.muli v107 c64_i32_126
  let v220 : BitVec 32 := Scalar.subi v214 v219
  let c128_i32_130 : BitVec 32 := 128#32
  let v225 : BitVec 32 := Scalar.muli v90 c128_i32_130
  let v226 : BitVec 32 := Scalar.subi v220 v225
  let c1_i32_132 : BitVec 32 := 1#32
  let c2_i32_131 : BitVec 32 := 2#32
  let v227 : BitVec 32 := Scalar.muli c2_i32_131 v57
  let v228 : BitVec 32 := Scalar.subi c1_i32_132 v227
  let c256_i32_133 : BitVec 32 := 256#32
  let v229 : BitVec 32 := Scalar.muli v228 c256_i32_133
  let v230 : BitVec 32 := Scalar.addi v226 v229
  let c128_i32_955 : BitVec 32 := 128#32
  let v1499 : BitVec 32 := Scalar.muli v90 c128_i32_955
  let v1500 : BitVec 32 := Scalar.addi v230 v1499
  v1500
def k0_off61 (d0 : Dev nD) : Fin 2 → Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32 : BitVec 32 := 256#32
  let v155 : BitVec 32 := Scalar.muli v57 c256_i32
  let v156 : BitVec 32 := Scalar.addi c0_i32_89 v155
  let c1_i32_41 : BitVec 32 := 1#32
  let v90 : BitVec 32 := Scalar.andi v46 c1_i32_41
  let c128_i32 : BitVec 32 := 128#32
  let v160 : BitVec 32 := Scalar.muli v90 c128_i32
  let v161 : BitVec 32 := Scalar.addi v156 v160
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c64_i32 : BitVec 32 := 64#32
  let v165 : BitVec 32 := Scalar.muli v107 c64_i32
  let v166 : BitVec 32 := Scalar.addi v161 v165
  let c1_i32_61 : BitVec 32 := 1#32
  let v124 : BitVec 32 := Scalar.shrsi v46 c1_i32_61
  let c1_i32_62 : BitVec 32 := 1#32
  let v125 : BitVec 32 := Scalar.andi v124 c1_i32_62
  let c32_i32_95 : BitVec 32 := 32#32
  let v167 : BitVec 32 := Scalar.muli v125 c32_i32_95
  let v168 : BitVec 32 := Scalar.addi v166 v167
  let c1_i32_72 : BitVec 32 := 1#32
  let v142 : BitVec 32 := Scalar.shrsi v19 c1_i32_72
  let c1_i32_73 : BitVec 32 := 1#32
  let v143 : BitVec 32 := Scalar.andi v142 c1_i32_73
  let c16_i32 : BitVec 32 := 16#32
  let v172 : BitVec 32 := Scalar.muli v143 c16_i32
  let v173 : BitVec 32 := Scalar.addi v168 v172
  let c16_i32_118 : BitVec 32 := 16#32
  let v207 : BitVec 32 := Scalar.muli v143 c16_i32_118
  let v208 : BitVec 32 := Scalar.subi v173 v207
  let c32_i32_122 : BitVec 32 := 32#32
  let v213 : BitVec 32 := Scalar.muli v125 c32_i32_122
  let v214 : BitVec 32 := Scalar.subi v208 v213
  let c64_i32_126 : BitVec 32 := 64#32
  let v219 : BitVec 32 := Scalar.muli v107 c64_i32_126
  let v220 : BitVec 32 := Scalar.subi v214 v219
  let c128_i32_130 : BitVec 32 := 128#32
  let v225 : BitVec 32 := Scalar.muli v90 c128_i32_130
  let v226 : BitVec 32 := Scalar.subi v220 v225
  let c1_i32_132 : BitVec 32 := 1#32
  let c2_i32_131 : BitVec 32 := 2#32
  let v227 : BitVec 32 := Scalar.muli c2_i32_131 v57
  let v228 : BitVec 32 := Scalar.subi c1_i32_132 v227
  let c256_i32_133 : BitVec 32 := 256#32
  let v229 : BitVec 32 := Scalar.muli v228 c256_i32_133
  let v230 : BitVec 32 := Scalar.addi v226 v229
  let c128_i32_955 : BitVec 32 := 128#32
  let v1499 : BitVec 32 := Scalar.muli v90 c128_i32_955
  let v1500 : BitVec 32 := Scalar.addi v230 v1499
  let v1503 : BitVec 32 := v1500
  let v1504 : Index := Scalar.indexCast v1503
  let c0_958 : Index := 0#32
  ![v1504.toNat, 0]
def k0_mult66 (d0 : Dev nD) : BitVec 32 :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32 : BitVec 32 := 256#32
  let v155 : BitVec 32 := Scalar.muli v57 c256_i32
  let v156 : BitVec 32 := Scalar.addi c0_i32_89 v155
  let c1_i32_41 : BitVec 32 := 1#32
  let v90 : BitVec 32 := Scalar.andi v46 c1_i32_41
  let c128_i32 : BitVec 32 := 128#32
  let v160 : BitVec 32 := Scalar.muli v90 c128_i32
  let v161 : BitVec 32 := Scalar.addi v156 v160
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c64_i32 : BitVec 32 := 64#32
  let v165 : BitVec 32 := Scalar.muli v107 c64_i32
  let v166 : BitVec 32 := Scalar.addi v161 v165
  let c1_i32_61 : BitVec 32 := 1#32
  let v124 : BitVec 32 := Scalar.shrsi v46 c1_i32_61
  let c1_i32_62 : BitVec 32 := 1#32
  let v125 : BitVec 32 := Scalar.andi v124 c1_i32_62
  let c32_i32_95 : BitVec 32 := 32#32
  let v167 : BitVec 32 := Scalar.muli v125 c32_i32_95
  let v168 : BitVec 32 := Scalar.addi v166 v167
  let c1_i32_72 : BitVec 32 := 1#32
  let v142 : BitVec 32 := Scalar.shrsi v19 c1_i32_72
  let c1_i32_73 : BitVec 32 := 1#32
  let v143 : BitVec 32 := Scalar.andi v142 c1_i32_73
  let c16_i32 : BitVec 32 := 16#32
  let v172 : BitVec 32 := Scalar.muli v143 c16_i32
  let v173 : BitVec 32 := Scalar.addi v168 v172
  let c16_i32_118 : BitVec 32 := 16#32
  let v207 : BitVec 32 := Scalar.muli v143 c16_i32_118
  let v208 : BitVec 32 := Scalar.subi v173 v207
  let c32_i32_122 : BitVec 32 := 32#32
  let v213 : BitVec 32 := Scalar.muli v125 c32_i32_122
  let v214 : BitVec 32 := Scalar.subi v208 v213
  let c64_i32_126 : BitVec 32 := 64#32
  let v219 : BitVec 32 := Scalar.muli v107 c64_i32_126
  let v220 : BitVec 32 := Scalar.subi v214 v219
  let c128_i32_130 : BitVec 32 := 128#32
  let v225 : BitVec 32 := Scalar.muli v90 c128_i32_130
  let v226 : BitVec 32 := Scalar.subi v220 v225
  let c1_i32_132 : BitVec 32 := 1#32
  let c2_i32_131 : BitVec 32 := 2#32
  let v227 : BitVec 32 := Scalar.muli c2_i32_131 v57
  let v228 : BitVec 32 := Scalar.subi c1_i32_132 v227
  let c256_i32_133 : BitVec 32 := 256#32
  let v229 : BitVec 32 := Scalar.muli v228 c256_i32_133
  let v230 : BitVec 32 := Scalar.addi v226 v229
  let c1_i32_959 : BitVec 32 := 1#32
  let v1506 : BitVec 32 := Scalar.subi c1_i32_959 v90
  let c128_i32_960 : BitVec 32 := 128#32
  let v1507 : BitVec 32 := Scalar.muli v1506 c128_i32_960
  let v1508 : BitVec 32 := Scalar.addi v230 v1507
  let c64_i32_968 : BitVec 32 := 64#32
  let v1515 : BitVec 32 := Scalar.muli v107 c64_i32_968
  let v1516 : BitVec 32 := Scalar.addi v1508 v1515
  v1516
def k0_off62 (d0 : Dev nD) : Fin 2 → Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32 : BitVec 32 := 256#32
  let v155 : BitVec 32 := Scalar.muli v57 c256_i32
  let v156 : BitVec 32 := Scalar.addi c0_i32_89 v155
  let c1_i32_41 : BitVec 32 := 1#32
  let v90 : BitVec 32 := Scalar.andi v46 c1_i32_41
  let c128_i32 : BitVec 32 := 128#32
  let v160 : BitVec 32 := Scalar.muli v90 c128_i32
  let v161 : BitVec 32 := Scalar.addi v156 v160
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c64_i32 : BitVec 32 := 64#32
  let v165 : BitVec 32 := Scalar.muli v107 c64_i32
  let v166 : BitVec 32 := Scalar.addi v161 v165
  let c1_i32_61 : BitVec 32 := 1#32
  let v124 : BitVec 32 := Scalar.shrsi v46 c1_i32_61
  let c1_i32_62 : BitVec 32 := 1#32
  let v125 : BitVec 32 := Scalar.andi v124 c1_i32_62
  let c32_i32_95 : BitVec 32 := 32#32
  let v167 : BitVec 32 := Scalar.muli v125 c32_i32_95
  let v168 : BitVec 32 := Scalar.addi v166 v167
  let c1_i32_72 : BitVec 32 := 1#32
  let v142 : BitVec 32 := Scalar.shrsi v19 c1_i32_72
  let c1_i32_73 : BitVec 32 := 1#32
  let v143 : BitVec 32 := Scalar.andi v142 c1_i32_73
  let c16_i32 : BitVec 32 := 16#32
  let v172 : BitVec 32 := Scalar.muli v143 c16_i32
  let v173 : BitVec 32 := Scalar.addi v168 v172
  let c16_i32_118 : BitVec 32 := 16#32
  let v207 : BitVec 32 := Scalar.muli v143 c16_i32_118
  let v208 : BitVec 32 := Scalar.subi v173 v207
  let c32_i32_122 : BitVec 32 := 32#32
  let v213 : BitVec 32 := Scalar.muli v125 c32_i32_122
  let v214 : BitVec 32 := Scalar.subi v208 v213
  let c64_i32_126 : BitVec 32 := 64#32
  let v219 : BitVec 32 := Scalar.muli v107 c64_i32_126
  let v220 : BitVec 32 := Scalar.subi v214 v219
  let c128_i32_130 : BitVec 32 := 128#32
  let v225 : BitVec 32 := Scalar.muli v90 c128_i32_130
  let v226 : BitVec 32 := Scalar.subi v220 v225
  let c1_i32_132 : BitVec 32 := 1#32
  let c2_i32_131 : BitVec 32 := 2#32
  let v227 : BitVec 32 := Scalar.muli c2_i32_131 v57
  let v228 : BitVec 32 := Scalar.subi c1_i32_132 v227
  let c256_i32_133 : BitVec 32 := 256#32
  let v229 : BitVec 32 := Scalar.muli v228 c256_i32_133
  let v230 : BitVec 32 := Scalar.addi v226 v229
  let c1_i32_959 : BitVec 32 := 1#32
  let v1506 : BitVec 32 := Scalar.subi c1_i32_959 v90
  let c128_i32_960 : BitVec 32 := 128#32
  let v1507 : BitVec 32 := Scalar.muli v1506 c128_i32_960
  let v1508 : BitVec 32 := Scalar.addi v230 v1507
  let c64_i32_968 : BitVec 32 := 64#32
  let v1515 : BitVec 32 := Scalar.muli v107 c64_i32_968
  let v1516 : BitVec 32 := Scalar.addi v1508 v1515
  let v1519 : BitVec 32 := v1516
  let v1520 : Index := Scalar.indexCast v1519
  let c0_971 : Index := 0#32
  ![v1520.toNat, 0]
def k0_mult67 (d0 : Dev nD) : BitVec 32 :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32 : BitVec 32 := 256#32
  let v155 : BitVec 32 := Scalar.muli v57 c256_i32
  let v156 : BitVec 32 := Scalar.addi c0_i32_89 v155
  let c1_i32_41 : BitVec 32 := 1#32
  let v90 : BitVec 32 := Scalar.andi v46 c1_i32_41
  let c128_i32 : BitVec 32 := 128#32
  let v160 : BitVec 32 := Scalar.muli v90 c128_i32
  let v161 : BitVec 32 := Scalar.addi v156 v160
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c64_i32 : BitVec 32 := 64#32
  let v165 : BitVec 32 := Scalar.muli v107 c64_i32
  let v166 : BitVec 32 := Scalar.addi v161 v165
  let c1_i32_61 : BitVec 32 := 1#32
  let v124 : BitVec 32 := Scalar.shrsi v46 c1_i32_61
  let c1_i32_62 : BitVec 32 := 1#32
  let v125 : BitVec 32 := Scalar.andi v124 c1_i32_62
  let c32_i32_95 : BitVec 32 := 32#32
  let v167 : BitVec 32 := Scalar.muli v125 c32_i32_95
  let v168 : BitVec 32 := Scalar.addi v166 v167
  let c1_i32_72 : BitVec 32 := 1#32
  let v142 : BitVec 32 := Scalar.shrsi v19 c1_i32_72
  let c1_i32_73 : BitVec 32 := 1#32
  let v143 : BitVec 32 := Scalar.andi v142 c1_i32_73
  let c16_i32 : BitVec 32 := 16#32
  let v172 : BitVec 32 := Scalar.muli v143 c16_i32
  let v173 : BitVec 32 := Scalar.addi v168 v172
  let c16_i32_118 : BitVec 32 := 16#32
  let v207 : BitVec 32 := Scalar.muli v143 c16_i32_118
  let v208 : BitVec 32 := Scalar.subi v173 v207
  let c32_i32_122 : BitVec 32 := 32#32
  let v213 : BitVec 32 := Scalar.muli v125 c32_i32_122
  let v214 : BitVec 32 := Scalar.subi v208 v213
  let c64_i32_126 : BitVec 32 := 64#32
  let v219 : BitVec 32 := Scalar.muli v107 c64_i32_126
  let v220 : BitVec 32 := Scalar.subi v214 v219
  let c128_i32_130 : BitVec 32 := 128#32
  let v225 : BitVec 32 := Scalar.muli v90 c128_i32_130
  let v226 : BitVec 32 := Scalar.subi v220 v225
  let c1_i32_132 : BitVec 32 := 1#32
  let c2_i32_131 : BitVec 32 := 2#32
  let v227 : BitVec 32 := Scalar.muli c2_i32_131 v57
  let v228 : BitVec 32 := Scalar.subi c1_i32_132 v227
  let c256_i32_133 : BitVec 32 := 256#32
  let v229 : BitVec 32 := Scalar.muli v228 c256_i32_133
  let v230 : BitVec 32 := Scalar.addi v226 v229
  let c1_i32_959 : BitVec 32 := 1#32
  let v1506 : BitVec 32 := Scalar.subi c1_i32_959 v90
  let c128_i32_960 : BitVec 32 := 128#32
  let v1507 : BitVec 32 := Scalar.muli v1506 c128_i32_960
  let v1508 : BitVec 32 := Scalar.addi v230 v1507
  let c1_i32_979 : BitVec 32 := 1#32
  let v1528 : BitVec 32 := Scalar.subi c1_i32_979 v107
  let c64_i32_980 : BitVec 32 := 64#32
  let v1529 : BitVec 32 := Scalar.muli v1528 c64_i32_980
  let v1530 : BitVec 32 := Scalar.addi v1508 v1529
  v1530
def k0_off63 (d0 : Dev nD) : Fin 2 → Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c256_i32 : BitVec 32 := 256#32
  let v155 : BitVec 32 := Scalar.muli v57 c256_i32
  let v156 : BitVec 32 := Scalar.addi c0_i32_89 v155
  let c1_i32_41 : BitVec 32 := 1#32
  let v90 : BitVec 32 := Scalar.andi v46 c1_i32_41
  let c128_i32 : BitVec 32 := 128#32
  let v160 : BitVec 32 := Scalar.muli v90 c128_i32
  let v161 : BitVec 32 := Scalar.addi v156 v160
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c64_i32 : BitVec 32 := 64#32
  let v165 : BitVec 32 := Scalar.muli v107 c64_i32
  let v166 : BitVec 32 := Scalar.addi v161 v165
  let c1_i32_61 : BitVec 32 := 1#32
  let v124 : BitVec 32 := Scalar.shrsi v46 c1_i32_61
  let c1_i32_62 : BitVec 32 := 1#32
  let v125 : BitVec 32 := Scalar.andi v124 c1_i32_62
  let c32_i32_95 : BitVec 32 := 32#32
  let v167 : BitVec 32 := Scalar.muli v125 c32_i32_95
  let v168 : BitVec 32 := Scalar.addi v166 v167
  let c1_i32_72 : BitVec 32 := 1#32
  let v142 : BitVec 32 := Scalar.shrsi v19 c1_i32_72
  let c1_i32_73 : BitVec 32 := 1#32
  let v143 : BitVec 32 := Scalar.andi v142 c1_i32_73
  let c16_i32 : BitVec 32 := 16#32
  let v172 : BitVec 32 := Scalar.muli v143 c16_i32
  let v173 : BitVec 32 := Scalar.addi v168 v172
  let c16_i32_118 : BitVec 32 := 16#32
  let v207 : BitVec 32 := Scalar.muli v143 c16_i32_118
  let v208 : BitVec 32 := Scalar.subi v173 v207
  let c32_i32_122 : BitVec 32 := 32#32
  let v213 : BitVec 32 := Scalar.muli v125 c32_i32_122
  let v214 : BitVec 32 := Scalar.subi v208 v213
  let c64_i32_126 : BitVec 32 := 64#32
  let v219 : BitVec 32 := Scalar.muli v107 c64_i32_126
  let v220 : BitVec 32 := Scalar.subi v214 v219
  let c128_i32_130 : BitVec 32 := 128#32
  let v225 : BitVec 32 := Scalar.muli v90 c128_i32_130
  let v226 : BitVec 32 := Scalar.subi v220 v225
  let c1_i32_132 : BitVec 32 := 1#32
  let c2_i32_131 : BitVec 32 := 2#32
  let v227 : BitVec 32 := Scalar.muli c2_i32_131 v57
  let v228 : BitVec 32 := Scalar.subi c1_i32_132 v227
  let c256_i32_133 : BitVec 32 := 256#32
  let v229 : BitVec 32 := Scalar.muli v228 c256_i32_133
  let v230 : BitVec 32 := Scalar.addi v226 v229
  let c1_i32_959 : BitVec 32 := 1#32
  let v1506 : BitVec 32 := Scalar.subi c1_i32_959 v90
  let c128_i32_960 : BitVec 32 := 128#32
  let v1507 : BitVec 32 := Scalar.muli v1506 c128_i32_960
  let v1508 : BitVec 32 := Scalar.addi v230 v1507
  let c1_i32_979 : BitVec 32 := 1#32
  let v1528 : BitVec 32 := Scalar.subi c1_i32_979 v107
  let c64_i32_980 : BitVec 32 := 64#32
  let v1529 : BitVec 32 := Scalar.muli v1528 c64_i32_980
  let v1530 : BitVec 32 := Scalar.addi v1508 v1529
  let v1533 : BitVec 32 := v1530
  let v1534 : Index := Scalar.indexCast v1533
  let c0_983 : Index := 0#32
  ![v1534.toNat, 0]
def k0_mult68 (d0 : Dev nD) : BitVec 32 :=
  let c512_i32 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_41 : BitVec 32 := 1#32
  let v90 : BitVec 32 := Scalar.andi v46 c1_i32_41
  let c256_i32_134 : BitVec 32 := 256#32
  let v231 : BitVec 32 := Scalar.muli v90 c256_i32_134
  let v232 : BitVec 32 := Scalar.addi c512_i32 v231
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c128_i32_138 : BitVec 32 := 128#32
  let v236 : BitVec 32 := Scalar.muli v107 c128_i32_138
  let v237 : BitVec 32 := Scalar.addi v232 v236
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c64_i32_141 : BitVec 32 := 64#32
  let v241 : BitVec 32 := Scalar.muli v57 c64_i32_141
  let v242 : BitVec 32 := Scalar.addi v237 v241
  let c1_i32_72 : BitVec 32 := 1#32
  let v142 : BitVec 32 := Scalar.shrsi v19 c1_i32_72
  let c1_i32_73 : BitVec 32 := 1#32
  let v143 : BitVec 32 := Scalar.andi v142 c1_i32_73
  let c32_i32_142 : BitVec 32 := 32#32
  let v243 : BitVec 32 := Scalar.muli v143 c32_i32_142
  let v244 : BitVec 32 := Scalar.addi v242 v243
  let c1_i32_61 : BitVec 32 := 1#32
  let v124 : BitVec 32 := Scalar.shrsi v46 c1_i32_61
  let c1_i32_62 : BitVec 32 := 1#32
  let v125 : BitVec 32 := Scalar.andi v124 c1_i32_62
  let c16_i32_145 : BitVec 32 := 16#32
  let v248 : BitVec 32 := Scalar.muli v125 c16_i32_145
  let v249 : BitVec 32 := Scalar.addi v244 v248
  let c16_i32_166 : BitVec 32 := 16#32
  let v283 : BitVec 32 := Scalar.muli v125 c16_i32_166
  let v284 : BitVec 32 := Scalar.subi v249 v283
  let c32_i32_170 : BitVec 32 := 32#32
  let v289 : BitVec 32 := Scalar.muli v143 c32_i32_170
  let v290 : BitVec 32 := Scalar.subi v284 v289
  let c64_i32_174 : BitVec 32 := 64#32
  let v295 : BitVec 32 := Scalar.muli v57 c64_i32_174
  let v296 : BitVec 32 := Scalar.subi v290 v295
  let c128_i32_178 : BitVec 32 := 128#32
  let v301 : BitVec 32 := Scalar.muli v107 c128_i32_178
  let v302 : BitVec 32 := Scalar.subi v296 v301
  let c1_i32_180 : BitVec 32 := 1#32
  let c2_i32_179 : BitVec 32 := 2#32
  let v303 : BitVec 32 := Scalar.muli c2_i32_179 v90
  let v304 : BitVec 32 := Scalar.subi c1_i32_180 v303
  let c256_i32_181 : BitVec 32 := 256#32
  let v305 : BitVec 32 := Scalar.muli v304 c256_i32_181
  let v306 : BitVec 32 := Scalar.addi v302 v305
  let c128_i32_991 : BitVec 32 := 128#32
  let v1542 : BitVec 32 := Scalar.muli v107 c128_i32_991
  let v1543 : BitVec 32 := Scalar.addi v306 v1542
  v1543
def k0_off64 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_41 : BitVec 32 := 1#32
  let v90 : BitVec 32 := Scalar.andi v46 c1_i32_41
  let c256_i32_134 : BitVec 32 := 256#32
  let v231 : BitVec 32 := Scalar.muli v90 c256_i32_134
  let v232 : BitVec 32 := Scalar.addi c512_i32 v231
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c128_i32_138 : BitVec 32 := 128#32
  let v236 : BitVec 32 := Scalar.muli v107 c128_i32_138
  let v237 : BitVec 32 := Scalar.addi v232 v236
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c64_i32_141 : BitVec 32 := 64#32
  let v241 : BitVec 32 := Scalar.muli v57 c64_i32_141
  let v242 : BitVec 32 := Scalar.addi v237 v241
  let c1_i32_72 : BitVec 32 := 1#32
  let v142 : BitVec 32 := Scalar.shrsi v19 c1_i32_72
  let c1_i32_73 : BitVec 32 := 1#32
  let v143 : BitVec 32 := Scalar.andi v142 c1_i32_73
  let c32_i32_142 : BitVec 32 := 32#32
  let v243 : BitVec 32 := Scalar.muli v143 c32_i32_142
  let v244 : BitVec 32 := Scalar.addi v242 v243
  let c1_i32_61 : BitVec 32 := 1#32
  let v124 : BitVec 32 := Scalar.shrsi v46 c1_i32_61
  let c1_i32_62 : BitVec 32 := 1#32
  let v125 : BitVec 32 := Scalar.andi v124 c1_i32_62
  let c16_i32_145 : BitVec 32 := 16#32
  let v248 : BitVec 32 := Scalar.muli v125 c16_i32_145
  let v249 : BitVec 32 := Scalar.addi v244 v248
  let c16_i32_166 : BitVec 32 := 16#32
  let v283 : BitVec 32 := Scalar.muli v125 c16_i32_166
  let v284 : BitVec 32 := Scalar.subi v249 v283
  let c32_i32_170 : BitVec 32 := 32#32
  let v289 : BitVec 32 := Scalar.muli v143 c32_i32_170
  let v290 : BitVec 32 := Scalar.subi v284 v289
  let c64_i32_174 : BitVec 32 := 64#32
  let v295 : BitVec 32 := Scalar.muli v57 c64_i32_174
  let v296 : BitVec 32 := Scalar.subi v290 v295
  let c128_i32_178 : BitVec 32 := 128#32
  let v301 : BitVec 32 := Scalar.muli v107 c128_i32_178
  let v302 : BitVec 32 := Scalar.subi v296 v301
  let c1_i32_180 : BitVec 32 := 1#32
  let c2_i32_179 : BitVec 32 := 2#32
  let v303 : BitVec 32 := Scalar.muli c2_i32_179 v90
  let v304 : BitVec 32 := Scalar.subi c1_i32_180 v303
  let c256_i32_181 : BitVec 32 := 256#32
  let v305 : BitVec 32 := Scalar.muli v304 c256_i32_181
  let v306 : BitVec 32 := Scalar.addi v302 v305
  let c128_i32_991 : BitVec 32 := 128#32
  let v1542 : BitVec 32 := Scalar.muli v107 c128_i32_991
  let v1543 : BitVec 32 := Scalar.addi v306 v1542
  let v1546 : BitVec 32 := v1543
  let v1547 : Index := Scalar.indexCast v1546
  let c0_994 : Index := 0#32
  ![v1547.toNat, 0]
def k0_mult69 (d0 : Dev nD) : BitVec 32 :=
  let c512_i32 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_41 : BitVec 32 := 1#32
  let v90 : BitVec 32 := Scalar.andi v46 c1_i32_41
  let c256_i32_134 : BitVec 32 := 256#32
  let v231 : BitVec 32 := Scalar.muli v90 c256_i32_134
  let v232 : BitVec 32 := Scalar.addi c512_i32 v231
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c128_i32_138 : BitVec 32 := 128#32
  let v236 : BitVec 32 := Scalar.muli v107 c128_i32_138
  let v237 : BitVec 32 := Scalar.addi v232 v236
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c64_i32_141 : BitVec 32 := 64#32
  let v241 : BitVec 32 := Scalar.muli v57 c64_i32_141
  let v242 : BitVec 32 := Scalar.addi v237 v241
  let c1_i32_72 : BitVec 32 := 1#32
  let v142 : BitVec 32 := Scalar.shrsi v19 c1_i32_72
  let c1_i32_73 : BitVec 32 := 1#32
  let v143 : BitVec 32 := Scalar.andi v142 c1_i32_73
  let c32_i32_142 : BitVec 32 := 32#32
  let v243 : BitVec 32 := Scalar.muli v143 c32_i32_142
  let v244 : BitVec 32 := Scalar.addi v242 v243
  let c1_i32_61 : BitVec 32 := 1#32
  let v124 : BitVec 32 := Scalar.shrsi v46 c1_i32_61
  let c1_i32_62 : BitVec 32 := 1#32
  let v125 : BitVec 32 := Scalar.andi v124 c1_i32_62
  let c16_i32_145 : BitVec 32 := 16#32
  let v248 : BitVec 32 := Scalar.muli v125 c16_i32_145
  let v249 : BitVec 32 := Scalar.addi v244 v248
  let c16_i32_166 : BitVec 32 := 16#32
  let v283 : BitVec 32 := Scalar.muli v125 c16_i32_166
  let v284 : BitVec 32 := Scalar.subi v249 v283
  let c32_i32_170 : BitVec 32 := 32#32
  let v289 : BitVec 32 := Scalar.muli v143 c32_i32_170
  let v290 : BitVec 32 := Scalar.subi v284 v289
  let c64_i32_174 : BitVec 32 := 64#32
  let v295 : BitVec 32 := Scalar.muli v57 c64_i32_174
  let v296 : BitVec 32 := Scalar.subi v290 v295
  let c128_i32_178 : BitVec 32 := 128#32
  let v301 : BitVec 32 := Scalar.muli v107 c128_i32_178
  let v302 : BitVec 32 := Scalar.subi v296 v301
  let c1_i32_180 : BitVec 32 := 1#32
  let c2_i32_179 : BitVec 32 := 2#32
  let v303 : BitVec 32 := Scalar.muli c2_i32_179 v90
  let v304 : BitVec 32 := Scalar.subi c1_i32_180 v303
  let c256_i32_181 : BitVec 32 := 256#32
  let v305 : BitVec 32 := Scalar.muli v304 c256_i32_181
  let v306 : BitVec 32 := Scalar.addi v302 v305
  let c1_i32_995 : BitVec 32 := 1#32
  let v1549 : BitVec 32 := Scalar.subi c1_i32_995 v107
  let c128_i32_996 : BitVec 32 := 128#32
  let v1550 : BitVec 32 := Scalar.muli v1549 c128_i32_996
  let v1551 : BitVec 32 := Scalar.addi v306 v1550
  let c64_i32_1004 : BitVec 32 := 64#32
  let v1558 : BitVec 32 := Scalar.muli v57 c64_i32_1004
  let v1559 : BitVec 32 := Scalar.addi v1551 v1558
  v1559
def k0_off65 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_41 : BitVec 32 := 1#32
  let v90 : BitVec 32 := Scalar.andi v46 c1_i32_41
  let c256_i32_134 : BitVec 32 := 256#32
  let v231 : BitVec 32 := Scalar.muli v90 c256_i32_134
  let v232 : BitVec 32 := Scalar.addi c512_i32 v231
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c128_i32_138 : BitVec 32 := 128#32
  let v236 : BitVec 32 := Scalar.muli v107 c128_i32_138
  let v237 : BitVec 32 := Scalar.addi v232 v236
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c64_i32_141 : BitVec 32 := 64#32
  let v241 : BitVec 32 := Scalar.muli v57 c64_i32_141
  let v242 : BitVec 32 := Scalar.addi v237 v241
  let c1_i32_72 : BitVec 32 := 1#32
  let v142 : BitVec 32 := Scalar.shrsi v19 c1_i32_72
  let c1_i32_73 : BitVec 32 := 1#32
  let v143 : BitVec 32 := Scalar.andi v142 c1_i32_73
  let c32_i32_142 : BitVec 32 := 32#32
  let v243 : BitVec 32 := Scalar.muli v143 c32_i32_142
  let v244 : BitVec 32 := Scalar.addi v242 v243
  let c1_i32_61 : BitVec 32 := 1#32
  let v124 : BitVec 32 := Scalar.shrsi v46 c1_i32_61
  let c1_i32_62 : BitVec 32 := 1#32
  let v125 : BitVec 32 := Scalar.andi v124 c1_i32_62
  let c16_i32_145 : BitVec 32 := 16#32
  let v248 : BitVec 32 := Scalar.muli v125 c16_i32_145
  let v249 : BitVec 32 := Scalar.addi v244 v248
  let c16_i32_166 : BitVec 32 := 16#32
  let v283 : BitVec 32 := Scalar.muli v125 c16_i32_166
  let v284 : BitVec 32 := Scalar.subi v249 v283
  let c32_i32_170 : BitVec 32 := 32#32
  let v289 : BitVec 32 := Scalar.muli v143 c32_i32_170
  let v290 : BitVec 32 := Scalar.subi v284 v289
  let c64_i32_174 : BitVec 32 := 64#32
  let v295 : BitVec 32 := Scalar.muli v57 c64_i32_174
  let v296 : BitVec 32 := Scalar.subi v290 v295
  let c128_i32_178 : BitVec 32 := 128#32
  let v301 : BitVec 32 := Scalar.muli v107 c128_i32_178
  let v302 : BitVec 32 := Scalar.subi v296 v301
  let c1_i32_180 : BitVec 32 := 1#32
  let c2_i32_179 : BitVec 32 := 2#32
  let v303 : BitVec 32 := Scalar.muli c2_i32_179 v90
  let v304 : BitVec 32 := Scalar.subi c1_i32_180 v303
  let c256_i32_181 : BitVec 32 := 256#32
  let v305 : BitVec 32 := Scalar.muli v304 c256_i32_181
  let v306 : BitVec 32 := Scalar.addi v302 v305
  let c1_i32_995 : BitVec 32 := 1#32
  let v1549 : BitVec 32 := Scalar.subi c1_i32_995 v107
  let c128_i32_996 : BitVec 32 := 128#32
  let v1550 : BitVec 32 := Scalar.muli v1549 c128_i32_996
  let v1551 : BitVec 32 := Scalar.addi v306 v1550
  let c64_i32_1004 : BitVec 32 := 64#32
  let v1558 : BitVec 32 := Scalar.muli v57 c64_i32_1004
  let v1559 : BitVec 32 := Scalar.addi v1551 v1558
  let v1562 : BitVec 32 := v1559
  let v1563 : Index := Scalar.indexCast v1562
  let c0_1007 : Index := 0#32
  ![v1563.toNat, 0]
def k0_mult70 (d0 : Dev nD) : BitVec 32 :=
  let c512_i32 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_41 : BitVec 32 := 1#32
  let v90 : BitVec 32 := Scalar.andi v46 c1_i32_41
  let c256_i32_134 : BitVec 32 := 256#32
  let v231 : BitVec 32 := Scalar.muli v90 c256_i32_134
  let v232 : BitVec 32 := Scalar.addi c512_i32 v231
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c128_i32_138 : BitVec 32 := 128#32
  let v236 : BitVec 32 := Scalar.muli v107 c128_i32_138
  let v237 : BitVec 32 := Scalar.addi v232 v236
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c64_i32_141 : BitVec 32 := 64#32
  let v241 : BitVec 32 := Scalar.muli v57 c64_i32_141
  let v242 : BitVec 32 := Scalar.addi v237 v241
  let c1_i32_72 : BitVec 32 := 1#32
  let v142 : BitVec 32 := Scalar.shrsi v19 c1_i32_72
  let c1_i32_73 : BitVec 32 := 1#32
  let v143 : BitVec 32 := Scalar.andi v142 c1_i32_73
  let c32_i32_142 : BitVec 32 := 32#32
  let v243 : BitVec 32 := Scalar.muli v143 c32_i32_142
  let v244 : BitVec 32 := Scalar.addi v242 v243
  let c1_i32_61 : BitVec 32 := 1#32
  let v124 : BitVec 32 := Scalar.shrsi v46 c1_i32_61
  let c1_i32_62 : BitVec 32 := 1#32
  let v125 : BitVec 32 := Scalar.andi v124 c1_i32_62
  let c16_i32_145 : BitVec 32 := 16#32
  let v248 : BitVec 32 := Scalar.muli v125 c16_i32_145
  let v249 : BitVec 32 := Scalar.addi v244 v248
  let c16_i32_166 : BitVec 32 := 16#32
  let v283 : BitVec 32 := Scalar.muli v125 c16_i32_166
  let v284 : BitVec 32 := Scalar.subi v249 v283
  let c32_i32_170 : BitVec 32 := 32#32
  let v289 : BitVec 32 := Scalar.muli v143 c32_i32_170
  let v290 : BitVec 32 := Scalar.subi v284 v289
  let c64_i32_174 : BitVec 32 := 64#32
  let v295 : BitVec 32 := Scalar.muli v57 c64_i32_174
  let v296 : BitVec 32 := Scalar.subi v290 v295
  let c128_i32_178 : BitVec 32 := 128#32
  let v301 : BitVec 32 := Scalar.muli v107 c128_i32_178
  let v302 : BitVec 32 := Scalar.subi v296 v301
  let c1_i32_180 : BitVec 32 := 1#32
  let c2_i32_179 : BitVec 32 := 2#32
  let v303 : BitVec 32 := Scalar.muli c2_i32_179 v90
  let v304 : BitVec 32 := Scalar.subi c1_i32_180 v303
  let c256_i32_181 : BitVec 32 := 256#32
  let v305 : BitVec 32 := Scalar.muli v304 c256_i32_181
  let v306 : BitVec 32 := Scalar.addi v302 v305
  let c1_i32_995 : BitVec 32 := 1#32
  let v1549 : BitVec 32 := Scalar.subi c1_i32_995 v107
  let c128_i32_996 : BitVec 32 := 128#32
  let v1550 : BitVec 32 := Scalar.muli v1549 c128_i32_996
  let v1551 : BitVec 32 := Scalar.addi v306 v1550
  let c1_i32_1015 : BitVec 32 := 1#32
  let v1571 : BitVec 32 := Scalar.subi c1_i32_1015 v57
  let c64_i32_1016 : BitVec 32 := 64#32
  let v1572 : BitVec 32 := Scalar.muli v1571 c64_i32_1016
  let v1573 : BitVec 32 := Scalar.addi v1551 v1572
  v1573
def k0_off66 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_41 : BitVec 32 := 1#32
  let v90 : BitVec 32 := Scalar.andi v46 c1_i32_41
  let c256_i32_134 : BitVec 32 := 256#32
  let v231 : BitVec 32 := Scalar.muli v90 c256_i32_134
  let v232 : BitVec 32 := Scalar.addi c512_i32 v231
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_51 : BitVec 32 := 1#32
  let v107 : BitVec 32 := Scalar.andi v19 c1_i32_51
  let c128_i32_138 : BitVec 32 := 128#32
  let v236 : BitVec 32 := Scalar.muli v107 c128_i32_138
  let v237 : BitVec 32 := Scalar.addi v232 v236
  let v47 : BitVec 32 := Scalar.addi v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c64_i32_141 : BitVec 32 := 64#32
  let v241 : BitVec 32 := Scalar.muli v57 c64_i32_141
  let v242 : BitVec 32 := Scalar.addi v237 v241
  let c1_i32_72 : BitVec 32 := 1#32
  let v142 : BitVec 32 := Scalar.shrsi v19 c1_i32_72
  let c1_i32_73 : BitVec 32 := 1#32
  let v143 : BitVec 32 := Scalar.andi v142 c1_i32_73
  let c32_i32_142 : BitVec 32 := 32#32
  let v243 : BitVec 32 := Scalar.muli v143 c32_i32_142
  let v244 : BitVec 32 := Scalar.addi v242 v243
  let c1_i32_61 : BitVec 32 := 1#32
  let v124 : BitVec 32 := Scalar.shrsi v46 c1_i32_61
  let c1_i32_62 : BitVec 32 := 1#32
  let v125 : BitVec 32 := Scalar.andi v124 c1_i32_62
  let c16_i32_145 : BitVec 32 := 16#32
  let v248 : BitVec 32 := Scalar.muli v125 c16_i32_145
  let v249 : BitVec 32 := Scalar.addi v244 v248
  let c16_i32_166 : BitVec 32 := 16#32
  let v283 : BitVec 32 := Scalar.muli v125 c16_i32_166
  let v284 : BitVec 32 := Scalar.subi v249 v283
  let c32_i32_170 : BitVec 32 := 32#32
  let v289 : BitVec 32 := Scalar.muli v143 c32_i32_170
  let v290 : BitVec 32 := Scalar.subi v284 v289
  let c64_i32_174 : BitVec 32 := 64#32
  let v295 : BitVec 32 := Scalar.muli v57 c64_i32_174
  let v296 : BitVec 32 := Scalar.subi v290 v295
  let c128_i32_178 : BitVec 32 := 128#32
  let v301 : BitVec 32 := Scalar.muli v107 c128_i32_178
  let v302 : BitVec 32 := Scalar.subi v296 v301
  let c1_i32_180 : BitVec 32 := 1#32
  let c2_i32_179 : BitVec 32 := 2#32
  let v303 : BitVec 32 := Scalar.muli c2_i32_179 v90
  let v304 : BitVec 32 := Scalar.subi c1_i32_180 v303
  let c256_i32_181 : BitVec 32 := 256#32
  let v305 : BitVec 32 := Scalar.muli v304 c256_i32_181
  let v306 : BitVec 32 := Scalar.addi v302 v305
  let c1_i32_995 : BitVec 32 := 1#32
  let v1549 : BitVec 32 := Scalar.subi c1_i32_995 v107
  let c128_i32_996 : BitVec 32 := 128#32
  let v1550 : BitVec 32 := Scalar.muli v1549 c128_i32_996
  let v1551 : BitVec 32 := Scalar.addi v306 v1550
  let c1_i32_1015 : BitVec 32 := 1#32
  let v1571 : BitVec 32 := Scalar.subi c1_i32_1015 v57
  let c64_i32_1016 : BitVec 32 := 64#32
  let v1572 : BitVec 32 := Scalar.muli v1571 c64_i32_1016
  let v1573 : BitVec 32 := Scalar.addi v1551 v1572
  let v1576 : BitVec 32 := v1573
  let v1577 : Index := Scalar.indexCast v1576
  let c0_1019 : Index := 0#32
  ![v1577.toNat, 0]
abbrev stage0_0 : Fin 1 → Memref sig .tc .vmem S1x1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S32x1024x1024 : Shape := ⟨3, ![32, 1024, 1024]⟩
abbrev S_ : Shape := ⟨0, ![]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S32x1024x1024, .bf16⟩
  | .hbm, ⟨1, _⟩ => ⟨S32x1024x1024, .f32⟩
  | .hbm, ⟨2, _⟩ => ⟨S_, .f32⟩
  | .hbm, ⟨3, _⟩ => ⟨S1024x1024, .f32⟩
  | .hbm, ⟨4, _⟩ => ⟨S1024x1024, .bf16⟩
  | .hbm, ⟨5, _⟩ => ⟨S1024x1024, .f32⟩
  | _, _ => ⟨S32x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Table.lean ====
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

/-! The kernel as a table: its 84 exchange buffers, its 46 copies between partner devices, and the list
of the 162 steps of its body, each step one of a few kinds. -/

@[expose] public section

set_option maxRecDepth 65536

noncomputable section

namespace Cert.AllReduce

open Cert.KernelIdeal Cert.KernelIdeal.Gen
open Idealize.ShloMosaic
open Idealize.SL Idealize.SL.Sem

/-- A block of `m` rows of 1024 columns. -/
abbrev Sh (m : ℕ) : Shape := ⟨2, ![m, 1024]⟩

/-- The whole of a block lies in the block. -/
theorem Sh.inb (m : ℕ) : ∀ a, (![0, 0] : Fin 2 → ℕ) a + (Sh m).size a ≤ (Sh m).size a := by
  intro a; match a with
  | 0 => simp
  | 1 => simp

/-- An exchange buffer: its number of rows, its memref, and what the memory operations ask of it. -/
structure Buf where
  m : ℕ
  M : Memref sig .tc .vmem (Sh m) .bf16
  whole : M.IsWhole
  pos : 0 < (Sh m).numel
  packed : (Rect.unit (s := Sh m) ![0, 0] (Sh m).size (Sh.inb m)).PackedRows (EltTy.packing .bf16)

/-- A block of 16 rows has elements. -/
theorem pos16 : 0 < (Sh 16).numel := by decide
/-- A whole block of 16 rows is made of packed rows. -/
theorem packed16 : (Rect.unit (s := Sh 16) ![0, 0] (Sh 16).size (Sh.inb 16)).PackedRows (EltTy.packing .bf16) := by decide
/-- A buffer of 16 rows. -/
abbrev buf16 (M : Memref sig .tc .vmem (Sh 16) .bf16) (h : M.IsWhole) : Buf := ⟨16, M, h, pos16, packed16⟩
/-- A block of 32 rows has elements. -/
theorem pos32 : 0 < (Sh 32).numel := by decide
/-- A whole block of 32 rows is made of packed rows. -/
theorem packed32 : (Rect.unit (s := Sh 32) ![0, 0] (Sh 32).size (Sh.inb 32)).PackedRows (EltTy.packing .bf16) := by decide
/-- A buffer of 32 rows. -/
abbrev buf32 (M : Memref sig .tc .vmem (Sh 32) .bf16) (h : M.IsWhole) : Buf := ⟨32, M, h, pos32, packed32⟩
/-- A block of 64 rows has elements. -/
theorem pos64 : 0 < (Sh 64).numel := by decide
/-- A whole block of 64 rows is made of packed rows. -/
theorem packed64 : (Rect.unit (s := Sh 64) ![0, 0] (Sh 64).size (Sh.inb 64)).PackedRows (EltTy.packing .bf16) := by decide
/-- A buffer of 64 rows. -/
abbrev buf64 (M : Memref sig .tc .vmem (Sh 64) .bf16) (h : M.IsWhole) : Buf := ⟨64, M, h, pos64, packed64⟩
/-- A block of 128 rows has elements. -/
theorem pos128 : 0 < (Sh 128).numel := by decide
/-- A whole block of 128 rows is made of packed rows. -/
theorem packed128 : (Rect.unit (s := Sh 128) ![0, 0] (Sh 128).size (Sh.inb 128)).PackedRows (EltTy.packing .bf16) := by decide
/-- A buffer of 128 rows. -/
abbrev buf128 (M : Memref sig .tc .vmem (Sh 128) .bf16) (h : M.IsWhole) : Buf := ⟨128, M, h, pos128, packed128⟩

/-- The exchange buffers, in order. -/
def bufL : List Buf := [
  buf64 (Memref.whole cc0_scratch0) (Memref.isWhole_whole _),
  buf64 (Memref.whole cc0_scratch1) (Memref.isWhole_whole _),
  buf64 (Memref.whole cc0_scratch2) (Memref.isWhole_whole _),
  buf64 (Memref.whole cc0_scratch3) (Memref.isWhole_whole _),
  buf128 (Memref.whole cc0_scratch4) (Memref.isWhole_whole _),
  buf128 (Memref.whole cc0_scratch5) (Memref.isWhole_whole _),
  buf32 (Memref.whole cc0_scratch6) (Memref.isWhole_whole _),
  buf32 (Memref.whole cc0_scratch7) (Memref.isWhole_whole _),
  buf32 (Memref.whole cc0_scratch8) (Memref.isWhole_whole _),
  buf32 (Memref.whole cc0_scratch9) (Memref.isWhole_whole _),
  buf64 (Memref.whole cc0_scratch10) (Memref.isWhole_whole _),
  buf64 (Memref.whole cc0_scratch11) (Memref.isWhole_whole _),
  buf32 (Memref.whole cc0_scratch12) (Memref.isWhole_whole _),
  buf32 (Memref.whole cc0_scratch13) (Memref.isWhole_whole _),
  buf32 (Memref.whole cc0_scratch14) (Memref.isWhole_whole _),
  buf32 (Memref.whole cc0_scratch15) (Memref.isWhole_whole _),
  buf16 (Memref.whole cc0_scratch16) (Memref.isWhole_whole _),
  buf16 (Memref.whole cc0_scratch17) (Memref.isWhole_whole _),
  buf16 (Memref.whole cc0_scratch18) (Memref.isWhole_whole _),
  buf16 (Memref.whole cc0_scratch19) (Memref.isWhole_whole _),
  buf16 (Memref.whole cc0_scratch20) (Memref.isWhole_whole _),
  buf16 (Memref.whole cc0_scratch21) (Memref.isWhole_whole _),
  buf16 (Memref.whole cc0_scratch22) (Memref.isWhole_whole _),
  buf16 (Memref.whole cc0_scratch23) (Memref.isWhole_whole _),
  buf16 (Memref.whole cc0_scratch24) (Memref.isWhole_whole _),
  buf16 (Memref.whole cc0_scratch25) (Memref.isWhole_whole _),
  buf16 (Memref.whole cc0_scratch26) (Memref.isWhole_whole _),
  buf16 (Memref.whole cc0_scratch27) (Memref.isWhole_whole _),
  buf128 (Memref.whole cc0_scratch28) (Memref.isWhole_whole _),
  buf128 (Memref.whole cc0_scratch29) (Memref.isWhole_whole _),
  buf64 (Memref.whole cc0_scratch30) (Memref.isWhole_whole _),
  buf64 (Memref.whole cc0_scratch31) (Memref.isWhole_whole _),
  buf64 (Memref.whole cc0_scratch32) (Memref.isWhole_whole _),
  buf64 (Memref.whole cc0_scratch33) (Memref.isWhole_whole _),
  buf64 (Memref.whole cc0_scratch34) (Memref.isWhole_whole _),
  buf32 (Memref.whole cc0_scratch35) (Memref.isWhole_whole _),
  buf32 (Memref.whole cc0_scratch36) (Memref.isWhole_whole _),
  buf32 (Memref.whole cc0_scratch37) (Memref.isWhole_whole _),
  buf32 (Memref.whole cc0_scratch38) (Memref.isWhole_whole _),
  buf32 (Memref.whole cc0_scratch39) (Memref.isWhole_whole _),
  buf16 (Memref.whole cc0_scratch40) (Memref.isWhole_whole _),
  buf16 (Memref.whole cc0_scratch41) (Memref.isWhole_whole _),
  buf64 (Memref.whole cc0_scratch42) (Memref.isWhole_whole _),
  buf64 (Memref.whole cc0_scratch43) (Memref.isWhole_whole _),
  buf64 (Memref.whole cc0_scratch44) (Memref.isWhole_whole _),
  buf64 (Memref.whole cc0_scratch45) (Memref.isWhole_whole _),
  buf128 (Memref.whole cc0_scratch46) (Memref.isWhole_whole _),
  buf128 (Memref.whole cc0_scratch47) (Memref.isWhole_whole _),
  buf32 (Memref.whole cc0_scratch48) (Memref.isWhole_whole _),
  buf32 (Memref.whole cc0_scratch49) (Memref.isWhole_whole _),
  buf32 (Memref.whole cc0_scratch50) (Memref.isWhole_whole _),
  buf32 (Memref.whole cc0_scratch51) (Memref.isWhole_whole _),
  buf64 (Memref.whole cc0_scratch52) (Memref.isWhole_whole _),
  buf64 (Memref.whole cc0_scratch53) (Memref.isWhole_whole _),
  buf32 (Memref.whole cc0_scratch54) (Memref.isWhole_whole _),
  buf32 (Memref.whole cc0_scratch55) (Memref.isWhole_whole _),
  buf32 (Memref.whole cc0_scratch56) (Memref.isWhole_whole _),
  buf32 (Memref.whole cc0_scratch57) (Memref.isWhole_whole _),
  buf16 (Memref.whole cc0_scratch58) (Memref.isWhole_whole _),
  buf16 (Memref.whole cc0_scratch59) (Memref.isWhole_whole _),
  buf16 (Memref.whole cc0_scratch60) (Memref.isWhole_whole _),
  buf16 (Memref.whole cc0_scratch61) (Memref.isWhole_whole _),
  buf16 (Memref.whole cc0_scratch62) (Memref.isWhole_whole _),
  buf16 (Memref.whole cc0_scratch63) (Memref.isWhole_whole _),
  buf16 (Memref.whole cc0_scratch64) (Memref.isWhole_whole _),
  buf16 (Memref.whole cc0_scratch65) (Memref.isWhole_whole _),
  buf16 (Memref.whole cc0_scratch66) (Memref.isWhole_whole _),
  buf16 (Memref.whole cc0_scratch67) (Memref.isWhole_whole _),
  buf16 (Memref.whole cc0_scratch68) (Memref.isWhole_whole _),
  buf16 (Memref.whole cc0_scratch69) (Memref.isWhole_whole _),
  buf128 (Memref.whole cc0_scratch70) (Memref.isWhole_whole _),
  buf128 (Memref.whole cc0_scratch71) (Memref.isWhole_whole _),
  buf64 (Memref.whole cc0_scratch72) (Memref.isWhole_whole _),
  buf64 (Memref.whole cc0_scratch73) (Memref.isWhole_whole _),
  buf64 (Memref.whole cc0_scratch74) (Memref.isWhole_whole _),
  buf64 (Memref.whole cc0_scratch75) (Memref.isWhole_whole _),
  buf64 (Memref.whole cc0_scratch76) (Memref.isWhole_whole _),
  buf32 (Memref.whole cc0_scratch77) (Memref.isWhole_whole _),
  buf32 (Memref.whole cc0_scratch78) (Memref.isWhole_whole _),
  buf32 (Memref.whole cc0_scratch79) (Memref.isWhole_whole _),
  buf32 (Memref.whole cc0_scratch80) (Memref.isWhole_whole _),
  buf32 (Memref.whole cc0_scratch81) (Memref.isWhole_whole _),
  buf16 (Memref.whole cc0_scratch82) (Memref.isWhole_whole _),
  buf16 (Memref.whole cc0_scratch83) (Memref.isWhole_whole _)]

/-- The exchange buffers. -/
def bufs (k : Fin 84) : Buf := bufL.get (k.cast rfl)

/-- The buffers each copy reads, in order of the copies. -/
def srcL : List (Fin 84) := [0, 1, 42, 43, 4, 46, 6, 7, 48, 49, 10, 52, 12, 54, 14, 56, 16, 58, 18, 60, 20, 62, 21, 63, 24, 66, 25, 38, 67, 80, 26, 68, 27, 33, 69, 75, 39, 81, 37, 28, 79, 70, 34, 76, 32, 74]
/-- The buffers each copy writes, on the partner device. -/
def dstL : List (Fin 84) := [2, 3, 44, 45, 5, 47, 8, 9, 50, 51, 11, 53, 13, 55, 15, 57, 17, 59, 19, 61, 22, 64, 23, 65, 26, 68, 27, 39, 69, 81, 40, 82, 41, 34, 83, 76, 35, 77, 36, 29, 78, 71, 30, 72, 31, 73]
/-- The buffer copy `j` reads. -/
def src (j : Fin 46) : Fin 84 := srcL.get (j.cast rfl)
/-- The buffer copy `j` writes, on the partner device. -/
def dst (j : Fin 46) : Fin 84 := dstL.get (j.cast rfl)

/-- The partner device of each copy, as the kernel computes it. -/
def parL : List (Dev nD → Dev nD) := [
  fun d => ⟨k0_dev6 d, k0_dev6_lt d⟩,
  fun d => ⟨k0_dev7 d, k0_dev7_lt d⟩,
  fun d => ⟨k0_dev8 d, k0_dev8_lt d⟩,
  fun d => ⟨k0_dev9 d, k0_dev9_lt d⟩,
  fun d => ⟨k0_dev10 d, k0_dev10_lt d⟩,
  fun d => ⟨k0_dev11 d, k0_dev11_lt d⟩,
  fun d => ⟨k0_dev12 d, k0_dev12_lt d⟩,
  fun d => ⟨k0_dev13 d, k0_dev13_lt d⟩,
  fun d => ⟨k0_dev14 d, k0_dev14_lt d⟩,
  fun d => ⟨k0_dev15 d, k0_dev15_lt d⟩,
  fun d => ⟨k0_dev16 d, k0_dev16_lt d⟩,
  fun d => ⟨k0_dev17 d, k0_dev17_lt d⟩,
  fun d => ⟨k0_dev18 d, k0_dev18_lt d⟩,
  fun d => ⟨k0_dev19 d, k0_dev19_lt d⟩,
  fun d => ⟨k0_dev20 d, k0_dev20_lt d⟩,
  fun d => ⟨k0_dev21 d, k0_dev21_lt d⟩,
  fun d => ⟨k0_dev22 d, k0_dev22_lt d⟩,
  fun d => ⟨k0_dev23 d, k0_dev23_lt d⟩,
  fun d => ⟨k0_dev24 d, k0_dev24_lt d⟩,
  fun d => ⟨k0_dev25 d, k0_dev25_lt d⟩,
  fun d => ⟨k0_dev26 d, k0_dev26_lt d⟩,
  fun d => ⟨k0_dev27 d, k0_dev27_lt d⟩,
  fun d => ⟨k0_dev28 d, k0_dev28_lt d⟩,
  fun d => ⟨k0_dev29 d, k0_dev29_lt d⟩,
  fun d => ⟨k0_dev30 d, k0_dev30_lt d⟩,
  fun d => ⟨k0_dev31 d, k0_dev31_lt d⟩,
  fun d => ⟨k0_dev32 d, k0_dev32_lt d⟩,
  fun d => ⟨k0_dev33 d, k0_dev33_lt d⟩,
  fun d => ⟨k0_dev34 d, k0_dev34_lt d⟩,
  fun d => ⟨k0_dev35 d, k0_dev35_lt d⟩,
  fun d => ⟨k0_dev36 d, k0_dev36_lt d⟩,
  fun d => ⟨k0_dev37 d, k0_dev37_lt d⟩,
  fun d => ⟨k0_dev38 d, k0_dev38_lt d⟩,
  fun d => ⟨k0_dev39 d, k0_dev39_lt d⟩,
  fun d => ⟨k0_dev40 d, k0_dev40_lt d⟩,
  fun d => ⟨k0_dev41 d, k0_dev41_lt d⟩,
  fun d => ⟨k0_dev42 d, k0_dev42_lt d⟩,
  fun d => ⟨k0_dev43 d, k0_dev43_lt d⟩,
  fun d => ⟨k0_dev44 d, k0_dev44_lt d⟩,
  fun d => ⟨k0_dev45 d, k0_dev45_lt d⟩,
  fun d => ⟨k0_dev46 d, k0_dev46_lt d⟩,
  fun d => ⟨k0_dev47 d, k0_dev47_lt d⟩,
  fun d => ⟨k0_dev48 d, k0_dev48_lt d⟩,
  fun d => ⟨k0_dev49 d, k0_dev49_lt d⟩,
  fun d => ⟨k0_dev50 d, k0_dev50_lt d⟩,
  fun d => ⟨k0_dev51 d, k0_dev51_lt d⟩]

/-- The partner device of copy `j`. -/
def par (j : Fin 46) : Dev nD → Dev nD := parL.get (j.cast rfl)

/-- The rows of the output a step works on, as the kernel computes their offset on each device. -/
structure Off (m : ℕ) where
  off : Dev nD → Fin 2 → ℕ
  inb : ∀ d a, off d a + (Sh m).size a ≤ S1024x1024.size a
  col : ∀ d, off d 1 = 0

/-- Where a step takes its values from: the device's own block of the operand, or the output so far. -/
inductive Base | X | O
deriving DecidableEq

/-- A step of the kernel: stage rows of a base in a buffer; store the sum of a buffer and rows of a base in
the output, or also stage it in a second buffer; put a buffer in the output; start a copy; wait for a copy. -/
inductive Step
  | stage (b : Base) (k : Fin 84) (o : Off (bufs k).m)
  | add (b : Base) (k : Fin 84) (o : Off (bufs k).m)
  | addStage (b : Base) (k k2 : Fin 84) (h : (bufs k).m = (bufs k2).m) (o : Off (bufs k).m)
  | put (k : Fin 84) (o : Off (bufs k).m)
  | send (j : Fin 46)
  | wait (j : Fin 46)

/-- The steps of the kernel in program order. -/
def steps : List Step := [
  .stage .X 0 ⟨k0_off1, k0_off1_inb, fun _ => rfl⟩,
  .send 0,
  .stage .X 1 ⟨k0_off2, k0_off2_inb, fun _ => rfl⟩,
  .send 1,
  .stage .X 42 ⟨k0_off3, k0_off3_inb, fun _ => rfl⟩,
  .send 2,
  .stage .X 43 ⟨k0_off4, k0_off4_inb, fun _ => rfl⟩,
  .send 3,
  .stage .X 4 ⟨k0_off5, k0_off5_inb, fun _ => rfl⟩,
  .send 4,
  .stage .X 46 ⟨k0_off6, k0_off6_inb, fun _ => rfl⟩,
  .send 5,
  .wait 0,
  .add .X 2 ⟨k0_off7, k0_off7_inb, fun _ => rfl⟩,
  .stage .O 6 ⟨k0_off8, k0_off8_inb, fun _ => rfl⟩,
  .send 6,
  .stage .O 7 ⟨k0_off9, k0_off9_inb, fun _ => rfl⟩,
  .send 7,
  .wait 2,
  .add .X 44 ⟨k0_off10, k0_off10_inb, fun _ => rfl⟩,
  .stage .O 48 ⟨k0_off11, k0_off11_inb, fun _ => rfl⟩,
  .send 8,
  .stage .O 49 ⟨k0_off12, k0_off12_inb, fun _ => rfl⟩,
  .send 9,
  .wait 1,
  .addStage .X 3 10 rfl ⟨k0_off13, k0_off13_inb, fun _ => rfl⟩,
  .send 10,
  .wait 3,
  .addStage .X 45 52 rfl ⟨k0_off14, k0_off14_inb, fun _ => rfl⟩,
  .send 11,
  .wait 4,
  .add .X 5 ⟨k0_off15, k0_off15_inb, fun _ => rfl⟩,
  .wait 5,
  .add .X 47 ⟨k0_off16, k0_off16_inb, fun _ => rfl⟩,
  .wait 6,
  .addStage .O 8 12 rfl ⟨k0_off17, k0_off17_inb, fun _ => rfl⟩,
  .send 12,
  .wait 8,
  .addStage .O 50 54 rfl ⟨k0_off18, k0_off18_inb, fun _ => rfl⟩,
  .send 13,
  .wait 7,
  .addStage .O 9 14 rfl ⟨k0_off19, k0_off19_inb, fun _ => rfl⟩,
  .send 14,
  .wait 9,
  .addStage .O 51 56 rfl ⟨k0_off20, k0_off20_inb, fun _ => rfl⟩,
  .send 15,
  .wait 10,
  .add .O 11 ⟨k0_off21, k0_off21_inb, fun _ => rfl⟩,
  .wait 11,
  .add .O 53 ⟨k0_off22, k0_off22_inb, fun _ => rfl⟩,
  .wait 12,
  .add .O 13 ⟨k0_off23, k0_off23_inb, fun _ => rfl⟩,
  .stage .O 16 ⟨k0_off24, k0_off24_inb, fun _ => rfl⟩,
  .send 16,
  .wait 13,
  .add .O 55 ⟨k0_off25, k0_off25_inb, fun _ => rfl⟩,
  .stage .O 58 ⟨k0_off26, k0_off26_inb, fun _ => rfl⟩,
  .send 17,
  .wait 14,
  .add .O 15 ⟨k0_off27, k0_off27_inb, fun _ => rfl⟩,
  .stage .O 18 ⟨k0_off28, k0_off28_inb, fun _ => rfl⟩,
  .send 18,
  .wait 15,
  .add .O 57 ⟨k0_off29, k0_off29_inb, fun _ => rfl⟩,
  .stage .O 60 ⟨k0_off30, k0_off30_inb, fun _ => rfl⟩,
  .send 19,
  .wait 16,
  .addStage .O 17 20 rfl ⟨k0_off31, k0_off31_inb, fun _ => rfl⟩,
  .send 20,
  .wait 17,
  .addStage .O 59 62 rfl ⟨k0_off32, k0_off32_inb, fun _ => rfl⟩,
  .send 21,
  .wait 18,
  .addStage .O 19 21 rfl ⟨k0_off33, k0_off33_inb, fun _ => rfl⟩,
  .send 22,
  .wait 19,
  .addStage .O 61 63 rfl ⟨k0_off34, k0_off34_inb, fun _ => rfl⟩,
  .send 23,
  .wait 20,
  .addStage .O 22 24 rfl ⟨k0_off33, k0_off33_inb, fun _ => rfl⟩,
  .send 24,
  .wait 21,
  .addStage .O 64 66 rfl ⟨k0_off34, k0_off34_inb, fun _ => rfl⟩,
  .send 25,
  .wait 22,
  .addStage .O 23 25 rfl ⟨k0_off31, k0_off31_inb, fun _ => rfl⟩,
  .send 26,
  .stage .O 38 ⟨k0_off35, k0_off35_inb, fun _ => rfl⟩,
  .send 27,
  .wait 23,
  .addStage .O 65 67 rfl ⟨k0_off32, k0_off32_inb, fun _ => rfl⟩,
  .send 28,
  .stage .O 80 ⟨k0_off36, k0_off36_inb, fun _ => rfl⟩,
  .send 29,
  .wait 24,
  .send 30,
  .put 26 ⟨k0_off37, k0_off37_inb, fun _ => rfl⟩,
  .wait 25,
  .send 31,
  .put 68 ⟨k0_off38, k0_off38_inb, fun _ => rfl⟩,
  .wait 26,
  .send 32,
  .put 27 ⟨k0_off39, k0_off39_inb, fun _ => rfl⟩,
  .stage .O 33 ⟨k0_off40, k0_off40_inb, fun _ => rfl⟩,
  .send 33,
  .wait 28,
  .send 34,
  .put 69 ⟨k0_off41, k0_off41_inb, fun _ => rfl⟩,
  .stage .O 75 ⟨k0_off42, k0_off42_inb, fun _ => rfl⟩,
  .send 35,
  .wait 27,
  .send 36,
  .put 39 ⟨k0_off43, k0_off43_inb, fun _ => rfl⟩,
  .wait 29,
  .send 37,
  .put 81 ⟨k0_off44, k0_off44_inb, fun _ => rfl⟩,
  .wait 30,
  .put 40 ⟨k0_off45, k0_off45_inb, fun _ => rfl⟩,
  .wait 32,
  .put 41 ⟨k0_off46, k0_off46_inb, fun _ => rfl⟩,
  .stage .O 37 ⟨k0_off47, k0_off47_inb, fun _ => rfl⟩,
  .send 38,
  .stage .O 28 ⟨k0_off48, k0_off48_inb, fun _ => rfl⟩,
  .send 39,
  .wait 31,
  .put 82 ⟨k0_off49, k0_off49_inb, fun _ => rfl⟩,
  .wait 34,
  .put 83 ⟨k0_off50, k0_off50_inb, fun _ => rfl⟩,
  .stage .O 79 ⟨k0_off51, k0_off51_inb, fun _ => rfl⟩,
  .send 40,
  .stage .O 70 ⟨k0_off52, k0_off52_inb, fun _ => rfl⟩,
  .send 41,
  .wait 33,
  .send 42,
  .put 34 ⟨k0_off53, k0_off53_inb, fun _ => rfl⟩,
  .wait 35,
  .send 43,
  .put 76 ⟨k0_off54, k0_off54_inb, fun _ => rfl⟩,
  .wait 36,
  .put 35 ⟨k0_off55, k0_off55_inb, fun _ => rfl⟩,
  .wait 38,
  .put 36 ⟨k0_off56, k0_off56_inb, fun _ => rfl⟩,
  .stage .O 32 ⟨k0_off57, k0_off57_inb, fun _ => rfl⟩,
  .send 44,
  .wait 37,
  .put 77 ⟨k0_off58, k0_off58_inb, fun _ => rfl⟩,
  .wait 40,
  .put 78 ⟨k0_off59, k0_off59_inb, fun _ => rfl⟩,
  .stage .O 74 ⟨k0_off60, k0_off60_inb, fun _ => rfl⟩,
  .send 45,
  .wait 39,
  .put 29 ⟨k0_off61, k0_off61_inb, fun _ => rfl⟩,
  .wait 42,
  .put 30 ⟨k0_off62, k0_off62_inb, fun _ => rfl⟩,
  .wait 44,
  .put 31 ⟨k0_off63, k0_off63_inb, fun _ => rfl⟩,
  .wait 41,
  .put 71 ⟨k0_off64, k0_off64_inb, fun _ => rfl⟩,
  .wait 43,
  .put 72 ⟨k0_off65, k0_off65_inb, fun _ => rfl⟩,
  .wait 45,
  .put 73 ⟨k0_off66, k0_off66_inb, fun _ => rfl⟩]

end Cert.AllReduce

end
-- ==== Proof.Den.lean ====
module

public import proofs.«01_k».proof.Proof.Table

/-! What each step of the table is as a program, and the kernel's body as the fold of its steps. -/

@[expose] public section

set_option maxRecDepth 65536

noncomputable section

namespace Cert.AllReduce

open Cert.KernelIdeal Cert.KernelIdeal.Gen
open Idealize.ShloMosaic
open Idealize.ShloMosaic.TcCoe
open Idealize.SL Idealize.SL.Sem

variable {F : FTy → Type} [FloatOps F]

/-- The programs of one core. -/
abbrev PG (F : FTy → Type) : Type 1 := Prog (TpuEff nD τ sig (Elt F) Λ₀ .tc) PUnit

/-- The element type of a base. -/
abbrev bty : Base → FTy
  | .X => .bf16
  | .O => .f32

/-- The device's own block of the operand. -/
abbrev xM : Memref sig .tc .vmem S1x1024x1024 .bf16 := Memref.whole cc0_stg0_0
/-- Its one matrix. -/
abbrev xV : Memref sig .tc .vmem S1024x1024 .bf16 :=
  (xM.slice (Rect.unit (s := S1x1024x1024) ![0, 0, 0] S1x1024x1024.size inb_S1x1024x1024_S1x1024x1024_0_0_0)
    (fun _ => rfl)).squeeze S1024x1024 squeezes_S1x1024x1024_S1024x1024
/-- The output. -/
abbrev oM : Memref sig .tc .vmem S1024x1024 .f32 := Memref.whole cc0_stg1_0

/-- The barrier semaphore. -/
abbrev barS : Sems sig S_ := SemArray.scalar (sig.barrier 0 rfl)

/-- One semaphore of an array of 46 lies in it. -/
theorem inbSem (j : Fin 46) : ∀ a, (![j.val] : Fin 1 → ℕ) a + S1.size a ≤ S46.size a := by
  intro a; match a with
  | 0 => exact j.isLt

/-- The semaphore counting copy `j`'s departures. -/
abbrev sSem (j : Fin 46) : DmaSems sig S_ :=
  (cc0_scratch84.slice (Rect.unit (s := S46) ![j.val] S1.size (inbSem j))).squeeze S_ squeezes_S1_S_
/-- The semaphore counting copy `j`'s arrivals. -/
abbrev rSem (j : Fin 46) : DmaSems sig S_ :=
  (cc0_scratch85.slice (Rect.unit (s := S46) ![j.val] S1.size (inbSem j))).squeeze S_ squeezes_S1_S_

/-- A shape is itself recast. -/
theorem Sh.casts (m : ℕ) : (Sh m).ShapeCasts (Sh m) := rfl

/-- The values of a base as 32-bit floats. -/
abbrev widen (b : Base) {m : ℕ} (v : FVec F (Sh m) (bty b)) : FVec F (Sh m) .f32 :=
  match b, v with
  | .X, v => extf .f32 v bitsLt_bf16_f32
  | .O, v => v
/-- The values of a base as 16-bit floats. -/
abbrev narrow (b : Base) {m : ℕ} (v : FVec F (Sh m) (bty b)) : FVec F (Sh m) .bf16 :=
  match b, v with
  | .X, v => v
  | .O, v => truncf .bf16 v bitsLt_bf16_f32

/-- What `stage` stores. -/
abbrev stagePay (b : Base) {m : ℕ} (v : FVec F (Sh m) (bty b)) : FVec F (Sh m) .bf16 :=
  shapeCast (Sh m) (narrow b (shapeCast (Sh m) v (Sh.casts m))) (Sh.casts m)
/-- What `add` stores in the output. -/
abbrev sumPay (b : Base) {m : ℕ} (v : FVec F (Sh m) (bty b)) (w : FVec F (Sh m) .bf16) : FVec F (Sh m) .f32 :=
  addf (widen b (shapeCast (Sh m) v (Sh.casts m))) (extf .f32 w bitsLt_bf16_f32)
/-- What `addStage` stores in its second buffer. -/
abbrev bothPay (b : Base) {m m' : ℕ} (h : m = m') (v : FVec F (Sh m) (bty b)) (w : FVec F (Sh m) .bf16) :
    FVec F (Sh m') .bf16 :=
  h ▸ shapeCast (Sh m) (truncf .bf16 (sumPay b v w) bitsLt_bf16_f32) (Sh.casts m)

/-- Load rows of a matrix in local memory. -/
abbrev loadRows {e : EltTy} (M : Memref sig .tc .vmem S1024x1024 e) (d : Dev nD) (k : Fin 84) (o : Off (bufs k).m)
    (K : Vec F (Sh (bufs k).m) e → PG F) : PG F :=
  Prog.op (.load M (Rect.unit (s := S1024x1024) (o.off d) (Sh (bufs k).m).size (o.inb d)).toLoadRect
    (View.loadsAt_vmem (bufs k).pos)) K
/-- Load rows of a base. -/
abbrev loadBase (b : Base) (d : Dev nD) (k : Fin 84) (o : Off (bufs k).m)
    (K : FVec F (Sh (bufs k).m) (bty b) → PG F) : PG F :=
  match b, K with
  | .X, K => loadRows xV d k o K
  | .O, K => loadRows oM d k o K
/-- Load an exchange buffer. -/
abbrev loadBuf (k : Fin 84) (K : Vec F (Sh (bufs k).m) .bf16 → PG F) : PG F :=
  Prog.op (.load (bufs k).M (Rect.unit (s := Sh (bufs k).m) ![0, 0] (Sh (bufs k).m).size (Sh.inb _)).toLoadRect
    (View.loadsAt_vmem (bufs k).pos)) K
/-- Store an exchange buffer. -/
abbrev storeBuf (k : Fin 84) (v : Vec F (Sh (bufs k).m) .bf16) (K : PG F) : PG F :=
  Prog.op (.store (bufs k).M (Rect.unit (s := Sh (bufs k).m) ![0, 0] (Sh (bufs k).m).size (Sh.inb _)) v Finset.univ
    (View.stores_vmem (bufs k).pos ((bufs k).whole.storeExact_slice rfl _ (bufs k).packed) (fun _ => rfl)) (.inl rfl))
    fun _ => K
/-- Store rows of the output. -/
abbrev storeOut (d : Dev nD) (k : Fin 84) (o : Off (bufs k).m) (v : Vec F (Sh (bufs k).m) .f32) (K : PG F) : PG F :=
  Prog.op (.store oM (Rect.unit (s := S1024x1024) (o.off d) (Sh (bufs k).m).size (o.inb d)) v Finset.univ
    (View.stores_vmem_bits_univ (bufs k).pos rfl) (.inl rfl)) fun _ => K

/-- The source and the destination of a copy have one size. -/
theorem rowsEq : ∀ j, (bufs (src j)).m = (bufs (dst j)).m := by decide +kernel

/-- The destination of copy `j`, at the shape of its source. -/
def dstM (j : Fin 46) : Memref sig .tc .vmem (Sh (bufs (src j)).m) .bf16 := (rowsEq j).symm ▸ (bufs (dst j)).M

/-- Every copy's destination is made of whole words. -/
theorem dstM_wordExact (j : Fin 46) : (dstM j).view.WordExact := by
  have h : ∀ (a b : ℕ) (e : a = b) (M : Memref sig .tc .vmem (Sh a) .bf16), M.IsWhole →
      (e ▸ M : Memref sig .tc .vmem (Sh b) .bf16).view.WordExact := by
    intro a b e M hM; subst e; exact hM.wordExact
  exact h _ _ _ _ (bufs (dst j)).whole

/-- A step as a program, before the program of the steps after it. -/
def den (d : Dev nD) : Step → PG F → PG F
  | .stage b k o, K => loadBase b d k o fun v => loadBuf k fun _ => storeBuf k (stagePay b v) K
  | .add b k o, K => loadBase b d k o fun v => loadBuf k fun w => loadRows oM d k o fun _ =>
      storeOut d k o (sumPay b v w) K
  | .addStage b k k2 h o, K => loadBase b d k o fun v => loadBuf k fun w => loadBuf k2 fun _ =>
      storeBuf k2 (bothPay b h v w) <| loadRows oM d k o fun _ => storeOut d k o (sumPay b v w) K
  | .put k o, K => loadBuf k fun w => loadRows oM d k o fun _ => storeOut d k o (extf .f32 w bitsLt_bf16_f32) K
  | .send j, K => Prog.op (.enqueueDma (bufs (src j)).M (.remote (Dev.tc (par j d)) (dstM j) (.dma (sSem j).sem))
      (.dma (rSem j).sem) (bufs (src j)).whole.wordExact (dstM_wordExact j) ⟨⟨rfl, Or.inl rfl⟩, trivial⟩) fun _ => K
  | .wait j, K => Prog.op (.waitDma2 (sSem j).sem (dstM j) (bufs (src j)).M (dstM_wordExact j)
      (bufs (src j)).whole.wordExact) fun _ =>
      Prog.op (.waitDma2 (rSem j).sem (bufs (src j)).M (dstM j) (bufs (src j)).whole.wordExact (dstM_wordExact j)) fun _ => K

/-- A list of steps as a program. -/
def run (d : Dev nD) (K : PG F) : List Step → PG F
  | [] => K
  | s :: l => den d s (run d K l)

/-- The device across each of the five axes of the mesh, in the order of the entry signals. -/
def nb : Fin 5 → Dev nD → Dev nD
  | 0, d => ⟨k0_dev1 d, k0_dev1_lt d⟩
  | 1, d => ⟨k0_dev2 d, k0_dev2_lt d⟩
  | 2, d => ⟨k0_dev3 d, k0_dev3_lt d⟩
  | 3, d => ⟨k0_dev4 d, k0_dev4_lt d⟩
  | 4, d => ⟨k0_dev5 d, k0_dev5_lt d⟩

/-- The whole body: the five entry signals, their wait, and the steps. -/
def prog : Prog (TpuEff nD τ sig (Elt F) Λ₀ .tc) PUnit := do
  let d : Dev nD ← Prog.lift .deviceId
  semSignalWord (nb 0 d) barS.sem 1#32
  semSignalWord (nb 1 d) barS.sem 1#32
  semSignalWord (nb 2 d) barS.sem 1#32
  semSignalWord (nb 3 d) barS.sem 1#32
  semSignalWord (nb 4 d) barS.sem 1#32
  semWaitWord barS.sem 5#32
  run d (Prog.ret ⟨⟩) steps

end Cert.AllReduce

end
-- ==== Proof.Rules.lean ====
module

public import proofs.«01_k».proof.Proof.Den

/-! Contents of a block of rows as a function of row and column, and the rules of the loads and the stores
of the kernel in those terms. -/

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The algebra of the duties: five names, one for each axis. -/
abbrev UB : Type := URounds (GSem nD τ sig) (Fin 5)
/-- The pipeline's algebra and the copies'. -/
abbrev UU : Type := UR sig nD τ × UB

local notation "𝕄" => MT nD τ sig Unit (Elt F) ℕ UU ℕ

/-- The pipeline's part of the ghost state. -/
abbrev EP : Emb (UR sig nD τ) (MT nD τ sig Unit (Elt F) ℕ UU ℕ) := embL
/-- The rounds' part of the ghost state. -/
abbrev ER : Emb UB (MT nD τ sig Unit (Elt F) ℕ UU ℕ) := embR

/-- No loop needs a variant. -/
abbrev 𝒱₀ : Variants := Variants.none

/-- The contents of a block given by row and column. -/
def mat {α : Type} {m : ℕ} (f : ℕ → ℕ → α) : (Sh m).Idx → α := fun i => f (i 0).val (i 1).val

/-- The index of row `r` and column `c`, both taken in range. -/
def ix {m : ℕ} (h : 0 < m) (r c : ℕ) : (Sh m).Idx := fun a => match a with
  | 0 => ⟨r % m, Nat.mod_lt _ h⟩
  | 1 => ⟨c % 1024, Nat.mod_lt _ (by decide)⟩

/-- The index made of an index's row and column is that index. -/
theorem ix_self {m : ℕ} (h : 0 < m) (i : (Sh m).Idx) : ix h (i 0).val (i 1).val = i := by
  funext a
  match a with
  | 0 => exact Fin.ext (Nat.mod_eq_of_lt (i 0).isLt)
  | 1 => exact Fin.ext (Nat.mod_eq_of_lt (i 1).isLt)

/-- Any contents are given by row and column. -/
theorem mat_ix {α : Type} {m : ℕ} (h : 0 < m) (X : (Sh m).Idx → α) : mat (fun r c => X (ix h r c)) = X := by
  funext i; show X (ix h _ _) = X i; rw [ix_self]

section Views

variable {n m : ℕ} {e : EltTy} (M : Memref sig .tc .vmem (Sh n) e) (off : Fin 2 → ℕ)
  (inb : ∀ a, off a + (Sh m).size a ≤ (Sh n).size a)

/-- The rectangle of a block of rows. -/
abbrev rowsRect : Rect (Sh n) := Rect.unit (s := Sh n) off (Sh m).size inb

/-- What a load of a block of rows reads. -/
theorem readAt_rows (hc : off 1 = 0) (f : M.view.ty.Contents (Elt F)) (g : ℕ → ℕ → Elt F e)
    (h : M.view.read (Elt F) f = mat g) :
    M.view.readAt (Elt F) (rowsRect off inb).toLoadRect f = (mat (fun r c => g (off 0 + r) c) : (Sh m).Idx → Elt F e) := by
  funext i
  show M.view.read (Elt F) f ((rowsRect off inb).emb i) = _
  rw [h]; unfold mat
  have h0 : (((rowsRect off inb).emb i) 0 : ℕ) = off 0 + (i 0).val := by
    rw [Rect.emb_apply]; show off 0 + 1 * _ = _; rw [Nat.one_mul]
  have h1 : (((rowsRect off inb).emb i) 1 : ℕ) = (i 1).val := by
    rw [Rect.emb_apply]; show off 1 + 1 * _ = _; rw [Nat.one_mul, hc, Nat.zero_add]
  rw [h0, h1]

/-- The rows a store of a block leaves: those of the block replaced. -/
def putRows {α : Type} (o m : ℕ) (v g : ℕ → ℕ → α) (r c : ℕ) : α := if o ≤ r ∧ r < o + m then v (r - o) c else g r c

/-- What a store of a block of rows leaves to be read. -/
theorem read_store_rows (hc : off 1 = 0) (f : M.view.ty.Contents (Elt F)) (g v : ℕ → ℕ → Elt F e)
    (h : M.view.read (Elt F) f = mat g) :
    M.view.read (Elt F) ((M.access (rowsRect off inb)).write (Elt F) f (mat v : (Sh m).Idx → Elt F e) Finset.univ)
      = mat (putRows (off 0) m v g) := by
  funext y
  unfold mat putRows
  by_cases hy : off 0 ≤ (y 0).val ∧ (y 0).val < off 0 + m
  · rw [if_pos hy]
    let x : (Sh m).Idx := fun a => match a with
      | 0 => ⟨(y 0).val - off 0, by show _ < m; omega⟩
      | 1 => y 1
    have hx : (rowsRect off inb).emb x = y := by
      funext a; apply Fin.ext; rw [Rect.emb_apply]
      match a with
      | 0 => show off 0 + 1 * ((y 0).val - off 0) = _; omega
      | 1 => show off 1 + 1 * (y 1).val = _; omega
    rw [← hx]
    refine (View.read_slice_write_emb (rowsRect off inb) f (mat v : (Sh m).Idx → Elt F e) (Finset.mem_univ x)).trans ?_
    rw [hx]; rfl
  · rw [if_neg hy]
    refine (View.read_slice_write_of_not_mem (rowsRect off inb) f (mat v : (Sh m).Idx → Elt F e) Finset.univ ?_).trans ?_
    · intro hm
      obtain ⟨x, -, rfl⟩ := Finset.mem_map.mp hm
      apply hy
      rw [Rect.emb_apply]
      have := (x 0).isLt
      have h2 : (x 0).val < m := this
      show off 0 ≤ off 0 + 1 * (x 0).val ∧ off 0 + 1 * (x 0).val < off 0 + m
      omega
    · rw [h]; rfl

end Views

section Ops

variable (c : Dev nD) {α : Type} {Q : PUnit → sProp (MT nD τ sig Unit (Elt F) ℕ UU ℕ)}

local notation "wpc" => wp frame (wpE (defs₀ (F := F)) 𝒱₀ (c : Thread nD τ) none) Set.univ

/-- A load of a block of rows of a memref read as `g`. -/
theorem wp_rows {n m : ℕ} {e : EltTy} (M : Memref sig .tc .vmem (Sh n) e) (off : Fin 2 → ℕ)
    (inb : ∀ a, off a + (Sh m).size a ≤ (Sh n).size a) (hc : off 1 = 0) (g : ℕ → ℕ → Elt F e) (q : PosShare TreeShare)
    {hl : M.view.LoadsAt (rowsRect off inb).toLoadRect} (K : ((Sh m).Idx → Elt F e) → PG F) :
    (owns (c : Thread nD τ) M q (mat g) : sProp 𝕄)
      ⊢ iprop((owns (c : Thread nD τ) M q (mat g) -∗ wpc (K (mat fun r c => g (off 0 + r) c)) Q)
        -∗ wpc (.op (.load M (rowsRect off inb).toLoadRect hl) K) Q) := by
  unfold owns
  iintro ⟨%f, %hf, H⟩ Hk
  iapply (wp_load 𝒱₀ (c : Thread nD τ) none Set.univ (m := M) (View.setOn_subset_set _ _)) $$ H
  iintro H
  rw [readAt_rows M off inb hc f g hf]
  iapply Hk
  iexists f
  isplitr
  · ipureintro; exact hf
  · iexact H

/-- A store of a block of rows. -/
theorem wp_putRows {n m : ℕ} {e : EltTy} (M : Memref sig .tc .vmem (Sh n) e) (off : Fin 2 → ℕ)
    (inb : ∀ a, off a + (Sh m).size a ≤ (Sh n).size a) (hc : off 1 = 0) (g v : ℕ → ℕ → Elt F e)
    {hx : (M.access (rowsRect off inb)).Stores Finset.univ} {hm : Finset.univ = Finset.univ ∨ ∀ a, (rowsRect off inb).stride a = 1}
    (K : PG F) :
    (owns (c : Thread nD τ) M fullShare (mat g) : sProp 𝕄)
      ⊢ iprop((owns (c : Thread nD τ) M fullShare (mat (putRows (off 0) m v g)) -∗ wpc K Q)
        -∗ wpc (.op (.store M (rowsRect off inb) (mat v : (Sh m).Idx → Elt F e) Finset.univ hx hm) fun _ => K) Q) := by
  unfold owns
  iintro ⟨%f, %hf, H⟩ Hk
  iapply (wp_store 𝒱₀ (c : Thread nD τ) none Set.univ (m := M) (r := rowsRect off inb) (Mk := Finset.univ) (View.set_slice_subset M.view _)) $$ H
  iintro H
  iapply Hk
  iexists _
  isplitr
  rotate_left
  · iexact H
  · ipureintro; exact read_store_rows M off inb hc f g v hf

/-- A load of an exchange buffer. -/
theorem wp_loadBuf (k : Fin 84) (g : ℕ → ℕ → F .bf16) (q : PosShare TreeShare)
    (K : ((Sh (bufs k).m).Idx → F .bf16) → PG F) :
    (owns (c : Thread nD τ) (bufs k).M q (mat g) : sProp 𝕄)
      ⊢ iprop((owns (c : Thread nD τ) (bufs k).M q (mat g) -∗ wpc (K (mat g)) Q) -∗ wpc (loadBuf k K) Q) := by
  have h := wp_rows (Q := Q) c (bufs k).M ![0, 0] (Sh.inb _) rfl g q (hl := View.loadsAt_vmem (bufs k).pos) K
  have hg : (fun r c => g ((![0, 0] : Fin 2 → ℕ) 0 + r) c) = g := by
    funext r c; show g (0 + r) c = _; rw [Nat.zero_add]
  rw [hg] at h
  exact h

/-- A load of an exchange buffer whose contents are not used. -/
theorem wp_loadAny (k : Fin 84) (q : PosShare TreeShare) (K : PG F) :
    (iprop(∃ X, owns (c : Thread nD τ) (bufs k).M q X) : sProp 𝕄)
      ⊢ iprop(((∃ X, owns (c : Thread nD τ) (bufs k).M q X) -∗ wpc K Q) -∗ wpc (loadBuf k fun _ => K) Q) := by
  have hm : 0 < (bufs k).m := by
    have := (bufs k).pos; rw [Shape.numel] at this
    by_contra h0
    have h0 : (bufs k).m = 0 := by omega
    rw [h0] at this; exact absurd this (by decide)
  iintro ⟨%X, H⟩ Hk
  rw [← mat_ix hm X]
  iapply (wp_loadBuf c k _ q fun _ => K) $$ H
  iintro H
  iapply Hk
  iexists _
  iexact H

/-- A store of an exchange buffer, whatever it held. -/
theorem wp_storeBuf (k : Fin 84) (v : ℕ → ℕ → F .bf16) (K : PG F) :
    (iprop(∃ X, owns (c : Thread nD τ) (bufs k).M fullShare X) : sProp 𝕄)
      ⊢ iprop((owns (c : Thread nD τ) (bufs k).M fullShare (mat v) -∗ wpc K Q) -∗ wpc (storeBuf k (mat v) K) Q) := by
  have hm : 0 < (bufs k).m := by
    have := (bufs k).pos; rw [Shape.numel] at this
    by_contra h0
    have h0 : (bufs k).m = 0 := by omega
    rw [h0] at this; exact absurd this (by decide)
  iintro ⟨%X, H⟩ Hk
  rw [← mat_ix hm X]
  iapply (wp_putRows c (bufs k).M ![0, 0] (Sh.inb _) rfl _ v K) $$ H
  iintro H
  iapply Hk
  have hv : ∀ g : ℕ → ℕ → F .bf16, (mat (putRows ((![0, 0] : Fin 2 → ℕ) 0) (bufs k).m v g) : (Sh (bufs k).m).Idx → F .bf16) = mat v := by
    intro g; funext i; unfold mat putRows
    rw [if_pos ⟨Nat.zero_le _, by show _ < 0 + _; rw [Nat.zero_add]; exact (i 0).isLt⟩]
    rfl
  rw [hv]
  iexact H

end Ops

end Cert.AllReduce

end
-- ==== Proof.Sim.lean ====
module

public import proofs.«01_k».proof.Proof.Rules

/-! What the steps compute, all devices in step: the output and the buffers of each device by row and column;
and the two static checks of the step list — which buffers and copies are at hand, which rows of the output are
written — that the run is proved against. -/

@[expose] public section

set_option maxRecDepth 65536

noncomputable section

namespace Cert.AllReduce

open Cert.KernelIdeal Cert.KernelIdeal.Gen
open Idealize.ShloMosaic
open Idealize.ShloMosaic.TcCoe
open Idealize.SL Idealize.SL.Sem

/-! ## The values -/

section Values

variable {F : FTy → Type} [FloatOps F]

/-- The contents of one device's output and buffers, by row and column. -/
structure LS (F : FTy → Type) where
  out : ℕ → ℕ → F .f32
  buf : Fin 84 → ℕ → ℕ → F .bf16

/-- The values of a base. -/
def baseVal (x : ℕ → ℕ → F .bf16) (out : ℕ → ℕ → F .f32) : (b : Base) → ℕ → ℕ → F (bty b)
  | .X => x
  | .O => out
/-- A base's value as a 16-bit float. -/
def nar : (b : Base) → F (bty b) → F .bf16
  | .X, v => v
  | .O, v => FloatOps.truncf .bf16 bitsLt_bf16_f32 v
/-- A base's value as a 32-bit float. -/
def wid : (b : Base) → F (bty b) → F .f32
  | .X, v => FloatOps.extf .f32 bitsLt_bf16_f32 v
  | .O, v => v

/-- The sum of rows of a base and a buffer. -/
def sumV (b : Base) (x : ℕ → ℕ → F .bf16) (out : ℕ → ℕ → F .f32) (o : ℕ) (w : ℕ → ℕ → F .bf16) (r c : ℕ) : F .f32 :=
  FloatOps.addf (wid b (baseVal x out b (o + r) c)) (FloatOps.extf .f32 bitsLt_bf16_f32 (w r c))

/-- What a step does on its own device; a copy's landing is not here. -/
def loc (x : ℕ → ℕ → F .bf16) (d : Dev nD) (S : LS F) : Step → LS F
  | .stage b k o => ⟨S.out, Function.update S.buf k fun r c => nar b (baseVal x S.out b (o.off d 0 + r) c)⟩
  | .add b k o => ⟨putRows (o.off d 0) (bufs k).m (sumV b x S.out (o.off d 0) (S.buf k)) S.out, S.buf⟩
  | .addStage b k k2 _ o => ⟨putRows (o.off d 0) (bufs k).m (sumV b x S.out (o.off d 0) (S.buf k)) S.out,
      Function.update S.buf k2 fun r c => FloatOps.truncf .bf16 bitsLt_bf16_f32 (sumV b x S.out (o.off d 0) (S.buf k) r c)⟩
  | .put k o => ⟨putRows (o.off d 0) (bufs k).m (fun r c => FloatOps.extf .f32 bitsLt_bf16_f32 (S.buf k r c)) S.out, S.buf⟩
  | .send _ => S
  | .wait _ => S

/-- One step of every device; a copy lands when it is sent. -/
def stepS (x : Dev nD → ℕ → ℕ → F .bf16) (T : Dev nD → LS F) (s : Step) : Dev nD → LS F :=
  match s with
  | .send j => fun d => ⟨(T d).out, Function.update (T d).buf (dst j) ((T (par j d)).buf (src j))⟩
  | s => fun d => loc (x d) d (T d) s

/-- Every device after a list of steps. -/
def runS (x : Dev nD → ℕ → ℕ → F .bf16) (T : Dev nD → LS F) : List Step → Dev nD → LS F
  | [] => T
  | s :: l => runS x (stepS x T s) l

/-- Whether a step starts copy `j`. -/
def isSend (j : Fin 46) : Step → Bool
  | .send j' => j = j'
  | _ => false

/-- What copy `j` lands on each device. -/
def msgs (x : Dev nD → ℕ → ℕ → F .bf16) (T : Dev nD → LS F) : List Step → Fin 46 → Dev nD → ℕ → ℕ → F .bf16
  | [], j, d => (T d).buf (dst j)
  | s :: l, j, d => if isSend j s then (T (par j d)).buf (src j) else msgs x (stepS x T s) l j d

/-- Before the first step: contents of no account. -/
def T₀ : Dev nD → LS F := fun _ => ⟨fun _ _ => FloatOps.ofBits .f32 0, fun _ _ _ => FloatOps.ofBits .bf16 0⟩

end Values

/-! ## The buffers and the copies at hand -/

/-- What a device holds of a buffer: nothing, the whole at contents of no account, the whole, or a half while
the other half is lent to a copy. -/
inductive Held | none | any | full | half
deriving DecidableEq

/-- How far a device is: the copies before `n` are sent, those with `dn` waited for, and what it holds of each buffer. -/
structure St where
  n : ℕ
  dn : Fin 46 → Bool
  bf : Fin 84 → Held

/-- Whether a buffer's contents can be read. -/
def Held.readable : Held → Bool
  | .full => true
  | .half => true
  | _ => false

/-- What a step asks of the state and the state after it. -/
def chk (st : St) : Step → Option St
  | .stage _ k _ => if st.bf k = .any then some { st with bf := Function.update st.bf k .full } else none
  | .add _ k _ => if (st.bf k).readable then some st else none
  | .addStage _ k k2 _ _ =>
      if (st.bf k).readable ∧ st.bf k2 = .any then some { st with bf := Function.update st.bf k2 .full } else none
  | .put k _ => if (st.bf k).readable then some st else none
  | .send j => if j.val = st.n ∧ st.bf (src j) = .full ∧ st.bf (dst j) = .none then
      some { st with n := st.n + 1, bf := Function.update st.bf (src j) .half } else none
  | .wait j => if j.val < st.n ∧ st.dn j = false ∧ st.bf (src j) = .half ∧ st.bf (dst j) = .none then
      some { st with dn := Function.update st.dn j true, bf := Function.update (Function.update st.bf (src j) .full) (dst j) .full } else none

/-- The check of a list of steps. -/
def runChk (st : St) : List Step → Option St
  | [] => some st
  | s :: l => (chk st s).bind fun st' => runChk st' l

/-- Whether a buffer is some copy's destination. -/
def isDst (k : Fin 84) : Bool := dstL.contains k

/-- At the first step a device holds the buffers no copy lands in. -/
def st₀ : St := ⟨0, fun _ => false, fun k => if isDst k then .none else .any⟩

/-- Whether a device holds the whole of a buffer. -/
def Held.whole : Held → Bool
  | .any => true
  | .full => true
  | _ => false

/-- The step list passes; at its end every copy is sent and waited for and every buffer held. -/
theorem runChk_steps : ∃ st, runChk st₀ steps = some st ∧ st.n = 46 ∧ (∀ j, st.dn j = true) ∧ ∀ k, (st.bf k).whole = true := by
  have h : (match runChk st₀ steps with
      | some st => decide (st.n = 46 ∧ (∀ j, st.dn j = true) ∧ ∀ k, (st.bf k).whole = true)
      | none => false) = true := by decide +kernel
  revert h
  cases hr : runChk st₀ steps with
  | none => intro h; exact absurd h (by decide)
  | some st => intro h; exact ⟨st, rfl, of_decide_eq_true h⟩

/-! ## The rows of the output written

A set of rows is a number whose bit `i` stands for rows `16 i` to `16 i + 15`. -/

/-- Whether rows `o` to `o + m - 1` are whole groups of 16. -/
def aligned (o m : ℕ) : Bool := o % 16 = 0 && m % 16 = 0
/-- The groups of rows `o` to `o + m - 1`. -/
def rowsOf (o m : ℕ) : ℕ := (2 ^ (m / 16) - 1) <<< (o / 16)
/-- Whether those rows are all in `W`. -/
def covers (W o m : ℕ) : Bool := aligned o m && decide (W &&& rowsOf o m = rowsOf o m)

/-- What a step asks of the rows written, and those written after it. -/
def chkW (d : Dev nD) (W : ℕ) : Step → Option ℕ
  | .stage b k o => if b = .X ∨ covers W (o.off d 0) (bufs k).m then some W else none
  | .add b k o => if aligned (o.off d 0) (bufs k).m ∧ (b = .X ∨ covers W (o.off d 0) (bufs k).m) then
      some (W ||| rowsOf (o.off d 0) (bufs k).m) else none
  | .addStage b k _ _ o => if aligned (o.off d 0) (bufs k).m ∧ (b = .X ∨ covers W (o.off d 0) (bufs k).m) then
      some (W ||| rowsOf (o.off d 0) (bufs k).m) else none
  | .put k o => if aligned (o.off d 0) (bufs k).m then some (W ||| rowsOf (o.off d 0) (bufs k).m) else none
  | .send _ => some W
  | .wait _ => some W

/-- The check of a list of steps. -/
def runW (d : Dev nD) (W : ℕ) : List Step → Option ℕ
  | [] => some W
  | s :: l => (chkW d W s).bind fun W' => runW d W' l

/-- On every device the step list reads only rows written before, and writes them all. -/
theorem runW_steps : ∀ d, runW d 0 steps = some (2 ^ 64 - 1) := by decide +kernel

/-- Whole groups of 16 rows start and end at multiples of 16. -/
theorem aligned_iff {o m : ℕ} (h : aligned o m = true) : o % 16 = 0 ∧ m % 16 = 0 := by
  unfold aligned at h; simpa using h

/-- The rows of a block, by their groups. -/
theorem testBit_rowsOf {o m r : ℕ} (h : aligned o m = true) : (rowsOf o m).testBit (r / 16) = true ↔ o ≤ r ∧ r < o + m := by
  obtain ⟨h1, h2⟩ := aligned_iff h
  unfold rowsOf
  rw [Nat.testBit_shiftLeft, Nat.testBit_two_pow_sub_one]
  simp only [Bool.and_eq_true, decide_eq_true_eq]
  omega

/-- Rows covered are rows of the set. -/
theorem covers_iff {W o m r : ℕ} (h : covers W o m = true) (hr : o ≤ r ∧ r < o + m) : W.testBit (r / 16) = true := by
  unfold covers at h
  rw [Bool.and_eq_true, decide_eq_true_eq] at h
  have := (testBit_rowsOf h.1).2 hr
  rw [← h.2, Nat.testBit_and, Bool.and_eq_true] at this
  exact this.1

/-- Agreement of two outputs on a set of rows. -/
def Agree {α : Type} (W : ℕ) (g g' : ℕ → ℕ → α) : Prop := ∀ r c, W.testBit (r / 16) = true → g r c = g' r c

/-- The same rows written over outputs that agree. -/
theorem Agree.put {α : Type} {W o m : ℕ} {g g' v v' : ℕ → ℕ → α} (h : Agree W g g') (ha : aligned o m = true)
    (hv : ∀ r c, r < m → v r c = v' r c) : Agree (W ||| rowsOf o m) (putRows o m v g) (putRows o m v' g') := by
  intro r c hr
  unfold putRows
  by_cases hb : o ≤ r ∧ r < o + m
  · rw [if_pos hb, if_pos hb]; exact hv _ _ (by omega)
  · rw [if_neg hb, if_neg hb]
    rw [Nat.testBit_or, Bool.or_eq_true] at hr
    rcases hr with hr | hr
    · exact h r c hr
    · exact absurd ((testBit_rowsOf ha).1 hr) hb

end Cert.AllReduce

end
-- ==== Proof.Sched.lean ====
module

public import proofs.«01_k».proof.Proof.Sim

/-! The cells of the kernel's semaphores, the schedule of their payments, what each device owes and the levels. -/

@[expose] public section

set_option maxRecDepth 65536

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The partners -/

/-- The axis of each copy, numbered as the entry signals. -/
def dimL : List (Fin 5) := [0, 0, 1, 1, 0, 1, 1, 1, 2, 2, 1, 2, 2, 0, 2, 0, 3, 4, 3, 4, 4, 3, 4, 3,
  3, 4, 3, 2, 4, 0, 2, 0, 2, 1, 0, 2, 1, 2, 1, 0, 2, 1, 0, 1, 0, 1]
/-- The axis of copy `j`. -/
def dim (j : Fin 46) : Fin 5 := dimL.get (j.cast rfl)

/-- A copy's partner is the device across its axis. -/
theorem par_eq : ∀ j c, par j c = nb (dim j) c := by decide +kernel
/-- The device across an axis is across it from there. -/
theorem nb_nb : ∀ i c, nb i (nb i c) = c := by decide +kernel
/-- The partner's partner is the device itself. -/
theorem par_par (j : Fin 46) (c : Dev nD) : par j (par j c) = c := by rw [par_eq, par_eq, nb_nb]
/-- No copy lands in its own source. -/
theorem src_ne_dst : ∀ j, src j ≠ dst j := by decide +kernel
/-- Different copies land in different buffers. -/
theorem dst_inj : ∀ j j', dst j = dst j' → j = j' := by decide +kernel

/-! ## The cells -/

/-- A copy's two semaphores: `false` its departures, `true` its arrivals. -/
abbrev xsem (bj : Bool × Fin 46) : SemLoc sig := match bj.1 with
  | false => .dma (sSem bj.2).sem
  | true => .dma (rSem bj.2).sem
/-- The kernel's semaphores: the barrier's, and each copy's two. -/
abbrev csem : Option (Bool × Fin 46) → SemLoc sig
  | none => .reg barS.sem
  | some bj => xsem bj

/-- Which of the kernel's semaphores a semaphore is. -/
def dec : SemLoc sig → Option (Option (Bool × Fin 46))
  | .reg _ => some none
  | .dma q => if h : 2 ≤ q.val ∧ q.val < 48 then some (some (false, ⟨q.val - 2, by omega⟩))
      else if h : 48 ≤ q.val ∧ q.val < 94 then some (some (true, ⟨q.val - 48, by omega⟩)) else none

/-- Each of the kernel's semaphores is recognised as itself. -/
theorem dec_csem : ∀ k, dec (csem k) = some k := by decide +kernel

/-- Different cells of a device are different semaphores. -/
theorem csem_injective : Function.Injective csem := fun a b h => by
  have := congrArg dec h; rw [dec_csem, dec_csem] at this; exact Option.some.inj this

/-- A device's cell. -/
abbrev kcell (ck : Dev nD × Option (Bool × Fin 46)) : GSem nD τ sig := ((ck.1 : Thread nD τ), csem ck.2)
/-- A device's barrier. -/
abbrev barCell (c : Dev nD) : GSem nD τ sig := ((c : Thread nD τ), .reg barS.sem)
/-- The departures of a copy from a device. -/
abbrev sendCell (c : Dev nD) (j : Fin 46) : GSem nD τ sig := ((c : Thread nD τ), .dma (sSem j).sem)
/-- The arrivals of a copy on a device. -/
abbrev recvCell (c : Dev nD) (j : Fin 46) : GSem nD τ sig := ((c : Thread nD τ), .dma (rSem j).sem)

/-- Different cells of different devices are different semaphores. -/
theorem kcell_injective : Function.Injective (kcell : Dev nD × Option (Bool × Fin 46) → GSem nD τ sig) := by
  rintro ⟨c, k⟩ ⟨c', k'⟩ h
  have h1 : c = c' := congrArg (fun g : GSem nD τ sig => g.1.1) h
  have h2 : k = k' := csem_injective (congrArg Prod.snd h)
  rw [h1, h2]

/-- The credit of copy `j`. -/
def NN (j : Fin 46) : ℕ := (dstM j).view.dmaCredit
/-- A copy's credit is positive. -/
theorem NN_pos (j : Fin 46) : 0 < NN j := View.dmaCredit_pos _ (bufs (src j)).pos

/-! ## The schedule -/

section Sched

variable (msg : Fin 46 → Dev nD → ℕ → ℕ → F .bf16)

/-- A copy's destination on device `c`, at contents of no account. -/
def landing (c : Dev nD) (j : Fin 46) : sProp 𝕄 := iprop(∃ X, owns (c : Thread nD τ) (dstM j) fullShare X)
/-- What the entry signal across axis `i` hands device `c`: the destinations there of the copies `c` sends across it. -/
def barPay (c : Dev nD) (i : Fin 5) : sProp 𝕄 :=
  bigSep (Finset.univ.filter fun j : Fin 46 => dim j = i) fun j => landing (nb i c) j
/-- What a copy's departure gives back: the lent half of its source. -/
def sendPay (c : Dev nD) (j : Fin 46) : sProp 𝕄 :=
  iprop(∃ X, owns (c : Thread nD τ) (bufs (src j)).M fullShare.right X)
/-- What its arrival hands over: its destination holding the message. -/
def recvPay (c : Dev nD) (j : Fin 46) : sProp 𝕄 := owns (c : Thread nD τ) (dstM j) fullShare (mat (msg j c))

instance landing_storable (c : Dev nD) (j : Fin 46) : BI.Storable (upEmb : UEmb _ 𝕄) (landing (F := F) c j) := by
  unfold landing; infer_instance
instance barPay_storable (c : Dev nD) (i : Fin 5) : BI.Storable (upEmb : UEmb _ 𝕄) (barPay (F := F) c i) := by
  unfold barPay; infer_instance
instance sendPay_storable (c : Dev nD) (j : Fin 46) : BI.Storable (upEmb : UEmb _ 𝕄) (sendPay (F := F) c j) := by
  unfold sendPay; infer_instance
instance recvPay_storable (c : Dev nD) (j : Fin 46) : BI.Storable (upEmb : UEmb _ 𝕄) (recvPay msg c j) := by
  unfold recvPay; infer_instance

/-- A cell's duties in its one round: a barrier's one for each axis, a copy's one. -/
def dutiesOf : Option (Option (Bool × Fin 46)) → Finset (Fin 5)
  | some none => Finset.univ
  | some (some _) => {0}
  | none => ∅
/-- The units of a duty. -/
def amountOf : Option (Option (Bool × Fin 46)) → ℕ
  | some (some bj) => NN bj.2
  | _ => 1
/-- What a duty hands over. -/
def payOf (c : Dev nD) (i : Fin 5) : Option (Option (Bool × Fin 46)) → sProp 𝕄
  | some none => barPay c i
  | some (some (false, j)) => sendPay c j
  | some (some (true, j)) => recvPay msg c j
  | none => iprop(emp)

/-- One round: every cell's duties of it. -/
def Rd : Rounds.Schedule (GSem nD τ sig) (Fin 5) 𝕄 where
  duties g r := if r = 0 ∧ g.1.2 = .tc then dutiesOf (dec g.2) else ∅
  unitless _ := False
  amount g _ _ := amountOf (dec g.2)
  payload g _ i := payOf msg g.1.1 i (dec g.2)
  amount_pos g _ _ _ := by
    unfold amountOf; split
    · exact NN_pos _
    · exact Nat.one_pos

instance Rd_payload_storable (g : GSem nD τ sig) (r : ℕ) (i : Fin 5) :
    BI.Storable (upEmb : UEmb _ 𝕄) ((Rd msg).payload g r i) := by
  show BI.Storable upEmb (payOf msg g.1.1 i (dec g.2))
  unfold payOf; split <;> infer_instance

/-- The duties of a cell in its one round. -/
theorem duties_cell (c : Dev nD) (k : Option (Bool × Fin 46)) : (Rd msg).duties (kcell (c, k)) 0 = dutiesOf (some k) := by
  dsimp only [Rd]; rw [dec_csem]; exact if_pos ⟨rfl, rfl⟩
/-- There is no later round. -/
theorem duties_later (g : GSem nD τ sig) : ∀ r, 1 ≤ r → (Rd msg).duties g r = ∅ :=
  fun r hr => if_neg fun h => by omega
/-- The amount of a cell's duty. -/
theorem amount_cell (c : Dev nD) (k : Option (Bool × Fin 46)) (r : ℕ) (i : Fin 5) :
    (Rd msg).amount (kcell (c, k)) r i = amountOf (some k) := by
  show amountOf (dec (csem k)) = _; rw [dec_csem]
/-- What a cell's duty hands over. -/
theorem payload_cell (c : Dev nD) (k : Option (Bool × Fin 46)) (r : ℕ) (i : Fin 5) :
    (Rd msg).payload (kcell (c, k)) r i = payOf msg c i (some k) := by
  show payOf msg c i (dec (csem k)) = _; rw [dec_csem]

/-- A barrier awaits five. -/
theorem expect_bar (c : Dev nD) : (Rd msg).expect (barCell c) 0 = 5 := by
  unfold Schedule.expect Schedule.amountOf
  rw [duties_cell msg c none, Finset.sum_congr rfl fun i _ => amount_cell msg c none 0 i]
  rfl
/-- A copy's cell awaits the copy's credit. -/
theorem expect_x (c : Dev nD) (bj : Bool × Fin 46) : (Rd msg).expect (kcell (c, some bj)) 0 = NN bj.2 := by
  unfold Schedule.expect Schedule.amountOf
  rw [duties_cell msg c (some bj)]
  show Finset.sum {0} _ = _
  rw [Finset.sum_singleton, amount_cell msg c (some bj)]
  rfl

/-- A barrier's wait brings in what its five signals hand over. -/
theorem rest_bar (c : Dev nD) : bigSep ((Rd msg).duties (barCell c) 0 \ ∅) (fun i => (Rd msg).payload (barCell c) 0 i)
    = bigSep Finset.univ (barPay (F := F) c) := by
  rw [Finset.sdiff_empty, duties_cell msg c none]
  exact bigSep_congr fun i _ => payload_cell msg c none 0 i
/-- A copy's wait brings in what its one landing hands over. -/
theorem rest_x (c : Dev nD) (bj : Bool × Fin 46) :
    bigSep ((Rd msg).duties (kcell (c, some bj)) 0 \ ∅) (fun i => (Rd msg).payload (kcell (c, some bj)) 0 i)
      = payOf msg c 0 (some (some bj)) := by
  rw [Finset.sdiff_empty, duties_cell msg c (some bj)]
  show bigSep {0} _ = _
  rw [bigSep_singleton, payload_cell msg c (some bj)]

end Sched

/-! ## What each device owes, and the levels -/

/-- The credit of copy `j`, owed to the partner. -/
def owe1 (c : Dev nD) (j : Fin 46) : CellTallies nD τ sig Unit := tallyAt (recvCell (par j c) j) () (NN j)
/-- What device `c` owes with the copies from `n` on to send. -/
def oweFrom (c : Dev nD) (n : ℕ) : CellTallies nD τ sig Unit :=
  ∑ j ∈ Finset.univ.filter (fun j : Fin 46 => n ≤ j.val), owe1 c j
/-- The entry signal across axis `i`, owed to the device there. -/
def oweBar (c : Dev nD) (i : Fin 5) : CellTallies nD τ sig Unit := tallyAt (barCell (nb i c)) () 1
/-- What device `c` owes at launch, the entry signals last to be added as they are first to be paid. -/
def O₀ (c : Dev nD) : CellTallies nD τ sig Unit :=
  oweFrom c 0 + oweBar c 4 + oweBar c 3 + oweBar c 2 + oweBar c 1 + oweBar c 0

/-- Sending copy `n` pays the first of what is owed. -/
theorem oweFrom_succ (c : Dev nD) (j : Fin 46) : oweFrom c j.val = oweFrom c (j.val + 1) + owe1 c j := by
  unfold oweFrom
  have h : Finset.univ.filter (fun i : Fin 46 => j.val ≤ i.val) = insert j (Finset.univ.filter fun i : Fin 46 => j.val + 1 ≤ i.val) := by
    ext i
    simp only [Finset.mem_filter, Finset.mem_univ, true_and, Finset.mem_insert, Fin.ext_iff]
    omega
  rw [h, Finset.sum_insert (by simp), add_comm]
/-- With every copy sent nothing is owed. -/
theorem oweFrom_end (c : Dev nD) : oweFrom c 46 = 0 := by
  unfold oweFrom
  have h : Finset.univ.filter (fun i : Fin 46 => 46 ≤ i.val) = ∅ := by
    ext i
    have := i.isLt
    simp only [Finset.mem_filter, Finset.mem_univ, true_and, Finset.notMem_empty, iff_false]
    omega
  rw [h, Finset.sum_empty]

/-- Each semaphore of a tensor core has one level. -/
def L (g : GSem nD τ sig) : Finset Unit := if g.1.2 = .tc then {()} else ∅
/-- The levels: the barriers at 1, the arrivals of copy `j` at `j + 2`, all else at 0. -/
def lvOf : Option (Option (Bool × Fin 46)) → ℕ
  | some none => 1
  | some (some (true, j)) => j.val + 2
  | _ => 0
/-- The level of a cell. -/
def lv (g : GSem nD τ sig) (_ : Unit) : ℕ := lvOf (dec g.2)

/-- A thread that is not a tensor core's has no levels. -/
theorem L_of_ne (g : GSem nD τ sig) (h : g.1.2 ≠ .tc) : L g = ∅ := if_neg h
/-- Every semaphore of a tensor core has one level. -/
theorem L_tc (c : Dev nD) (sm : SemLoc sig) : L ((c : Thread nD τ), sm) = {()} := if_pos rfl

/-- A copy owes only to its arrivals on the partner. -/
theorem owe1_pos {c : Dev nD} {j : Fin 46} {g : GSem nD τ sig} {u : Unit} (h : 0 < owe1 c j g u) : g = recvCell (par j c) j := by
  unfold owe1 at h
  rw [tallyAt_apply] at h
  by_contra hn
  rw [if_neg fun h' => hn h'.1] at h
  exact Nat.lt_irrefl 0 h
/-- An entry signal owes only to the barrier across its axis. -/
theorem oweBar_pos {c : Dev nD} {i : Fin 5} {g : GSem nD τ sig} {u : Unit} (h : 0 < oweBar c i g u) : g = barCell (nb i c) := by
  unfold oweBar at h
  rw [tallyAt_apply] at h
  by_contra hn
  rw [if_neg fun h' => hn h'.1] at h
  exact Nat.lt_irrefl 0 h
/-- What is owed with the copies from `n` on to send is owed to the arrivals of one of them. -/
theorem oweFrom_pos {c : Dev nD} {n : ℕ} {g : GSem nD τ sig} {u : Unit} (h : 0 < oweFrom c n g u) :
    ∃ j : Fin 46, n ≤ j.val ∧ g = recvCell (par j c) j := by
  unfold oweFrom at h
  rw [Finset.sum_apply, Finsupp.finset_sum_apply] at h
  obtain ⟨j, hj, hp⟩ := Finset.exists_ne_zero_of_sum_ne_zero (Nat.ne_of_gt h)
  exact ⟨j, (Finset.mem_filter.mp hj).2, owe1_pos (Nat.pos_of_ne_zero hp)⟩
/-- All that a device owes at launch is owed to arrivals and to neighbours' barriers. -/
theorem O₀_pos {c : Dev nD} {g : GSem nD τ sig} {u : Unit} (h : 0 < O₀ c g u) :
    (∃ j : Fin 46, g = recvCell (par j c) j) ∨ ∃ i, g = barCell (nb i c) := by
  unfold O₀ at h
  simp only [Pi.add_apply, Finsupp.add_apply] at h
  by_contra hn
  rw [not_or, not_exists, not_exists] at hn
  have h0 : oweFrom c 0 g u = 0 := Nat.eq_zero_of_not_pos fun h => by
    obtain ⟨j, -, hj⟩ := oweFrom_pos h; exact hn.1 j hj
  have hb : ∀ i, oweBar c i g u = 0 := fun i => Nat.eq_zero_of_not_pos fun h => hn.2 i (oweBar_pos h)
  rw [h0, hb, hb, hb, hb, hb] at h
  exact Nat.lt_irrefl 0 h

/-- The level of a copy's arrivals. -/
theorem lv_recv (c : Dev nD) (j : Fin 46) (u : Unit) : lv (recvCell c j) u = j.val + 2 := by
  show lvOf (dec (csem (some (true, j)))) = _; rw [dec_csem]; rfl
/-- The level of a barrier. -/
theorem lv_bar (c : Dev nD) (u : Unit) : lv (barCell c) u = 1 := rfl
/-- The level of a copy's departures. -/
theorem lv_send (c : Dev nD) (j : Fin 46) (u : Unit) : lv (sendCell c j) u = 0 := by
  show lvOf (dec (csem (some (false, j)))) = _; rw [dec_csem]; rfl

/-- A device may wait below the level of all it owes. -/
theorem mayWait_lt (c : Dev nD) (sm : SemLoc sig) (O : CellTallies nD τ sig Unit)
    (h : ∀ g u, 0 < O g u → L g = {()} ∧ lv ((c : Thread nD τ), sm) () < lv g u) :
    (levAts L lv : sProp 𝕄) ⊢ MayWait (c : Thread nD τ) sm () O :=
  MayOwe.of_cut (L := L) (lev := lv) (lv ((c : Thread nD τ), sm) ())
    (fun p hp => by rw [Finset.mem_singleton.mp hp, L_tc]; exact Finset.mem_singleton_self _)
    (fun g u hg => by rw [(h g u hg).1]; exact Finset.mem_singleton_self _)
    (fun p hp => by rw [Finset.mem_singleton.mp hp])
    (fun g u hg => (h g u hg).2)

/-- Before copy `n` is sent a device may wait for what has level below `n + 2`. -/
theorem mayWait_from (c : Dev nD) (sm : SemLoc sig) (n : ℕ) (h : lv ((c : Thread nD τ), sm) () < n + 2) :
    (levAts L lv : sProp 𝕄) ⊢ MayWait (c : Thread nD τ) sm () (oweFrom c n) :=
  mayWait_lt c sm _ fun g u hg => by
    obtain ⟨j, hj, rfl⟩ := oweFrom_pos hg
    exact ⟨L_tc _ _, by rw [lv_recv]; omega⟩

end Cert.AllReduce

end
-- ==== Proof.Sound.lean ====
module

public import proofs.«01_k».proof.Proof.Sched
public import Idealize.ShloMosaic.Lib.Pipeline.Value
public import Idealize.ShloMosaic.Lib.MemrefSat

/-! The body at one device: what it holds between steps, each step, the whole run. -/

@[expose] public section

set_option maxRecDepth 65536

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Values by row and column -/

/-- A block is known by its rows. -/
theorem mat_congr {α : Type} {m : ℕ} {f g : ℕ → ℕ → α} (h : ∀ r c, r < m → f r c = g r c) :
    (mat f : (Sh m).Idx → α) = mat g := funext fun i => h _ _ (i 0).isLt

/-- A staged block is known by the rows it is taken from. -/
theorem stagePay_mat (b : Base) {m : ℕ} {v u : ℕ → ℕ → F (bty b)} (h : ∀ r c, r < m → v r c = u r c) :
    stagePay b (mat v : (Sh m).Idx → F (bty b)) = mat fun r c => nar b (u r c) := by
  unfold stagePay
  rw [shapeCast_self, shapeCast_self, mat_congr h]
  cases b <;> rfl

/-- A sum's block is known by the rows it adds. -/
theorem sumPay_mat (b : Base) {m : ℕ} {v u : ℕ → ℕ → F (bty b)} (w : ℕ → ℕ → F .bf16) (h : ∀ r c, r < m → v r c = u r c) :
    sumPay b (mat v : (Sh m).Idx → F (bty b)) (mat w)
      = mat fun r c => FloatOps.addf (wid b (u r c)) (FloatOps.extf .f32 bitsLt_bf16_f32 (w r c)) := by
  unfold sumPay
  rw [shapeCast_self, mat_congr h]
  cases b <;> rfl

/-- The same of the block that is added and staged. -/
theorem bothPay_mat (b : Base) {m m' : ℕ} (e : m = m') {v u : ℕ → ℕ → F (bty b)} (w : ℕ → ℕ → F .bf16)
    (h : ∀ r c, r < m → v r c = u r c) :
    bothPay b e (mat v : (Sh m).Idx → F (bty b)) (mat w)
      = mat fun r c => FloatOps.truncf .bf16 bitsLt_bf16_f32
          (FloatOps.addf (wid b (u r c)) (FloatOps.extf .f32 bitsLt_bf16_f32 (w r c))) := by
  subst e
  unfold bothPay
  rw [sumPay_mat b w h, shapeCast_self]
  rfl

/-- A copy's source has the credit of its destination. -/
theorem credit_src : ∀ j, (bufs (src j)).M.view.dmaCredit = NN j := by decide +kernel

/-- A copy's destination at either of its two equal shapes. -/
theorem owns_dstM (c : Dev nD) (j : Fin 46) (q : PosShare TreeShare) (v : ℕ → ℕ → F .bf16) :
    (owns (c : Thread nD τ) (dstM j) q (mat v) : sProp 𝕄) = owns (c : Thread nD τ) (bufs (dst j)).M q (mat v) := by
  have h : ∀ (a b : ℕ) (e : a = b) (M : Memref sig .tc .vmem (Sh a) .bf16),
      (owns (c : Thread nD τ) (e ▸ M : Memref sig .tc .vmem (Sh b) .bf16) q (mat v) : sProp 𝕄) = owns (c : Thread nD τ) M q (mat v) := by
    intro a b e M; subst e; rfl
  exact h _ _ _ _

/-- A copy's destination, holding anything, is the exchange buffer it is. -/
theorem landing_eq (c : Dev nD) (j : Fin 46) :
    (landing (F := F) c j : sProp 𝕄) = iprop(∃ X, owns (c : Thread nD τ) (bufs (dst j)).M fullShare X) := by
  have h : ∀ (a b : ℕ) (e : a = b) (M : Memref sig .tc .vmem (Sh a) .bf16),
      (iprop(∃ X, owns (c : Thread nD τ) (e ▸ M : Memref sig .tc .vmem (Sh b) .bf16) fullShare X) : sProp 𝕄)
        = iprop(∃ X, owns (c : Thread nD τ) M fullShare X) := by
    intro a b e M; subst e; rfl
  exact h _ _ _ _

/-- One summand taken out of an indexed product, another put in its place. -/
theorem bigSep_step {I : Type} [Fintype I] [DecidableEq I] (a : I) (Φ Φ' : I → sProp 𝕄) (h : ∀ k, k ≠ a → Φ k = Φ' k) :
    bigSep Finset.univ Φ ⊢ iprop(Φ a ∗ (Φ' a -∗ bigSep Finset.univ Φ')) := by
  rw [bigSep_univ_at Φ a, bigSep_univ_at Φ' a,
    bigSep_congr fun k hk => h k (Finset.ne_of_mem_erase hk)]
  iintro ⟨H, Hr⟩
  isplitl [H]; · iexact H
  iintro H
  isplitl [H] <;> iassumption

/-! ## What a device holds between steps -/

/-- The rows of a device's block of the operand. -/
def xr (xf : Dev nD → xV.view.ty.Contents (Elt F)) (d : Dev nD) (r col : ℕ) : F .bf16 :=
  xV.view.read (Elt F) (xf d) (ix (m := 1024) (by decide) r col)

section Inv

variable (xf : Dev nD → xV.view.ty.Contents (Elt F)) (msg : Fin 46 → Dev nD → ℕ → ℕ → F .bf16)
  (K : Dev nD × Option (Bool × Fin 46) → ℕ) (c : Dev nD)

/-- The block of the operand, and the output agreeing with `g` on the rows `W`. -/
def OutX (W : ℕ) (out : ℕ → ℕ → F .f32) : sProp 𝕄 :=
  iprop((xV.view.loc (c : Thread nD τ) ↦[xV.view.set]{fullShare} xf c)
    ∗ ∃ g, ⌜Agree W g out⌝ ∗ owns (c : Thread nD τ) oM fullShare (mat g))

/-- What is held of a buffer. -/
def BR (k : Fin 84) (v : ℕ → ℕ → F .bf16) : Held → sProp 𝕄
  | .none => iprop(emp)
  | .any => iprop(∃ X, owns (c : Thread nD τ) (bufs k).M fullShare X)
  | .full => owns (c : Thread nD τ) (bufs k).M fullShare (mat v)
  | .half => owns (c : Thread nD τ) (bufs k).M fullShare.left (mat v)

/-- The places of a copy's two waits and the credit of its arrival. -/
def waitR (j : Fin 46) : sProp 𝕄 :=
  iprop(atPos ER (sendCell c j) 0 ∅ 0 ∗ atPos ER (recvCell c j) 0 ∅ 0 ∗ cred (tallyAt (recvCell c j) () (NN j)))
/-- A copy not sent yet. -/
def unsentR (j : Fin 46) : sProp 𝕄 :=
  iprop(landing (F := F) (par j c) j ∗ dutyTok ER (sendCell c j) 0 0 ∗ dutyTok ER (recvCell (par j c) j) 0 0 ∗ waitR c j)
/-- A copy sent. -/
def flyR (j : Fin 46) : sProp 𝕄 := iprop(cred (tallyAt (sendCell c j) () (NN j)) ∗ waitR (F := F) c j)
/-- A copy waited for. -/
def doneR (j : Fin 46) : sProp 𝕄 := iprop(semVal (sendCell c j) 0 ∗ semVal (recvCell c j) 0)
/-- What is held of a copy. -/
def CR (st : St) (j : Fin 46) : sProp 𝕄 :=
  if st.n ≤ j.val then unsentR (F := F) c j else if st.dn j then doneR c j else flyR c j

/-- The cells' invariants and rounds, and the levels. -/
def recs : sProp 𝕄 :=
  iprop(bigSep Finset.univ (fun ck => cellInv ER (Rd msg) (K ck) (kcell ck))
    ∗ bigSep Finset.univ (fun ck => reached ER (kcell ck) 0) ∗ levAts L lv)

instance recs_persistent : BI.Persistent (recs msg K) := by unfold recs; infer_instance

/-- The shared facts hold the invariant of each cell. -/
theorem inv_at (ck : Dev nD × Option (Bool × Fin 46)) :
    (bigSep Finset.univ fun ck => (cellInv ER (Rd msg) (K ck) (kcell ck) : sProp 𝕄)) ⊢ cellInv ER (Rd msg) (K ck) (kcell ck) :=
  bigSep_elim (Finset.mem_univ ck)
omit [FloatOps F] in
/-- The shared facts hold that each cell is at its round. -/
theorem reached_at (ck : Dev nD × Option (Bool × Fin 46)) :
    (bigSep Finset.univ fun ck : Dev nD × Option (Bool × Fin 46) => (reached ER (kcell ck) 0 : sProp 𝕄)) ⊢ reached ER (kcell ck) 0 :=
  bigSep_elim (Finset.mem_univ ck)
/-- The invariant of one cell, from the shared facts. -/
theorem recs_inv (ck : Dev nD × Option (Bool × Fin 46)) : recs msg K ⊢ cellInv ER (Rd msg) (K ck) (kcell ck) := by
  unfold recs
  iintro ⟨H, -, -⟩
  iapply (inv_at msg K ck) $$ H
/-- One cell's round, from the shared facts. -/
theorem recs_reached (ck : Dev nD × Option (Bool × Fin 46)) : recs msg K ⊢ reached ER (kcell ck) 0 := by
  unfold recs
  iintro ⟨-, H, -⟩
  iapply (reached_at ck) $$ H
/-- The levels, from the shared facts. -/
theorem recs_lev : recs msg K ⊢ levAts L lv := by
  unfold recs
  iintro ⟨-, -, H⟩
  iexact H

/-- The copies under way have their destinations lent, and the messages they carry are those landed in the simulation. -/
def Fly (st : St) (S : LS F) : Prop :=
  ∀ j : Fin 46, j.val < st.n → st.dn j = false → st.bf (dst j) = .none ∧ S.buf (dst j) = msg j c

/-- All a device holds between steps. -/
def INV (st : St) (W : ℕ) (S : LS F) : sProp 𝕄 :=
  iprop(⌜Fly msg c st S⌝ ∗ OutX xf c W S.out ∗ bigSep Finset.univ (fun k => BR c k (S.buf k) (st.bf k))
    ∗ bigSep Finset.univ (fun j => CR c st j) ∗ ∃ Ws, owes (c : Thread nD τ) (oweFrom c st.n) Ws)

end Inv

/-! ## Loads and stores between steps -/

section Steps

variable (xf : Dev nD → xV.view.ty.Contents (Elt F)) (msg : Fin 46 → Dev nD → ℕ → ℕ → F .bf16)
  (K : Dev nD × Option (Bool × Fin 46) → ℕ) (c : Dev nD) {Q : PUnit → sProp (MT nD τ sig Unit (Elt F) ℕ UU ℕ)}

local notation "wpc" => wp frame (wpE (defs₀ (F := F)) 𝒱₀ (c : Thread nD τ) none) Set.univ

/-- Loading rows of the operand or of the output: the value loaded is theirs, and what was held is still held. -/
theorem wp_base (b : Base) (k : Fin 84) (o : Off (bufs k).m) (W : ℕ) (out : ℕ → ℕ → F .f32)
    (h : b = .X ∨ covers W (o.off c 0) (bufs k).m = true) (P : FVec F (Sh (bufs k).m) (bty b) → PG F) :
    OutX xf c W out ⊢ iprop((∀ v : ℕ → ℕ → F (bty b), ⌜∀ r col, r < (bufs k).m → v r col = baseVal (xr xf c) out b (o.off c 0 + r) col⌝
        -∗ OutX xf c W out -∗ wpc (P (mat v)) Q) -∗ wpc (loadBase b c k o P) Q) := by
  unfold OutX
  iintro ⟨Hx, %g, %hg, Ho⟩ Hk
  cases b with
  | X =>
    iapply (wp_load 𝒱₀ (c : Thread nD τ) none Set.univ (m := xV) (View.setOn_subset_set _ _)) $$ Hx
    iintro Hx
    rw [readAt_rows xV (o.off c) (o.inb c) (o.col c) (xf c) (xr xf c) (mat_ix (by decide) _).symm]
    iapply Hk $$ %(fun r col => xr xf c (o.off c 0 + r) col)
    · ipureintro; exact fun _ _ _ => rfl
    · isplitl [Hx]; · iexact Hx
      iexists g
      isplitr; · ipureintro; exact hg
      iexact Ho
  | O =>
    have hc : covers W (o.off c 0) (bufs k).m = true := h.resolve_left (fun h => nomatch h)
    iapply (wp_rows c oM (o.off c) (o.inb c) (o.col c) g fullShare (hl := View.loadsAt_vmem (bufs k).pos) P) $$ Ho
    iintro Ho
    iapply Hk $$ %(fun r col => g (o.off c 0 + r) col)
    · ipureintro; exact fun r col hr => hg _ _ (covers_iff hc ⟨by omega, by omega⟩)
    · isplitl [Hx]; · iexact Hx
      iexists g
      isplitr; · ipureintro; exact hg
      iexact Ho

/-- Adding to rows or replacing them: after the store the output holds the new rows there and is as before elsewhere. -/
theorem wp_out (k : Fin 84) (o : Off (bufs k).m) (W : ℕ) (out : ℕ → ℕ → F .f32)
    (h : aligned (o.off c 0) (bufs k).m = true) (v v' : ℕ → ℕ → F .f32) (hv : ∀ r col, r < (bufs k).m → v r col = v' r col) (P : PG F) :
    OutX xf c W out ⊢ iprop((OutX xf c (W ||| rowsOf (o.off c 0) (bufs k).m) (putRows (o.off c 0) (bufs k).m v' out) -∗ wpc P Q)
      -∗ wpc (loadRows oM c k o fun _ => storeOut c k o (mat v) P) Q) := by
  unfold OutX
  iintro ⟨Hx, %g, %hg, Ho⟩ Hk
  iapply (wp_rows c oM (o.off c) (o.inb c) (o.col c) g fullShare (hl := View.loadsAt_vmem (bufs k).pos)
    (fun _ => storeOut c k o (mat v) P)) $$ Ho
  iintro Ho
  iapply (wp_putRows c oM (o.off c) (o.inb c) (o.col c) g v P) $$ Ho
  iintro Ho
  iapply Hk
  isplitl [Hx]; · iexact Hx
  iexists _
  isplitr
  rotate_left
  · iexact Ho
  · ipureintro; exact hg.put h hv

/-- A buffer's contents are read and kept. -/
theorem wp_readBuf (k : Fin 84) (v : ℕ → ℕ → F .bf16) (hd : Held) (h : hd.readable = true)
    (P : ((Sh (bufs k).m).Idx → F .bf16) → PG F) :
    BR c k v hd ⊢ iprop((BR c k v hd -∗ wpc (P (mat v)) Q) -∗ wpc (loadBuf k P) Q) := by
  cases hd with
  | none => exact absurd h (by decide)
  | any => exact absurd h (by decide)
  | full => exact wp_loadBuf c k v fullShare P
  | half => exact wp_loadBuf c k v fullShare.left P

/-! ## The copies -/

/-- A send is the printed start of a remote copy to the partner. -/
theorem den_send (j : Fin 46) (P : PG F) : den c (.send j) P = (Prog.op (.enqueueDma (bufs (src j)).M (.remote (Dev.tc (par j c)) (dstM j) (.dma (sSem j).sem))
      (.dma (rSem j).sem) (bufs (src j)).whole.wordExact (dstM_wordExact j) ⟨⟨rfl, Or.inl rfl⟩, trivial⟩) fun _ => P) := rfl
/-- A wait is the two printed waits of a copy, for its departure and for its arrival. -/
theorem den_wait (j : Fin 46) (P : PG F) : den c (.wait j) P = (Prog.op (.waitDma2 (sSem j).sem (dstM j) (bufs (src j)).M (dstM_wordExact j)
      (bufs (src j)).whole.wordExact) fun _ =>
      Prog.op (.waitDma2 (rSem j).sem (bufs (src j)).M (dstM j) (bufs (src j)).whole.wordExact (dstM_wordExact j)) fun _ => P) := rfl

/-- Starting a copy: half of its source is lent, its message lands at the partner. -/
theorem wp_sendJ (j : Fin 46) (v : ℕ → ℕ → F .bf16) (hm : msg j (par j c) = v) (Ws : Waits sig Unit) (P : PG F) :
    iprop(recs msg K ∗ owns (c : Thread nD τ) (bufs (src j)).M fullShare (mat v) ∗ unsentR c j
        ∗ owes (c : Thread nD τ) (oweFrom c j.val) Ws)
      ⊢ iprop((owns (c : Thread nD τ) (bufs (src j)).M fullShare.left (mat v) -∗ flyR c j
            -∗ owes (c : Thread nD τ) (oweFrom c (j.val + 1)) Ws -∗ wpc P Q)
          -∗ wpc (den c (.send j) P) Q) := by
  rw [den_send]
  unfold unsentR flyR landing
  iintro ⟨#HR, Hs, ⟨⟨%X, Hd⟩, HtS, HtR, Hw⟩, HO⟩ Hk
  ihave H2 := (owns_halves (c : Thread nD τ) (bufs (src j)).M fullShare (mat v)).1 $$ Hs
  icases H2 with ⟨HsL, HsR⟩
  unfold owns
  icases HsR with ⟨%fs, %hfs, HsR⟩
  icases Hd with ⟨%fd, -, Hd⟩
  iapply (Rounds.wp_send_pointsTo 𝒱₀ ER (Rd msg) (c : Thread nD τ) none (c' := (par j c : Thread nD τ))
    (κ₁ := K (c, some (false, j))) (κ₂ := K (par j c, some (true, j)))
    (r₁ := 0) (r₂ := 0) (d₁ := 0) (d₂ := 0) (fs := fs) (fd := fd)
    (by rw [duties_cell msg c (some (false, j))]; exact Finset.mem_singleton_self _)
    (by rw [duties_cell msg (par j c) (some (true, j))]; exact Finset.mem_singleton_self _)
    () () (NN j) rfl (amount_cell msg c (some (false, j)) 0 0) (amount_cell msg (par j c) (some (true, j)) 0 0)
    (oweFrom c (j.val + 1)) (oweFrom_succ c j) (W := Ws)
    (by
      rw [payload_cell msg c (some (false, j))]
      show _ ⊢ sendPay c j
      unfold sendPay
      iintro H
      iexists _
      iapply (owns_intro (c : Thread nD τ) (bufs (src j)).M fullShare.right fs) $$ H)
    (by
      rw [payload_cell msg (par j c) (some (true, j))]
      show _ ⊢ recvPay msg (par j c) j
      unfold recvPay owns
      iintro H
      iexists _
      isplitr
      rotate_left
      · iexact H
      · ipureintro; rw [View.read_write_univ, hfs, hm])) $$ [HsR Hd HO HtS HtR]
  · isplitr; · iapply (recs_inv msg K (c, some (false, j))) $$ HR
    isplitr; · iapply (recs_inv msg K (par j c, some (true, j))) $$ HR
    isplitl [HsR]; · iexact HsR
    isplitl [Hd]; · iexact Hd
    isplitl [HO]; · iexact HO
    isplitl [HtS]; · iexact HtS
    isplitr; · iapply (recs_reached msg K (c, some (false, j))) $$ HR
    isplitl [HtR]; · iexact HtR
    iapply (recs_reached msg K (par j c, some (true, j))) $$ HR
  iintro ⟨HcS, HO⟩
  ihave Hk := Hk $$ HsL
  ihave Hk := Hk $$ [HcS Hw]
  · isplitl [HcS] <;> iassumption
  iapply Hk $$ HO

/-- What a departure hands over. -/
theorem pay_send (j : Fin 46) : payOf msg c 0 (some (some (false, j)))
    = iprop(∃ X, owns (c : Thread nD τ) (bufs (src j)).M fullShare.right X) := rfl
/-- What an arrival hands over. -/
theorem pay_recv (j : Fin 46) : payOf msg c 0 (some (some (true, j)))
    = owns (c : Thread nD τ) (bufs (dst j)).M fullShare (mat (msg j c)) := owns_dstM c j fullShare (msg j c)

/-- Waiting for a copy: the lent half of its source comes back, its destination comes holding the message. -/
theorem wp_waitJ (j : Fin 46) (n : ℕ) (hn : j.val < n) (v : ℕ → ℕ → F .bf16) (Ws : Waits sig Unit) (P : PG F) :
    iprop(recs msg K ∗ owns (c : Thread nD τ) (bufs (src j)).M fullShare.left (mat v) ∗ flyR c j
        ∗ owes (c : Thread nD τ) (oweFrom c n) Ws)
      ⊢ iprop((owns (c : Thread nD τ) (bufs (src j)).M fullShare (mat v)
            -∗ owns (c : Thread nD τ) (bufs (dst j)).M fullShare (mat (msg j c)) -∗ doneR c j
            -∗ (∃ Ws, owes (c : Thread nD τ) (oweFrom c n) Ws) -∗ wpc P Q)
          -∗ wpc (den c (.wait j) P) Q) := by
  rw [den_wait]
  unfold flyR waitR doneR
  iintro ⟨#HR, HsL, ⟨HcS, HaS, HaR, HcR⟩, HO⟩ Hk
  rw [← credit_src j]
  iapply (Rounds.wp_wait_rest_token 𝒱₀ ER (Rd msg) (c : Thread nD τ) none (κ := K (c, some (false, j)))
      (wpE_waitDma2_eq 𝒱₀ (c : Thread nD τ) none Set.univ) (Set.mem_univ _) () (O := oweFrom c n) (W := Ws) (R := 0) (m := 0) (T := ∅)
      (by rw [Nat.zero_add, credit_src]; exact (expect_x msg c (false, j)).symm)) $$ [HcS HO HaS]
  · isplitr; · iapply (recs_inv msg K (c, some (false, j))) $$ HR
    isplitl [HcS]; · iexact HcS
    isplitl [HO]; · iexact HO
    isplitr
    · iapply (mayWait_from c _ n (by rw [lv_send]; omega))
      iapply (recs_lev msg K) $$ HR
    iexact HaS
  iintro ⟨HO, HaS, -, Hpay⟩
  ihave Hp := (Entails.of_eq ((rest_x msg c (false, j)).trans (pay_send msg c j))) $$ Hpay
  rw [credit_src j]
  iapply (Rounds.wp_wait_rest_token 𝒱₀ ER (Rd msg) (c : Thread nD τ) none (κ := K (c, some (true, j)))
      (wpE_waitDma2_eq 𝒱₀ (c : Thread nD τ) none Set.univ) (Set.mem_univ _) () (O := oweFrom c n) (R := 0) (m := 0) (T := ∅)
      (by rw [Nat.zero_add]; exact (expect_x msg c (true, j)).symm)) $$ [HcR HO HaR]
  · isplitr; · iapply (recs_inv msg K (c, some (true, j))) $$ HR
    isplitl [HcR]; · iexact HcR
    isplitl [HO]; · iexact HO
    isplitr
    · iapply (mayWait_from c _ n (by rw [lv_recv]; omega))
      iapply (recs_lev msg K) $$ HR
    iexact HaR
  iintro ⟨HO, HaR, -, Hpay⟩
  ihave Hq := (Entails.of_eq ((rest_x msg c (true, j)).trans (pay_recv msg c j))) $$ Hpay
  imod (Rounds.cell_close ER (Rd msg) (Set.mem_univ (K (c, some (false, j)))) (fun h => h) (R := 0 + 1) (duties_later msg (sendCell c j))) $$ [HaS] with HzS
  · isplitr; · iapply (recs_inv msg K (c, some (false, j))) $$ HR
    iexact HaS
  imod (Rounds.cell_close ER (Rd msg) (Set.mem_univ (K (c, some (true, j)))) (fun h => h) (R := 0 + 1) (duties_later msg (recvCell c j))) $$ [HaR] with HzR
  · isplitr; · iapply (recs_inv msg K (c, some (true, j))) $$ HR
    iexact HaR
  ihave Hs := (show iprop(owns (c : Thread nD τ) (bufs (src j)).M fullShare.left (mat v) ∗ ∃ X, owns (c : Thread nD τ) (bufs (src j)).M fullShare.right X)
      ⊢ (owns (c : Thread nD τ) (bufs (src j)).M fullShare (mat v) : sProp 𝕄) from
    (sep_mono_right (ownsSat_true (c : Thread nD τ) (bufs (src j)).M fullShare.right).2).trans
      (owns_rejoin (c : Thread nD τ) (bufs (src j)).M fullShare _)) $$ [HsL Hp]
  · isplitl [HsL] <;> iassumption
  ihave Hk := Hk $$ Hs
  ihave Hk := Hk $$ Hq
  ihave Hk := Hk $$ [HzS HzR]
  · isplitl [HzS] <;> iassumption
  iapply Hk
  iexists _
  iexact HO

/-! ## One step -/

/-- A buffer not lent is written: nothing under way changes. -/
theorem Fly.write {st : St} {S : LS F} (h : Fly msg c st S) (k : Fin 84) (hk : st.bf k ≠ .none) (hd : Held) (out : ℕ → ℕ → F .f32)
    (v : ℕ → ℕ → F .bf16) : Fly msg c { st with bf := Function.update st.bf k hd } ⟨out, Function.update S.buf k v⟩ := by
  intro j hj hdn
  obtain ⟨h1, h2⟩ := h j hj hdn
  have hne : dst j ≠ k := fun e => hk (e ▸ h1)
  exact ⟨(Function.update_of_ne hne _ _).trans h1, (Function.update_of_ne hne _ _).trans h2⟩

/-- One buffer of all, read and kept. -/
theorem wp_readAll (k : Fin 84) (bf : Fin 84 → Held) (S : LS F) (h : (bf k).readable = true)
    (P : ((Sh (bufs k).m).Idx → F .bf16) → PG F) :
    (bigSep Finset.univ fun k => BR c k (S.buf k) (bf k) : sProp 𝕄)
      ⊢ iprop(((bigSep Finset.univ fun k => BR c k (S.buf k) (bf k)) -∗ wpc (P (mat (S.buf k))) Q) -∗ wpc (loadBuf k P) Q) := by
  iintro H Hk
  ihave H := (bigSep_step k _ _ fun _ _ => rfl) $$ H
  icases H with ⟨H, Hr⟩
  iapply (wp_readBuf c k (S.buf k) (bf k) h P) $$ H
  iintro H
  iapply Hk
  iapply Hr $$ H

/-- One buffer of all, held at contents of no account, loaded for nothing and written. -/
theorem wp_writeAll (k : Fin 84) (bf : Fin 84 → Held) (S : LS F) (h : bf k = .any) (v : ℕ → ℕ → F .bf16) (P : PG F) :
    (bigSep Finset.univ fun k => BR c k (S.buf k) (bf k) : sProp 𝕄)
      ⊢ iprop(((bigSep Finset.univ fun k' => BR c k' (Function.update S.buf k v k') (Function.update bf k .full k')) -∗ wpc P Q)
        -∗ wpc (loadBuf k fun _ => storeBuf k (mat v) P) Q) := by
  iintro H Hk
  ihave H := (bigSep_step k _ (fun k' => BR c k' (Function.update S.buf k v k') (Function.update bf k .full k'))
    fun k' hk' => by rw [Function.update_of_ne hk', Function.update_of_ne hk']) $$ H
  rw [h, Function.update_self, Function.update_self]
  icases H with ⟨H, Hr⟩
  unfold BR
  iapply (wp_loadAny c k fullShare (storeBuf k (mat v) P)) $$ H
  iintro H
  iapply (wp_storeBuf c k v P) $$ H
  iintro H
  iapply Hk
  iapply Hr $$ H

/-- A staging step as a program. -/
theorem den_stage (b : Base) (k : Fin 84) (o : Off (bufs k).m) (P : PG F) : den c (.stage b k o) P
    = loadBase b c k o fun v => loadBuf k fun _ => storeBuf k (stagePay b v) P := rfl
/-- An adding step as a program. -/
theorem den_add (b : Base) (k : Fin 84) (o : Off (bufs k).m) (P : PG F) : den c (.add b k o) P
    = loadBase b c k o fun v => loadBuf k fun w => loadRows oM c k o fun _ => storeOut c k o (sumPay b v w) P := rfl
/-- An adding and staging step as a program. -/
theorem den_addStage (b : Base) (k k2 : Fin 84) (h : (bufs k).m = (bufs k2).m) (o : Off (bufs k).m) (P : PG F) :
    den c (.addStage b k k2 h o) P = loadBase b c k o fun v => loadBuf k fun w => loadBuf k2 fun _ =>
      storeBuf k2 (bothPay b h v w) <| loadRows oM c k o fun _ => storeOut c k o (sumPay b v w) P := rfl
/-- A putting step as a program. -/
theorem den_put (k : Fin 84) (o : Off (bufs k).m) (P : PG F) : den c (.put k o) P
    = loadBuf k fun w => loadRows oM c k o fun _ => storeOut c k o (extf .f32 w bitsLt_bf16_f32) P := rfl

/-- Rows of a base staged in a buffer. -/
theorem sound_stage (b : Base) (k : Fin 84) (o : Off (bufs k).m) (st : St) (W : ℕ) (S : LS F) (hk : st.bf k = .any)
    (hW : b = .X ∨ covers W (o.off c 0) (bufs k).m = true) (P : PG F) :
    INV xf msg c st W S
      ⊢ iprop((INV xf msg c { st with bf := Function.update st.bf k .full } W (loc (xr xf c) c S (.stage b k o)) -∗ wpc P Q)
        -∗ wpc (den c (.stage b k o) P) Q) := by
  rw [den_stage]
  unfold INV
  iintro ⟨%hF, HX, HB, HC, HO⟩ Hk
  iapply (wp_base xf c b k o W S.out hW fun v => loadBuf k fun _ => storeBuf k (stagePay b v) P) $$ HX
  iintro %v %hv HX
  rw [stagePay_mat b hv]
  iapply (wp_writeAll c k st.bf S hk (fun r col => nar b (baseVal (xr xf c) S.out b (o.off c 0 + r) col)) P) $$ HB
  iintro HB
  iapply Hk
  isplitr; · ipureintro; exact hF.write msg c k (by rw [hk]; decide) .full S.out _
  isplitl [HX]; · iexact HX
  isplitl [HB]; · iexact HB
  isplitl [HC]; · iexact HC
  iexact HO

/-- Rows of a base and a buffer summed in the output. -/
theorem sound_add (b : Base) (k : Fin 84) (o : Off (bufs k).m) (st : St) (W : ℕ) (S : LS F) (hk : (st.bf k).readable = true)
    (ha : aligned (o.off c 0) (bufs k).m = true) (hW : b = .X ∨ covers W (o.off c 0) (bufs k).m = true) (P : PG F) :
    INV xf msg c st W S
      ⊢ iprop((INV xf msg c st (W ||| rowsOf (o.off c 0) (bufs k).m) (loc (xr xf c) c S (.add b k o)) -∗ wpc P Q)
        -∗ wpc (den c (.add b k o) P) Q) := by
  rw [den_add]
  unfold INV
  iintro ⟨%hF, HX, HB, HC, HO⟩ Hk
  iapply (wp_base xf c b k o W S.out hW fun v => loadBuf k fun w => loadRows oM c k o fun _ =>
    storeOut c k o (sumPay b v w) P) $$ HX
  iintro %v %hv HX
  iapply (wp_readAll c k st.bf S hk fun w => loadRows oM c k o fun _ => storeOut c k o (sumPay b (mat v) w) P) $$ HB
  iintro HB
  rw [sumPay_mat b (S.buf k) hv]
  iapply (wp_out xf c k o W S.out ha _ (sumV b (xr xf c) S.out (o.off c 0) (S.buf k)) (fun _ _ _ => rfl) P) $$ HX
  iintro HX
  iapply Hk
  isplitr; · ipureintro; exact hF
  isplitl [HX]; · iexact HX
  isplitl [HB]; · iexact HB
  isplitl [HC]; · iexact HC
  iexact HO

/-- The same sum, staged too. -/
theorem sound_addStage (b : Base) (k k2 : Fin 84) (h : (bufs k).m = (bufs k2).m) (o : Off (bufs k).m) (st : St) (W : ℕ)
    (S : LS F) (hk : (st.bf k).readable = true) (hk2 : st.bf k2 = .any)
    (ha : aligned (o.off c 0) (bufs k).m = true) (hW : b = .X ∨ covers W (o.off c 0) (bufs k).m = true) (P : PG F) :
    INV xf msg c st W S
      ⊢ iprop((INV xf msg c { st with bf := Function.update st.bf k2 .full } (W ||| rowsOf (o.off c 0) (bufs k).m)
            (loc (xr xf c) c S (.addStage b k k2 h o)) -∗ wpc P Q)
        -∗ wpc (den c (.addStage b k k2 h o) P) Q) := by
  rw [den_addStage]
  unfold INV
  iintro ⟨%hF, HX, HB, HC, HO⟩ Hk
  iapply (wp_base xf c b k o W S.out hW fun v => loadBuf k fun w => loadBuf k2 fun _ =>
      storeBuf k2 (bothPay b h v w) <| loadRows oM c k o fun _ => storeOut c k o (sumPay b v w) P) $$ HX
  iintro %v %hv HX
  iapply (wp_readAll c k st.bf S hk fun w => loadBuf k2 fun _ =>
      storeBuf k2 (bothPay b h (mat v) w) <| loadRows oM c k o fun _ => storeOut c k o (sumPay b (mat v) w) P) $$ HB
  iintro HB
  rw [sumPay_mat b (S.buf k) hv, bothPay_mat b h (S.buf k) hv]
  iapply (wp_writeAll c k2 st.bf S hk2 _ (loadRows oM c k o fun _ => storeOut c k o _ P)) $$ HB
  iintro HB
  iapply (wp_out xf c k o W S.out ha _ (sumV b (xr xf c) S.out (o.off c 0) (S.buf k)) (fun _ _ _ => rfl) P) $$ HX
  iintro HX
  iapply Hk
  isplitr; · ipureintro; exact hF.write msg c k2 (by rw [hk2]; decide) .full _ _
  isplitl [HX]; · iexact HX
  isplitl [HB]; · iexact HB
  isplitl [HC]; · iexact HC
  iexact HO

/-- A buffer copied to the output. -/
theorem sound_put (k : Fin 84) (o : Off (bufs k).m) (st : St) (W : ℕ) (S : LS F) (hk : (st.bf k).readable = true)
    (ha : aligned (o.off c 0) (bufs k).m = true) (P : PG F) :
    INV xf msg c st W S
      ⊢ iprop((INV xf msg c st (W ||| rowsOf (o.off c 0) (bufs k).m) (loc (xr xf c) c S (.put k o)) -∗ wpc P Q)
        -∗ wpc (den c (.put k o) P) Q) := by
  rw [den_put]
  unfold INV
  iintro ⟨%hF, HX, HB, HC, HO⟩ Hk
  iapply (wp_readAll c k st.bf S hk fun w => loadRows oM c k o fun _ => storeOut c k o (extf .f32 w bitsLt_bf16_f32) P) $$ HB
  iintro HB
  have he : extf .f32 (mat (S.buf k) : (Sh (bufs k).m).Idx → F .bf16) bitsLt_bf16_f32
      = mat fun r col => FloatOps.extf .f32 bitsLt_bf16_f32 (S.buf k r col) := rfl
  rw [he]
  iapply (wp_out xf c k o W S.out ha _ (fun r col => FloatOps.extf .f32 bitsLt_bf16_f32 (S.buf k r col)) (fun _ _ _ => rfl) P) $$ HX
  iintro HX
  iapply Hk
  isplitr; · ipureintro; exact hF
  isplitl [HX]; · iexact HX
  isplitl [HB]; · iexact HB
  isplitl [HC]; · iexact HC
  iexact HO

/-- A copy started. -/
theorem sound_send (j : Fin 46) (st : St) (W : ℕ) (T : Dev nD → LS F) (hn : j.val = st.n) (hdn : st.dn j = false) (hs : st.bf (src j) = .full)
    (hd : st.bf (dst j) = .none) (hm : ∀ d, msg j d = (T (par j d)).buf (src j)) (P : PG F) :
    iprop(recs msg K ∗ INV xf msg c st W (T c))
      ⊢ iprop((INV xf msg c { st with n := st.n + 1, bf := Function.update st.bf (src j) .half } W (stepS (xr xf) T (.send j) c) -∗ wpc P Q)
        -∗ wpc (den c (.send j) P) Q) := by
  unfold INV
  iintro ⟨#HR, %hF, HX, HB, HC, HO⟩ Hk
  icases HO with ⟨%Ws, HO⟩
  ihave HB := (bigSep_step (src j) _ (fun k => BR c k ((stepS (xr xf) T (.send j) c).buf k) (Function.update st.bf (src j) .half k))
    (fun k hk => by
      rw [Function.update_of_ne hk]
      show _ = BR c k (Function.update (T c).buf (dst j) ((T (par j c)).buf (src j)) k) _
      by_cases hkd : k = dst j
      · subst hkd; rw [hd]; rfl
      · rw [Function.update_of_ne hkd])) $$ HB
  icases HB with ⟨Hs, HB⟩
  ihave HC := (bigSep_step j _ (fun j' => CR c { st with n := st.n + 1, bf := Function.update st.bf (src j) .half } j')
    (fun j' hj' => by
      have hne : j'.val ≠ j.val := fun e => hj' (Fin.ext e)
      unfold CR
      by_cases h : st.n ≤ j'.val
      · rw [if_pos h, if_pos (show st.n + 1 ≤ j'.val by omega)]
      · rw [if_neg h, if_neg (show ¬ st.n + 1 ≤ j'.val by omega)])) $$ HC
  icases HC with ⟨Hj, HC⟩
  ihave Hj := (Entails.of_eq (show CR (F := F) c st j = unsentR c j from if_pos (by omega))) $$ Hj
  ihave Hs := (Entails.of_eq (show BR c (src j) ((T c).buf (src j)) (st.bf (src j))
    = owns (c : Thread nD τ) (bufs (src j)).M fullShare (mat ((T c).buf (src j))) by rw [hs]; rfl)) $$ Hs
  ihave HO := (Entails.of_eq (show owes (c : Thread nD τ) (oweFrom c st.n) Ws = (owes (c : Thread nD τ) (oweFrom c j.val) Ws : sProp 𝕄) by rw [hn])) $$ HO
  iapply (wp_sendJ msg K c j ((T c).buf (src j)) ((hm _).trans (by rw [par_par])) Ws P) $$ [Hs Hj HO]
  · isplitr; · iexact HR
    isplitl [Hs]; · iexact Hs
    isplitl [Hj]; · iexact Hj
    iexact HO
  iintro Hs Hj HO
  iapply Hk
  isplitr
  · ipureintro
    intro i hi hdn
    have hi : i.val < st.n + 1 := hi
    by_cases he : i = j
    · subst he
      refine ⟨(Function.update_of_ne (src_ne_dst i).symm _ _).trans hd, ?_⟩
      exact (Function.update_self _ _ _).trans (hm c).symm
    · obtain ⟨h1, h2⟩ := hF i (by have : i.val ≠ j.val := fun e => he (Fin.ext e); omega) hdn
      have hne : dst i ≠ src j := fun e => by rw [e, hs] at h1; exact absurd h1 (by decide)
      refine ⟨(Function.update_of_ne hne _ _).trans h1, ?_⟩
      exact (Function.update_of_ne (fun e => he (dst_inj _ _ e)) _ _).trans h2
  isplitl [HX]; · iexact HX
  isplitl [HB Hs]
  · iapply HB
    iapply (Entails.of_eq (show owns (c : Thread nD τ) (bufs (src j)).M fullShare.left (mat ((T c).buf (src j)))
      = BR c (src j) ((stepS (xr xf) T (.send j) c).buf (src j)) (Function.update st.bf (src j) .half (src j)) by
        rw [Function.update_self]
        show _ = BR c (src j) (Function.update (T c).buf (dst j) ((T (par j c)).buf (src j)) (src j)) .half
        rw [Function.update_of_ne (src_ne_dst j)]; rfl)) $$ Hs
  isplitl [HC Hj]
  · iapply HC
    iapply (Entails.of_eq (show flyR (F := F) c j = CR c { st with n := st.n + 1, bf := Function.update st.bf (src j) .half } j by
      unfold CR
      rw [if_neg (show ¬ st.n + 1 ≤ j.val by omega), if_neg (by rw [hdn]; decide)])) $$ Hj
  iexists Ws
  rw [hn]
  iexact HO

/-- The state after copy `j` is waited for. -/
abbrev St.waited (st : St) (j : Fin 46) : St :=
  ⟨st.n, Function.update st.dn j true, Function.update (Function.update st.bf (src j) .full) (dst j) .full⟩

/-- A copy waited for. -/
theorem sound_wait (j : Fin 46) (st : St) (W : ℕ) (S : LS F) (hn : j.val < st.n) (hdn : st.dn j = false) (hs : st.bf (src j) = .half)
    (P : PG F) :
    iprop(recs msg K ∗ INV xf msg c st W S)
      ⊢ iprop((INV xf msg c (st.waited j) W S -∗ wpc P Q)
        -∗ wpc (den c (.wait j) P) Q) := by
  unfold INV
  iintro ⟨#HR, %hF, HX, HB, HC, HO⟩ Hk
  icases HO with ⟨%Ws, HO⟩
  ihave HB := (bigSep_step (src j) _ (fun k => BR c k (S.buf k) (Function.update st.bf (src j) .full k))
    (fun k hk => by rw [Function.update_of_ne hk])) $$ HB
  icases HB with ⟨Hs, HB⟩
  ihave HC := (bigSep_step j _ (fun j' => CR c (st.waited j) j')
    (fun j' hj' => by
      have h : Function.update st.dn j true j' = st.dn j' := Function.update_of_ne hj' _ _
      unfold CR; simp only [h])) $$ HC
  icases HC with ⟨Hj, HC⟩
  ihave Hj := (Entails.of_eq (show CR (F := F) c st j = flyR c j by
    unfold CR; rw [if_neg (by omega), if_neg (by rw [hdn]; decide)])) $$ Hj
  ihave Hs := (Entails.of_eq (show BR c (src j) (S.buf (src j)) (st.bf (src j))
    = owns (c : Thread nD τ) (bufs (src j)).M fullShare.left (mat (S.buf (src j))) by rw [hs]; rfl)) $$ Hs
  iapply (wp_waitJ msg K c j st.n hn (S.buf (src j)) Ws P) $$ [Hs Hj HO]
  · isplitr; · iexact HR
    isplitl [Hs]; · iexact Hs
    isplitl [Hj]; · iexact Hj
    iexact HO
  iintro Hs Hd Hj HO
  iapply Hk
  isplitr
  · ipureintro
    intro i hi hdi
    have hi : i.val < st.n := hi
    have hij : i ≠ j := fun e => by
      subst e
      have hdi : Function.update st.dn i true i = false := hdi
      rw [Function.update_self] at hdi; exact absurd hdi (by decide)
    have hdi : st.dn i = false := (Function.update_of_ne hij _ _).symm.trans hdi
    obtain ⟨h1, h2⟩ := hF i hi hdi
    have hne : dst i ≠ src j := fun e => by rw [e, hs] at h1; exact absurd h1 (by decide)
    exact ⟨(Function.update_of_ne (fun e => hij (dst_inj _ _ e)) _ _).trans ((Function.update_of_ne hne _ _).trans h1), h2⟩
  isplitl [HX]; · iexact HX
  isplitl [HB Hs Hd]
  · ihave HB := HB $$ [Hs]
    · iapply (Entails.of_eq (show owns (c : Thread nD τ) (bufs (src j)).M fullShare (mat (S.buf (src j)))
        = BR c (src j) (S.buf (src j)) (Function.update st.bf (src j) .full (src j)) by rw [Function.update_self]; rfl)) $$ Hs
    ihave HB := (bigSep_step (dst j) _ (fun k => BR c k (S.buf k) (Function.update (Function.update st.bf (src j) .full) (dst j) .full k))
      (fun k hk => by rw [Function.update_of_ne hk])) $$ HB
    icases HB with ⟨-, HB⟩
    iapply HB
    iapply (Entails.of_eq (show owns (c : Thread nD τ) (bufs (dst j)).M fullShare (mat (msg j c))
      = BR c (dst j) (S.buf (dst j)) (Function.update (Function.update st.bf (src j) .full) (dst j) .full (dst j)) by
        rw [Function.update_self, (hF j hn hdn).2]; rfl)) $$ Hd
  isplitl [HC Hj]
  · iapply HC
    iapply (Entails.of_eq (show doneR (F := F) c j = CR c (st.waited j) j by
      unfold CR; rw [if_neg (show ¬ st.n ≤ j.val by omega), if_pos (show Function.update st.dn j true j = true from Function.update_self _ _ _)])) $$ Hj
  iexact HO

/-- One step, from what is held before to what is held after. -/
theorem sound_step (s : Step) (st st' : St) (W W' : ℕ) (T : Dev nD → LS F) (hc : chk st s = some st') (hw : chkW c W s = some W')
    (hdn : ∀ j, st.n ≤ j.val → st.dn j = false)
    (hm : ∀ j, isSend j s = true → ∀ d, msg j d = (T (par j d)).buf (src j)) (P : PG F) :
    iprop(recs msg K ∗ INV xf msg c st W (T c))
      ⊢ iprop((INV xf msg c st' W' (stepS (xr xf) T s c) -∗ wpc P Q) -∗ wpc (den c s P) Q) := by
  have h2 : iprop(recs msg K ∗ INV xf msg c st W (T c)) ⊢ INV xf msg c st W (T c) := by
    iintro ⟨-, H⟩; iexact H
  cases s with
  | stage b k o =>
    dsimp only [chk, chkW] at hc hw
    split at hc
    case isFalse => cases hc
    split at hw
    case isFalse => cases hw
    rename_i hk hW
    cases hc; cases hw
    exact h2.trans (sound_stage xf msg c b k o st W (T c) hk hW P)
  | add b k o =>
    dsimp only [chk, chkW] at hc hw
    split at hc
    case isFalse => cases hc
    split at hw
    case isFalse => cases hw
    rename_i hk hW
    cases hc; cases hw
    exact h2.trans (sound_add xf msg c b k o st W (T c) hk hW.1 hW.2 P)
  | addStage b k k2 h o =>
    dsimp only [chk, chkW] at hc hw
    split at hc
    case isFalse => cases hc
    split at hw
    case isFalse => cases hw
    rename_i hk hW
    cases hc; cases hw
    exact h2.trans (sound_addStage xf msg c b k k2 h o st W (T c) hk.1 hk.2 hW.1 hW.2 P)
  | put k o =>
    dsimp only [chk, chkW] at hc hw
    split at hc
    case isFalse => cases hc
    split at hw
    case isFalse => cases hw
    rename_i hk hW
    cases hc; cases hw
    exact h2.trans (sound_put xf msg c k o st W (T c) hk hW P)
  | send j =>
    dsimp only [chk, chkW] at hc hw
    split at hc
    case isFalse => cases hc
    rename_i hk
    cases hc; cases hw
    exact sound_send xf msg K c j st _ T hk.1 (hdn j (by omega)) hk.2.1 hk.2.2 (hm j (by simp [isSend])) P
  | wait j =>
    dsimp only [chk, chkW] at hc hw
    split at hc
    case isFalse => cases hc
    rename_i hk
    cases hc; cases hw
    exact sound_wait xf msg K c j st _ (T c) hk.1 hk.2.1 hk.2.2.1 P

/-- Copies not sent yet are not waited for, after a step as before. -/
theorem dn_step (s : Step) (st st' : St) (hc : chk st s = some st') (hdn : ∀ j : Fin 46, st.n ≤ j.val → st.dn j = false) :
    ∀ j : Fin 46, st'.n ≤ j.val → st'.dn j = false := by
  cases s <;> dsimp only [chk] at hc <;> split at hc <;> cases hc
  case send j hk => exact fun i hi => hdn i (Nat.le_of_succ_le hi)
  case wait j hk =>
    intro i hi
    have hi : st.n ≤ i.val := hi
    refine (Function.update_of_ne (fun e => ?_) _ _).trans (hdn i hi)
    subst e; omega
  all_goals exact hdn

/-- The next copy sent by a step list is the first not sent yet. -/
theorem isSend_step (s : Step) (st st' : St) (hc : chk st s = some st') (j : Fin 46) (hj : st'.n ≤ j.val) : isSend j s = false := by
  cases s <;> dsimp only [chk] at hc <;> split at hc <;> cases hc
  case send i hk =>
    have hj : st.n + 1 ≤ j.val := hj
    have h1 := hk.1
    refine decide_eq_false fun e => ?_
    subst e; omega
  all_goals rfl

/-- A step that passes the check sends no copy sent before. -/
theorem isSend_now (s : Step) (st st' : St) (hc : chk st s = some st') (j : Fin 46) (hj : isSend j s = true) : st.n ≤ j.val := by
  cases s <;> dsimp only [chk] at hc <;> split at hc <;> cases hc
  case send i hk =>
    have := hk.1
    have e : j = i := of_decide_eq_true hj
    subst e; omega
  all_goals exact absurd hj Bool.false_ne_true

/-- The number of copies sent does not go down. -/
theorem n_step (s : Step) (st st' : St) (hc : chk st s = some st') : st.n ≤ st'.n := by
  cases s <;> dsimp only [chk] at hc <;> split at hc <;> cases hc
  case send i hk => exact Nat.le_succ _
  all_goals exact Nat.le_refl _

/-- A list of steps, from what is held before to what is held after. -/
theorem sound_run (P : PG F) (stf : St) (Wf : ℕ) : ∀ (l : List Step) (st : St) (W : ℕ) (T : Dev nD → LS F),
    runChk st l = some stf → runW c W l = some Wf → (∀ j, st.n ≤ j.val → st.dn j = false) →
    (∀ j, st.n ≤ j.val → ∀ d, msg j d = msgs (xr xf) T l j d) →
    iprop(recs msg K ∗ INV xf msg c st W (T c))
      ⊢ iprop((INV xf msg c stf Wf (runS (xr xf) T l c) -∗ wpc P Q) -∗ wpc (run c P l) Q)
  | [], st, W, T, hc, hw, _, _ => by
    cases hc; cases hw
    show _ ⊢ iprop((INV xf msg c stf Wf (T c) -∗ wpc P Q) -∗ wpc P Q)
    iintro ⟨-, H⟩ Hk
    iapply Hk $$ H
  | s :: l, st, W, T, hc, hw, hdn, hm => by
    obtain ⟨st', hc1, hc2⟩ := Option.bind_eq_some_iff.mp hc
    obtain ⟨W', hw1, hw2⟩ := Option.bind_eq_some_iff.mp hw
    have ih := sound_run P stf Wf l st' W' (stepS (xr xf) T s) hc2 hw2 (dn_step s st st' hc1 hdn) (fun j hj d => by
      rw [hm j ((n_step s st st' hc1).trans hj) d]
      show (if isSend j s then _ else _) = _
      rw [isSend_step s st st' hc1 j hj]; rfl)
    have h1 := sound_step (Q := Q) xf msg K c s st st' W W' T hc1 hw1 hdn (fun j hj d => by
      rw [hm j (isSend_now s st st' hc1 j hj) d]
      exact if_pos hj) (run c P l)
    iintro ⟨#HR, HI⟩ Hk
    iapply h1 $$ [HI]
    · isplitr; · iexact HR
      iexact HI
    iintro HI
    iapply ih $$ [HI]
    · isplitr; · iexact HR
      iexact HI
    iexact Hk

end Steps

end Cert.AllReduce

end
-- ==== Proof.BodyEq.lean ====
module

public import proofs.«01_k».proof.Proof.Den

@[expose] public section

set_option maxRecDepth 65536

noncomputable section

namespace Cert.AllReduce

open Cert.KernelIdeal Cert.KernelIdeal.Gen
open Idealize.ShloMosaic
open Idealize.SL Idealize.SL.Sem

variable {F : FTy → Type} [FloatOps F]

/-- The kernel's body is the program of the table. -/
theorem body_eq : cc0_body_skel (F := F) xM (Memref.isWhole_whole _) oM (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _) (Memref.whole cc0_scratch25) (Memref.isWhole_whole _) (Memref.whole cc0_scratch26) (Memref.isWhole_whole _) (Memref.whole cc0_scratch27) (Memref.isWhole_whole _) (Memref.whole cc0_scratch28) (Memref.isWhole_whole _) (Memref.whole cc0_scratch29) (Memref.isWhole_whole _) (Memref.whole cc0_scratch30) (Memref.isWhole_whole _) (Memref.whole cc0_scratch31) (Memref.isWhole_whole _) (Memref.whole cc0_scratch32) (Memref.isWhole_whole _) (Memref.whole cc0_scratch33) (Memref.isWhole_whole _) (Memref.whole cc0_scratch34) (Memref.isWhole_whole _) (Memref.whole cc0_scratch35) (Memref.isWhole_whole _) (Memref.whole cc0_scratch36) (Memref.isWhole_whole _) (Memref.whole cc0_scratch37) (Memref.isWhole_whole _) (Memref.whole cc0_scratch38) (Memref.isWhole_whole _) (Memref.whole cc0_scratch39) (Memref.isWhole_whole _) (Memref.whole cc0_scratch40) (Memref.isWhole_whole _) (Memref.whole cc0_scratch41) (Memref.isWhole_whole _) (Memref.whole cc0_scratch42) (Memref.isWhole_whole _) (Memref.whole cc0_scratch43) (Memref.isWhole_whole _) (Memref.whole cc0_scratch44) (Memref.isWhole_whole _) (Memref.whole cc0_scratch45) (Memref.isWhole_whole _) (Memref.whole cc0_scratch46) (Memref.isWhole_whole _) (Memref.whole cc0_scratch47) (Memref.isWhole_whole _) (Memref.whole cc0_scratch48) (Memref.isWhole_whole _) (Memref.whole cc0_scratch49) (Memref.isWhole_whole _) (Memref.whole cc0_scratch50) (Memref.isWhole_whole _) (Memref.whole cc0_scratch51) (Memref.isWhole_whole _) (Memref.whole cc0_scratch52) (Memref.isWhole_whole _) (Memref.whole cc0_scratch53) (Memref.isWhole_whole _) (Memref.whole cc0_scratch54) (Memref.isWhole_whole _) (Memref.whole cc0_scratch55) (Memref.isWhole_whole _) (Memref.whole cc0_scratch56) (Memref.isWhole_whole _) (Memref.whole cc0_scratch57) (Memref.isWhole_whole _) (Memref.whole cc0_scratch58) (Memref.isWhole_whole _) (Memref.whole cc0_scratch59) (Memref.isWhole_whole _) (Memref.whole cc0_scratch60) (Memref.isWhole_whole _) (Memref.whole cc0_scratch61) (Memref.isWhole_whole _) (Memref.whole cc0_scratch62) (Memref.isWhole_whole _) (Memref.whole cc0_scratch63) (Memref.isWhole_whole _) (Memref.whole cc0_scratch64) (Memref.isWhole_whole _) (Memref.whole cc0_scratch65) (Memref.isWhole_whole _) (Memref.whole cc0_scratch66) (Memref.isWhole_whole _) (Memref.whole cc0_scratch67) (Memref.isWhole_whole _) (Memref.whole cc0_scratch68) (Memref.isWhole_whole _) (Memref.whole cc0_scratch69) (Memref.isWhole_whole _) (Memref.whole cc0_scratch70) (Memref.isWhole_whole _) (Memref.whole cc0_scratch71) (Memref.isWhole_whole _) (Memref.whole cc0_scratch72) (Memref.isWhole_whole _) (Memref.whole cc0_scratch73) (Memref.isWhole_whole _) (Memref.whole cc0_scratch74) (Memref.isWhole_whole _) (Memref.whole cc0_scratch75) (Memref.isWhole_whole _) (Memref.whole cc0_scratch76) (Memref.isWhole_whole _) (Memref.whole cc0_scratch77) (Memref.isWhole_whole _) (Memref.whole cc0_scratch78) (Memref.isWhole_whole _) (Memref.whole cc0_scratch79) (Memref.isWhole_whole _) (Memref.whole cc0_scratch80) (Memref.isWhole_whole _) (Memref.whole cc0_scratch81) (Memref.isWhole_whole _) (Memref.whole cc0_scratch82) (Memref.isWhole_whole _) (Memref.whole cc0_scratch83) (Memref.isWhole_whole _) cc0_scratch84 cc0_scratch85 = prog (F := F) := by
  chain_rfl

end Cert.AllReduce

end
-- ==== Proof.Body.lean ====
module

public import proofs.«01_k».proof.Proof.Sound
public import proofs.«01_k».proof.Proof.BodyEq
public import Idealize.ShloMosaic.Lib.Pipeline.Launch

/-! The whole body at one device: the entry signals, their wait, and the run. -/

@[expose] public section

set_option maxRecDepth 65536

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Grouping the copies by the axis they cross, and the buffers by who writes them -/

/-- Over all copies, or over the copies of each axis. -/
theorem bigSep_dim (Φ : Fin 46 → sProp 𝕄) :
    bigSep Finset.univ Φ = bigSep Finset.univ fun i : Fin 5 => bigSep (Finset.univ.filter fun j => dim j = i) Φ := by
  rw [bigSep_fiberwise Finset.univ dim Φ, show Finset.univ.image dim = Finset.univ from by decide +kernel]

/-- Resources over the five axes, one after another. -/
theorem bigSep_five (Φ : Fin 5 → sProp 𝕄) :
    bigSep Finset.univ Φ = iprop(Φ 0 ∗ Φ 1 ∗ Φ 2 ∗ Φ 3 ∗ Φ 4) :=
  bigSep_univ_eq_bigSepL [0, 1, 2, 3, 4] (by decide) (by decide) Φ

/-- What comes in with the entry signals: the partner's landing buffer of every copy. -/
theorem bar_pays (c : Dev nD) :
    bigSep Finset.univ (barPay (F := F) c) = bigSep Finset.univ fun j => landing (F := F) (par j c) j := by
  rw [bigSep_dim]
  exact bigSep_congr fun i _ => bigSep_congr fun j hj => by
    rw [← (Finset.mem_filter.mp hj).2, par_eq]

/-- What goes out with the entry signal across axis `i`: this device's own landing buffers of that axis. -/
theorem bar_out (c : Dev nD) (i : Fin 5) :
    barPay (F := F) (nb i c) i = bigSep (Finset.univ.filter fun j => dim j = i) fun j => landing (F := F) c j := by
  unfold barPay; rw [nb_nb]

/-- The buffers marked as destinations are those some copy lands in. -/
theorem isDst_iff : ∀ k : Fin 84, isDst k = true ↔ ∃ j, dst j = k := by decide +kernel

/-- Every scratch buffer of a device, holding anything. -/
def anyBufs (c : Dev nD) : sProp 𝕄 :=
  bigSep Finset.univ fun k : Fin 84 => iprop(∃ X, owns (c : Thread nD τ) (bufs k).M fullShare X)

/-- The empty resource may be put beside any other. -/
theorem emp_intro {P : sProp 𝕄} : P ⊢ iprop(emp ∗ P) := by
  iintro H
  isplitr; · iempintro
  iexact H

/-- At the start: the landing buffers apart, the others kept. -/
theorem bufs_start (c : Dev nD) (v : Fin 84 → ℕ → ℕ → F .bf16) :
    anyBufs (F := F) c ⊢ iprop((bigSep Finset.univ fun j => landing (F := F) c j)
      ∗ bigSep Finset.univ fun k => BR c k (v k) (st₀.bf k)) := by
  unfold anyBufs
  rw [bigSep_filter_split Finset.univ (fun k => isDst k = true),
    bigSep_filter_split Finset.univ (fun k => isDst k = true) (Φ := fun k => BR c k (v k) (st₀.bf k))]
  have h1 : (Finset.univ.filter fun k : Fin 84 => isDst k = true) = Finset.univ.map ⟨dst, dst_inj⟩ := by
    ext k
    simp only [Finset.mem_filter, Finset.mem_univ, true_and, isDst_iff, Finset.mem_map]
    rfl
  have h2 : bigSep (Finset.univ.filter fun k : Fin 84 => isDst k = true) (fun k => BR c k (v k) (st₀.bf k))
      = (iprop(emp) : sProp 𝕄) := by
    rw [show bigSep (Finset.univ.filter fun k : Fin 84 => isDst k = true) (fun k => BR c k (v k) (st₀.bf k))
      = bigSep (Finset.univ.filter fun k : Fin 84 => isDst k = true) (fun _ => (iprop(emp) : sProp 𝕄)) from
      bigSep_congr fun k hk => by
        rw [show st₀.bf k = .none from if_pos (Finset.mem_filter.mp hk).2]; rfl]
    exact bigSep_emp_const _
  have h3 : bigSep (Finset.univ.filter fun k : Fin 84 => ¬ isDst k = true) (fun k => BR c k (v k) (st₀.bf k))
      = (bigSep (Finset.univ.filter fun k : Fin 84 => ¬ isDst k = true)
        (fun k => iprop(∃ X, owns (c : Thread nD τ) (bufs k).M fullShare X)) : sProp 𝕄) :=
      bigSep_congr fun k hk => by
        rw [show st₀.bf k = .any from if_neg (Finset.mem_filter.mp hk).2]; rfl
  rw [h2, h3, h1, bigSep_map]
  rw [show (bigSep Finset.univ fun j => landing (F := F) c j)
    = bigSep Finset.univ (fun j => iprop(∃ X, owns (c : Thread nD τ) (bufs (dst j)).M fullShare X)) from
    bigSep_congr fun j _ => landing_eq c j]
  exact sep_mono_right emp_intro

/-- A buffer held whole is a buffer holding something. -/
theorem whole_any (c : Dev nD) (k : Fin 84) (v : ℕ → ℕ → F .bf16) (h : Held) (hh : h.whole = true) :
    BR (F := F) c k v h ⊢ iprop(∃ X, owns (c : Thread nD τ) (bufs k).M fullShare X) := by
  cases h
  · exact absurd hh (by decide)
  · exact .refl
  · show owns _ _ _ _ ⊢ _
    iintro H; iexists _; iexact H
  · exact absurd hh (by decide)

/-! ## The body -/

section Body

variable (xf : Dev nD → xV.view.ty.Contents (Elt F)) (K : Dev nD × Option (Bool × Fin 46) → ℕ) (c : Dev nD)
  {Q : PUnit → sProp (MT nD τ sig Unit (Elt F) ℕ UU ℕ)}

local notation "wpc" => wp frame (wpE (defs₀ (F := F)) 𝒱₀ (c : Thread nD τ) none) Set.univ

/-- What each copy carries. -/
abbrev msgOf : Fin 46 → Dev nD → ℕ → ℕ → F .bf16 := msgs (xr xf) T₀ steps
/-- The rows each device's result ends at. -/
def outRows (d : Dev nD) : ℕ → ℕ → F .f32 := (runS (xr xf) T₀ steps d).out

/-- The places of a device's cells and the tokens of the duties it pays. -/
def linear : sProp 𝕄 :=
  iprop(atPos ER (barCell c) 0 ∅ 0 ∗ (bigSep Finset.univ fun i : Fin 5 => dutyTok ER (barCell (nb i c)) 0 i)
    ∗ bigSep Finset.univ fun j : Fin 46 => iprop(dutyTok ER (sendCell c j) 0 0 ∗ dutyTok ER (recvCell (par j c) j) 0 0
      ∗ atPos ER (sendCell c j) 0 ∅ 0 ∗ atPos ER (recvCell c j) 0 ∅ 0))
/-- The credit a device waits on. -/
def creds : sProp 𝕄 :=
  iprop(cred (tallyAt (barCell c) () 5) ∗ bigSep Finset.univ fun j : Fin 46 => cred (tallyAt (recvCell c j) () (NN j)))

/-- One entry signal: the landing buffers of axis `i` go to the partner there. -/
theorem wp_entry (msg : Fin 46 → Dev nD → ℕ → ℕ → F .bf16) (i : Fin 5) (O : CellTallies nD τ sig Unit) (Ws : Waits sig Unit) (P : PG F) :
    iprop(recs msg K ∗ owes (c : Thread nD τ) (O + oweBar c i) Ws ∗ dutyTok ER (barCell (nb i c)) 0 i
        ∗ bigSep (Finset.univ.filter fun j => dim j = i) fun j => landing (F := F) c j)
      ⊢ iprop((owes (c : Thread nD τ) O Ws -∗ wpc P Q)
        -∗ wpc (Prog.op (.semSignal ((nb i c : Dev nD), .tc) barS.sem (1#32 : BitVec 32).toInt) fun _ => P) Q) := by
  iintro ⟨#HR, HO, Ht, Hl⟩ Hk
  iapply (Rounds.wp_signal 𝒱₀ ER (Rd msg) (c : Thread nD τ) none (dst := (nb i c : Thread nD τ)) (κ := K (nb i c, none))
      (d := i) (by rw [duties_cell msg (nb i c) none]; exact Finset.mem_univ _) (amount_cell msg (nb i c) none 0 i) () O rfl)
    $$ [HO Ht Hl]
  · isplitr; · iapply (recs_inv msg K (nb i c, none)) $$ HR
    isplitl [HO]; · iexact HO
    isplitl [Ht]; · iexact Ht
    isplitl [Hl]
    · iapply (Entails.of_eq ((payload_cell msg (nb i c) none 0 i).trans (bar_out c i)).symm) $$ Hl
    iapply (recs_reached msg K (nb i c, none)) $$ HR
  iexact Hk

/-- When every buffer is held whole, the device has every scratch buffer back. -/
theorem held_final (st : St) (v : Fin 84 → ℕ → ℕ → F .bf16) (h : ∀ k, (st.bf k).whole = true) :
    bigSep Finset.univ (fun k => BR c k (v k) (st.bf k)) ⊢ anyBufs (F := F) c :=
  bigSep_mono fun k _ => whole_any c k (v k) (st.bf k) (h k)
/-- When every copy is sent and waited for, what is left of each is its two finished cells. -/
theorem done_final (st : St) (hn : st.n = 46) (hd : ∀ j, st.dn j = true) :
    bigSep Finset.univ (fun j => CR (F := F) c st j) = bigSep Finset.univ fun j => doneR (F := F) c j :=
  bigSep_congr fun j _ => by
    unfold CR
    rw [if_neg (by have := j.isLt; omega), if_pos (hd j)]

/-- What the start gives for one copy is what sending it and waiting for it ask. -/
theorem unsent_one (j : Fin 46) :
    iprop(landing (F := F) (par j c) j
      ∗ iprop(dutyTok ER (sendCell c j) 0 0 ∗ dutyTok ER (recvCell (par j c) j) 0 0
        ∗ atPos ER (sendCell c j) 0 ∅ 0 ∗ atPos ER (recvCell c j) 0 ∅ 0)
      ∗ cred (tallyAt (recvCell c j) () (NN j))) ⊢ unsentR (F := F) c j := by
  unfold unsentR waitR
  iintro ⟨Hl, ⟨Hs, Hr, Ha, Hb⟩, Hc⟩
  isplitl [Hl]; · iexact Hl
  isplitl [Hs]; · iexact Hs
  isplitl [Hr]; · iexact Hr
  isplitl [Ha]; · iexact Ha
  isplitl [Hb]; · iexact Hb
  iexact Hc

/-- The same for all the copies together. -/
theorem unsent_start :
    iprop((bigSep Finset.univ fun j => landing (F := F) (par j c) j)
      ∗ (bigSep Finset.univ fun j : Fin 46 => iprop(dutyTok ER (sendCell c j) 0 0 ∗ dutyTok ER (recvCell (par j c) j) 0 0
        ∗ atPos ER (sendCell c j) 0 ∅ 0 ∗ atPos ER (recvCell c j) 0 ∅ 0))
      ∗ bigSep Finset.univ fun j : Fin 46 => cred (tallyAt (recvCell c j) () (NN j)))
    ⊢ bigSep Finset.univ fun j => CR (F := F) c st₀ j := by
  rw [← bigSep_sep', ← bigSep_sep']
  exact bigSep_mono fun j _ => (unsent_one c j).trans (Entails.of_eq (if_pos (Nat.zero_le _)).symm)

/-- The body of device `c`: it ends with its result at `outRows`, the operand as it was, every buffer and every counter at
    zero its own again. -/
theorem sound_prog (Ws : Waits sig Unit) (X : (Sh 1024).Idx → F .f32) :
    iprop(recs (msgOf xf) K ∗ linear c ∗ creds c ∗ anyBufs (F := F) c ∗ owes (c : Thread nD τ) (O₀ c) Ws
        ∗ (xV.view.loc (c : Thread nD τ) ↦[xV.view.set]{fullShare} xf c) ∗ owns (c : Thread nD τ) oM fullShare X)
      ⊢ iprop(((anyBufs (F := F) c ∗ (bigSep Finset.univ fun j => doneR (F := F) c j) ∗ semVal (barCell c) 0
          ∗ (∃ Ws, owes (c : Thread nD τ) 0 Ws) ∗ (xV.view.loc (c : Thread nD τ) ↦[xV.view.set]{fullShare} xf c)
          ∗ owns (c : Thread nD τ) oM fullShare (mat (outRows xf c))) -∗ Q ⟨⟩)
        -∗ wpc (prog (F := F)) Q) := by
  obtain ⟨stf, hrun, hn, hdn, hbf⟩ := runChk_steps
  have hW := runW_steps c
  unfold prog
  simp only [semSignalWord, semWaitWord, Prog.lift, Prog.bind_op, Prog.bind_ret, wp_deviceId]
  unfold linear creds O₀
  iintro ⟨#HR, ⟨HaB, Htoks, Hlin⟩, ⟨HcB, Hcr⟩, Hbufs, HO, Hx, Ho⟩ Hk
  ihave Hb := (bufs_start c fun _ _ _ => FloatOps.ofBits .bf16 0) $$ Hbufs
  icases Hb with ⟨Hland, HBR⟩
  ihave Hland := (Entails.of_eq ((bigSep_dim (F := F) fun j => landing (F := F) c j).trans (bigSep_five _))) $$ Hland
  icases Hland with ⟨Hl0, Hl1, Hl2, Hl3, Hl4⟩
  ihave Htoks := (Entails.of_eq (bigSep_five (F := F) fun i : Fin 5 => dutyTok ER (barCell (nb i c)) 0 i)) $$ Htoks
  icases Htoks with ⟨Ht0, Ht1, Ht2, Ht3, Ht4⟩
  iapply (wp_entry K c (msgOf xf) 0) $$ [HO Ht0 Hl0]
  · isplitr; · iexact HR
    isplitl [HO]; · iexact HO
    isplitl [Ht0] <;> iassumption
  iintro HO
  iapply (wp_entry K c (msgOf xf) 1) $$ [HO Ht1 Hl1]
  · isplitr; · iexact HR
    isplitl [HO]; · iexact HO
    isplitl [Ht1] <;> iassumption
  iintro HO
  iapply (wp_entry K c (msgOf xf) 2) $$ [HO Ht2 Hl2]
  · isplitr; · iexact HR
    isplitl [HO]; · iexact HO
    isplitl [Ht2] <;> iassumption
  iintro HO
  iapply (wp_entry K c (msgOf xf) 3) $$ [HO Ht3 Hl3]
  · isplitr; · iexact HR
    isplitl [HO]; · iexact HO
    isplitl [Ht3] <;> iassumption
  iintro HO
  iapply (wp_entry K c (msgOf xf) 4) $$ [HO Ht4 Hl4]
  · isplitr; · iexact HR
    isplitl [HO]; · iexact HO
    isplitl [Ht4] <;> iassumption
  iintro HO
  iapply (Rounds.wp_wait_rest_token 𝒱₀ ER (Rd (msgOf xf)) (c : Thread nD τ) none (κ := K (c, none))
      (wpE_semWait_eq 𝒱₀ (c : Thread nD τ) none Set.univ) (Set.mem_univ _) () (O := oweFrom c 0) (W := Ws) (R := 0) (m := 0) (T := ∅)
      (by rw [Nat.zero_add]; exact (expect_bar (msgOf xf) c).symm)) $$ [HcB HO HaB]
  · isplitr; · iapply (recs_inv (msgOf xf) K (c, none)) $$ HR
    isplitl [HcB]; · iexact HcB
    isplitl [HO]; · iexact HO
    isplitr
    · iapply (mayWait_from c _ 0 (by rw [lv_bar]; omega))
      iapply (recs_lev (msgOf xf) K) $$ HR
    iexact HaB
  iintro ⟨HO, HaB, -, Hpay⟩
  ihave Hland := (Entails.of_eq ((rest_bar (msgOf xf) c).trans (bar_pays c))) $$ Hpay
  imod (Rounds.cell_close ER (Rd (msgOf xf)) (Set.mem_univ (K (c, none))) (fun h => h) (R := 0 + 1) (duties_later (msgOf xf) (barCell c))) $$ [HaB] with HzB
  · isplitr; · iapply (recs_inv (msgOf xf) K (c, none)) $$ HR
    iexact HaB
  iapply (sound_run xf (msgOf xf) K c (Prog.ret ⟨⟩) stf (2 ^ 64 - 1) steps st₀ 0 T₀ hrun hW (fun _ _ => rfl) (fun _ _ _ => rfl))
    $$ [HO Hland Hlin Hcr HBR Hx Ho]
  · isplitr; · iexact HR
    unfold INV OutX
    isplitr; · ipureintro; exact fun j hj => absurd hj (Nat.not_lt_zero _)
    isplitl [Hx Ho]
    · isplitl [Hx]; · iexact Hx
      iexists fun r col => X (ix (m := 1024) (by decide) r col)
      isplitr; · ipureintro; exact fun r col h => absurd h (by rw [Nat.zero_testBit]; decide)
      iapply (Entails.of_eq (congrArg (owns (c : Thread nD τ) oM fullShare) (mat_ix (by decide) X).symm)) $$ Ho
    isplitl [HBR]; · iexact HBR
    isplitl [Hland Hlin Hcr]
    · iapply (unsent_start c)
      isplitl [Hland]; · iexact Hland
      isplitl [Hlin] <;> iassumption
    iexists _; iexact HO
  iintro HI
  rw [wp_ret]; imodintro
  unfold INV OutX
  icases HI with ⟨-, ⟨Hx, %g, %hg, Ho⟩, HBR, HCR, %Ws', HO⟩
  iapply Hk
  isplitl [HBR]; · iapply (held_final c stf _ hbf) $$ HBR
  isplitl [HCR]; · iapply (Entails.of_eq (done_final c stf hn hdn)) $$ HCR
  isplitl [HzB]; · iexact HzB
  isplitl [HO]
  · iexists Ws'
    iapply (Entails.of_eq (congrArg (fun O => (owes (c : Thread nD τ) O Ws' : sProp 𝕄)) ((congrArg (oweFrom c) hn).trans (oweFrom_end c)))) $$ HO
  isplitl [Hx]; · iexact Hx
  iapply (Entails.of_eq (congrArg (owns (c : Thread nD τ) oM fullShare) (mat_congr (m := 1024) fun r col hr => hg r col (by
    have h16 : r / 16 < 64 := by omega
    simp only [Nat.testBit_two_pow_sub_one, h16, decide_true])))) $$ Ho

end Body

end Cert.AllReduce

end
-- ==== Proof.Data.lean ====
module

public import proofs.«01_k».proof.Proof.Body
public import proofs.«01_k».proof.Proof.Gen.KernelIdeal.Launch
public import proofs.«01_k».proof.Proof.Gen.KernelIdeal.Points

/-! The launch's proof data, and the body against it. -/

@[expose] public section

set_option maxRecDepth 65536

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Idealize.ShloMosaic.Buf (Elt F) ℓ) (ρ : Dev nD → PrngReg)

/-- The state the launch starts from. -/
def s₀ : MemSt nD τ sig (Elt F) := ⟨m, fun _ => 0, ρ⟩

/-- A device's operand as staged. -/
def xstg (c : Dev nD) : xV.view.ty.Contents (Elt F) :=
  (win0_0.blk t0_0).view.read (Elt F) (m (win0_0.arr.view.loc (c : Thread nD τ)))
/-- What each copy carries, from the launch's memory. -/
abbrev msgM : Fin 46 → Dev nD → ℕ → ℕ → F .bf16 := msgOf (xstg m)
/-- A device's result. -/
def outAt (c : Dev nD) : (cc0_stg1_0 : Ref sig .tc).ty.Contents (Elt F) :=
  (mat (outRows (xstg m) c) : (Sh 1024).Idx → F .f32)

/-- The cells' invariants and rounds. -/
def recs0 (K : Dev nD × Option (Bool × Fin 46) → ℕ) : sProp 𝕄 :=
  iprop(bigSep Finset.univ (fun ck => cellInv ER (Rd (msgM m)) (K ck) (kcell ck))
    ∗ bigSep Finset.univ (fun ck => reached ER (kcell ck) 0))

instance recs0_persistent (K : Dev nD × Option (Bool × Fin 46) → ℕ) : BI.Persistent (recs0 m K) := by unfold recs0; infer_instance

/-- What the launch makes for device `c`. -/
def ghost (c : Dev nD) : sProp 𝕄 := iprop(∃ K, recs0 m K ∗ linear (F := F) c)
/-- What device `c` starts from, its buffers apart. -/
def start (c : Dev nD) : sProp 𝕄 := iprop(ghost m c ∗ creds (F := F) c ∗ levAts L lv)

/-- What a device has before the step, besides what is staged. -/
def Φ₀ (c : Dev nD) : sProp 𝕄 := iprop(start m c ∗ anyBufs (F := F) c)
/-- What it has after the step. -/
def Φ₁ (c : Dev nD) : sProp 𝕄 :=
  iprop(anyBufs (F := F) c ∗ (bigSep Finset.univ fun j => doneR (F := F) c j) ∗ semVal (barCell c) 0)

/-- The launch's data: what is staged, what the body leaves, and what the device owes before and after. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

/-- A staging buffer at given contents. -/
abbrev stg (c : Dev nD) (b : Ref sig .tc) (X : b.ty.Contents (Elt F)) : sProp 𝕄 :=
  iprop(∃ f : Idealize.ShloMosaic.Buf (Elt F) (((c : Dev nD) : Thread nD τ).loc b), ⌜f = X⌝ ∗ (((c : Thread nD τ).loc b) ↦{fullShare} f))

/-- What the body is given. -/
def bodyPre (c : Dev nD) : sProp 𝕄 :=
  iprop(Φ₀ m c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
/-- What the body leaves. -/
def bodyPost (c : Dev nD) : sProp 𝕄 :=
  iprop(Φ₁ (F := F) c ∗ (dats m ρ 0 c).owesAt () t0_0.succ ∗ stg c cc0_stg0_0 (xstg m c) ∗ stg c cc0_stg1_0 (outAt m c))

/-- The launch's body at its one grid step is the kernel's body. -/
theorem body_at : bodyAt0 (F := F) t0_0 = prog (F := F) := by
  refine Eq.trans ?_ body_eq
  unfold bodyAt0
  rw [cc0_body_eq_skeleton]

/-- The shared facts of the launch are those the body uses. -/
theorem recs_of (K : Dev nD × Option (Bool × Fin 46) → ℕ) :
    iprop(recs0 m K ∗ levAts L lv) ⊢ recs (msgM m) K := by
  unfold recs0 recs
  iintro ⟨⟨#H1, #H2⟩, #H3⟩
  isplitr; · iexact H1
  isplitr; · iexact H2
  iexact H3

/-- What the output's staging buffer is asked to hold after the step is the array named for it. -/
theorem out_stg (c : Dev nD) :
    owns (c : Thread nD τ) oM fullShare (mat (outRows (xstg m) c) : (Sh 1024).Idx → F .f32) ⊢ stg c cc0_stg1_0 (outAt m c) :=
  Entails.of_eq (owns_whole_eq (c : Thread nD τ) cc0_stg1_0 fullShare (outAt m c))

/-- The body on device `c`, from the launch's data to the launch's data. -/
theorem sound_body (c : Dev nD) :
    bodyPre m ρ c ⊢ wp frame (wpE (defs₀ (F := F)) 𝒱₀ (c : Thread nD τ) none) Set.univ (prog (F := F)) (fun _ => bodyPost m ρ c) := by
  unfold bodyPre Φ₀ start ghost
  iintro ⟨⟨⟨⟨%K, #HR0, Hlin⟩, Hcr, #Hlev⟩, Hbufs⟩, Ho, ⟨%d0, %g0, %hg0, Hx⟩, ⟨%d1, %g1, %hg1, Hout⟩⟩
  have hx : g0 = xstg m c := by rw [hg0]; unfold Dat.before; rw [if_pos (fetch0_0 t0_0)]; rfl
  subst hx
  unfold Dat.owesAt Pipeline.owesWithin
  icases Ho with ⟨%W, %hW, HO⟩
  rw [show (dats m ρ 0 c).owed t0_0.castSucc = O₀ c from rfl]
  ihave Hx := (pointsTo_split_subset (Finset.subset_univ xV.view.set)).1 $$ Hx
  icases Hx with ⟨Hx, Hrest⟩
  iapply (sound_prog (Q := fun _ => bodyPost m ρ c) (xstg m) K c W g1) $$ [Hlin Hcr Hbufs HO Hx Hout]
  · isplitr
    · iapply (recs_of m K)
      isplitr; · iexact HR0
      iexact Hlev
    isplitl [Hlin]; · iexact Hlin
    isplitl [Hcr]; · iexact Hcr
    isplitl [Hbufs]; · iexact Hbufs
    isplitl [HO]; · iexact HO
    isplitl [Hx]; · iexact Hx
    iapply (Entails.of_eq (owns_whole_eq (c : Thread nD τ) cc0_stg1_0 fullShare g1).symm)
    iexists g1; isplitr; · (ipureintro; rfl)
    iexact Hout
  iintro ⟨Hbufs, Hdone, HzB, ⟨%W', HO⟩, Hx, Hout⟩
  unfold bodyPost Φ₁ Dat.owesAt Pipeline.owesWithin
  rw [show (dats m ρ 0 c).owed t0_0.succ = 0 from rfl]
  isplitl [Hbufs Hdone HzB]
  · isplitl [Hbufs]; · iexact Hbufs
    isplitl [Hdone] <;> iassumption
  isplitl [HO]
  · iexists W'
    isplitr; · ipureintro; exact fun _ _ => Or.inl trivial
    iexact HO
  isplitl [Hx Hrest]
  · iexists (xstg m c); isplitr; · (ipureintro; rfl)
    iapply (pointsTo_split_subset (Finset.subset_univ xV.view.set)).2
    isplitl [Hx] <;> iassumption
  iapply (out_stg m c) $$ Hout

/-- The library's body obligation on core `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ c none) Set.univ (bodyAt0 t0_0) (fun _ => bodyPost m ρ c)
  rw [body_at]
  exact sound_body m ρ c

end Cert.AllReduce

end
-- ==== Proof.Launch.lean ====
module

public import proofs.«01_k».proof.Proof.Data
public import Idealize.ShloMosaic.Lib.Tactic
public import Idealize.ShloMosaic.Lib.Pipeline.CollectiveSegs

/-! The launch: the cells made, the tokens dealt, and the whole mesh's run. -/

@[expose] public section

set_option maxRecDepth 65536

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Idealize.ShloMosaic.Buf (Elt F) ℓ) (ρ : Dev nD → PrngReg)

/-! ## Families over the cells and the buffers -/

/-- Resources over an optional index: that of none, and those of the values. -/
theorem bigSep_opt {A : Type} [Fintype A] [DecidableEq A] (Φ : Option A → sProp 𝕄) :
    bigSep Finset.univ Φ = iprop(Φ none ∗ bigSep Finset.univ fun a => Φ (some a)) := by
  rw [bigSep_univ_at Φ none, show (Finset.univ.erase none : Finset (Option A)) = Finset.univ.map Function.Embedding.some from by
    ext a
    cases a <;> simp, bigSep_map]
  rfl
/-- Resources over the two cells of every copy: the departures' and the arrivals'. -/
theorem bigSep_two (Φ : Bool × Fin 46 → sProp 𝕄) :
    bigSep Finset.univ Φ = iprop((bigSep Finset.univ fun j => Φ (false, j)) ∗ bigSep Finset.univ fun j => Φ (true, j)) := by
  rw [bigSep_univ_prod]
  exact bigSep_univ_eq_bigSepL [false, true] (by decide) (by decide) fun b => bigSep Finset.univ fun j => Φ (b, j)

/-- The reference behind a buffer. -/
def bref (k : Fin 84) : Ref sig .tc := (bufs k).M.view.ref

/-- Different buffers are different references. -/
theorem bref_inj : Function.Injective bref := by decide +kernel
/-- The references a device allocates besides the staged ones are the exchange buffers. -/
theorem scoped_set : (Finset.univ.filter fun b : Ref sig .tc => b.isScoped) \ Finset.univ.image (Pipeline.stageRef cfg0.spec)
    = Finset.univ.map ⟨bref, bref_inj⟩ := by decide +kernel

/-- A whole buffer's cells with any contents, owned as a memref. -/
theorem any_to (c : Dev nD) (M : (s : Shape) × Memref sig .tc .vmem s .bf16) (h : M.2.IsWhole) :
    (iprop(∃ f : Idealize.ShloMosaic.Buf (Elt F) ((c : Thread nD τ).loc M.2.view.ref), ((c : Thread nD τ).loc M.2.view.ref) ↦{fullShare} f) : sProp 𝕄)
      ⊢ iprop(∃ X, owns (c : Thread nD τ) M.2 fullShare X) := by
  unfold owns
  rw [h.set_eq_univ]
  iintro ⟨%f, H⟩
  iexists _; iexists f
  isplitr; · (ipureintro; rfl)
  iexact H
/-- A memref owned whole with any contents is the buffer's cells with any contents. -/
theorem any_from (c : Dev nD) (M : (s : Shape) × Memref sig .tc .vmem s .bf16) (h : M.2.IsWhole) :
    (iprop(∃ X, owns (c : Thread nD τ) M.2 fullShare X) : sProp 𝕄)
      ⊢ iprop(∃ f : Idealize.ShloMosaic.Buf (Elt F) ((c : Thread nD τ).loc M.2.view.ref), ((c : Thread nD τ).loc M.2.view.ref) ↦{fullShare} f) := by
  unfold owns
  rw [h.set_eq_univ]
  iintro ⟨%X, %f, %hf, H⟩
  iexists f; iexact H

/-- The scratch of a device is its exchange buffers, each holding anything. -/
theorem scopedRest_any (c : Dev nD) : (Pipeline.scopedRest cfg0.spec c : sProp 𝕄) = anyBufs (F := F) c := by
  unfold Pipeline.scopedRest anyBufs
  rw [scoped_set, bigSep_map]
  exact bigSep_congr fun k _ => BI.Entails.antisymm (any_to c ⟨_, (bufs k).M⟩ (bufs k).whole) (any_from c ⟨_, (bufs k).M⟩ (bufs k).whole)

/-! ## The semaphores -/

/-- The copies' semaphores are exactly the device's own, each once, and none is a staging one. -/
theorem ownSemFacts : Pipeline.OwnSemFacts cfg0.spec xsem := by decide +kernel

/-- Every staged array is held at the full share. -/
theorem share_eq (c : Dev nD) (w : Fin cfg0.W) : (dats m ρ 0 c).share w = fullShare := by unfold Dat.share; split <;> rfl

/-- The device's own semaphores at zero are the departures' and the arrivals' at zero. -/
theorem ownSems0_eq (c : Dev nD) : (Pipeline.ownSems0 (Ix := Unit) (Name := ℕ) (U := UU) (Lvl := ℕ) (Val := Elt F) (τ := τ) xsem c : sProp 𝕄)
    = bigSep Finset.univ fun bj => semVal (kcell (c, some bj)) 0 := rfl
/-- The one semaphore that is not the device's own is the barrier's. -/
theorem unscopedSems0_eq (c : Dev nD) : (unscopedSems0 c : sProp 𝕄) = semVal (barCell c) 0 := by
  unfold unscopedSems0; rw [bigSep_eq_bigSepL_of_eq [SemLoc.reg barS.sem] (by decide +kernel) (by decide)]; rfl
/-- The finished cells give the semaphores back at zero. -/
theorem done_sems (c : Dev nD) : (Pipeline.ownSems0 (Ix := Unit) (Name := ℕ) (U := UU) (Lvl := ℕ) (Val := Elt F) (τ := τ) xsem c : sProp 𝕄)
    = bigSep Finset.univ fun j => doneR (F := F) c j := by
  rw [ownSems0_eq, bigSep_two]
  unfold doneR
  rw [bigSep_sep']

/-! ## The launch element -/

/-- All the cells of all the devices. -/
def ringCells : Finset (GSem nD τ sig) := Finset.univ.map ⟨kcell, kcell_injective⟩
/-- A device's own cells' duty tokens as minted. -/
abbrev tokOf (ck : Dev nD × (Fin 5 ⊕ Bool × Fin 46)) : GSem nD τ sig × ℕ × Fin 5 := match ck.2 with
  | .inl i => (barCell ck.1, 0, i)
  | .inr bj => (kcell (ck.1, some bj), 0, 0)
/-- Different duties have different tokens. -/
theorem tokOf_injective : Function.Injective (tokOf : Dev nD × (Fin 5 ⊕ Bool × Fin 46) → GSem nD τ sig × ℕ × Fin 5) := by
  rintro ⟨c, k⟩ ⟨c', k'⟩ h
  have hg := congrArg Prod.fst h
  have hd := congrArg (fun x : GSem nD τ sig × ℕ × Fin 5 => x.2.2) h
  rcases k with i | bj <;> rcases k' with i' | bj'
  · have := kcell_injective (a₁ := (c, none)) (a₂ := (c', none)) hg
    cases this; cases hd; rfl
  · have := kcell_injective (a₁ := (c, none)) (a₂ := (c', some bj')) hg
    cases this
  · have := kcell_injective (a₁ := (c, some bj)) (a₂ := (c', none)) hg
    cases this
  · have := kcell_injective (a₁ := (c, some bj)) (a₂ := (c', some bj')) hg
    cases this; rfl
/-- All the duties' tokens. -/
def ringToks : Finset (GSem nD τ sig × ℕ × Fin 5) := Finset.univ.map ⟨tokOf, tokOf_injective⟩

/-- The launch element: every cell at its start, with its tokens. -/
def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((bigSep Finset.univ fun i : Fin 5 => dutyTok ER (barCell c) 0 i)
    ∗ bigSep Finset.univ fun bj : Bool × Fin 46 => dutyTok ER (kcell (c, some bj)) 0 0)
/-- What the launch element deals device `c`. -/
def G (c : Dev nD) : sProp 𝕄 :=
  iprop((bigSep Finset.univ fun k => roundState ER (Rd (msgM m)) (kcell (c, k)) 0)
    ∗ (bigSep Finset.univ fun k => iprop(atPos ER (kcell (c, k)) 0 ∅ 0 ∗ reached ER (kcell (c, k)) 0)) ∗ toks (F := F) c)

/-- A device's tokens: the barrier's five, and the two of every copy. -/
theorem toks_eq (c : Dev nD) : (bigSep Finset.univ fun k : Fin 5 ⊕ Bool × Fin 46 =>
    (dutyTok ER (tokOf (c, k)).1 (tokOf (c, k)).2.1 (tokOf (c, k)).2.2 : sProp 𝕄)) = toks c := by
  unfold toks; exact bigSep_univ_sum _

/-- The launch element gives every device the positions and the tokens of its own cells. -/
theorem fund_ring : BI.own (ER (initOf ringCells ringToks)) ⊢ (|==> bigSep Finset.univ (G m) : sProp 𝕄) := by
  have hX (Φ : GSem nD τ sig → sProp 𝕄) : bigSep ringCells Φ
      = bigSep Finset.univ fun c : Dev nD => bigSep Finset.univ fun k => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => toks_eq c
  iintro HX
  imod (Rounds.fund ER (Rd (msgM m)) ringCells ringToks) $$ HX with ⟨Hst, Hr, Hat, Htok⟩
  imodintro
  ihave Hst' := (Entails.of_eq (hX fun g => roundState ER (Rd (msgM m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The cells made and the tokens dealt -/

/-- All of a device's semaphores at zero, its barrier's and its copies'. -/
theorem sems0_eq (c : Dev nD) :
    iprop(Pipeline.ownSems0 (Ix := Unit) (Name := ℕ) (U := UU) (Lvl := ℕ) (Val := Elt F) (τ := τ) xsem c ∗ unscopedSems0 c)
      ⊢ (bigSep Finset.univ fun k => semVal (kcell (c, k)) 0 : sProp 𝕄) := by
  rw [ownSems0_eq, unscopedSems0_eq, bigSep_opt]
  iintro ⟨HS, HB⟩
  isplitl [HB]; · iexact HB
  iexact HS

/-- A device's cells are opened: each semaphore at zero, with its position, becomes an invariant. -/
theorem core_alloc (c : Dev nD) :
    iprop(Pipeline.ownSems0 (Ix := Unit) (Name := ℕ) (U := UU) (Lvl := ℕ) (Val := Elt F) (τ := τ) xsem c ∗ unscopedSems0 c ∗ G m c)
      ⊢ |={Set.univ}=> iprop((bigSep Finset.univ fun k => iprop(∃ κ : ℕ, cellInv ER (Rd (msgM m)) κ (kcell (c, k))))
          ∗ (bigSep Finset.univ fun k => iprop(atPos ER (kcell (c, k)) 0 ∅ 0 ∗ reached ER (kcell (c, k)) 0)) ∗ toks (F := F) c) := by
  unfold G
  iintro ⟨Hos, Hus, Hst, Hat, Htok⟩
  ihave Hv := (sems0_eq (F := F) c) $$ [Hos Hus]
  · isplitl [Hos] <;> iassumption
  imod (show iprop((bigSep Finset.univ fun k => semVal (kcell (c, k)) 0) ∗ bigSep Finset.univ fun k => roundState ER (Rd (msgM m)) (kcell (c, k)) 0)
      ⊢ (|={Set.univ}=> bigSep Finset.univ fun k => iprop(∃ κ : ℕ, cellInv ER (Rd (msgM m)) κ (kcell (c, k))) : sProp 𝕄) from by
        rw [← bigSep_sep']
        exact (bigSep_mono fun k _ => (Rounds.body_intro ER (Rd (msgM m)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The tokens of the duties device `c` pays. -/
def payToks (c : Dev nD) : sProp 𝕄 :=
  iprop((bigSep Finset.univ fun i : Fin 5 => dutyTok ER (barCell (nb i c)) 0 i)
    ∗ (bigSep Finset.univ fun j : Fin 46 => dutyTok ER (sendCell c j) 0 0)
    ∗ bigSep Finset.univ fun j : Fin 46 => dutyTok ER (recvCell (par j c) j) 0 0)

/-- Crossing an axis, as a rearrangement of the devices. -/
def nbE (i : Fin 5) : Dev nD ≃ Dev nD := ⟨nb i, nb i, nb_nb i, nb_nb i⟩
/-- Going to a copy's partner, as a rearrangement of the devices. -/
def parE (j : Fin 46) : Dev nD ≃ Dev nD := ⟨par j, par j, par_par j, par_par j⟩

/-- Resources over all the devices may be dealt out again along rearrangements of the devices. -/
theorem dealt {A : Type} [Fintype A] (e : A → Dev nD ≃ Dev nD) (Φ : A → Dev nD → sProp 𝕄) :
    (bigSep Finset.univ fun c : Dev nD => bigSep Finset.univ fun a => Φ a c)
      = bigSep Finset.univ fun c : Dev nD => bigSep Finset.univ fun a => Φ a (e a c) := by
  rw [bigSep_univ_comm, bigSep_univ_comm fun (c : Dev nD) a => Φ a (e a c)]
  exact bigSep_congr fun a _ => bigSep_univ_equiv (e a) (Φ a)

/-- Each token goes to the device that pays its duty: an entry signal's across its axis, an arrival's to the sender. -/
theorem toks_around : (bigSep Finset.univ fun c : Dev nD => (toks c : sProp 𝕄)) ⊢ bigSep Finset.univ fun c : Dev nD => payToks c := by
  unfold toks payToks
  simp only [bigSep_two]
  rw [bigSep_sep', bigSep_sep', bigSep_sep', bigSep_sep',
    dealt nbE (fun (i : Fin 5) (c : Dev nD) => (dutyTok ER (barCell c) 0 i : sProp 𝕄)),
    dealt parE (fun (j : Fin 46) (c : Dev nD) => (dutyTok ER (recvCell c j) 0 0 : sProp 𝕄))]
  exact .refl

/-- A device's positions and the tokens it pays with are what the body consumes. -/
theorem linear_intro (c : Dev nD) :
    iprop((bigSep Finset.univ fun k => atPos ER (kcell (c, k)) 0 ∅ 0) ∗ payToks (F := F) c) ⊢ linear (F := F) c := by
  rw [bigSep_opt, bigSep_two]
  unfold payToks linear
  rw [bigSep_sep', bigSep_sep', bigSep_sep']
  iintro ⟨⟨HB, HS, HR⟩, H1, H2, H3⟩
  isplitl [HB]; · iexact HB
  isplitl [H1]; · iexact H1
  isplitl [H2]; · iexact H2
  isplitl [H3]; · iexact H3
  isplitl [HS]; · iexact HS
  iexact HR

/-- With the shared facts they are what the body starts from. -/
theorem ghost_intro (K : Dev nD × Option (Bool × Fin 46) → ℕ) (c : Dev nD) : iprop(recs0 m K ∗ linear (F := F) c) ⊢ ghost m c := by
  unfold ghost
  iintro H; iexists K; iexact H

/-- What the devices have opened, put together, gives each device the facts of all cells and its own part. -/
theorem regroup :
    (bigSep Finset.univ fun c : Dev nD => iprop((bigSep Finset.univ fun k => iprop(∃ κ : ℕ, cellInv ER (Rd (msgM m)) κ (kcell (c, k))))
          ∗ (bigSep Finset.univ fun k => iprop(atPos ER (kcell (c, k)) 0 ∅ 0 ∗ reached ER (kcell (c, k)) 0)) ∗ toks (F := F) c) : sProp 𝕄)
      ⊢ bigSep Finset.univ (ghost m) := by
  rw [bigSep_sep', bigSep_sep', ← bigSep_univ_prod (fun ck : Dev nD × Option (Bool × Fin 46) => iprop(∃ κ : ℕ, cellInv ER (Rd (msgM m)) κ (kcell ck))),
    bigSep_congr (s := Finset.univ) (fun (c : Dev nD) _ => bigSep_sep' Finset.univ
      (fun k : Option (Bool × Fin 46) => (atPos ER (kcell (c, k)) 0 ∅ 0 : sProp 𝕄)) (fun k => reached ER (kcell (c, k)) 0)),
    bigSep_sep', ← bigSep_univ_prod (fun ck : Dev nD × Option (Bool × Fin 46) => (reached ER (kcell ck) 0 : sProp 𝕄))]
  iintro ⟨HI, ⟨Hat, #HR⟩, Htok⟩
  ihave HK := (BI.bigSep_exists_pi Finset.univ (fun (ck : Dev nD × Option (Bool × Fin 46)) (κ : ℕ) => (cellInv ER (Rd (msgM m)) κ (kcell ck) : sProp 𝕄))) $$ HI
  icases HK with ⟨%K, #HI⟩
  ihave Htk := (toks_around (F := F)) $$ Htok
  iapply (BI.bigSep_with_persistent (R := recs0 m K) fun c _ => ghost_intro m K c)
  isplitr
  · unfold recs0; isplitl; · iexact HI
    iexact HR
  · iapply ((Entails.of_eq (bigSep_sep' Finset.univ (fun c : Dev nD => bigSep Finset.univ fun k : Option (Bool × Fin 46) => (atPos ER (kcell (c, k)) 0 ∅ 0 : sProp 𝕄)) payToks).symm).trans
      (bigSep_mono fun c _ => linear_intro c))
    isplitl [Hat]; · iexact Hat
    iexact Htk

/-- From semaphores at zero and the launch element every device gets what its body starts from. -/
theorem glob : (bigSep Finset.univ fun c => iprop(Pipeline.ownSems0 (Ix := Unit) (Name := ℕ) (U := UU) (Lvl := ℕ) (Val := Elt F) (τ := τ) xsem c ∗ unscopedSems0 c ∗ G m c) : sProp 𝕄)
    ⊢ |={Set.univ}=> bigSep Finset.univ (ghost m) :=
  ((bigSep_mono fun c _ => core_alloc m c).trans (bigSep_fupd _ _)).trans (BI.fupd_mono (regroup m))

/-! ## The launch credit -/

/-- What an entry signal owes a device's barrier: one, if that device is the one across the axis. -/
theorem oweBar_at (d c : Dev nD) (i : Fin 5) : oweBar d i (barCell c) () = if d = nb i c then 1 else 0 := by
  unfold oweBar
  rw [tallyAt_apply]
  by_cases h : d = nb i c
  · subst h; rw [nb_nb, if_pos ⟨rfl, rfl⟩, if_pos rfl]
  · rw [if_neg h, if_neg]
    rintro ⟨h1, -⟩
    have := kcell_injective (a₁ := (c, none)) (a₂ := (nb i d, none)) h1
    exact h ((nb_nb i d).symm.trans (congrArg (nb i) (Prod.ext_iff.mp this).1.symm))
/-- The copies owe nothing to a barrier. -/
theorem oweFrom_bar (d c : Dev nD) (n : ℕ) : oweFrom d n (barCell c) () = 0 :=
  Nat.eq_zero_of_not_pos fun h => by
    obtain ⟨j, -, hj⟩ := oweFrom_pos h
    have := kcell_injective (a₁ := (c, none)) (a₂ := (par j d, some (true, j))) hj
    cases this
/-- An entry signal owes nothing to a copy's arrivals. -/
theorem oweBar_recv (d c : Dev nD) (i : Fin 5) (j : Fin 46) : oweBar d i (recvCell c j) () = 0 :=
  Nat.eq_zero_of_not_pos fun h => by
    have := kcell_injective (a₁ := (c, some (true, j))) (a₂ := (nb i d, none)) (oweBar_pos h)
    cases this
/-- What a copy owes the arrivals of a copy on a device: its credit, if they are the same copy and the device is its partner. -/
theorem owe1_at (d c : Dev nD) (j j' : Fin 46) : owe1 d j' (recvCell c j) () = if j' = j then (if d = par j c then NN j else 0) else 0 := by
  unfold owe1
  rw [tallyAt_apply]
  by_cases hj : j' = j
  · subst hj
    rw [if_pos rfl]
    by_cases h : d = par j' c
    · subst h; rw [par_par, if_pos ⟨rfl, rfl⟩, if_pos rfl]
    · rw [if_neg h, if_neg]
      rintro ⟨h1, -⟩
      have := kcell_injective (a₁ := (c, some (true, j'))) (a₂ := (par j' d, some (true, j'))) h1
      exact h ((par_par j' d).symm.trans (congrArg (par j') (Prod.ext_iff.mp this).1.symm))
  · rw [if_neg hj, if_neg]
    rintro ⟨h1, -⟩
    have := kcell_injective (a₁ := (c, some (true, j))) (a₂ := (par j' d, some (true, j'))) h1
    exact hj (Prod.ext_iff.mp (Option.some.inj (Prod.ext_iff.mp this).2)).2.symm
/-- What all the copies of a device owe the arrivals of one copy on a device. -/
theorem oweFrom_at (d c : Dev nD) (j : Fin 46) : oweFrom d 0 (recvCell c j) () = if d = par j c then NN j else 0 := by
  unfold oweFrom
  rw [Finset.sum_apply, Finsupp.finset_sum_apply, Finset.sum_congr rfl fun j' _ => owe1_at d c j j',
    Finset.sum_ite_eq' _ j fun _ => if d = par j c then NN j else 0, if_pos (by simp)]

/-- What a device owes a barrier in all. -/
theorem owed_bar (d c : Dev nD) : O₀ d (barCell c) () = ∑ i : Fin 5, if d = nb i c then 1 else 0 := by
  unfold O₀
  simp only [Pi.add_apply, Finsupp.add_apply]
  rw [oweFrom_bar, oweBar_at, oweBar_at, oweBar_at, oweBar_at, oweBar_at, Fin.sum_univ_five]
  omega
/-- What a device owes the arrivals of a copy in all. -/
theorem owed_recv (d c : Dev nD) (j : Fin 46) : O₀ d (recvCell c j) () = if d = par j c then NN j else 0 := by
  unfold O₀
  simp only [Pi.add_apply, Finsupp.add_apply]
  rw [oweFrom_at, oweBar_recv, oweBar_recv, oweBar_recv, oweBar_recv, oweBar_recv]
  omega

/-- A barrier's credit at launch is five: each neighbour owes it one. -/
theorem launch_bar (c : Dev nD) :
    tallyOn (barCell c) (launchCredit (Pipeline.owing O₀) 0 (barCell c)) = (tallyAt (barCell c) () 5 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun i _ => (Finset.sum_ite_eq' Finset.univ (nb i c) fun _ => 1).trans (if_pos (Finset.mem_univ _))]
  rfl
/-- The credit of a copy's arrivals at launch is the copy's: its partner owes it. -/
theorem launch_recv (c : Dev nD) (j : Fin 46) :
    tallyOn (recvCell c j) (launchCredit (Pipeline.owing O₀) 0 (recvCell c j)) = (tallyAt (recvCell c j) () (NN j) : CellTallies nD τ sig Unit) := by
  unfold tallyAt; refine congrArg _ (Finsupp.ext fun u => ?_); cases u
  rw [Pipeline.launchCredit_owing, Finsupp.single_eq_same, Finset.sum_congr rfl fun d _ => owed_recv d c j,
    Finset.sum_ite_eq' Finset.univ (par j c) fun _ => NN j, if_pos (Finset.mem_univ _)]

/-- Credits that nobody waits on may be dropped. -/
theorem creds_drop {A A' B C C' D : sProp 𝕄} (h : A ⊢ A') (h' : C ⊢ C') : iprop((A ∗ B ∗ C) ∗ D) ⊢ iprop(A' ∗ C') := by
  iintro ⟨⟨HA, -, HC⟩, -⟩
  isplitl [HA]
  · iapply h $$ HA
  iapply h' $$ HC

/-- The credits of the launch hold those that the device waits on. -/
theorem creds_intro (c : Dev nD) : (Pipeline.launchCred O₀ c : sProp 𝕄) ⊢ creds (F := F) c := by
  unfold Pipeline.launchCred creds
  rw [bigSep_sdiff_split (Finset.subset_univ (Finset.univ.map ⟨csem, csem_injective⟩)), bigSep_map, bigSep_opt, bigSep_two]
  exact creds_drop (Entails.of_eq (congrArg (fun O => (cred O : sProp 𝕄)) (launch_bar c)))
    (Entails.of_eq (bigSep_congr fun j _ => congrArg (fun O => (cred O : sProp 𝕄)) (launch_recv c j)))

/-! ## The launch theorem's side conditions -/

/-- A device starts with what its launch gives and what it was dealt. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ghost m c)
      ⊢ |={Set.univ}=> iprop(start m c ∗ emp) := by
  iintro ⟨-, Hlev, Hcr, -, HG⟩
  ihave Hc := (creds_intro (F := F) c) $$ Hcr
  imodintro
  unfold start
  isplitl
  · isplitl [HG]; · iexact HG
    isplitl [Hc]; · iexact Hc
    iexact Hlev
  · iempintro

/-- Before the step: that, and the scratch. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest_any]
  unfold Φ₀
  iintro ⟨Hs, -, Hr⟩
  isplitl [Hs]; · iexact Hs
  iexact Hr

/-- After the step: the scratch and the semaphores at zero are given back. -/
theorem phi1_exit (c : Dev nD) :
    (dats m ρ 0 c).Φ (Fin.last cfg0.N) ⊢ iprop(unscopedSems0 c ∗ Pipeline.ownSems0 xsem c ∗ Pipeline.scopedRest cfg0.spec c) := by
  rw [show (dats m ρ 0 c).Φ (Fin.last cfg0.N) = Φ₁ c from rfl, scopedRest_any, done_sems, unscopedSems0_eq]
  unfold Φ₁
  iintro ⟨Hr, HS, HzB⟩
  isplitl [HzB]; · iexact HzB
  isplitl [HS]; · iexact HS
  iexact Hr

/-- The staging copies may be waited for whatever the device owes. -/
theorem mayWait_stage (c : Dev nD) (sm : SemLoc sig) (h0 : lv ((c : Thread nD τ), sm) () = 0) (O : CellTallies nD τ sig Unit) (hO : O = O₀ c ∨ O = 0) :
    (levAts L lv : sProp 𝕄) ⊢ MayWait (c : Thread nD τ) sm () O := by
  rcases hO with rfl | rfl
  · refine mayWait_lt c sm _ fun g u hg => ?_
    rcases O₀_pos hg with ⟨j, rfl⟩ | ⟨i, rfl⟩
    · exact ⟨L_tc _ _, by rw [lv_recv, h0]; omega⟩
    · exact ⟨L_tc _ _, by rw [lv_bar, h0]; omega⟩
  · rw [MayWait_zero]; iintro -; iempintro

/-- So every wait of the launch is allowed. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> rfl) _ (by
      rcases t with ⟨_ | _, ht⟩
      · exact Or.inl rfl
      · exact Or.inr rfl)

/-! ## The run -/

/-- A staged array after the run. -/
def finalA (c : Dev nD) (w : Fin cfg0.W) : Idealize.ShloMosaic.Buf (Elt F) ((cfg0.win w).arr.view.loc (c : Thread nD τ)) := (dats m ρ 0 c).arrAt w cfg0.N

/-- What the run ends with: each device's arrays at the computed contents. -/
def QC : PUnit × MemSt nD τ sig (Elt F) → Prop := fun r =>
  ∀ c : Dev nD, ∀ w : Fin cfg0.W, r.2.mem ((cfg0.win w).arr.view.loc (c : Thread nD τ)) = finalA m ρ c w

/-- For any float values, from any memory with counters at zero, every weakly fair execution of the kernel on the mesh
    terminates with each device's arrays at the computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := ghost m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operand's array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.AllReduce

end
-- ==== Proof.Frames.lean ====
module

public import proofs.«01_k».proof.Proof.Launch
public import proofs.«01_k».proof.Defs
public import proofs.«01_k».proof.Proof.Gen.Kernel
public import proofs.«01_k».proof.Proof.Gen.Kernel.Skeleton

/-! The frame claims of the kernel's two readings. -/

@[expose] public section

set_option maxRecDepth 65536

noncomputable section

namespace Cert.AllReduce

open Idealize.ShloMosaic
open Idealize.ShloMosaic.TcCoe

/-- The kernel runs, leaves its operand and ends with every counter at zero, over any floats. -/
theorem frame_any {F : FTy → Type} [FloatOps F] (m : (ℓ : Loc Cert.KernelIdeal.nD Cert.KernelIdeal.τ Cert.KernelIdeal.sig) → Idealize.ShloMosaic.Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)) ∧ r.2.sem = fun _ => 0) :=
  (θ_run (Cert.KernelIdeal.defs (F := F)) _ _).mono
    (fun _ h => ⟨fun c => (h.1 c (0 : Fin 2)).trans (finalA_x m ρ c), h.2⟩) (run_main m ρ)

/-- The frame over the reals. -/
theorem frame_ideal : Cert.quiescent_KernelIdeal := fun m ρ _ => frame_any (F := Ideal) m ρ

/-- The two readings have one text. -/
theorem main_same : Cert.Kernel.main (F := Bits) = Cert.KernelIdeal.main (F := Bits) := by chain_rfl
/-- The kernel's program and its ideal form have the same text: over machine floats they are one program. -/
theorem defs_same : Cert.Kernel.defs (F := Bits) = Cert.KernelIdeal.defs (F := Bits) := by chain_rfl

/-- The frame over machine floats. -/
theorem frame_kernel : Cert.quiescent_Kernel := by
  intro m ρ _
  rw [defs_same, main_same]
  exact frame_any (F := Bits) m ρ

end Cert.AllReduce

end
-- ==== Proof.Masks.lean ====
module

public import proofs.«01_k».proof.Proof.Body
public import Idealize.ShloMosaic.Lib.IdealHost

/-! What the output and the exchange buffers hold over the extended reals: each is the sum of the operand rows of
a set of devices. The sets are followed through the step list by numbers, one bit a device, and at the end every
row of the output of every device is the sum over all of them. -/

@[expose] public section

set_option maxRecDepth 65536

noncomputable section

namespace Cert.AllReduce

open Cert.KernelIdeal Cert.KernelIdeal.Gen
open Idealize.ShloMosaic
open Idealize.ShloMosaic.TcCoe
open Idealize.SL Idealize.SL.Sem

/-! ## Sets of devices by block of rows

A set of devices is a number below `2 ^ 32`. A whole output is a number with such a set for each group of 16 rows,
group `g` at bits `32 g` to `32 g + 31`. -/

/-- A set of devices at each of `n` groups. -/
def rep (v : ℕ) : ℕ → ℕ
  | 0 => 0
  | n + 1 => (rep v n) <<< 32 ||| v
/-- A set of devices at the groups of rows `o` to `o + m - 1`. -/
def blk (v o m : ℕ) : ℕ := (rep v (m / 16)) <<< (32 * (o / 16))
/-- The set of all devices. -/
def allD : ℕ := 2 ^ 32 - 1
/-- The sets `A` with those of rows `o` to `o + m - 1` replaced by `v`. -/
def over (A v o m : ℕ) : ℕ := (A ^^^ (A &&& blk allD o m)) ||| blk v o m

/-- A set of devices has no bit from 32 on. -/
theorem testBit_big {v i : ℕ} (hv : v < 2 ^ 32) (hi : 32 ≤ i) : v.testBit i = false :=
  Nat.testBit_lt_two_pow (lt_of_lt_of_le hv (Nat.pow_le_pow_right (by decide) hi))

/-- The bits of repeated sets. -/
theorem testBit_rep {v : ℕ} (hv : v < 2 ^ 32) (n g e : ℕ) (he : e < 32) :
    (rep v n).testBit (32 * g + e) = (decide (g < n) && v.testBit e) := by
  induction n generalizing g with
  | zero => simp [rep]
  | succ n ih =>
    unfold rep
    rw [Nat.testBit_or, Nat.testBit_shiftLeft]
    cases g with
    | zero =>
      have : ¬ (32 * 0 + e ≥ 32) := by omega
      simp [this, he]
    | succ g =>
      have h1 : 32 * (g + 1) + e - 32 = 32 * g + e := by omega
      have h2 : 32 * (g + 1) + e ≥ 32 := by omega
      rw [h1, ih g, testBit_big hv h2]
      simp [h2]

/-- The bits of a block of sets. -/
theorem testBit_blk {v o m : ℕ} (hv : v < 2 ^ 32) (ha : aligned o m = true) (r e : ℕ) (he : e < 32) :
    (blk v o m).testBit (32 * (r / 16) + e) = (decide (o ≤ r ∧ r < o + m) && v.testBit e) := by
  obtain ⟨h1, h2⟩ := aligned_iff ha
  unfold blk
  rw [Nat.testBit_shiftLeft]
  by_cases h : o / 16 ≤ r / 16
  · have h3 : 32 * (r / 16) + e - 32 * (o / 16) = 32 * (r / 16 - o / 16) + e := by omega
    have h4 : 32 * (r / 16) + e ≥ 32 * (o / 16) := by omega
    have h5 : (r / 16 - o / 16 < m / 16) ↔ (o ≤ r ∧ r < o + m) := by omega
    rw [h3, testBit_rep hv _ _ _ he]
    simp [h4, h5]
  · have h4 : ¬ (32 * (r / 16) + e ≥ 32 * (o / 16)) := by omega
    have h5 : ¬ (o ≤ r ∧ r < o + m) := by omega
    simp only [h4, h5, decide_false, Bool.false_and]

/-- The set of all devices is a set of devices. -/
theorem allD_lt : allD < 2 ^ 32 := by decide
/-- Every device is in it. -/
theorem testBit_allD {e : ℕ} (he : e < 32) : allD.testBit e = true := by
  unfold allD; rw [Nat.testBit_two_pow_sub_one]; simpa using he

/-- Sets with a block replaced. -/
theorem testBit_over {A v o m : ℕ} (hv : v < 2 ^ 32) (ha : aligned o m = true) (r e : ℕ) (he : e < 32) :
    (over A v o m).testBit (32 * (r / 16) + e) =
      if o ≤ r ∧ r < o + m then v.testBit e else A.testBit (32 * (r / 16) + e) := by
  unfold over
  rw [Nat.testBit_or, Nat.testBit_xor, Nat.testBit_and, testBit_blk hv ha r e he, testBit_blk allD_lt ha r e he,
    testBit_allD he]
  by_cases h : o ≤ r ∧ r < o + m
  · simp [h]
  · simp [h]

/-- Whether rows `o` to `o + m - 1` all have the set `v`. -/
def uniform (A v o m : ℕ) : Bool := aligned o m && decide (v < 2 ^ 32) && decide (A &&& blk allD o m = blk v o m)

/-- Where the sets of some rows are all `v`, the set of each of these rows is `v`. -/
theorem uniform_bit {A v o m : ℕ} (h : uniform A v o m = true) (r e : ℕ) (he : e < 32) (hr : o ≤ r ∧ r < o + m) :
    A.testBit (32 * (r / 16) + e) = v.testBit e := by
  unfold uniform at h
  simp only [Bool.and_eq_true, decide_eq_true_eq] at h
  obtain ⟨⟨ha, hv⟩, h⟩ := h
  have := congrArg (fun n => n.testBit (32 * (r / 16) + e)) h
  simpa [Nat.testBit_and, testBit_blk hv ha r e he, testBit_blk allD_lt ha r e he, testBit_allD he, hr] using this

/-! ## The sets of the exchange buffers

Every buffer is written once. `specL` has for each the first row of the block it holds — on device 0, and how that
differs by each bit of the device's number — and the set of devices summed in it on device 0; on device `d` that
set is moved by `d`. -/

/-- The rows and the sets of the buffers. -/
def specL : List (List ℕ × ℕ) := [
  ([448, 256, 384, 0, 64, 0], 0x1),
  ([384, 256, 384, 0, 64, 0], 0x1),
  ([192, 256, 384, 0, 64, 0], 0x2),
  ([128, 256, 384, 0, 64, 0], 0x2),
  ([256, 256, 384, 0, 0, 0], 0x1),
  ([0, 256, 384, 0, 0, 0], 0x2),
  ([224, 256, 384, 32, 64, 0], 0x3),
  ([192, 256, 384, 32, 64, 0], 0x3),
  ([96, 256, 384, 32, 64, 0], 0xc),
  ([64, 256, 384, 32, 64, 0], 0xc),
  ([128, 256, 384, 0, 64, 0], 0x3),
  ([0, 256, 384, 0, 64, 0], 0xc),
  ([96, 256, 384, 32, 64, 0], 0xf),
  ([32, 256, 384, 32, 64, 0], 0xf00),
  ([64, 256, 384, 32, 64, 0], 0xf),
  ([0, 256, 384, 32, 64, 0], 0xf00),
  ([48, 256, 384, 32, 64, 16], 0xf0f),
  ([16, 256, 384, 32, 64, 16], 0xf0f0),
  ([32, 256, 384, 32, 64, 16], 0xf0f),
  ([0, 256, 384, 32, 64, 16], 0xf0f0),
  ([16, 256, 384, 32, 64, 16], 0xffff),
  ([0, 256, 384, 32, 64, 16], 0xffff),
  ([0, 256, 384, 32, 64, 16], 0xffff0000),
  ([16, 256, 384, 32, 64, 16], 0xffff0000),
  ([0, 256, 384, 32, 64, 16], 0xffffffff),
  ([16, 256, 384, 32, 64, 16], 0xffffffff),
  ([32, 256, 384, 32, 64, 16], 0xffffffff),
  ([48, 256, 384, 32, 64, 16], 0xffffffff),
  ([0, 256, 384, 0, 0, 0], 0xffffffff),
  ([256, 256, 384, 0, 0, 0], 0xffffffff),
  ([384, 256, 384, 0, 64, 0], 0xffffffff),
  ([448, 256, 384, 0, 64, 0], 0xffffffff),
  ([192, 256, 384, 0, 64, 0], 0xffffffff),
  ([0, 256, 384, 0, 64, 0], 0xffffffff),
  ([128, 256, 384, 0, 64, 0], 0xffffffff),
  ([192, 256, 384, 32, 64, 0], 0xffffffff),
  ([224, 256, 384, 32, 64, 0], 0xffffffff),
  ([96, 256, 384, 32, 64, 0], 0xffffffff),
  ([0, 256, 384, 32, 64, 0], 0xffffffff),
  ([64, 256, 384, 32, 64, 0], 0xffffffff),
  ([96, 256, 384, 32, 64, 16], 0xffffffff),
  ([112, 256, 384, 32, 64, 16], 0xffffffff),
  ([960, 64, 320, 0, 128, 0], 0x1),
  ([896, 64, 320, 0, 128, 0], 0x1),
  ([704, 64, 320, 0, 128, 0], 0x8),
  ([640, 64, 320, 0, 128, 0], 0x8),
  ([768, 0, 256, 0, 128, 0], 0x1),
  ([512, 0, 256, 0, 128, 0], 0x8),
  ([736, 64, 320, 0, 128, 32], 0x9),
  ([704, 64, 320, 0, 128, 32], 0x9),
  ([608, 64, 320, 0, 128, 32], 0x900),
  ([576, 64, 320, 0, 128, 32], 0x900),
  ([640, 64, 320, 0, 128, 0], 0x9),
  ([512, 64, 320, 0, 128, 0], 0x900),
  ([608, 64, 320, 0, 128, 32], 0x909),
  ([544, 64, 320, 0, 128, 32], 0x606),
  ([576, 64, 320, 0, 128, 32], 0x909),
  ([512, 64, 320, 0, 128, 32], 0x606),
  ([560, 64, 320, 16, 128, 32], 0xf0f),
  ([528, 64, 320, 16, 128, 32], 0xf0f0000),
  ([544, 64, 320, 16, 128, 32], 0xf0f),
  ([512, 64, 320, 16, 128, 32], 0xf0f0000),
  ([528, 64, 320, 16, 128, 32], 0xf0f0f0f),
  ([512, 64, 320, 16, 128, 32], 0xf0f0f0f),
  ([512, 64, 320, 16, 128, 32], 0xf0f0f0f0),
  ([528, 64, 320, 16, 128, 32], 0xf0f0f0f0),
  ([512, 64, 320, 16, 128, 32], 0xffffffff),
  ([528, 64, 320, 16, 128, 32], 0xffffffff),
  ([544, 64, 320, 16, 128, 32], 0xffffffff),
  ([560, 64, 320, 16, 128, 32], 0xffffffff),
  ([512, 0, 256, 0, 128, 0], 0xffffffff),
  ([768, 0, 256, 0, 128, 0], 0xffffffff),
  ([896, 64, 320, 0, 128, 0], 0xffffffff),
  ([960, 64, 320, 0, 128, 0], 0xffffffff),
  ([704, 64, 320, 0, 128, 0], 0xffffffff),
  ([512, 64, 320, 0, 128, 0], 0xffffffff),
  ([640, 64, 320, 0, 128, 0], 0xffffffff),
  ([704, 64, 320, 0, 128, 32], 0xffffffff),
  ([736, 64, 320, 0, 128, 32], 0xffffffff),
  ([608, 64, 320, 0, 128, 32], 0xffffffff),
  ([512, 64, 320, 0, 128, 32], 0xffffffff),
  ([576, 64, 320, 0, 128, 32], 0xffffffff),
  ([608, 64, 320, 16, 128, 32], 0xffffffff),
  ([624, 64, 320, 16, 128, 32], 0xffffffff)]

/-- The entry of a buffer. -/
def spec (k : Fin 84) : List ℕ × ℕ := specL.get (k.cast rfl)

/-- The exclusive or of the entries of a list at the bits of `d`. -/
def xorBits (d : ℕ) : List ℕ → ℕ
  | [] => 0
  | c :: l => (if d % 2 = 1 then c else 0) ^^^ xorBits (d / 2) l
/-- The first row of what buffer `k` holds on device `d`. -/
def bo (k : Fin 84) (d : Dev nD) : ℕ := xorBits (2 * d.val + 1) (spec k).1

/-- A set with the neighbours across one bit of the device's number exchanged. -/
def swapBits (v w msk : ℕ) : ℕ := ((v &&& msk) <<< w) ||| ((v >>> w) &&& msk)
/-- A set moved by the exclusive or with `d`. -/
def moved (d v : ℕ) : List (ℕ × ℕ) → ℕ
  | [] => v
  | (w, msk) :: l => moved (d / 2) (if d % 2 = 1 then swapBits v w msk else v) l
/-- The devices summed in buffer `k` on device `d`. -/
def bm (k : Fin 84) (d : Dev nD) : ℕ :=
  moved d.val (spec k).2 [(1, 0x55555555), (2, 0x33333333), (4, 0x0f0f0f0f), (8, 0x00ff00ff), (16, 0x0000ffff)]

/-! ## The check -/

/-- The sets after a sum, where it adds up disjoint sets of the same rows. -/
def addM (d : Dev nD) (A : ℕ) (b : Base) (k : Fin 84) (o : Off (bufs k).m) : Option ℕ :=
  match b with
  | .X => if aligned (o.off d 0) (bufs k).m ∧ bm k d < 2 ^ 32 ∧ bo k d = o.off d 0 ∧ (bm k d).testBit d.val = false then
      some (over A (bm k d ||| 2 ^ d.val) (o.off d 0) (bufs k).m) else none
  | .O => if aligned (o.off d 0) (bufs k).m ∧ bm k d < 2 ^ 32 ∧ bo k d = o.off d 0 ∧ A &&& blk (bm k d) (o.off d 0) (bufs k).m = 0 then
      some (A ||| blk (bm k d) (o.off d 0) (bufs k).m) else none

/-- What a step asks of the sets on device `d`, and the sets after it. -/
def chkM (d : Dev nD) (A : ℕ) : Step → Option ℕ
  | .stage .X k o => if bo k d = o.off d 0 ∧ bm k d = 2 ^ d.val then some A else none
  | .stage .O k o => if bo k d = o.off d 0 ∧ uniform A (bm k d) (o.off d 0) (bufs k).m then some A else none
  | .add b k o => addM d A b k o
  | .addStage b k k2 _ o => (addM d A b k o).bind fun A' =>
      if bo k2 d = o.off d 0 ∧ uniform A' (bm k2 d) (o.off d 0) (bufs k).m then some A' else none
  | .put k o => if aligned (o.off d 0) (bufs k).m ∧ bm k d < 2 ^ 32 ∧ bo k d = o.off d 0 then
      some (over A (bm k d) (o.off d 0) (bufs k).m) else none
  | .send j => if bo (dst j) d = bo (src j) (par j d) ∧ bm (dst j) d = bm (src j) (par j d) then some A else none
  | .wait _ => some A

/-- The check of a list of steps. -/
def runM (d : Dev nD) (A : ℕ) : List Step → Option ℕ
  | [] => some A
  | s :: l => (chkM d A s).bind fun A' => runM d A' l

/-- What a step asks of the buffers written — a number with a bit for each — and those written after it. -/
def chkB (B : ℕ) : Step → Option ℕ
  | .stage _ k _ => some (B ||| 2 ^ k.val)
  | .add _ k _ => if B.testBit k.val then some B else none
  | .addStage _ k k2 _ _ => if B.testBit k.val then some (B ||| 2 ^ k2.val) else none
  | .put k _ => if B.testBit k.val then some B else none
  | .send j => if B.testBit (src j).val then some (B ||| 2 ^ (dst j).val) else none
  | .wait _ => some B

/-- The check of a list of steps. -/
def runB (B : ℕ) : List Step → Option ℕ
  | [] => some B
  | s :: l => (chkB B s).bind fun B' => runB B' l

/-- The step list reads only buffers written before. -/
theorem runB_steps : runB 0 steps = some (2 ^ 84 - 1) := by decide +kernel

/-- On every device the step list sums all devices at every row. -/
theorem runM_steps : ∀ d, runM d 0 steps = some (2 ^ 2048 - 1) := by decide +kernel

end Cert.AllReduce

end
-- ==== Proof.Total.lean ====
module

public import proofs.«01_k».proof.Proof.Masks

/-! Over the extended reals, what the sets of Masks stand for: the output and the buffers are the sums they name, at
every step; so the run's result is the sum of all devices' operands. -/

@[expose] public section

set_option maxRecDepth 65536

noncomputable section

namespace Cert.AllReduce

open Cert.KernelIdeal Cert.KernelIdeal.Gen
open Idealize.ShloMosaic
open Idealize.ShloMosaic.TcCoe
open Idealize.SL Idealize.SL.Sem
open scoped BigOperators

variable (X : Dev nD → ℕ → ℕ → Ideal .bf16)

/-- A check that passes. -/
theorem ite_some {p : Prop} [Decidable p] {α : Type} {a b : α} (h : (if p then some a else none) = some b) : p ∧ a = b := by
  by_cases hp : p
  · rw [if_pos hp] at h; exact ⟨hp, Option.some.inj h⟩
  · rw [if_neg hp] at h; exact absurd h (by simp)

/-- The sum over a set of devices of their operand at a row and a column. -/
def part (v r c : ℕ) : EReal := ∑ e : Dev nD, if v.testBit e.val then (X e r c : EReal) else 0

/-- A sum over a set of devices is known by the set's bits. -/
theorem part_congr {v w : ℕ} (h : ∀ e, e < 32 → v.testBit e = w.testBit e) (r c : ℕ) : part X v r c = part X w r c := by
  unfold part
  refine Finset.sum_congr rfl fun e _ => ?_
  rw [h e.val e.isLt]

/-- The sum over a union of disjoint sets. -/
theorem part_union {u v w : ℕ} (h : ∀ e, e < 32 → u.testBit e = (v.testBit e || w.testBit e))
    (hd : ∀ e, e < 32 → (v.testBit e && w.testBit e) = false) (r c : ℕ) :
    part X u r c = part X v r c + part X w r c := by
  unfold part
  rw [← Finset.sum_add_distrib]
  refine Finset.sum_congr rfl fun e _ => ?_
  have h1 := h e.val e.isLt
  have h2 := hd e.val e.isLt
  rw [h1]
  cases hv : v.testBit e.val <;> cases hw : w.testBit e.val
  · simp
  · simp
  · simp
  · rw [hv, hw] at h2; exact absurd h2 (by decide)

/-- The sum over one device. -/
theorem part_one (d : Dev nD) (r c : ℕ) : part X (2 ^ d.val) r c = X d r c := by
  unfold part
  rw [Finset.sum_eq_single d]
  · rw [Nat.testBit_two_pow_self]; simp
  · intro e _ he
    rw [Nat.testBit_two_pow_of_ne (fun h => he (Fin.ext h.symm))]
    simp
  · intro h; exact absurd (Finset.mem_univ d) h

/-- The sum over no device is zero. -/
theorem part_zero (r c : ℕ) : part X 0 r c = 0 := by
  unfold part
  refine Finset.sum_eq_zero fun e _ => ?_
  rw [Nat.zero_testBit]; rfl

/-- The set of a row in a number of sets. -/
abbrev at16 (A r : ℕ) : ℕ := A >>> (32 * (r / 16))

/-- The set of a row's group, bit by bit. -/
theorem testBit_at16 (A r e : ℕ) : (at16 A r).testBit e = A.testBit (32 * (r / 16) + e) := Nat.testBit_shiftRight ..

/-- An output is what its sets say. -/
def OutIs (A : ℕ) (out : ℕ → ℕ → Ideal .f32) : Prop := ∀ r c, out r c = part X (at16 A r) r c

/-- A buffer on device `d` is what its entry says. -/
def BufIs (k : Fin 84) (d : Dev nD) (w : ℕ → ℕ → Ideal .bf16) : Prop :=
  ∀ r c, r < (bufs k).m → w r c = part X (bm k d) (bo k d + r) c

/-- A block of an output replaced. -/
theorem OutIs.over {A v o m : ℕ} {out g : ℕ → ℕ → Ideal .f32} (h : OutIs X A out) (hv : v < 2 ^ 32) (ha : aligned o m = true)
    (hg : ∀ r c, r < m → g r c = part X v (o + r) c) : OutIs X (over A v o m) (putRows o m g out) := by
  intro r c
  unfold putRows
  by_cases hb : o ≤ r ∧ r < o + m
  · rw [if_pos hb, hg _ _ (by omega), show o + (r - o) = r by omega]
    refine part_congr X (fun e he => ?_) r c
    rw [testBit_at16, testBit_over hv ha r e he, if_pos hb]
  · rw [if_neg hb, h r c]
    refine part_congr X (fun e he => ?_) r c
    rw [testBit_at16, testBit_at16, testBit_over hv ha r e he, if_neg hb]

/-- Rows of one set in an output. -/
theorem OutIs.uniform {A v o m : ℕ} {out : ℕ → ℕ → Ideal .f32} (h : OutIs X A out) (hu : uniform A v o m = true) (r c : ℕ)
    (hr : r < m) : out (o + r) c = part X v (o + r) c := by
  rw [h]
  refine part_congr X (fun e he => ?_) _ c
  rw [testBit_at16, uniform_bit hu _ e he (by omega)]

/-- A sum of the output's rows and a buffer's, disjoint. -/
theorem OutIs.add {A v o m : ℕ} {out g : ℕ → ℕ → Ideal .f32} (h : OutIs X A out) (hv : v < 2 ^ 32) (ha : aligned o m = true)
    (hd : A &&& blk v o m = 0) (hg : ∀ r c, r < m → g r c = out (o + r) c + part X v (o + r) c) :
    OutIs X (A ||| blk v o m) (putRows o m g out) := by
  intro r c
  unfold putRows
  by_cases hb : o ≤ r ∧ r < o + m
  · rw [if_pos hb, hg _ _ (by omega), show o + (r - o) = r by omega, h r c]
    refine (part_union X (fun e he => ?_) (fun e he => ?_) r c).symm
    · rw [testBit_at16, testBit_at16, Nat.testBit_or, testBit_blk hv ha r e he]; simp [hb]
    · have := congrArg (fun n => n.testBit (32 * (r / 16) + e)) hd
      rw [testBit_at16]
      simpa [Nat.testBit_and, testBit_blk hv ha r e he, hb] using this
  · rw [if_neg hb, h r c]
    refine part_congr X (fun e he => ?_) r c
    rw [testBit_at16, testBit_at16, Nat.testBit_or, testBit_blk hv ha r e he]; simp [hb]

/-- A sum passes its check: the output after it. -/
theorem addM_sound {d : Dev nD} {A A' : ℕ} {b : Base} {k : Fin 84} {o : Off (bufs k).m} {out : ℕ → ℕ → Ideal .f32}
    {w : ℕ → ℕ → Ideal .bf16} (hc : addM d A b k o = some A') (h : OutIs X A out) (hw : BufIs X k d w) :
    OutIs X A' (putRows (o.off d 0) (bufs k).m (sumV b (X d) out (o.off d 0) w) out) := by
  cases b with
  | X =>
    obtain ⟨⟨ha, hv, ho, hn⟩, rfl⟩ := ite_some hc
    have hp : (2 : ℕ) ^ d.val < 2 ^ 32 := Nat.pow_lt_pow_right (by decide) d.isLt
    refine h.over X (Nat.or_lt_two_pow hv hp) ha fun r c hr => ?_
    show (X d (o.off d 0 + r) c : EReal) + (w r c : EReal) = _
    rw [hw r c hr, ho, add_comm, ← part_one X d]
    refine (part_union X (fun e _ => Nat.testBit_or ..) (fun e _ => ?_) _ c).symm
    by_cases he : d.val = e
    · rw [← he, hn]; rfl
    · rw [Nat.testBit_two_pow_of_ne he, Bool.and_false]
  | O =>
    obtain ⟨⟨ha, hv, ho, hn⟩, rfl⟩ := ite_some hc
    refine h.add X hv ha hn fun r c hr => ?_
    show (out (o.off d 0 + r) c : EReal) + (w r c : EReal) = _
    rw [hw r c hr, ho]

/-- What the outputs and the written buffers of all devices are. -/
structure Holds (B : ℕ) (A : Dev nD → ℕ) (T : Dev nD → LS Ideal) : Prop where
  out : ∀ d, OutIs X (A d) (T d).out
  buf : ∀ k : Fin 84, B.testBit k.val = true → ∀ d, BufIs X k d ((T d).buf k)

/-- A buffer written, among those written. -/
theorem buf_update {B : ℕ} {k₀ : Fin 84} {d : Dev nD} {f : Fin 84 → ℕ → ℕ → Ideal .bf16} {w : ℕ → ℕ → Ideal .bf16}
    (h : ∀ k : Fin 84, B.testBit k.val = true → BufIs X k d (f k)) (hw : BufIs X k₀ d w) (k : Fin 84)
    (hk : (B ||| 2 ^ k₀.val).testBit k.val = true) : BufIs X k d (Function.update f k₀ w k) := by
  by_cases he : k = k₀
  · subst he; rw [Function.update_self]; exact hw
  · rw [Function.update_of_ne he]
    refine h k ?_
    rw [Nat.testBit_or, Nat.testBit_two_pow_of_ne (fun h => he (Fin.ext h.symm)), Bool.or_false] at hk
    exact hk

/-- The source and the destination of a copy have as many rows. -/
theorem BufIs.sent {j : Fin 46} {d : Dev nD} {w : ℕ → ℕ → Ideal .bf16} (h : BufIs X (src j) (par j d) w)
    (ho : bo (dst j) d = bo (src j) (par j d)) (hm : bm (dst j) d = bm (src j) (par j d)) : BufIs X (dst j) d w := by
  intro r c hr
  rw [ho, hm]
  exact h r c (by rw [rowsEq j]; exact hr)

/-- One step that passes its checks. -/
theorem Holds.step {B B' : ℕ} {A A' : Dev nD → ℕ} {T : Dev nD → LS Ideal} {s : Step} (h : Holds X B A T)
    (hB : chkB B s = some B') (hA : ∀ d, chkM d (A d) s = some (A' d)) : Holds X B' A' (stepS X T s) := by
  cases s with
  | stage b k o =>
    cases hB
    have hw : ∀ d, A' d = A d ∧ BufIs X k d fun r c => nar b (baseVal (X d) (T d).out b (o.off d 0 + r) c) := by
      intro d
      cases b with
      | X =>
        obtain ⟨hh, e⟩ := ite_some (hA d)
        refine ⟨e.symm, fun r c _ => ?_⟩
        rw [hh.1, hh.2, part_one]; rfl
      | O =>
        obtain ⟨hh, e⟩ := ite_some (hA d)
        refine ⟨e.symm, fun r c hr => ?_⟩
        rw [hh.1]
        exact (h.out d).uniform X hh.2 r c hr
    refine ⟨fun d => ?_, fun k' hk d => buf_update X (fun k' hk => h.buf k' hk d) (hw d).2 k' hk⟩
    rw [(hw d).1]; exact h.out d
  | add b k o =>
    obtain ⟨hk, rfl⟩ := ite_some hB
    exact ⟨fun d => addM_sound X (hA d) (h.out d) (h.buf k hk d), h.buf⟩
  | addStage b k k2 hm o =>
    obtain ⟨hk, rfl⟩ := ite_some hB
    have hw : ∀ d, OutIs X (A' d) (putRows (o.off d 0) (bufs k).m (sumV b (X d) (T d).out (o.off d 0) ((T d).buf k)) (T d).out)
        ∧ BufIs X k2 d fun r c => FloatOps.truncf .bf16 bitsLt_bf16_f32 (sumV b (X d) (T d).out (o.off d 0) ((T d).buf k) r c) := by
      intro d
      obtain ⟨A₁, h1, h2⟩ := Option.bind_eq_some_iff.1 (hA d)
      obtain ⟨hh, e⟩ := ite_some h2
      have ho := addM_sound X h1 (h.out d) (h.buf k hk d)
      rw [e] at ho hh
      refine ⟨ho, fun r c hr => ?_⟩
      have hr' : r < (bufs k).m := by rw [hm]; exact hr
      have := ho.uniform X hh.2 r c hr'
      unfold putRows at this
      rw [if_pos (by omega), show o.off d 0 + r - o.off d 0 = r by omega] at this
      rw [hh.1]
      exact this
    exact ⟨fun d => (hw d).1, fun k' hk' d => buf_update X (fun k' hk => h.buf k' hk d) (hw d).2 k' hk'⟩
  | put k o =>
    obtain ⟨hk, rfl⟩ := ite_some hB
    refine ⟨fun d => ?_, h.buf⟩
    obtain ⟨⟨ha, hv, ho⟩, e⟩ := ite_some (hA d)
    rw [← e]
    refine (h.out d).over X hv ha fun r c hr => ?_
    rw [← ho]
    exact h.buf k hk d r c hr
  | send j =>
    obtain ⟨hk, rfl⟩ := ite_some hB
    have hw : ∀ d, A' d = A d ∧ BufIs X (dst j) d ((T (par j d)).buf (src j)) := by
      intro d
      obtain ⟨hh, e⟩ := ite_some (hA d)
      exact ⟨e.symm, (h.buf (src j) hk (par j d)).sent X hh.1 hh.2⟩
    refine ⟨fun d => ?_, fun k' hk d => buf_update X (fun k' hk => h.buf k' hk d) (hw d).2 k' hk⟩
    rw [(hw d).1]; exact h.out d
  | wait j =>
    cases hB
    refine ⟨fun d => ?_, h.buf⟩
    rw [← Option.some.inj (hA d)]; exact h.out d

/-- A list of steps that passes its checks. -/
theorem Holds.run {l : List Step} : ∀ {B B' : ℕ} {A A' : Dev nD → ℕ} {T : Dev nD → LS Ideal}, Holds X B A T →
    runB B l = some B' → (∀ d, runM d (A d) l = some (A' d)) → Holds X B' A' (runS X T l) := by
  induction l with
  | nil =>
    intro B B' A A' T h hB hA
    cases hB
    have : A' = A := funext fun d => (Option.some.inj (hA d)).symm
    rw [this]; exact h
  | cons s l ih =>
    intro B B' A A' T h hB hA
    obtain ⟨B₁, hB1, hB2⟩ := Option.bind_eq_some_iff.1 hB
    have hA' : ∀ d, ∃ A₁, chkM d (A d) s = some A₁ ∧ runM d A₁ l = some (A' d) := fun d =>
      Option.bind_eq_some_iff.1 (hA d)
    choose A₁ hA1 hA2 using hA'
    exact ih (h.step X hB1 hA1) hB2 hA2

/-- Nothing is summed before the first step. -/
theorem holds_start : Holds X 0 (fun _ => 0) (T₀ (F := Ideal)) := by
  refine ⟨fun d r c => ?_, fun k hk => absurd hk (by rw [Nat.zero_testBit]; decide)⟩
  have h : at16 0 r = 0 := Nat.zero_shiftRight _
  rw [h, part_zero]
  exact Ideal.ofBits_zero_f32

/-- After the steps every row of every device's output is the sum over all devices. -/
theorem runS_total (d : Dev nD) (r c : ℕ) (hr : r < 1024) :
    (runS X (T₀ (F := Ideal)) steps d).out r c = ∑ e : Dev nD, (X e r c : EReal) := by
  have h := (holds_start X).run X runB_steps (A' := fun _ => 2 ^ 2048 - 1) runM_steps
  rw [h.out d r c]
  unfold part
  refine Finset.sum_congr rfl fun e _ => ?_
  have he := e.isLt
  rw [testBit_at16, Nat.testBit_two_pow_sub_one, if_pos]
  have : e.val < 32 := he
  exact decide_eq_true (by omega)

end Cert.AllReduce

end
-- ==== Proof.Value.lean ====
module

public import proofs.«01_k».proof.Proof.Total
public import proofs.«01_k».proof.Proof.Frames
public import proofs.«01_k».proof.Proof.Gen.ReferenceIdeal.Run
public import Idealize.ShloMosaic.Lib.Layout
public import Idealize.ShloMosaic.Lib.ValueLayout
public import Idealize.ShloMosaic.Lib.Pointwise.Reduce
public import Idealize.ShloMosaic.Lib.Pipeline.ValueKit.Geometry

/-! The value claim: over the extended reals every device ends with the reference's result; and the reference's frame. -/

@[expose] public section

set_option maxRecDepth 65536

noncomputable section

namespace Cert.AllReduce

open Idealize.ShloMosaic
open Idealize.ShloMosaic.TcCoe
open Idealize.SL Idealize.SL.Sem
open scoped BigOperators

/-- The reference's frame: no operation writes its argument, and it has no semaphore. -/
theorem frame_ref : Cert.quiescent_ReferenceIdeal := by
  intro m ρ _
  exact (θ_run Cert.ReferenceIdeal.defs _ _).mono
    (fun r h => ⟨fun c => (h c).2, sem_eq_zero_of_no_sems (by decide) r.2⟩) (Cert.ReferenceIdeal.Value.run m ρ)

section Kernel

open Cert.KernelIdeal Cert.KernelIdeal.Gen

variable {F : FTy → Type} [FloatOps F]
variable (m : (ℓ : Loc nD τ sig) → Idealize.ShloMosaic.Buf (Elt F) ℓ) (ρ : Dev nD → PrngReg)

/-- The result's array after the run. -/
theorem finalA_o (c : Dev nD) : finalA m ρ c (1 : Fin 2) = outAt m c := by
  refine (dats m ρ 0 c).arrAt_eq_of_after_last (1 : Fin 2) t0_0 (by decide +kernel) _ fun j => ?_
  rfl

/-- A device's operand as staged is its array. -/
theorem xstg_eq (c : Dev nD) : xstg m c = m ((c : Thread nD τ).loc main_arg0) := by
  funext i
  show m ((c : Thread nD τ).loc main_arg0) _ = m ((c : Thread nD τ).loc main_arg0) i
  refine congrArg (m ((c : Thread nD τ).loc main_arg0)) (funext fun a => Fin.ext ?_)
  exact Pipeline.Window.rect_emb_val_of_index_zero win0_0 t0_0 a rfl i

/-- The operand's one matrix has as many elements. -/
theorem S1x1024x1024_casts : S1x1024x1024.ShapeCasts S1024x1024 := by decide

/-- The operand read by row and column. -/
theorem xr_at (xf : Dev nD → xV.view.ty.Contents (Elt F)) (d : Dev nD) (i : (Sh 1024).Idx) :
    xr xf d (i 0).val (i 1).val = xf d (ValueIdx.ix3 (0 : Fin 1) (i 0) (i 1)) := by
  unfold xr
  rw [ix_self, Memref.read_squeeze_slice (hc := S1x1024x1024_casts)]
  have hz : (![0, 0, 0] : Fin 3 → ℕ) = fun _ => 0 := by decide
  refine (shapeCast_dropUnit_apply ![1024, 1024] _ _ i).trans ?_
  refine (congrFun (Memref.readAt_unit_zero (Elt F) cc0_stg0_0 hz _ (xf d)) _).trans (congrArg (xf d) (funext fun a => ?_))
  match a with
  | 0 => rfl
  | 1 => rfl
  | 2 => rfl

end Kernel

section Equal

open Cert.KernelIdeal Cert.KernelIdeal.Gen

variable (m : (ℓ : Loc nD τ sig) → Idealize.ShloMosaic.Buf (Elt Ideal) ℓ)

/-- A device's operand by row and column. -/
def opnd (e : Dev nD) (r c : Fin 1024) : EReal := m ((e : Thread nD τ).loc main_arg0) (ValueIdx.ix3 (0 : Fin 1) r c)

/-- A result of the kernel by row and column: the sum of the devices' operands there. -/
theorem outAt_sum (c : Dev nD) (i : (Sh 1024).Idx) : outAt m c i = ∑ e : Dev nD, opnd m e (i 0) (i 1) := by
  refine (runS_total (xr (xstg m)) c (i 0).val (i 1).val (i 0).isLt).trans (Finset.sum_congr rfl fun e _ => ?_)
  rw [xr_at, xstg_eq]; rfl

/-- The whole operand by device, row and column. -/
def elem (V : FVec Ideal Cert.ReferenceIdeal.S32x1024x1024 .bf16) (e : Fin 32) (r c : Fin 1024) : EReal := V (ValueIdx.ix3 e r c)

/-- The reference's sum by row and column. -/
theorem ref_sum (V : FVec Ideal Cert.ReferenceIdeal.S32x1024x1024 .bf16) (i : (Sh 1024).Idx) :
    Host.reduceAdd (extf .f32 V Cert.ReferenceIdeal.Gen.bitsLt_bf16_f32) (constant Cert.ReferenceIdeal.S_ .f32 0x00000000#32)
        Cert.ReferenceIdeal.Gen.reducesTo_S32x1024x1024_S1024x1024_d0 Cert.ReferenceIdeal.Gen.h_S_ i
      = ∑ e : Fin 32, elem V e (i 0) (i 1) := by
  rw [ValueIdx.hostReduceAdd_apply]
  refine (Ideal.hostReduceAdd_r3_a0 _ _ _ i).trans ?_
  rw [show (constant (F := Ideal) Cert.ReferenceIdeal.S_ .f32 0x00000000#32) (Shape.Idx.first Cert.ReferenceIdeal.Gen.h_S_)
    = (0 : EReal) from Ideal.ofBits_zero_f32, zero_add]
  rfl

/-- A device's block of the whole operand by row and column. -/
theorem block_at (V : FVec Ideal Cert.ReferenceIdeal.S32x1024x1024 .bf16) (e : Fin 32) (r c : Fin 1024) :
    Layout.block ⟨3, ![1, 1024, 1024]⟩ ⟨3, ![32, 1024, 1024]⟩ 0 32 e V (by decide) (ValueIdx.ix3 (0 : Fin 1) r c) = V (ValueIdx.ix3 e r c) := by
  rw [Layout.block_apply]
  refine congrArg V (funext fun b => Fin.ext ?_)
  rw [Layout.Tiles.idx_val]
  match b with
  | 0 => show e.val * 1 + 0 = e.val; omega
  | 1 => rfl
  | 2 => rfl

end Equal

/-- Over the extended reals every device's result is the reference's. -/
theorem algebraic : Cert.algebraic_KernelIdeal_ReferenceIdeal := by
  intro m ρ m' ρ' _ hm
  refine ⟨_, ?_, (θ_run Cert.ReferenceIdeal.defs _ _).mono (fun r h => h 0) (Cert.ReferenceIdeal.Value.run m' ρ')⟩
  refine (θ_run (Cert.KernelIdeal.defs (F := Ideal)) _ _).mono (fun r h c =>
    ⟨((h.1 c (1 : Fin 2)).trans (finalA_o m ρ c)).trans ?_, (h.1 c (0 : Fin 2)).trans (finalA_x m ρ c)⟩) (run_main m ρ)
  refine funext fun i => ?_
  have h : (∑ e : Fin 32, opnd m e (i 0) (i 1)) = ∑ e : Fin 32, elem (m' (((0 : Dev Cert.ReferenceIdeal.nD).tc :
      Thread Cert.ReferenceIdeal.nD Cert.ReferenceIdeal.τ).loc Cert.ReferenceIdeal.main_arg0)) e (i 0) (i 1) := by
    refine Finset.sum_congr rfl fun e _ => ?_
    unfold opnd
    rw [hm e]
    exact block_at _ e (i 0) (i 1)
  exact (outAt_sum m c i).trans (h.trans (ref_sum _ i).symm)

end Cert.AllReduce

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init
public import proofs.«01_k».proof.Proof.Frames
public import proofs.«01_k».proof.Proof.Value

@[expose] public section

noncomputable section

namespace Cert.Proof

open Idealize.ShloMosaic Idealize.SL.Sem Cert.Kernel

/-- The five claims: the kernel, its ideal form and the reference each end without fault, leave their arguments as
they were and every counter at zero; the ideal program is the kernel over the extended reals; and every device ends
with the sum of the devices' arrays. -/
theorem claim : Cert.Claim :=
  ⟨Cert.Kernel.Gen.facts, Cert.KernelIdeal.Gen.facts, Cert.ReferenceIdeal.Gen.facts,
    Cert.AllReduce.frame_kernel, Cert.AllReduce.frame_ideal, Cert.AllReduce.frame_ref, trivial,
    Cert.AllReduce.algebraic⟩

end Cert.Proof

end
